-- ==== Defs.lean ====
def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_finite [hPre_finite : Cert.Pre_finite.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).1 = (fun _ => 1#1)
    ∧ (Cert.Pre_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.1 = (fun _ => 1#1)
    ∧ (Cert.Pre_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.2.1 = (fun _ => 1#1)
    ∧ (Cert.Pre_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.2.2.1 = (fun _ => 1#1)
    ∧ (Cert.Pre_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.2.2.2.1 = (fun _ => 1#1)
    ∧ (Cert.Pre_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.2.2.2.2 = (fun _ => 1#1)

def Pre_MlpBwdRefIdeal (m : (ℓ : Loc Cert.MlpBwdRefIdeal.nD Cert.MlpBwdRefIdeal.τ Cert.MlpBwdRefIdeal.sig) → Buf (Elt Ideal) ℓ) : Prop :=
  True

def Pre_MlpBwdRefIdeal_finite [hPre_finite : Cert.Pre_finite.Facts] (m : (ℓ : Loc Cert.MlpBwdRefIdeal.nD Cert.MlpBwdRefIdeal.τ Cert.MlpBwdRefIdeal.sig) → Buf (Elt Ideal) ℓ) : Prop :=
  ∀ c : Dev Cert.MlpBwdRefIdeal.nD,
    (Cert.Pre_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))).1 = (fun _ => 1#1)
    ∧ (Cert.Pre_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))).2.1 = (fun _ => 1#1)
    ∧ (Cert.Pre_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))).2.2.1 = (fun _ => 1#1)
    ∧ (Cert.Pre_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))).2.2.2.1 = (fun _ => 1#1)
    ∧ (Cert.Pre_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))).2.2.2.2.1 = (fun _ => 1#1)
    ∧ (Cert.Pre_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5))).2.2.2.2.2 = (fun _ => 1#1)

def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_InprojBwdIdeal_finite_inproj [hPre_finite_inproj : Cert.Pre_finite_inproj.Facts] (m : (ℓ : Loc Cert.InprojBwdIdeal.nD Cert.InprojBwdIdeal.τ Cert.InprojBwdIdeal.sig) → Buf (Elt Ideal) ℓ) : Prop :=
  ∀ c : Dev Cert.InprojBwdIdeal.nD,
    (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7)) (m ((c.tc : Thread Cert.InprojBwdIdeal.nD Cert.InprojBwdIdeal.τ).loc Cert.InprojBwdIdeal.main_arg8))).1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7)) (m ((c.tc : Thread Cert.InprojBwdIdeal.nD Cert.InprojBwdIdeal.τ).loc Cert.InprojBwdIdeal.main_arg8))).2.1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7)) (m ((c.tc : Thread Cert.InprojBwdIdeal.nD Cert.InprojBwdIdeal.τ).loc Cert.InprojBwdIdeal.main_arg8))).2.2.1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7)) (m ((c.tc : Thread Cert.InprojBwdIdeal.nD Cert.InprojBwdIdeal.τ).loc Cert.InprojBwdIdeal.main_arg8))).2.2.2.1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7)) (m ((c.tc : Thread Cert.InprojBwdIdeal.nD Cert.InprojBwdIdeal.τ).loc Cert.InprojBwdIdeal.main_arg8))).2.2.2.2.1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7)) (m ((c.tc : Thread Cert.InprojBwdIdeal.nD Cert.InprojBwdIdeal.τ).loc Cert.InprojBwdIdeal.main_arg8))).2.2.2.2.2.1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7)) (m ((c.tc : Thread Cert.InprojBwdIdeal.nD Cert.InprojBwdIdeal.τ).loc Cert.InprojBwdIdeal.main_arg8))).2.2.2.2.2.2.1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7)) (m ((c.tc : Thread Cert.InprojBwdIdeal.nD Cert.InprojBwdIdeal.τ).loc Cert.InprojBwdIdeal.main_arg8))).2.2.2.2.2.2.2 = (fun _ => 1#1)

def Pre_InprojBwdRefIdeal (m : (ℓ : Loc Cert.InprojBwdRefIdeal.nD Cert.InprojBwdRefIdeal.τ Cert.InprojBwdRefIdeal.sig) → Buf (Elt Ideal) ℓ) : Prop :=
  True

def Pre_InprojBwdRefIdeal_finite_inproj [hPre_finite_inproj : Cert.Pre_finite_inproj.Facts] (m : (ℓ : Loc Cert.InprojBwdRefIdeal.nD Cert.InprojBwdRefIdeal.τ Cert.InprojBwdRefIdeal.sig) → Buf (Elt Ideal) ℓ) : Prop :=
  ∀ c : Dev Cert.InprojBwdRefIdeal.nD,
    (Cert.Pre_finite_inproj.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7)) (m ((c.tc : Thread Cert.InprojBwdRefIdeal.nD Cert.InprojBwdRefIdeal.τ).loc Cert.InprojBwdRefIdeal.main_arg8))).1 = (fun _ => 1#1)
    ∧ (Cert.Pre_finite_inproj.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7)) (m ((c.tc : Thread Cert.InprojBwdRefIdeal.nD Cert.InprojBwdRefIdeal.τ).loc Cert.InprojBwdRefIdeal.main_arg8))).2.1 = (fun _ => 1#1)
    ∧ (Cert.Pre_finite_inproj.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7)) (m ((c.tc : Thread Cert.InprojBwdRefIdeal.nD Cert.InprojBwdRefIdeal.τ).loc Cert.InprojBwdRefIdeal.main_arg8))).2.2.1 = (fun _ => 1#1)
    ∧ (Cert.Pre_finite_inproj.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7)) (m ((c.tc : Thread Cert.InprojBwdRefIdeal.nD Cert.InprojBwdRefIdeal.τ).loc Cert.InprojBwdRefIdeal.main_arg8))).2.2.2.1 = (fun _ => 1#1)
    ∧ (Cert.Pre_finite_inproj.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7)) (m ((c.tc : Thread Cert.InprojBwdRefIdeal.nD Cert.InprojBwdRefIdeal.τ).loc Cert.InprojBwdRefIdeal.main_arg8))).2.2.2.2.1 = (fun _ => 1#1)
    ∧ (Cert.Pre_finite_inproj.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7)) (m ((c.tc : Thread Cert.InprojBwdRefIdeal.nD Cert.InprojBwdRefIdeal.τ).loc Cert.InprojBwdRefIdeal.main_arg8))).2.2.2.2.2.1 = (fun _ => 1#1)
    ∧ (Cert.Pre_finite_inproj.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7)) (m ((c.tc : Thread Cert.InprojBwdRefIdeal.nD Cert.InprojBwdRefIdeal.τ).loc Cert.InprojBwdRefIdeal.main_arg8))).2.2.2.2.2.2.1 = (fun _ => 1#1)
    ∧ (Cert.Pre_finite_inproj.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7)) (m ((c.tc : Thread Cert.InprojBwdRefIdeal.nD Cert.InprojBwdRefIdeal.τ).loc Cert.InprojBwdRefIdeal.main_arg8))).2.2.2.2.2.2.2 = (fun _ => 1#1)

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdIdeal_finite_mlp_fwd [hPre_finite_mlp_fwd : Cert.Pre_finite_mlp_fwd.Facts] (m : (ℓ : Loc Cert.MlpFwdIdeal.nD Cert.MlpFwdIdeal.τ Cert.MlpFwdIdeal.sig) → Buf (Elt Ideal) ℓ) : Prop :=
  ∀ c : Dev Cert.MlpFwdIdeal.nD,
    (Cert.Pre_finite_mlp_fwd.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6))).1 = (fun _ => 1#1)
    ∧ (Cert.Pre_finite_mlp_fwd.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6))).2.1 = (fun _ => 1#1)
    ∧ (Cert.Pre_finite_mlp_fwd.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6))).2.2.1 = (fun _ => 1#1)
    ∧ (Cert.Pre_finite_mlp_fwd.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6))).2.2.2.1 = (fun _ => 1#1)
    ∧ (Cert.Pre_finite_mlp_fwd.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6))).2.2.2.2.1 = (fun _ => 1#1)
    ∧ (Cert.Pre_finite_mlp_fwd.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6))).2.2.2.2.2.1 = (fun _ => 1#1)
    ∧ (Cert.Pre_finite_mlp_fwd.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6))).2.2.2.2.2.2 = (fun _ => 1#1)

def Pre_MlpFwdRefIdeal (m : (ℓ : Loc Cert.MlpFwdRefIdeal.nD Cert.MlpFwdRefIdeal.τ Cert.MlpFwdRefIdeal.sig) → Buf (Elt Ideal) ℓ) : Prop :=
  True

def Pre_MlpFwdRefIdeal_finite_mlp_fwd [hPre_finite_mlp_fwd : Cert.Pre_finite_mlp_fwd.Facts] (m : (ℓ : Loc Cert.MlpFwdRefIdeal.nD Cert.MlpFwdRefIdeal.τ Cert.MlpFwdRefIdeal.sig) → Buf (Elt Ideal) ℓ) : Prop :=
  ∀ c : Dev Cert.MlpFwdRefIdeal.nD,
    (Cert.Pre_finite_mlp_fwd.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6))).1 = (fun _ => 1#1)
    ∧ (Cert.Pre_finite_mlp_fwd.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6))).2.1 = (fun _ => 1#1)
    ∧ (Cert.Pre_finite_mlp_fwd.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6))).2.2.1 = (fun _ => 1#1)
    ∧ (Cert.Pre_finite_mlp_fwd.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6))).2.2.2.1 = (fun _ => 1#1)
    ∧ (Cert.Pre_finite_mlp_fwd.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6))).2.2.2.2.1 = (fun _ => 1#1)
    ∧ (Cert.Pre_finite_mlp_fwd.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6))).2.2.2.2.2.1 = (fun _ => 1#1)
    ∧ (Cert.Pre_finite_mlp_fwd.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6))).2.2.2.2.2.2 = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwMlp (m : (ℓ : Loc Cert.DwMlp.nD Cert.DwMlp.τ Cert.DwMlp.sig) → Buf (Elt Bits) ℓ) : Prop :=
  True

def Pre_DwMlpIdeal (m : (ℓ : Loc Cert.DwMlpIdeal.nD Cert.DwMlpIdeal.τ Cert.DwMlpIdeal.sig) → Buf (Elt Ideal) ℓ) : Prop :=
  True

def Pre_DwMlpRefIdeal (m : (ℓ : Loc Cert.DwMlpRefIdeal.nD Cert.DwMlpRefIdeal.τ Cert.DwMlpRefIdeal.sig) → Buf (Elt Ideal) ℓ) : Prop :=
  True

def Pre_OutprojBwd (m : (ℓ : Loc Cert.OutprojBwd.nD Cert.OutprojBwd.τ Cert.OutprojBwd.sig) → Buf (Elt Bits) ℓ) : Prop :=
  True

def Pre_OutprojBwdIdeal (m : (ℓ : Loc Cert.OutprojBwdIdeal.nD Cert.OutprojBwdIdeal.τ Cert.OutprojBwdIdeal.sig) → Buf (Elt Ideal) ℓ) : Prop :=
  True

def Pre_OutprojBwdRefIdeal (m : (ℓ : Loc Cert.OutprojBwdRefIdeal.nD Cert.OutprojBwdRefIdeal.τ Cert.OutprojBwdRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4)
      ∧ r.2.mem ((c.tc : Thread Cert.MlpBwd.nD Cert.MlpBwd.τ).loc Cert.MlpBwd.main_arg5) = m ((c.tc : Thread Cert.MlpBwd.nD Cert.MlpBwd.τ).loc Cert.MlpBwd.main_arg5))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ r.2.sem = fun _ => 0)

def quiescent_MlpBwdIdeal_pre_finite [hMlpBwdIdeal : Cert.MlpBwdIdeal.Facts] [hPre_finite : Cert.Pre_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_finite m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4)
      ∧ r.2.mem ((c.tc : Thread Cert.MlpBwdRefIdeal.nD Cert.MlpBwdRefIdeal.τ).loc Cert.MlpBwdRefIdeal.main_arg5) = m ((c.tc : Thread Cert.MlpBwdRefIdeal.nD Cert.MlpBwdRefIdeal.τ).loc Cert.MlpBwdRefIdeal.main_arg5))
      ∧ r.2.sem = fun _ => 0)

def quiescent_MlpBwdRefIdeal_pre_finite [hMlpBwdRefIdeal : Cert.MlpBwdRefIdeal.Facts] [hPre_finite : Cert.Pre_finite.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal_finite m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4)
      ∧ r.2.mem ((c.tc : Thread Cert.MlpBwdRefIdeal.nD Cert.MlpBwdRefIdeal.τ).loc Cert.MlpBwdRefIdeal.main_arg5) = m ((c.tc : Thread Cert.MlpBwdRefIdeal.nD Cert.MlpBwdRefIdeal.τ).loc Cert.MlpBwdRefIdeal.main_arg5))
      ∧ r.2.sem = fun _ => 0)

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2)
      ∧ r.2.mem ((c.tc : Thread Cert.InprojBwd.nD Cert.InprojBwd.τ).loc Cert.InprojBwd.main_arg3) = m ((c.tc : Thread Cert.InprojBwd.nD Cert.InprojBwd.τ).loc Cert.InprojBwd.main_arg3)
      ∧ r.2.mem ((c.tc : Thread Cert.InprojBwd.nD Cert.InprojBwd.τ).loc Cert.InprojBwd.main_arg4) = m ((c.tc : Thread Cert.InprojBwd.nD Cert.InprojBwd.τ).loc Cert.InprojBwd.main_arg4)
      ∧ r.2.mem ((c.tc : Thread Cert.InprojBwd.nD Cert.InprojBwd.τ).loc Cert.InprojBwd.main_arg5) = m ((c.tc : Thread Cert.InprojBwd.nD Cert.InprojBwd.τ).loc Cert.InprojBwd.main_arg5)
      ∧ r.2.mem ((c.tc : Thread Cert.InprojBwd.nD Cert.InprojBwd.τ).loc Cert.InprojBwd.main_arg6) = m ((c.tc : Thread Cert.InprojBwd.nD Cert.InprojBwd.τ).loc Cert.InprojBwd.main_arg6)
      ∧ r.2.mem ((c.tc : Thread Cert.InprojBwd.nD Cert.InprojBwd.τ).loc Cert.InprojBwd.main_arg7) = m ((c.tc : Thread Cert.InprojBwd.nD Cert.InprojBwd.τ).loc Cert.InprojBwd.main_arg7)
      ∧ r.2.mem ((c.tc : Thread Cert.InprojBwd.nD Cert.InprojBwd.τ).loc Cert.InprojBwd.main_arg8) = m ((c.tc : Thread Cert.InprojBwd.nD Cert.InprojBwd.τ).loc Cert.InprojBwd.main_arg8))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
      ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
      ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
      ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7)
      ∧ r.2.mem ((c.tc : Thread Cert.InprojBwdIdeal.nD Cert.InprojBwdIdeal.τ).loc Cert.InprojBwdIdeal.main_arg8) = m ((c.tc : Thread Cert.InprojBwdIdeal.nD Cert.InprojBwdIdeal.τ).loc Cert.InprojBwdIdeal.main_arg8))
      ∧ r.2.sem = fun _ => 0)

def quiescent_InprojBwdIdeal_pre_finite_inproj [hInprojBwdIdeal : Cert.InprojBwdIdeal.Facts] [hPre_finite_inproj : Cert.Pre_finite_inproj.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal_finite_inproj m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
      ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
      ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
      ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7)
      ∧ r.2.mem ((c.tc : Thread Cert.InprojBwdIdeal.nD Cert.InprojBwdIdeal.τ).loc Cert.InprojBwdIdeal.main_arg8) = m ((c.tc : Thread Cert.InprojBwdIdeal.nD Cert.InprojBwdIdeal.τ).loc Cert.InprojBwdIdeal.main_arg8))
      ∧ r.2.sem = fun _ => 0)

def quiescent_InprojBwdRefIdeal [hInprojBwdRefIdeal : Cert.InprojBwdRefIdeal.Facts] : Prop :=
  ∀ (m : (ℓ : Loc Cert.InprojBwdRefIdeal.nD Cert.InprojBwdRefIdeal.τ Cert.InprojBwdRefIdeal.sig) → Buf (Elt Ideal) ℓ) (g : Dev Cert.InprojBwdRefIdeal.nD → PrngReg), Pre_InprojBwdRefIdeal m →
    θ_run (Cert.InprojBwdRefIdeal.defs (F := Ideal)) (onTc (τ := Cert.InprojBwdRefIdeal.τ) (Cert.InprojBwdRefIdeal.main (F := Ideal))) ⟨m, fun _ => 0, g⟩ (fun r => (∀ c : Dev Cert.InprojBwdRefIdeal.nD,
      r.2.mem ((c.tc : Thread Cert.InprojBwdRefIdeal.nD Cert.InprojBwdRefIdeal.τ).loc Cert.InprojBwdRefIdeal.main_arg0) = m ((c.tc : Thread Cert.InprojBwdRefIdeal.nD Cert.InprojBwdRefIdeal.τ).loc Cert.InprojBwdRefIdeal.main_arg0)
      ∧ r.2.mem ((c.tc : Thread Cert.InprojBwdRefIdeal.nD Cert.InprojBwdRefIdeal.τ).loc Cert.InprojBwdRefIdeal.main_arg1) = m ((c.tc : Thread Cert.InprojBwdRefIdeal.nD Cert.InprojBwdRefIdeal.τ).loc Cert.InprojBwdRefIdeal.main_arg1)
      ∧ r.2.mem ((c.tc : Thread Cert.InprojBwdRefIdeal.nD Cert.InprojBwdRefIdeal.τ).loc Cert.InprojBwdRefIdeal.main_arg2) = m ((c.tc : Thread Cert.InprojBwdRefIdeal.nD Cert.InprojBwdRefIdeal.τ).loc Cert.InprojBwdRefIdeal.main_arg2)
      ∧ r.2.mem ((c.tc : Thread Cert.InprojBwdRefIdeal.nD Cert.InprojBwdRefIdeal.τ).loc Cert.InprojBwdRefIdeal.main_arg3) = m ((c.tc : Thread Cert.InprojBwdRefIdeal.nD Cert.InprojBwdRefIdeal.τ).loc Cert.InprojBwdRefIdeal.main_arg3)
      ∧ r.2.mem ((c.tc : Thread Cert.InprojBwdRefIdeal.nD Cert.InprojBwdRefIdeal.τ).loc Cert.InprojBwdRefIdeal.main_arg4) = m ((c.tc : Thread Cert.InprojBwdRefIdeal.nD Cert.InprojBwdRefIdeal.τ).loc Cert.InprojBwdRefIdeal.main_arg4)
      ∧ r.2.mem ((c.tc : Thread Cert.InprojBwdRefIdeal.nD Cert.InprojBwdRefIdeal.τ).loc Cert.InprojBwdRefIdeal.main_arg5) = m ((c.tc : Thread Cert.InprojBwdRefIdeal.nD Cert.InprojBwdRefIdeal.τ).loc Cert.InprojBwdRefIdeal.main_arg5)
      ∧ r.2.mem ((c.tc : Thread Cert.InprojBwdRefIdeal.nD Cert.InprojBwdRefIdeal.τ).loc Cert.InprojBwdRefIdeal.main_arg6) = m ((c.tc : Thread Cert.InprojBwdRefIdeal.nD Cert.InprojBwdRefIdeal.τ).loc Cert.InprojBwdRefIdeal.main_arg6)
      ∧ r.2.mem ((c.tc : Thread Cert.InprojBwdRefIdeal.nD Cert.InprojBwdRefIdeal.τ).loc Cert.InprojBwdRefIdeal.main_arg7) = m ((c.tc : Thread Cert.InprojBwdRefIdeal.nD Cert.InprojBwdRefIdeal.τ).loc Cert.InprojBwdRefIdeal.main_arg7)
      ∧ r.2.mem ((c.tc : Thread Cert.InprojBwdRefIdeal.nD Cert.InprojBwdRefIdeal.τ).loc Cert.InprojBwdRefIdeal.main_arg8) = m ((c.tc : Thread Cert.InprojBwdRefIdeal.nD Cert.InprojBwdRefIdeal.τ).loc Cert.InprojBwdRefIdeal.main_arg8))
      ∧ r.2.sem = fun _ => 0)

def quiescent_InprojBwdRefIdeal_pre_finite_inproj [hInprojBwdRefIdeal : Cert.InprojBwdRefIdeal.Facts] [hPre_finite_inproj : Cert.Pre_finite_inproj.Facts] : Prop :=
  ∀ (m : (ℓ : Loc Cert.InprojBwdRefIdeal.nD Cert.InprojBwdRefIdeal.τ Cert.InprojBwdRefIdeal.sig) → Buf (Elt Ideal) ℓ) (g : Dev Cert.InprojBwdRefIdeal.nD → PrngReg), Pre_InprojBwdRefIdeal_finite_inproj m →
    θ_run (Cert.InprojBwdRefIdeal.defs (F := Ideal)) (onTc (τ := Cert.InprojBwdRefIdeal.τ) (Cert.InprojBwdRefIdeal.main (F := Ideal))) ⟨m, fun _ => 0, g⟩ (fun r => (∀ c : Dev Cert.InprojBwdRefIdeal.nD,
      r.2.mem ((c.tc : Thread Cert.InprojBwdRefIdeal.nD Cert.InprojBwdRefIdeal.τ).loc Cert.InprojBwdRefIdeal.main_arg0) = m ((c.tc : Thread Cert.InprojBwdRefIdeal.nD Cert.InprojBwdRefIdeal.τ).loc Cert.InprojBwdRefIdeal.main_arg0)
      ∧ r.2.mem ((c.tc : Thread Cert.InprojBwdRefIdeal.nD Cert.InprojBwdRefIdeal.τ).loc Cert.InprojBwdRefIdeal.main_arg1) = m ((c.tc : Thread Cert.InprojBwdRefIdeal.nD Cert.InprojBwdRefIdeal.τ).loc Cert.InprojBwdRefIdeal.main_arg1)
      ∧ r.2.mem ((c.tc : Thread Cert.InprojBwdRefIdeal.nD Cert.InprojBwdRefIdeal.τ).loc Cert.InprojBwdRefIdeal.main_arg2) = m ((c.tc : Thread Cert.InprojBwdRefIdeal.nD Cert.InprojBwdRefIdeal.τ).loc Cert.InprojBwdRefIdeal.main_arg2)
      ∧ r.2.mem ((c.tc : Thread Cert.InprojBwdRefIdeal.nD Cert.InprojBwdRefIdeal.τ).loc Cert.InprojBwdRefIdeal.main_arg3) = m ((c.tc : Thread Cert.InprojBwdRefIdeal.nD Cert.InprojBwdRefIdeal.τ).loc Cert.InprojBwdRefIdeal.main_arg3)
      ∧ r.2.mem ((c.tc : Thread Cert.InprojBwdRefIdeal.nD Cert.InprojBwdRefIdeal.τ).loc Cert.InprojBwdRefIdeal.main_arg4) = m ((c.tc : Thread Cert.InprojBwdRefIdeal.nD Cert.InprojBwdRefIdeal.τ).loc Cert.InprojBwdRefIdeal.main_arg4)
      ∧ r.2.mem ((c.tc : Thread Cert.InprojBwdRefIdeal.nD Cert.InprojBwdRefIdeal.τ).loc Cert.InprojBwdRefIdeal.main_arg5) = m ((c.tc : Thread Cert.InprojBwdRefIdeal.nD Cert.InprojBwdRefIdeal.τ).loc Cert.InprojBwdRefIdeal.main_arg5)
      ∧ r.2.mem ((c.tc : Thread Cert.InprojBwdRefIdeal.nD Cert.InprojBwdRefIdeal.τ).loc Cert.InprojBwdRefIdeal.main_arg6) = m ((c.tc : Thread Cert.InprojBwdRefIdeal.nD Cert.InprojBwdRefIdeal.τ).loc Cert.InprojBwdRefIdeal.main_arg6)
      ∧ r.2.mem ((c.tc : Thread Cert.InprojBwdRefIdeal.nD Cert.InprojBwdRefIdeal.τ).loc Cert.InprojBwdRefIdeal.main_arg7) = m ((c.tc : Thread Cert.InprojBwdRefIdeal.nD Cert.InprojBwdRefIdeal.τ).loc Cert.InprojBwdRefIdeal.main_arg7)
      ∧ r.2.mem ((c.tc : Thread Cert.InprojBwdRefIdeal.nD Cert.InprojBwdRefIdeal.τ).loc Cert.InprojBwdRefIdeal.main_arg8) = m ((c.tc : Thread Cert.InprojBwdRefIdeal.nD Cert.InprojBwdRefIdeal.τ).loc Cert.InprojBwdRefIdeal.main_arg8))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3)
      ∧ r.2.mem ((c.tc : Thread Cert.MlpFwd.nD Cert.MlpFwd.τ).loc Cert.MlpFwd.main_arg4) = m ((c.tc : Thread Cert.MlpFwd.nD Cert.MlpFwd.τ).loc Cert.MlpFwd.main_arg4)
      ∧ r.2.mem ((c.tc : Thread Cert.MlpFwd.nD Cert.MlpFwd.τ).loc Cert.MlpFwd.main_arg5) = m ((c.tc : Thread Cert.MlpFwd.nD Cert.MlpFwd.τ).loc Cert.MlpFwd.main_arg5)
      ∧ r.2.mem ((c.tc : Thread Cert.MlpFwd.nD Cert.MlpFwd.τ).loc Cert.MlpFwd.main_arg6) = m ((c.tc : Thread Cert.MlpFwd.nD Cert.MlpFwd.τ).loc Cert.MlpFwd.main_arg6))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
      ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
      ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6))
      ∧ r.2.sem = fun _ => 0)

def quiescent_MlpFwdIdeal_pre_finite_mlp_fwd [hMlpFwdIdeal : Cert.MlpFwdIdeal.Facts] [hPre_finite_mlp_fwd : Cert.Pre_finite_mlp_fwd.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal_finite_mlp_fwd m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
      ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
      ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3)
      ∧ r.2.mem ((c.tc : Thread Cert.MlpFwdRefIdeal.nD Cert.MlpFwdRefIdeal.τ).loc Cert.MlpFwdRefIdeal.main_arg4) = m ((c.tc : Thread Cert.MlpFwdRefIdeal.nD Cert.MlpFwdRefIdeal.τ).loc Cert.MlpFwdRefIdeal.main_arg4)
      ∧ r.2.mem ((c.tc : Thread Cert.MlpFwdRefIdeal.nD Cert.MlpFwdRefIdeal.τ).loc Cert.MlpFwdRefIdeal.main_arg5) = m ((c.tc : Thread Cert.MlpFwdRefIdeal.nD Cert.MlpFwdRefIdeal.τ).loc Cert.MlpFwdRefIdeal.main_arg5)
      ∧ r.2.mem ((c.tc : Thread Cert.MlpFwdRefIdeal.nD Cert.MlpFwdRefIdeal.τ).loc Cert.MlpFwdRefIdeal.main_arg6) = m ((c.tc : Thread Cert.MlpFwdRefIdeal.nD Cert.MlpFwdRefIdeal.τ).loc Cert.MlpFwdRefIdeal.main_arg6))
      ∧ r.2.sem = fun _ => 0)

def quiescent_MlpFwdRefIdeal_pre_finite_mlp_fwd [hMlpFwdRefIdeal : Cert.MlpFwdRefIdeal.Facts] [hPre_finite_mlp_fwd : Cert.Pre_finite_mlp_fwd.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal_finite_mlp_fwd m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3)
      ∧ r.2.mem ((c.tc : Thread Cert.MlpFwdRefIdeal.nD Cert.MlpFwdRefIdeal.τ).loc Cert.MlpFwdRefIdeal.main_arg4) = m ((c.tc : Thread Cert.MlpFwdRefIdeal.nD Cert.MlpFwdRefIdeal.τ).loc Cert.MlpFwdRefIdeal.main_arg4)
      ∧ r.2.mem ((c.tc : Thread Cert.MlpFwdRefIdeal.nD Cert.MlpFwdRefIdeal.τ).loc Cert.MlpFwdRefIdeal.main_arg5) = m ((c.tc : Thread Cert.MlpFwdRefIdeal.nD Cert.MlpFwdRefIdeal.τ).loc Cert.MlpFwdRefIdeal.main_arg5)
      ∧ r.2.mem ((c.tc : Thread Cert.MlpFwdRefIdeal.nD Cert.MlpFwdRefIdeal.τ).loc Cert.MlpFwdRefIdeal.main_arg6) = m ((c.tc : Thread Cert.MlpFwdRefIdeal.nD Cert.MlpFwdRefIdeal.τ).loc Cert.MlpFwdRefIdeal.main_arg6))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5)
      ∧ r.2.mem ((c.tc : Thread Cert.DwIn.nD Cert.DwIn.τ).loc Cert.DwIn.main_arg6) = m ((c.tc : Thread Cert.DwIn.nD Cert.DwIn.τ).loc Cert.DwIn.main_arg6)
      ∧ r.2.mem ((c.tc : Thread Cert.DwIn.nD Cert.DwIn.τ).loc Cert.DwIn.main_arg7) = m ((c.tc : Thread Cert.DwIn.nD Cert.DwIn.τ).loc Cert.DwIn.main_arg7))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
      ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6)
      ∧ r.2.mem ((c.tc : Thread Cert.DwInIdeal.nD Cert.DwInIdeal.τ).loc Cert.DwInIdeal.main_arg7) = m ((c.tc : Thread Cert.DwInIdeal.nD Cert.DwInIdeal.τ).loc Cert.DwInIdeal.main_arg7))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5)
      ∧ r.2.mem ((c.tc : Thread Cert.DwInRefIdeal.nD Cert.DwInRefIdeal.τ).loc Cert.DwInRefIdeal.main_arg6) = m ((c.tc : Thread Cert.DwInRefIdeal.nD Cert.DwInRefIdeal.τ).loc Cert.DwInRefIdeal.main_arg6)
      ∧ r.2.mem ((c.tc : Thread Cert.DwInRefIdeal.nD Cert.DwInRefIdeal.τ).loc Cert.DwInRefIdeal.main_arg7) = m ((c.tc : Thread Cert.DwInRefIdeal.nD Cert.DwInRefIdeal.τ).loc Cert.DwInRefIdeal.main_arg7))
      ∧ r.2.sem = fun _ => 0)

def quiescent_DwMlp [hDwMlp : Cert.DwMlp.Facts] : Prop :=
  ∀ (m : (ℓ : Loc Cert.DwMlp.nD Cert.DwMlp.τ Cert.DwMlp.sig) → Buf (Elt Bits) ℓ) (g : Dev Cert.DwMlp.nD → PrngReg), Pre_DwMlp m →
    θ_run (Cert.DwMlp.defs (F := Bits)) (onTc (τ := Cert.DwMlp.τ) (Cert.DwMlp.main (F := Bits))) ⟨m, fun _ => 0, g⟩ (fun r => (∀ c : Dev Cert.DwMlp.nD,
      r.2.mem ((c.tc : Thread Cert.DwMlp.nD Cert.DwMlp.τ).loc Cert.DwMlp.main_arg0) = m ((c.tc : Thread Cert.DwMlp.nD Cert.DwMlp.τ).loc Cert.DwMlp.main_arg0)
      ∧ r.2.mem ((c.tc : Thread Cert.DwMlp.nD Cert.DwMlp.τ).loc Cert.DwMlp.main_arg1) = m ((c.tc : Thread Cert.DwMlp.nD Cert.DwMlp.τ).loc Cert.DwMlp.main_arg1)
      ∧ r.2.mem ((c.tc : Thread Cert.DwMlp.nD Cert.DwMlp.τ).loc Cert.DwMlp.main_arg2) = m ((c.tc : Thread Cert.DwMlp.nD Cert.DwMlp.τ).loc Cert.DwMlp.main_arg2)
      ∧ r.2.mem ((c.tc : Thread Cert.DwMlp.nD Cert.DwMlp.τ).loc Cert.DwMlp.main_arg3) = m ((c.tc : Thread Cert.DwMlp.nD Cert.DwMlp.τ).loc Cert.DwMlp.main_arg3)
      ∧ r.2.mem ((c.tc : Thread Cert.DwMlp.nD Cert.DwMlp.τ).loc Cert.DwMlp.main_arg4) = m ((c.tc : Thread Cert.DwMlp.nD Cert.DwMlp.τ).loc Cert.DwMlp.main_arg4)
      ∧ r.2.mem ((c.tc : Thread Cert.DwMlp.nD Cert.DwMlp.τ).loc Cert.DwMlp.main_arg5) = m ((c.tc : Thread Cert.DwMlp.nD Cert.DwMlp.τ).loc Cert.DwMlp.main_arg5))
      ∧ r.2.sem = fun _ => 0)

def quiescent_DwMlpIdeal [hDwMlpIdeal : Cert.DwMlpIdeal.Facts] : Prop :=
  ∀ (m : (ℓ : Loc Cert.DwMlpIdeal.nD Cert.DwMlpIdeal.τ Cert.DwMlpIdeal.sig) → Buf (Elt Ideal) ℓ) (g : Dev Cert.DwMlpIdeal.nD → PrngReg), Pre_DwMlpIdeal m →
    θ_run (Cert.DwMlpIdeal.defs (F := Ideal)) (onTc (τ := Cert.DwMlpIdeal.τ) (Cert.DwMlpIdeal.main (F := Ideal))) ⟨m, fun _ => 0, g⟩ (fun r => (∀ c : Dev Cert.DwMlpIdeal.nD,
      r.2.mem ((c.tc : Thread Cert.DwMlpIdeal.nD Cert.DwMlpIdeal.τ).loc Cert.DwMlpIdeal.main_arg0) = m ((c.tc : Thread Cert.DwMlpIdeal.nD Cert.DwMlpIdeal.τ).loc Cert.DwMlpIdeal.main_arg0)
      ∧ r.2.mem ((c.tc : Thread Cert.DwMlpIdeal.nD Cert.DwMlpIdeal.τ).loc Cert.DwMlpIdeal.main_arg1) = m ((c.tc : Thread Cert.DwMlpIdeal.nD Cert.DwMlpIdeal.τ).loc Cert.DwMlpIdeal.main_arg1)
      ∧ r.2.mem ((c.tc : Thread Cert.DwMlpIdeal.nD Cert.DwMlpIdeal.τ).loc Cert.DwMlpIdeal.main_arg2) = m ((c.tc : Thread Cert.DwMlpIdeal.nD Cert.DwMlpIdeal.τ).loc Cert.DwMlpIdeal.main_arg2)
      ∧ r.2.mem ((c.tc : Thread Cert.DwMlpIdeal.nD Cert.DwMlpIdeal.τ).loc Cert.DwMlpIdeal.main_arg3) = m ((c.tc : Thread Cert.DwMlpIdeal.nD Cert.DwMlpIdeal.τ).loc Cert.DwMlpIdeal.main_arg3)
      ∧ r.2.mem ((c.tc : Thread Cert.DwMlpIdeal.nD Cert.DwMlpIdeal.τ).loc Cert.DwMlpIdeal.main_arg4) = m ((c.tc : Thread Cert.DwMlpIdeal.nD Cert.DwMlpIdeal.τ).loc Cert.DwMlpIdeal.main_arg4)
      ∧ r.2.mem ((c.tc : Thread Cert.DwMlpIdeal.nD Cert.DwMlpIdeal.τ).loc Cert.DwMlpIdeal.main_arg5) = m ((c.tc : Thread Cert.DwMlpIdeal.nD Cert.DwMlpIdeal.τ).loc Cert.DwMlpIdeal.main_arg5))
      ∧ r.2.sem = fun _ => 0)

def quiescent_DwMlpRefIdeal [hDwMlpRefIdeal : Cert.DwMlpRefIdeal.Facts] : Prop :=
  ∀ (m : (ℓ : Loc Cert.DwMlpRefIdeal.nD Cert.DwMlpRefIdeal.τ Cert.DwMlpRefIdeal.sig) → Buf (Elt Ideal) ℓ) (g : Dev Cert.DwMlpRefIdeal.nD → PrngReg), Pre_DwMlpRefIdeal m →
    θ_run (Cert.DwMlpRefIdeal.defs (F := Ideal)) (onTc (τ := Cert.DwMlpRefIdeal.τ) (Cert.DwMlpRefIdeal.main (F := Ideal))) ⟨m, fun _ => 0, g⟩ (fun r => (∀ c : Dev Cert.DwMlpRefIdeal.nD,
      r.2.mem ((c.tc : Thread Cert.DwMlpRefIdeal.nD Cert.DwMlpRefIdeal.τ).loc Cert.DwMlpRefIdeal.main_arg0) = m ((c.tc : Thread Cert.DwMlpRefIdeal.nD Cert.DwMlpRefIdeal.τ).loc Cert.DwMlpRefIdeal.main_arg0)
      ∧ r.2.mem ((c.tc : Thread Cert.DwMlpRefIdeal.nD Cert.DwMlpRefIdeal.τ).loc Cert.DwMlpRefIdeal.main_arg1) = m ((c.tc : Thread Cert.DwMlpRefIdeal.nD Cert.DwMlpRefIdeal.τ).loc Cert.DwMlpRefIdeal.main_arg1)
      ∧ r.2.mem ((c.tc : Thread Cert.DwMlpRefIdeal.nD Cert.DwMlpRefIdeal.τ).loc Cert.DwMlpRefIdeal.main_arg2) = m ((c.tc : Thread Cert.DwMlpRefIdeal.nD Cert.DwMlpRefIdeal.τ).loc Cert.DwMlpRefIdeal.main_arg2)
      ∧ r.2.mem ((c.tc : Thread Cert.DwMlpRefIdeal.nD Cert.DwMlpRefIdeal.τ).loc Cert.DwMlpRefIdeal.main_arg3) = m ((c.tc : Thread Cert.DwMlpRefIdeal.nD Cert.DwMlpRefIdeal.τ).loc Cert.DwMlpRefIdeal.main_arg3)
      ∧ r.2.mem ((c.tc : Thread Cert.DwMlpRefIdeal.nD Cert.DwMlpRefIdeal.τ).loc Cert.DwMlpRefIdeal.main_arg4) = m ((c.tc : Thread Cert.DwMlpRefIdeal.nD Cert.DwMlpRefIdeal.τ).loc Cert.DwMlpRefIdeal.main_arg4)
      ∧ r.2.mem ((c.tc : Thread Cert.DwMlpRefIdeal.nD Cert.DwMlpRefIdeal.τ).loc Cert.DwMlpRefIdeal.main_arg5) = m ((c.tc : Thread Cert.DwMlpRefIdeal.nD Cert.DwMlpRefIdeal.τ).loc Cert.DwMlpRefIdeal.main_arg5))
      ∧ r.2.sem = fun _ => 0)

def quiescent_OutprojBwd [hOutprojBwd : Cert.OutprojBwd.Facts] : Prop :=
  ∀ (m : (ℓ : Loc Cert.OutprojBwd.nD Cert.OutprojBwd.τ Cert.OutprojBwd.sig) → Buf (Elt Bits) ℓ) (g : Dev Cert.OutprojBwd.nD → PrngReg), Pre_OutprojBwd m →
    θ_run (Cert.OutprojBwd.defs (F := Bits)) (onTc (τ := Cert.OutprojBwd.τ) (Cert.OutprojBwd.main (F := Bits))) ⟨m, fun _ => 0, g⟩ (fun r => (∀ c : Dev Cert.OutprojBwd.nD,
      r.2.mem ((c.tc : Thread Cert.OutprojBwd.nD Cert.OutprojBwd.τ).loc Cert.OutprojBwd.main_arg0) = m ((c.tc : Thread Cert.OutprojBwd.nD Cert.OutprojBwd.τ).loc Cert.OutprojBwd.main_arg0)
      ∧ r.2.mem ((c.tc : Thread Cert.OutprojBwd.nD Cert.OutprojBwd.τ).loc Cert.OutprojBwd.main_arg1) = m ((c.tc : Thread Cert.OutprojBwd.nD Cert.OutprojBwd.τ).loc Cert.OutprojBwd.main_arg1)
      ∧ r.2.mem ((c.tc : Thread Cert.OutprojBwd.nD Cert.OutprojBwd.τ).loc Cert.OutprojBwd.main_arg2) = m ((c.tc : Thread Cert.OutprojBwd.nD Cert.OutprojBwd.τ).loc Cert.OutprojBwd.main_arg2)
      ∧ r.2.mem ((c.tc : Thread Cert.OutprojBwd.nD Cert.OutprojBwd.τ).loc Cert.OutprojBwd.main_arg3) = m ((c.tc : Thread Cert.OutprojBwd.nD Cert.OutprojBwd.τ).loc Cert.OutprojBwd.main_arg3))
      ∧ r.2.sem = fun _ => 0)

def quiescent_OutprojBwdIdeal [hOutprojBwdIdeal : Cert.OutprojBwdIdeal.Facts] : Prop :=
  ∀ (m : (ℓ : Loc Cert.OutprojBwdIdeal.nD Cert.OutprojBwdIdeal.τ Cert.OutprojBwdIdeal.sig) → Buf (Elt Ideal) ℓ) (g : Dev Cert.OutprojBwdIdeal.nD → PrngReg), Pre_OutprojBwdIdeal m →
    θ_run (Cert.OutprojBwdIdeal.defs (F := Ideal)) (onTc (τ := Cert.OutprojBwdIdeal.τ) (Cert.OutprojBwdIdeal.main (F := Ideal))) ⟨m, fun _ => 0, g⟩ (fun r => (∀ c : Dev Cert.OutprojBwdIdeal.nD,
      r.2.mem ((c.tc : Thread Cert.OutprojBwdIdeal.nD Cert.OutprojBwdIdeal.τ).loc Cert.OutprojBwdIdeal.main_arg0) = m ((c.tc : Thread Cert.OutprojBwdIdeal.nD Cert.OutprojBwdIdeal.τ).loc Cert.OutprojBwdIdeal.main_arg0)
      ∧ r.2.mem ((c.tc : Thread Cert.OutprojBwdIdeal.nD Cert.OutprojBwdIdeal.τ).loc Cert.OutprojBwdIdeal.main_arg1) = m ((c.tc : Thread Cert.OutprojBwdIdeal.nD Cert.OutprojBwdIdeal.τ).loc Cert.OutprojBwdIdeal.main_arg1)
      ∧ r.2.mem ((c.tc : Thread Cert.OutprojBwdIdeal.nD Cert.OutprojBwdIdeal.τ).loc Cert.OutprojBwdIdeal.main_arg2) = m ((c.tc : Thread Cert.OutprojBwdIdeal.nD Cert.OutprojBwdIdeal.τ).loc Cert.OutprojBwdIdeal.main_arg2)
      ∧ r.2.mem ((c.tc : Thread Cert.OutprojBwdIdeal.nD Cert.OutprojBwdIdeal.τ).loc Cert.OutprojBwdIdeal.main_arg3) = m ((c.tc : Thread Cert.OutprojBwdIdeal.nD Cert.OutprojBwdIdeal.τ).loc Cert.OutprojBwdIdeal.main_arg3))
      ∧ r.2.sem = fun _ => 0)

def quiescent_OutprojBwdRefIdeal [hOutprojBwdRefIdeal : Cert.OutprojBwdRefIdeal.Facts] : Prop :=
  ∀ (m : (ℓ : Loc Cert.OutprojBwdRefIdeal.nD Cert.OutprojBwdRefIdeal.τ Cert.OutprojBwdRefIdeal.sig) → Buf (Elt Ideal) ℓ) (g : Dev Cert.OutprojBwdRefIdeal.nD → PrngReg), Pre_OutprojBwdRefIdeal m →
    θ_run (Cert.OutprojBwdRefIdeal.defs (F := Ideal)) (onTc (τ := Cert.OutprojBwdRefIdeal.τ) (Cert.OutprojBwdRefIdeal.main (F := Ideal))) ⟨m, fun _ => 0, g⟩ (fun r => (∀ c : Dev Cert.OutprojBwdRefIdeal.nD,
      r.2.mem ((c.tc : Thread Cert.OutprojBwdRefIdeal.nD Cert.OutprojBwdRefIdeal.τ).loc Cert.OutprojBwdRefIdeal.main_arg0) = m ((c.tc : Thread Cert.OutprojBwdRefIdeal.nD Cert.OutprojBwdRefIdeal.τ).loc Cert.OutprojBwdRefIdeal.main_arg0)
      ∧ r.2.mem ((c.tc : Thread Cert.OutprojBwdRefIdeal.nD Cert.OutprojBwdRefIdeal.τ).loc Cert.OutprojBwdRefIdeal.main_arg1) = m ((c.tc : Thread Cert.OutprojBwdRefIdeal.nD Cert.OutprojBwdRefIdeal.τ).loc Cert.OutprojBwdRefIdeal.main_arg1)
      ∧ r.2.mem ((c.tc : Thread Cert.OutprojBwdRefIdeal.nD Cert.OutprojBwdRefIdeal.τ).loc Cert.OutprojBwdRefIdeal.main_arg2) = m ((c.tc : Thread Cert.OutprojBwdRefIdeal.nD Cert.OutprojBwdRefIdeal.τ).loc Cert.OutprojBwdRefIdeal.main_arg2)
      ∧ r.2.mem ((c.tc : Thread Cert.OutprojBwdRefIdeal.nD Cert.OutprojBwdRefIdeal.τ).loc Cert.OutprojBwdRefIdeal.main_arg3) = m ((c.tc : Thread Cert.OutprojBwdRefIdeal.nD Cert.OutprojBwdRefIdeal.τ).loc Cert.OutprojBwdRefIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3))
      ∧ r.2.sem = fun _ => 0)

def preserves_MlpBwd_MlpBwdIdeal : Prop :=
  True

def algebraic_MlpBwdIdeal_MlpBwdRefIdeal_pre_finite [hMlpBwdIdeal : Cert.MlpBwdIdeal.Facts] [hMlpBwdRefIdeal : Cert.MlpBwdRefIdeal.Facts] [hPre_finite : Cert.Pre_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal_finite m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)
      ∧ m' ((c.tc : Thread Cert.MlpBwdRefIdeal.nD Cert.MlpBwdRefIdeal.τ).loc Cert.MlpBwdRefIdeal.main_arg5) = m ((c.tc : Thread Cert.MlpBwdIdeal.nD Cert.MlpBwdIdeal.τ).loc Cert.MlpBwdIdeal.main_arg5)) →
    ∃ (v0 : (c : Dev Cert.MlpBwdIdeal.nD) → Buf (Elt Ideal) ((c.tc : Thread Cert.MlpBwdIdeal.nD Cert.MlpBwdIdeal.τ).loc Cert.MlpBwdIdeal.main_v48_0)) (v1 : (c : Dev Cert.MlpBwdIdeal.nD) → Buf (Elt Ideal) ((c.tc : Thread Cert.MlpBwdIdeal.nD Cert.MlpBwdIdeal.τ).loc Cert.MlpBwdIdeal.main_v48_1)) (v2 : (c : Dev Cert.MlpBwdIdeal.nD) → Buf (Elt Ideal) ((c.tc : Thread Cert.MlpBwdIdeal.nD Cert.MlpBwdIdeal.τ).loc Cert.MlpBwdIdeal.main_v48_2)) (v3 : (c : Dev Cert.MlpBwdIdeal.nD) → Buf (Elt Ideal) ((c.tc : Thread Cert.MlpBwdIdeal.nD Cert.MlpBwdIdeal.τ).loc Cert.MlpBwdIdeal.main_v48_3)) (v4 : (c : Dev Cert.MlpBwdIdeal.nD) → Buf (Elt Ideal) ((c.tc : Thread Cert.MlpBwdIdeal.nD Cert.MlpBwdIdeal.τ).loc Cert.MlpBwdIdeal.main_v48_4)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v48_0) = v0 c
          ∧ r.2.mem ((c.tc : Thread Cert.MlpBwdIdeal.nD Cert.MlpBwdIdeal.τ).loc Cert.MlpBwdIdeal.main_v48_1) = v1 c
          ∧ r.2.mem ((c.tc : Thread Cert.MlpBwdIdeal.nD Cert.MlpBwdIdeal.τ).loc Cert.MlpBwdIdeal.main_v48_2) = v2 c
          ∧ r.2.mem ((c.tc : Thread Cert.MlpBwdIdeal.nD Cert.MlpBwdIdeal.τ).loc Cert.MlpBwdIdeal.main_v48_3) = v3 c
          ∧ r.2.mem ((c.tc : Thread Cert.MlpBwdIdeal.nD Cert.MlpBwdIdeal.τ).loc Cert.MlpBwdIdeal.main_v48_4) = v4 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
          ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v56) = v0 c
          ∧ r.2.mem ((c.tc : Thread Cert.MlpBwdRefIdeal.nD Cert.MlpBwdRefIdeal.τ).loc Cert.MlpBwdRefIdeal.main_v59) = v1 c
          ∧ r.2.mem ((c.tc : Thread Cert.MlpBwdRefIdeal.nD Cert.MlpBwdRefIdeal.τ).loc Cert.MlpBwdRefIdeal.main_v53) = v2 c
          ∧ r.2.mem ((c.tc : Thread Cert.MlpBwdRefIdeal.nD Cert.MlpBwdRefIdeal.τ).loc Cert.MlpBwdRefIdeal.main_v60) = v3 c
          ∧ r.2.mem ((c.tc : Thread Cert.MlpBwdRefIdeal.nD Cert.MlpBwdRefIdeal.τ).loc Cert.MlpBwdRefIdeal.main_v36) = v4 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4)
          ∧ r.2.mem ((c.tc : Thread Cert.MlpBwdRefIdeal.nD Cert.MlpBwdRefIdeal.τ).loc Cert.MlpBwdRefIdeal.main_arg5) = m' ((c.tc : Thread Cert.MlpBwdRefIdeal.nD Cert.MlpBwdRefIdeal.τ).loc Cert.MlpBwdRefIdeal.main_arg5))

def preserves_InprojBwd_InprojBwdIdeal : Prop :=
  True

def algebraic_InprojBwdIdeal_InprojBwdRefIdeal_pre_finite_inproj [hInprojBwdIdeal : Cert.InprojBwdIdeal.Facts] [hInprojBwdRefIdeal : Cert.InprojBwdRefIdeal.Facts] [hPre_finite_inproj : Cert.Pre_finite_inproj.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.InprojBwdRefIdeal.nD Cert.InprojBwdRefIdeal.τ Cert.InprojBwdRefIdeal.sig) → Buf (Elt Ideal) ℓ) (g' : Dev Cert.InprojBwdRefIdeal.nD → PrngReg), Pre_InprojBwdIdeal_finite_inproj m →
    (∀ c : Dev Cert.InprojBwdIdeal.nD,
      m' ((c.tc : Thread Cert.InprojBwdRefIdeal.nD Cert.InprojBwdRefIdeal.τ).loc Cert.InprojBwdRefIdeal.main_arg0) = m ((c.tc : Thread Cert.InprojBwdIdeal.nD Cert.InprojBwdIdeal.τ).loc Cert.InprojBwdIdeal.main_arg0)
      ∧ m' ((c.tc : Thread Cert.InprojBwdRefIdeal.nD Cert.InprojBwdRefIdeal.τ).loc Cert.InprojBwdRefIdeal.main_arg1) = m ((c.tc : Thread Cert.InprojBwdIdeal.nD Cert.InprojBwdIdeal.τ).loc Cert.InprojBwdIdeal.main_arg1)
      ∧ m' ((c.tc : Thread Cert.InprojBwdRefIdeal.nD Cert.InprojBwdRefIdeal.τ).loc Cert.InprojBwdRefIdeal.main_arg2) = m ((c.tc : Thread Cert.InprojBwdIdeal.nD Cert.InprojBwdIdeal.τ).loc Cert.InprojBwdIdeal.main_arg2)
      ∧ m' ((c.tc : Thread Cert.InprojBwdRefIdeal.nD Cert.InprojBwdRefIdeal.τ).loc Cert.InprojBwdRefIdeal.main_arg3) = m ((c.tc : Thread Cert.InprojBwdIdeal.nD Cert.InprojBwdIdeal.τ).loc Cert.InprojBwdIdeal.main_arg3)
      ∧ m' ((c.tc : Thread Cert.InprojBwdRefIdeal.nD Cert.InprojBwdRefIdeal.τ).loc Cert.InprojBwdRefIdeal.main_arg4) = m ((c.tc : Thread Cert.InprojBwdIdeal.nD Cert.InprojBwdIdeal.τ).loc Cert.InprojBwdIdeal.main_arg4)
      ∧ m' ((c.tc : Thread Cert.InprojBwdRefIdeal.nD Cert.InprojBwdRefIdeal.τ).loc Cert.InprojBwdRefIdeal.main_arg5) = m ((c.tc : Thread Cert.InprojBwdIdeal.nD Cert.InprojBwdIdeal.τ).loc Cert.InprojBwdIdeal.main_arg5)
      ∧ m' ((c.tc : Thread Cert.InprojBwdRefIdeal.nD Cert.InprojBwdRefIdeal.τ).loc Cert.InprojBwdRefIdeal.main_arg6) = m ((c.tc : Thread Cert.InprojBwdIdeal.nD Cert.InprojBwdIdeal.τ).loc Cert.InprojBwdIdeal.main_arg6)
      ∧ m' ((c.tc : Thread Cert.InprojBwdRefIdeal.nD Cert.InprojBwdRefIdeal.τ).loc Cert.InprojBwdRefIdeal.main_arg7) = m ((c.tc : Thread Cert.InprojBwdIdeal.nD Cert.InprojBwdIdeal.τ).loc Cert.InprojBwdIdeal.main_arg7)
      ∧ m' ((c.tc : Thread Cert.InprojBwdRefIdeal.nD Cert.InprojBwdRefIdeal.τ).loc Cert.InprojBwdRefIdeal.main_arg8) = m ((c.tc : Thread Cert.InprojBwdIdeal.nD Cert.InprojBwdIdeal.τ).loc Cert.InprojBwdIdeal.main_arg8)) →
    ∃ (v0 : (c : Dev Cert.InprojBwdIdeal.nD) → Buf (Elt Ideal) ((c.tc : Thread Cert.InprojBwdIdeal.nD Cert.InprojBwdIdeal.τ).loc Cert.InprojBwdIdeal.main_v15_0)) (v1 : (c : Dev Cert.InprojBwdIdeal.nD) → Buf (Elt Ideal) ((c.tc : Thread Cert.InprojBwdIdeal.nD Cert.InprojBwdIdeal.τ).loc Cert.InprojBwdIdeal.main_v15_1)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v15_0) = v0 c
          ∧ r.2.mem ((c.tc : Thread Cert.InprojBwdIdeal.nD Cert.InprojBwdIdeal.τ).loc Cert.InprojBwdIdeal.main_v15_1) = v1 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
          ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
          ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
          ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
          ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
          ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7)
          ∧ r.2.mem ((c.tc : Thread Cert.InprojBwdIdeal.nD Cert.InprojBwdIdeal.τ).loc Cert.InprojBwdIdeal.main_arg8) = m ((c.tc : Thread Cert.InprojBwdIdeal.nD Cert.InprojBwdIdeal.τ).loc Cert.InprojBwdIdeal.main_arg8))
      ∧ θ_run (Cert.InprojBwdRefIdeal.defs (F := Ideal)) (onTc (τ := Cert.InprojBwdRefIdeal.τ) (Cert.InprojBwdRefIdeal.main (F := Ideal))) ⟨m', fun _ => 0, g'⟩ (fun r => ∀ c : Dev Cert.InprojBwdRefIdeal.nD,
          r.2.mem ((c.tc : Thread Cert.InprojBwdRefIdeal.nD Cert.InprojBwdRefIdeal.τ).loc Cert.InprojBwdRefIdeal.main_v38) = v0 c
          ∧ r.2.mem ((c.tc : Thread Cert.InprojBwdRefIdeal.nD Cert.InprojBwdRefIdeal.τ).loc Cert.InprojBwdRefIdeal.main_v21) = v1 c
          ∧ r.2.mem ((c.tc : Thread Cert.InprojBwdRefIdeal.nD Cert.InprojBwdRefIdeal.τ).loc Cert.InprojBwdRefIdeal.main_arg0) = m' ((c.tc : Thread Cert.InprojBwdRefIdeal.nD Cert.InprojBwdRefIdeal.τ).loc Cert.InprojBwdRefIdeal.main_arg0)
          ∧ r.2.mem ((c.tc : Thread Cert.InprojBwdRefIdeal.nD Cert.InprojBwdRefIdeal.τ).loc Cert.InprojBwdRefIdeal.main_arg1) = m' ((c.tc : Thread Cert.InprojBwdRefIdeal.nD Cert.InprojBwdRefIdeal.τ).loc Cert.InprojBwdRefIdeal.main_arg1)
          ∧ r.2.mem ((c.tc : Thread Cert.InprojBwdRefIdeal.nD Cert.InprojBwdRefIdeal.τ).loc Cert.InprojBwdRefIdeal.main_arg2) = m' ((c.tc : Thread Cert.InprojBwdRefIdeal.nD Cert.InprojBwdRefIdeal.τ).loc Cert.InprojBwdRefIdeal.main_arg2)
          ∧ r.2.mem ((c.tc : Thread Cert.InprojBwdRefIdeal.nD Cert.InprojBwdRefIdeal.τ).loc Cert.InprojBwdRefIdeal.main_arg3) = m' ((c.tc : Thread Cert.InprojBwdRefIdeal.nD Cert.InprojBwdRefIdeal.τ).loc Cert.InprojBwdRefIdeal.main_arg3)
          ∧ r.2.mem ((c.tc : Thread Cert.InprojBwdRefIdeal.nD Cert.InprojBwdRefIdeal.τ).loc Cert.InprojBwdRefIdeal.main_arg4) = m' ((c.tc : Thread Cert.InprojBwdRefIdeal.nD Cert.InprojBwdRefIdeal.τ).loc Cert.InprojBwdRefIdeal.main_arg4)
          ∧ r.2.mem ((c.tc : Thread Cert.InprojBwdRefIdeal.nD Cert.InprojBwdRefIdeal.τ).loc Cert.InprojBwdRefIdeal.main_arg5) = m' ((c.tc : Thread Cert.InprojBwdRefIdeal.nD Cert.InprojBwdRefIdeal.τ).loc Cert.InprojBwdRefIdeal.main_arg5)
          ∧ r.2.mem ((c.tc : Thread Cert.InprojBwdRefIdeal.nD Cert.InprojBwdRefIdeal.τ).loc Cert.InprojBwdRefIdeal.main_arg6) = m' ((c.tc : Thread Cert.InprojBwdRefIdeal.nD Cert.InprojBwdRefIdeal.τ).loc Cert.InprojBwdRefIdeal.main_arg6)
          ∧ r.2.mem ((c.tc : Thread Cert.InprojBwdRefIdeal.nD Cert.InprojBwdRefIdeal.τ).loc Cert.InprojBwdRefIdeal.main_arg7) = m' ((c.tc : Thread Cert.InprojBwdRefIdeal.nD Cert.InprojBwdRefIdeal.τ).loc Cert.InprojBwdRefIdeal.main_arg7)
          ∧ r.2.mem ((c.tc : Thread Cert.InprojBwdRefIdeal.nD Cert.InprojBwdRefIdeal.τ).loc Cert.InprojBwdRefIdeal.main_arg8) = m' ((c.tc : Thread Cert.InprojBwdRefIdeal.nD Cert.InprojBwdRefIdeal.τ).loc Cert.InprojBwdRefIdeal.main_arg8))

def preserves_MlpFwd_MlpFwdIdeal : Prop :=
  True

def algebraic_MlpFwdIdeal_MlpFwdRefIdeal_pre_finite_mlp_fwd [hMlpFwdIdeal : Cert.MlpFwdIdeal.Facts] [hMlpFwdRefIdeal : Cert.MlpFwdRefIdeal.Facts] [hPre_finite_mlp_fwd : Cert.Pre_finite_mlp_fwd.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal_finite_mlp_fwd m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)
      ∧ m' ((c.tc : Thread Cert.MlpFwdRefIdeal.nD Cert.MlpFwdRefIdeal.τ).loc Cert.MlpFwdRefIdeal.main_arg4) = m ((c.tc : Thread Cert.MlpFwdIdeal.nD Cert.MlpFwdIdeal.τ).loc Cert.MlpFwdIdeal.main_arg4)
      ∧ m' ((c.tc : Thread Cert.MlpFwdRefIdeal.nD Cert.MlpFwdRefIdeal.τ).loc Cert.MlpFwdRefIdeal.main_arg5) = m ((c.tc : Thread Cert.MlpFwdIdeal.nD Cert.MlpFwdIdeal.τ).loc Cert.MlpFwdIdeal.main_arg5)
      ∧ m' ((c.tc : Thread Cert.MlpFwdRefIdeal.nD Cert.MlpFwdRefIdeal.τ).loc Cert.MlpFwdRefIdeal.main_arg6) = m ((c.tc : Thread Cert.MlpFwdIdeal.nD Cert.MlpFwdIdeal.τ).loc Cert.MlpFwdIdeal.main_arg6)) →
    ∃ (v0 : (c : Dev Cert.MlpFwdIdeal.nD) → Buf (Elt Ideal) ((c.tc : Thread Cert.MlpFwdIdeal.nD Cert.MlpFwdIdeal.τ).loc Cert.MlpFwdIdeal.main_v25_0)) (v1 : (c : Dev Cert.MlpFwdIdeal.nD) → Buf (Elt Ideal) ((c.tc : Thread Cert.MlpFwdIdeal.nD Cert.MlpFwdIdeal.τ).loc Cert.MlpFwdIdeal.main_v25_1)) (v2 : (c : Dev Cert.MlpFwdIdeal.nD) → Buf (Elt Ideal) ((c.tc : Thread Cert.MlpFwdIdeal.nD Cert.MlpFwdIdeal.τ).loc Cert.MlpFwdIdeal.main_v25_2)) (v3 : (c : Dev Cert.MlpFwdIdeal.nD) → Buf (Elt Ideal) ((c.tc : Thread Cert.MlpFwdIdeal.nD Cert.MlpFwdIdeal.τ).loc Cert.MlpFwdIdeal.main_v25_3)) (v4 : (c : Dev Cert.MlpFwdIdeal.nD) → Buf (Elt Ideal) ((c.tc : Thread Cert.MlpFwdIdeal.nD Cert.MlpFwdIdeal.τ).loc Cert.MlpFwdIdeal.main_v25_4)) (v5 : (c : Dev Cert.MlpFwdIdeal.nD) → Buf (Elt Ideal) ((c.tc : Thread Cert.MlpFwdIdeal.nD Cert.MlpFwdIdeal.τ).loc Cert.MlpFwdIdeal.main_v25_5)) (v6 : (c : Dev Cert.MlpFwdIdeal.nD) → Buf (Elt Ideal) ((c.tc : Thread Cert.MlpFwdIdeal.nD Cert.MlpFwdIdeal.τ).loc Cert.MlpFwdIdeal.main_v25_6)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v25_0) = v0 c
          ∧ r.2.mem ((c.tc : Thread Cert.MlpFwdIdeal.nD Cert.MlpFwdIdeal.τ).loc Cert.MlpFwdIdeal.main_v25_1) = v1 c
          ∧ r.2.mem ((c.tc : Thread Cert.MlpFwdIdeal.nD Cert.MlpFwdIdeal.τ).loc Cert.MlpFwdIdeal.main_v25_2) = v2 c
          ∧ r.2.mem ((c.tc : Thread Cert.MlpFwdIdeal.nD Cert.MlpFwdIdeal.τ).loc Cert.MlpFwdIdeal.main_v25_3) = v3 c
          ∧ r.2.mem ((c.tc : Thread Cert.MlpFwdIdeal.nD Cert.MlpFwdIdeal.τ).loc Cert.MlpFwdIdeal.main_v25_4) = v4 c
          ∧ r.2.mem ((c.tc : Thread Cert.MlpFwdIdeal.nD Cert.MlpFwdIdeal.τ).loc Cert.MlpFwdIdeal.main_v25_5) = v5 c
          ∧ r.2.mem ((c.tc : Thread Cert.MlpFwdIdeal.nD Cert.MlpFwdIdeal.τ).loc Cert.MlpFwdIdeal.main_v25_6) = v6 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
          ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
          ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
          ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v73) = v0 c
          ∧ r.2.mem ((c.tc : Thread Cert.MlpFwdRefIdeal.nD Cert.MlpFwdRefIdeal.τ).loc Cert.MlpFwdRefIdeal.main_v74) = v1 c
          ∧ r.2.mem ((c.tc : Thread Cert.MlpFwdRefIdeal.nD Cert.MlpFwdRefIdeal.τ).loc Cert.MlpFwdRefIdeal.main_v71) = v2 c
          ∧ r.2.mem ((c.tc : Thread Cert.MlpFwdRefIdeal.nD Cert.MlpFwdRefIdeal.τ).loc Cert.MlpFwdRefIdeal.main_v75) = v3 c
          ∧ r.2.mem ((c.tc : Thread Cert.MlpFwdRefIdeal.nD Cert.MlpFwdRefIdeal.τ).loc Cert.MlpFwdRefIdeal.main_v78) = v4 c
          ∧ r.2.mem ((c.tc : Thread Cert.MlpFwdRefIdeal.nD Cert.MlpFwdRefIdeal.τ).loc Cert.MlpFwdRefIdeal.main_v81) = v5 c
          ∧ r.2.mem ((c.tc : Thread Cert.MlpFwdRefIdeal.nD Cert.MlpFwdRefIdeal.τ).loc Cert.MlpFwdRefIdeal.main_v85) = v6 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3)
          ∧ r.2.mem ((c.tc : Thread Cert.MlpFwdRefIdeal.nD Cert.MlpFwdRefIdeal.τ).loc Cert.MlpFwdRefIdeal.main_arg4) = m' ((c.tc : Thread Cert.MlpFwdRefIdeal.nD Cert.MlpFwdRefIdeal.τ).loc Cert.MlpFwdRefIdeal.main_arg4)
          ∧ r.2.mem ((c.tc : Thread Cert.MlpFwdRefIdeal.nD Cert.MlpFwdRefIdeal.τ).loc Cert.MlpFwdRefIdeal.main_arg5) = m' ((c.tc : Thread Cert.MlpFwdRefIdeal.nD Cert.MlpFwdRefIdeal.τ).loc Cert.MlpFwdRefIdeal.main_arg5)
          ∧ r.2.mem ((c.tc : Thread Cert.MlpFwdRefIdeal.nD Cert.MlpFwdRefIdeal.τ).loc Cert.MlpFwdRefIdeal.main_arg6) = m' ((c.tc : Thread Cert.MlpFwdRefIdeal.nD Cert.MlpFwdRefIdeal.τ).loc Cert.MlpFwdRefIdeal.main_arg6))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)
      ∧ m' ((c.tc : Thread Cert.DwInRefIdeal.nD Cert.DwInRefIdeal.τ).loc Cert.DwInRefIdeal.main_arg6) = m ((c.tc : Thread Cert.DwInIdeal.nD Cert.DwInIdeal.τ).loc Cert.DwInIdeal.main_arg6)
      ∧ m' ((c.tc : Thread Cert.DwInRefIdeal.nD Cert.DwInRefIdeal.τ).loc Cert.DwInRefIdeal.main_arg7) = m ((c.tc : Thread Cert.DwInIdeal.nD Cert.DwInIdeal.τ).loc Cert.DwInIdeal.main_arg7)) →
    ∃ (v0 : (c : Dev Cert.DwInIdeal.nD) → Buf (Elt Ideal) ((c.tc : Thread Cert.DwInIdeal.nD Cert.DwInIdeal.τ).loc Cert.DwInIdeal.main_v20_0)) (v1 : (c : Dev Cert.DwInIdeal.nD) → Buf (Elt Ideal) ((c.tc : Thread Cert.DwInIdeal.nD Cert.DwInIdeal.τ).loc Cert.DwInIdeal.main_v20_1)) (v2 : (c : Dev Cert.DwInIdeal.nD) → Buf (Elt Ideal) ((c.tc : Thread Cert.DwInIdeal.nD Cert.DwInIdeal.τ).loc Cert.DwInIdeal.main_v20_2)) (v3 : (c : Dev Cert.DwInIdeal.nD) → Buf (Elt Ideal) ((c.tc : Thread Cert.DwInIdeal.nD Cert.DwInIdeal.τ).loc Cert.DwInIdeal.main_v20_3)) (v4 : (c : Dev Cert.DwInIdeal.nD) → Buf (Elt Ideal) ((c.tc : Thread Cert.DwInIdeal.nD Cert.DwInIdeal.τ).loc Cert.DwInIdeal.main_v20_4)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v20_0) = v0 c
          ∧ r.2.mem ((c.tc : Thread Cert.DwInIdeal.nD Cert.DwInIdeal.τ).loc Cert.DwInIdeal.main_v20_1) = v1 c
          ∧ r.2.mem ((c.tc : Thread Cert.DwInIdeal.nD Cert.DwInIdeal.τ).loc Cert.DwInIdeal.main_v20_2) = v2 c
          ∧ r.2.mem ((c.tc : Thread Cert.DwInIdeal.nD Cert.DwInIdeal.τ).loc Cert.DwInIdeal.main_v20_3) = v3 c
          ∧ r.2.mem ((c.tc : Thread Cert.DwInIdeal.nD Cert.DwInIdeal.τ).loc Cert.DwInIdeal.main_v20_4) = v4 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
          ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6)
          ∧ r.2.mem ((c.tc : Thread Cert.DwInIdeal.nD Cert.DwInIdeal.τ).loc Cert.DwInIdeal.main_arg7) = m ((c.tc : Thread Cert.DwInIdeal.nD Cert.DwInIdeal.τ).loc Cert.DwInIdeal.main_arg7))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v21) = v0 c
          ∧ r.2.mem ((c.tc : Thread Cert.DwInRefIdeal.nD Cert.DwInRefIdeal.τ).loc Cert.DwInRefIdeal.main_v22) = v1 c
          ∧ r.2.mem ((c.tc : Thread Cert.DwInRefIdeal.nD Cert.DwInRefIdeal.τ).loc Cert.DwInRefIdeal.main_v23) = v2 c
          ∧ r.2.mem ((c.tc : Thread Cert.DwInRefIdeal.nD Cert.DwInRefIdeal.τ).loc Cert.DwInRefIdeal.main_v24) = v3 c
          ∧ r.2.mem ((c.tc : Thread Cert.DwInRefIdeal.nD Cert.DwInRefIdeal.τ).loc Cert.DwInRefIdeal.main_v27) = v4 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5)
          ∧ r.2.mem ((c.tc : Thread Cert.DwInRefIdeal.nD Cert.DwInRefIdeal.τ).loc Cert.DwInRefIdeal.main_arg6) = m' ((c.tc : Thread Cert.DwInRefIdeal.nD Cert.DwInRefIdeal.τ).loc Cert.DwInRefIdeal.main_arg6)
          ∧ r.2.mem ((c.tc : Thread Cert.DwInRefIdeal.nD Cert.DwInRefIdeal.τ).loc Cert.DwInRefIdeal.main_arg7) = m' ((c.tc : Thread Cert.DwInRefIdeal.nD Cert.DwInRefIdeal.τ).loc Cert.DwInRefIdeal.main_arg7))

def preserves_DwMlp_DwMlpIdeal : Prop :=
  True

def algebraic_DwMlpIdeal_DwMlpRefIdeal [hDwMlpIdeal : Cert.DwMlpIdeal.Facts] [hDwMlpRefIdeal : Cert.DwMlpRefIdeal.Facts] : Prop :=
  ∀ (m : (ℓ : Loc Cert.DwMlpIdeal.nD Cert.DwMlpIdeal.τ Cert.DwMlpIdeal.sig) → Buf (Elt Ideal) ℓ) (g : Dev Cert.DwMlpIdeal.nD → PrngReg)
    (m' : (ℓ : Loc Cert.DwMlpRefIdeal.nD Cert.DwMlpRefIdeal.τ Cert.DwMlpRefIdeal.sig) → Buf (Elt Ideal) ℓ) (g' : Dev Cert.DwMlpRefIdeal.nD → PrngReg), Pre_DwMlpIdeal m →
    (∀ c : Dev Cert.DwMlpIdeal.nD,
      m' ((c.tc : Thread Cert.DwMlpRefIdeal.nD Cert.DwMlpRefIdeal.τ).loc Cert.DwMlpRefIdeal.main_arg0) = m ((c.tc : Thread Cert.DwMlpIdeal.nD Cert.DwMlpIdeal.τ).loc Cert.DwMlpIdeal.main_arg0)
      ∧ m' ((c.tc : Thread Cert.DwMlpRefIdeal.nD Cert.DwMlpRefIdeal.τ).loc Cert.DwMlpRefIdeal.main_arg1) = m ((c.tc : Thread Cert.DwMlpIdeal.nD Cert.DwMlpIdeal.τ).loc Cert.DwMlpIdeal.main_arg1)
      ∧ m' ((c.tc : Thread Cert.DwMlpRefIdeal.nD Cert.DwMlpRefIdeal.τ).loc Cert.DwMlpRefIdeal.main_arg2) = m ((c.tc : Thread Cert.DwMlpIdeal.nD Cert.DwMlpIdeal.τ).loc Cert.DwMlpIdeal.main_arg2)
      ∧ m' ((c.tc : Thread Cert.DwMlpRefIdeal.nD Cert.DwMlpRefIdeal.τ).loc Cert.DwMlpRefIdeal.main_arg3) = m ((c.tc : Thread Cert.DwMlpIdeal.nD Cert.DwMlpIdeal.τ).loc Cert.DwMlpIdeal.main_arg3)
      ∧ m' ((c.tc : Thread Cert.DwMlpRefIdeal.nD Cert.DwMlpRefIdeal.τ).loc Cert.DwMlpRefIdeal.main_arg4) = m ((c.tc : Thread Cert.DwMlpIdeal.nD Cert.DwMlpIdeal.τ).loc Cert.DwMlpIdeal.main_arg4)
      ∧ m' ((c.tc : Thread Cert.DwMlpRefIdeal.nD Cert.DwMlpRefIdeal.τ).loc Cert.DwMlpRefIdeal.main_arg5) = m ((c.tc : Thread Cert.DwMlpIdeal.nD Cert.DwMlpIdeal.τ).loc Cert.DwMlpIdeal.main_arg5)) →
    ∃ (v0 : (c : Dev Cert.DwMlpIdeal.nD) → Buf (Elt Ideal) ((c.tc : Thread Cert.DwMlpIdeal.nD Cert.DwMlpIdeal.τ).loc Cert.DwMlpIdeal.main_v34_0)) (v1 : (c : Dev Cert.DwMlpIdeal.nD) → Buf (Elt Ideal) ((c.tc : Thread Cert.DwMlpIdeal.nD Cert.DwMlpIdeal.τ).loc Cert.DwMlpIdeal.main_v34_1)) (v2 : (c : Dev Cert.DwMlpIdeal.nD) → Buf (Elt Ideal) ((c.tc : Thread Cert.DwMlpIdeal.nD Cert.DwMlpIdeal.τ).loc Cert.DwMlpIdeal.main_v34_2)),
      θ_run (Cert.DwMlpIdeal.defs (F := Ideal)) (onTc (τ := Cert.DwMlpIdeal.τ) (Cert.DwMlpIdeal.main (F := Ideal))) ⟨m, fun _ => 0, g⟩ (fun r => ∀ c : Dev Cert.DwMlpIdeal.nD,
          r.2.mem ((c.tc : Thread Cert.DwMlpIdeal.nD Cert.DwMlpIdeal.τ).loc Cert.DwMlpIdeal.main_v34_0) = v0 c
          ∧ r.2.mem ((c.tc : Thread Cert.DwMlpIdeal.nD Cert.DwMlpIdeal.τ).loc Cert.DwMlpIdeal.main_v34_1) = v1 c
          ∧ r.2.mem ((c.tc : Thread Cert.DwMlpIdeal.nD Cert.DwMlpIdeal.τ).loc Cert.DwMlpIdeal.main_v34_2) = v2 c
          ∧ r.2.mem ((c.tc : Thread Cert.DwMlpIdeal.nD Cert.DwMlpIdeal.τ).loc Cert.DwMlpIdeal.main_arg0) = m ((c.tc : Thread Cert.DwMlpIdeal.nD Cert.DwMlpIdeal.τ).loc Cert.DwMlpIdeal.main_arg0)
          ∧ r.2.mem ((c.tc : Thread Cert.DwMlpIdeal.nD Cert.DwMlpIdeal.τ).loc Cert.DwMlpIdeal.main_arg1) = m ((c.tc : Thread Cert.DwMlpIdeal.nD Cert.DwMlpIdeal.τ).loc Cert.DwMlpIdeal.main_arg1)
          ∧ r.2.mem ((c.tc : Thread Cert.DwMlpIdeal.nD Cert.DwMlpIdeal.τ).loc Cert.DwMlpIdeal.main_arg2) = m ((c.tc : Thread Cert.DwMlpIdeal.nD Cert.DwMlpIdeal.τ).loc Cert.DwMlpIdeal.main_arg2)
          ∧ r.2.mem ((c.tc : Thread Cert.DwMlpIdeal.nD Cert.DwMlpIdeal.τ).loc Cert.DwMlpIdeal.main_arg3) = m ((c.tc : Thread Cert.DwMlpIdeal.nD Cert.DwMlpIdeal.τ).loc Cert.DwMlpIdeal.main_arg3)
          ∧ r.2.mem ((c.tc : Thread Cert.DwMlpIdeal.nD Cert.DwMlpIdeal.τ).loc Cert.DwMlpIdeal.main_arg4) = m ((c.tc : Thread Cert.DwMlpIdeal.nD Cert.DwMlpIdeal.τ).loc Cert.DwMlpIdeal.main_arg4)
          ∧ r.2.mem ((c.tc : Thread Cert.DwMlpIdeal.nD Cert.DwMlpIdeal.τ).loc Cert.DwMlpIdeal.main_arg5) = m ((c.tc : Thread Cert.DwMlpIdeal.nD Cert.DwMlpIdeal.τ).loc Cert.DwMlpIdeal.main_arg5))
      ∧ θ_run (Cert.DwMlpRefIdeal.defs (F := Ideal)) (onTc (τ := Cert.DwMlpRefIdeal.τ) (Cert.DwMlpRefIdeal.main (F := Ideal))) ⟨m', fun _ => 0, g'⟩ (fun r => ∀ c : Dev Cert.DwMlpRefIdeal.nD,
          r.2.mem ((c.tc : Thread Cert.DwMlpRefIdeal.nD Cert.DwMlpRefIdeal.τ).loc Cert.DwMlpRefIdeal.main_v35) = v0 c
          ∧ r.2.mem ((c.tc : Thread Cert.DwMlpRefIdeal.nD Cert.DwMlpRefIdeal.τ).loc Cert.DwMlpRefIdeal.main_v39) = v1 c
          ∧ r.2.mem ((c.tc : Thread Cert.DwMlpRefIdeal.nD Cert.DwMlpRefIdeal.τ).loc Cert.DwMlpRefIdeal.main_v43) = v2 c
          ∧ r.2.mem ((c.tc : Thread Cert.DwMlpRefIdeal.nD Cert.DwMlpRefIdeal.τ).loc Cert.DwMlpRefIdeal.main_arg0) = m' ((c.tc : Thread Cert.DwMlpRefIdeal.nD Cert.DwMlpRefIdeal.τ).loc Cert.DwMlpRefIdeal.main_arg0)
          ∧ r.2.mem ((c.tc : Thread Cert.DwMlpRefIdeal.nD Cert.DwMlpRefIdeal.τ).loc Cert.DwMlpRefIdeal.main_arg1) = m' ((c.tc : Thread Cert.DwMlpRefIdeal.nD Cert.DwMlpRefIdeal.τ).loc Cert.DwMlpRefIdeal.main_arg1)
          ∧ r.2.mem ((c.tc : Thread Cert.DwMlpRefIdeal.nD Cert.DwMlpRefIdeal.τ).loc Cert.DwMlpRefIdeal.main_arg2) = m' ((c.tc : Thread Cert.DwMlpRefIdeal.nD Cert.DwMlpRefIdeal.τ).loc Cert.DwMlpRefIdeal.main_arg2)
          ∧ r.2.mem ((c.tc : Thread Cert.DwMlpRefIdeal.nD Cert.DwMlpRefIdeal.τ).loc Cert.DwMlpRefIdeal.main_arg3) = m' ((c.tc : Thread Cert.DwMlpRefIdeal.nD Cert.DwMlpRefIdeal.τ).loc Cert.DwMlpRefIdeal.main_arg3)
          ∧ r.2.mem ((c.tc : Thread Cert.DwMlpRefIdeal.nD Cert.DwMlpRefIdeal.τ).loc Cert.DwMlpRefIdeal.main_arg4) = m' ((c.tc : Thread Cert.DwMlpRefIdeal.nD Cert.DwMlpRefIdeal.τ).loc Cert.DwMlpRefIdeal.main_arg4)
          ∧ r.2.mem ((c.tc : Thread Cert.DwMlpRefIdeal.nD Cert.DwMlpRefIdeal.τ).loc Cert.DwMlpRefIdeal.main_arg5) = m' ((c.tc : Thread Cert.DwMlpRefIdeal.nD Cert.DwMlpRefIdeal.τ).loc Cert.DwMlpRefIdeal.main_arg5))

def preserves_OutprojBwd_OutprojBwdIdeal : Prop :=
  True

def algebraic_OutprojBwdIdeal_OutprojBwdRefIdeal [hOutprojBwdIdeal : Cert.OutprojBwdIdeal.Facts] [hOutprojBwdRefIdeal : Cert.OutprojBwdRefIdeal.Facts] : Prop :=
  ∀ (m : (ℓ : Loc Cert.OutprojBwdIdeal.nD Cert.OutprojBwdIdeal.τ Cert.OutprojBwdIdeal.sig) → Buf (Elt Ideal) ℓ) (g : Dev Cert.OutprojBwdIdeal.nD → PrngReg)
    (m' : (ℓ : Loc Cert.OutprojBwdRefIdeal.nD Cert.OutprojBwdRefIdeal.τ Cert.OutprojBwdRefIdeal.sig) → Buf (Elt Ideal) ℓ) (g' : Dev Cert.OutprojBwdRefIdeal.nD → PrngReg), Pre_OutprojBwdIdeal m →
    (∀ c : Dev Cert.OutprojBwdIdeal.nD,
      m' ((c.tc : Thread Cert.OutprojBwdRefIdeal.nD Cert.OutprojBwdRefIdeal.τ).loc Cert.OutprojBwdRefIdeal.main_arg0) = m ((c.tc : Thread Cert.OutprojBwdIdeal.nD Cert.OutprojBwdIdeal.τ).loc Cert.OutprojBwdIdeal.main_arg0)
      ∧ m' ((c.tc : Thread Cert.OutprojBwdRefIdeal.nD Cert.OutprojBwdRefIdeal.τ).loc Cert.OutprojBwdRefIdeal.main_arg1) = m ((c.tc : Thread Cert.OutprojBwdIdeal.nD Cert.OutprojBwdIdeal.τ).loc Cert.OutprojBwdIdeal.main_arg1)
      ∧ m' ((c.tc : Thread Cert.OutprojBwdRefIdeal.nD Cert.OutprojBwdRefIdeal.τ).loc Cert.OutprojBwdRefIdeal.main_arg2) = m ((c.tc : Thread Cert.OutprojBwdIdeal.nD Cert.OutprojBwdIdeal.τ).loc Cert.OutprojBwdIdeal.main_arg2)
      ∧ m' ((c.tc : Thread Cert.OutprojBwdRefIdeal.nD Cert.OutprojBwdRefIdeal.τ).loc Cert.OutprojBwdRefIdeal.main_arg3) = m ((c.tc : Thread Cert.OutprojBwdIdeal.nD Cert.OutprojBwdIdeal.τ).loc Cert.OutprojBwdIdeal.main_arg3)) →
    ∃ (v0 : (c : Dev Cert.OutprojBwdIdeal.nD) → Buf (Elt Ideal) ((c.tc : Thread Cert.OutprojBwdIdeal.nD Cert.OutprojBwdIdeal.τ).loc Cert.OutprojBwdIdeal.main_v3_0)) (v1 : (c : Dev Cert.OutprojBwdIdeal.nD) → Buf (Elt Ideal) ((c.tc : Thread Cert.OutprojBwdIdeal.nD Cert.OutprojBwdIdeal.τ).loc Cert.OutprojBwdIdeal.main_v3_1)),
      θ_run (Cert.OutprojBwdIdeal.defs (F := Ideal)) (onTc (τ := Cert.OutprojBwdIdeal.τ) (Cert.OutprojBwdIdeal.main (F := Ideal))) ⟨m, fun _ => 0, g⟩ (fun r => ∀ c : Dev Cert.OutprojBwdIdeal.nD,
          r.2.mem ((c.tc : Thread Cert.OutprojBwdIdeal.nD Cert.OutprojBwdIdeal.τ).loc Cert.OutprojBwdIdeal.main_v3_0) = v0 c
          ∧ r.2.mem ((c.tc : Thread Cert.OutprojBwdIdeal.nD Cert.OutprojBwdIdeal.τ).loc Cert.OutprojBwdIdeal.main_v3_1) = v1 c
          ∧ r.2.mem ((c.tc : Thread Cert.OutprojBwdIdeal.nD Cert.OutprojBwdIdeal.τ).loc Cert.OutprojBwdIdeal.main_arg0) = m ((c.tc : Thread Cert.OutprojBwdIdeal.nD Cert.OutprojBwdIdeal.τ).loc Cert.OutprojBwdIdeal.main_arg0)
          ∧ r.2.mem ((c.tc : Thread Cert.OutprojBwdIdeal.nD Cert.OutprojBwdIdeal.τ).loc Cert.OutprojBwdIdeal.main_arg1) = m ((c.tc : Thread Cert.OutprojBwdIdeal.nD Cert.OutprojBwdIdeal.τ).loc Cert.OutprojBwdIdeal.main_arg1)
          ∧ r.2.mem ((c.tc : Thread Cert.OutprojBwdIdeal.nD Cert.OutprojBwdIdeal.τ).loc Cert.OutprojBwdIdeal.main_arg2) = m ((c.tc : Thread Cert.OutprojBwdIdeal.nD Cert.OutprojBwdIdeal.τ).loc Cert.OutprojBwdIdeal.main_arg2)
          ∧ r.2.mem ((c.tc : Thread Cert.OutprojBwdIdeal.nD Cert.OutprojBwdIdeal.τ).loc Cert.OutprojBwdIdeal.main_arg3) = m ((c.tc : Thread Cert.OutprojBwdIdeal.nD Cert.OutprojBwdIdeal.τ).loc Cert.OutprojBwdIdeal.main_arg3))
      ∧ θ_run (Cert.OutprojBwdRefIdeal.defs (F := Ideal)) (onTc (τ := Cert.OutprojBwdRefIdeal.τ) (Cert.OutprojBwdRefIdeal.main (F := Ideal))) ⟨m', fun _ => 0, g'⟩ (fun r => ∀ c : Dev Cert.OutprojBwdRefIdeal.nD,
          r.2.mem ((c.tc : Thread Cert.OutprojBwdRefIdeal.nD Cert.OutprojBwdRefIdeal.τ).loc Cert.OutprojBwdRefIdeal.main_v6) = v0 c
          ∧ r.2.mem ((c.tc : Thread Cert.OutprojBwdRefIdeal.nD Cert.OutprojBwdRefIdeal.τ).loc Cert.OutprojBwdRefIdeal.main_v5) = v1 c
          ∧ r.2.mem ((c.tc : Thread Cert.OutprojBwdRefIdeal.nD Cert.OutprojBwdRefIdeal.τ).loc Cert.OutprojBwdRefIdeal.main_arg0) = m' ((c.tc : Thread Cert.OutprojBwdRefIdeal.nD Cert.OutprojBwdRefIdeal.τ).loc Cert.OutprojBwdRefIdeal.main_arg0)
          ∧ r.2.mem ((c.tc : Thread Cert.OutprojBwdRefIdeal.nD Cert.OutprojBwdRefIdeal.τ).loc Cert.OutprojBwdRefIdeal.main_arg1) = m' ((c.tc : Thread Cert.OutprojBwdRefIdeal.nD Cert.OutprojBwdRefIdeal.τ).loc Cert.OutprojBwdRefIdeal.main_arg1)
          ∧ r.2.mem ((c.tc : Thread Cert.OutprojBwdRefIdeal.nD Cert.OutprojBwdRefIdeal.τ).loc Cert.OutprojBwdRefIdeal.main_arg2) = m' ((c.tc : Thread Cert.OutprojBwdRefIdeal.nD Cert.OutprojBwdRefIdeal.τ).loc Cert.OutprojBwdRefIdeal.main_arg2)
          ∧ r.2.mem ((c.tc : Thread Cert.OutprojBwdRefIdeal.nD Cert.OutprojBwdRefIdeal.τ).loc Cert.OutprojBwdRefIdeal.main_arg3) = m' ((c.tc : Thread Cert.OutprojBwdRefIdeal.nD Cert.OutprojBwdRefIdeal.τ).loc Cert.OutprojBwdRefIdeal.main_arg3))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)) →
    ∃ (v0 : (c : Dev Cert.DwOutIdeal.nD) → Buf (Elt Ideal) ((c.tc : Thread Cert.DwOutIdeal.nD Cert.DwOutIdeal.τ).loc Cert.DwOutIdeal.main_v3)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v3) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3))

def Claim : Prop :=
  ∃ (hMlpBwd : Cert.MlpBwd.Facts) (hMlpBwdIdeal : Cert.MlpBwdIdeal.Facts) (hMlpBwdRefIdeal : Cert.MlpBwdRefIdeal.Facts) (hInprojBwd : Cert.InprojBwd.Facts) (hInprojBwdIdeal : Cert.InprojBwdIdeal.Facts) (hInprojBwdRefIdeal : Cert.InprojBwdRefIdeal.Facts) (hMlpFwd : Cert.MlpFwd.Facts) (hMlpFwdIdeal : Cert.MlpFwdIdeal.Facts) (hMlpFwdRefIdeal : Cert.MlpFwdRefIdeal.Facts) (hDwIn : Cert.DwIn.Facts) (hDwInIdeal : Cert.DwInIdeal.Facts) (hDwInRefIdeal : Cert.DwInRefIdeal.Facts) (hDwMlp : Cert.DwMlp.Facts) (hDwMlpIdeal : Cert.DwMlpIdeal.Facts) (hDwMlpRefIdeal : Cert.DwMlpRefIdeal.Facts) (hOutprojBwd : Cert.OutprojBwd.Facts) (hOutprojBwdIdeal : Cert.OutprojBwdIdeal.Facts) (hOutprojBwdRefIdeal : Cert.OutprojBwdRefIdeal.Facts) (hDwOut : Cert.DwOut.Facts) (hDwOutIdeal : Cert.DwOutIdeal.Facts) (hDwOutRefIdeal : Cert.DwOutRefIdeal.Facts) (hPre_finite : Cert.Pre_finite.Facts) (hPre_finite_inproj : Cert.Pre_finite_inproj.Facts) (hPre_finite_mlp_fwd : Cert.Pre_finite_mlp_fwd.Facts),
    quiescent_MlpBwd (hMlpBwd := hMlpBwd)
    ∧ quiescent_MlpBwdIdeal (hMlpBwdIdeal := hMlpBwdIdeal)
    ∧ quiescent_MlpBwdIdeal_pre_finite (hMlpBwdIdeal := hMlpBwdIdeal) (hPre_finite := hPre_finite)
    ∧ quiescent_MlpBwdRefIdeal (hMlpBwdRefIdeal := hMlpBwdRefIdeal)
    ∧ quiescent_MlpBwdRefIdeal_pre_finite (hMlpBwdRefIdeal := hMlpBwdRefIdeal) (hPre_finite := hPre_finite)
    ∧ quiescent_InprojBwd (hInprojBwd := hInprojBwd)
    ∧ quiescent_InprojBwdIdeal (hInprojBwdIdeal := hInprojBwdIdeal)
    ∧ quiescent_InprojBwdIdeal_pre_finite_inproj (hInprojBwdIdeal := hInprojBwdIdeal) (hPre_finite_inproj := hPre_finite_inproj)
    ∧ quiescent_InprojBwdRefIdeal (hInprojBwdRefIdeal := hInprojBwdRefIdeal)
    ∧ quiescent_InprojBwdRefIdeal_pre_finite_inproj (hInprojBwdRefIdeal := hInprojBwdRefIdeal) (hPre_finite_inproj := hPre_finite_inproj)
    ∧ quiescent_MlpFwd (hMlpFwd := hMlpFwd)
    ∧ quiescent_MlpFwdIdeal (hMlpFwdIdeal := hMlpFwdIdeal)
    ∧ quiescent_MlpFwdIdeal_pre_finite_mlp_fwd (hMlpFwdIdeal := hMlpFwdIdeal) (hPre_finite_mlp_fwd := hPre_finite_mlp_fwd)
    ∧ quiescent_MlpFwdRefIdeal (hMlpFwdRefIdeal := hMlpFwdRefIdeal)
    ∧ quiescent_MlpFwdRefIdeal_pre_finite_mlp_fwd (hMlpFwdRefIdeal := hMlpFwdRefIdeal) (hPre_finite_mlp_fwd := hPre_finite_mlp_fwd)
    ∧ quiescent_DwIn (hDwIn := hDwIn)
    ∧ quiescent_DwInIdeal (hDwInIdeal := hDwInIdeal)
    ∧ quiescent_DwInRefIdeal (hDwInRefIdeal := hDwInRefIdeal)
    ∧ quiescent_DwMlp (hDwMlp := hDwMlp)
    ∧ quiescent_DwMlpIdeal (hDwMlpIdeal := hDwMlpIdeal)
    ∧ quiescent_DwMlpRefIdeal (hDwMlpRefIdeal := hDwMlpRefIdeal)
    ∧ quiescent_OutprojBwd (hOutprojBwd := hOutprojBwd)
    ∧ quiescent_OutprojBwdIdeal (hOutprojBwdIdeal := hOutprojBwdIdeal)
    ∧ quiescent_OutprojBwdRefIdeal (hOutprojBwdRefIdeal := hOutprojBwdRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ preserves_MlpBwd_MlpBwdIdeal
    ∧ algebraic_MlpBwdIdeal_MlpBwdRefIdeal_pre_finite (hMlpBwdIdeal := hMlpBwdIdeal) (hMlpBwdRefIdeal := hMlpBwdRefIdeal) (hPre_finite := hPre_finite)
    ∧ preserves_InprojBwd_InprojBwdIdeal
    ∧ algebraic_InprojBwdIdeal_InprojBwdRefIdeal_pre_finite_inproj (hInprojBwdIdeal := hInprojBwdIdeal) (hInprojBwdRefIdeal := hInprojBwdRefIdeal) (hPre_finite_inproj := hPre_finite_inproj)
    ∧ preserves_MlpFwd_MlpFwdIdeal
    ∧ algebraic_MlpFwdIdeal_MlpFwdRefIdeal_pre_finite_mlp_fwd (hMlpFwdIdeal := hMlpFwdIdeal) (hMlpFwdRefIdeal := hMlpFwdRefIdeal) (hPre_finite_mlp_fwd := hPre_finite_mlp_fwd)
    ∧ preserves_DwIn_DwInIdeal
    ∧ algebraic_DwInIdeal_DwInRefIdeal (hDwInIdeal := hDwInIdeal) (hDwInRefIdeal := hDwInRefIdeal)
    ∧ preserves_DwMlp_DwMlpIdeal
    ∧ algebraic_DwMlpIdeal_DwMlpRefIdeal (hDwMlpIdeal := hDwMlpIdeal) (hDwMlpRefIdeal := hDwMlpRefIdeal)
    ∧ preserves_OutprojBwd_OutprojBwdIdeal
    ∧ algebraic_OutprojBwdIdeal_OutprojBwdRefIdeal (hOutprojBwdIdeal := hOutprojBwdIdeal) (hOutprojBwdRefIdeal := hOutprojBwdRefIdeal)
    ∧ preserves_DwOut_DwOutIdeal
    ∧ algebraic_DwOutIdeal_DwOutRefIdeal (hDwOutIdeal := hDwOutIdeal) (hDwOutRefIdeal := hDwOutRefIdeal)
-- ==== Pre_finite.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn_part1 {F : FTy → Type} [FloatOps F] (main_arg3 : FVec F S1x1024x2816 .f32) (main_arg4 : FVec F S1x2816x1024 .f32) (main_arg5 : FVec F S4096x1024 .f32) (main_v4 : IVec S4096x1024 1) (main_v9 : IVec S1x1024 1) (main_v14 : IVec S1x1024x2816 1) (main_v16 : IVec S1x1024x2816 1) : IVec S4096x1024 1 × IVec S1x1024 1 × IVec S1x1024x2816 1 × IVec S1x1024x2816 1 × IVec S1x2816x1024 1 × IVec S4096x1024 1 :=
  let main_cst_6 : FVec F S_ .f32 := constant S_ .f32 0xFF800000#32
  let main_v17 : FVec F S1x1024x2816 .f32 := broadcastInDim S1x1024x2816 ![] bcast_S_S1x1024x2816 main_cst_6
  let main_v18 : IVec S1x1024x2816 1 := cmpf .ogt main_arg3 main_v17
  let main_v19 : IVec S1x1024x2816 1 := andi main_v16 main_v18
  let main_cst_7 : FVec F S_ .f32 := constant S_ .f32 0x7F800000#32
  let main_v20 : FVec F S1x2816x1024 .f32 := broadcastInDim S1x2816x1024 ![] bcast_S_S1x2816x1024 main_cst_7
  let main_v21 : IVec S1x2816x1024 1 := cmpf .olt main_arg4 main_v20
  let main_cst_8 : FVec F S_ .f32 := constant S_ .f32 0xFF800000#32
  let main_v22 : FVec F S1x2816x1024 .f32 := broadcastInDim S1x2816x1024 ![] bcast_S_S1x2816x1024 main_cst_8
  let main_v23 : IVec S1x2816x1024 1 := cmpf .ogt main_arg4 main_v22
  let main_v24 : IVec S1x2816x1024 1 := andi main_v21 main_v23
  let main_cst_9 : FVec F S_ .f32 := constant S_ .f32 0x7F800000#32
  let main_v25 : FVec F S4096x1024 .f32 := broadcastInDim S4096x1024 ![] bcast_S_S4096x1024 main_cst_9
  let main_v26 : IVec S4096x1024 1 := cmpf .olt main_arg5 main_v25
  let main_cst_10 : FVec F S_ .f32 := constant S_ .f32 0xFF800000#32
  let main_v27 : FVec F S4096x1024 .f32 := broadcastInDim S4096x1024 ![] bcast_S_S4096x1024 main_cst_10
  let main_v28 : IVec S4096x1024 1 := cmpf .ogt main_arg5 main_v27
  let main_v29 : IVec S4096x1024 1 := andi main_v26 main_v28
  (main_v4, main_v9, main_v14, main_v19, main_v24, main_v29)

def fn {F : FTy → Type} [FloatOps F] (main_arg0 : FVec F S4096x1024 .f32) (main_arg1 : FVec F S1x1024 .f32) (main_arg2 : FVec F S1x1024x2816 .f32) (main_arg3 : FVec F S1x1024x2816 .f32) (main_arg4 : FVec F S1x2816x1024 .f32) (main_arg5 : FVec F S4096x1024 .f32) : IVec S4096x1024 1 × IVec S1x1024 1 × IVec S1x1024x2816 1 × IVec S1x1024x2816 1 × IVec S1x2816x1024 1 × IVec S4096x1024 1 :=
  let main_cst : FVec F S_ .f32 := constant S_ .f32 0x7F800000#32
  let main_v0 : FVec F S4096x1024 .f32 := broadcastInDim S4096x1024 ![] bcast_S_S4096x1024 main_cst
  let main_v1 : IVec S4096x1024 1 := cmpf .olt main_arg0 main_v0
  let main_cst_0 : FVec F S_ .f32 := constant S_ .f32 0xFF800000#32
  let main_v2 : FVec F S4096x1024 .f32 := broadcastInDim S4096x1024 ![] bcast_S_S4096x1024 main_cst_0
  let main_v3 : IVec S4096x1024 1 := cmpf .ogt main_arg0 main_v2
  let main_v4 : IVec S4096x1024 1 := andi main_v1 main_v3
  let main_cst_1 : FVec F S_ .f32 := constant S_ .f32 0x7F800000#32
  let main_v5 : FVec F S1x1024 .f32 := broadcastInDim S1x1024 ![] bcast_S_S1x1024 main_cst_1
  let main_v6 : IVec S1x1024 1 := cmpf .olt main_arg1 main_v5
  let main_cst_2 : FVec F S_ .f32 := constant S_ .f32 0xFF800000#32
  let main_v7 : FVec F S1x1024 .f32 := broadcastInDim S1x1024 ![] bcast_S_S1x1024 main_cst_2
  let main_v8 : IVec S1x1024 1 := cmpf .ogt main_arg1 main_v7
  let main_v9 : IVec S1x1024 1 := andi main_v6 main_v8
  let main_cst_3 : FVec F S_ .f32 := constant S_ .f32 0x7F800000#32
  let main_v10 : FVec F S1x1024x2816 .f32 := broadcastInDim S1x1024x2816 ![] bcast_S_S1x1024x2816 main_cst_3
  let main_v11 : IVec S1x1024x2816 1 := cmpf .olt main_arg2 main_v10
  let main_cst_4 : FVec F S_ .f32 := constant S_ .f32 0xFF800000#32
  let main_v12 : FVec F S1x1024x2816 .f32 := broadcastInDim S1x1024x2816 ![] bcast_S_S1x1024x2816 main_cst_4
  let main_v13 : IVec S1x1024x2816 1 := cmpf .ogt main_arg2 main_v12
  let main_v14 : IVec S1x1024x2816 1 := andi main_v11 main_v13
  let main_cst_5 : FVec F S_ .f32 := constant S_ .f32 0x7F800000#32
  let main_v15 : FVec F S1x1024x2816 .f32 := broadcastInDim S1x1024x2816 ![] bcast_S_S1x1024x2816 main_cst_5
  let main_v16 : IVec S1x1024x2816 1 := cmpf .olt main_arg3 main_v15
  fn_part1 (F := F) main_arg3 main_arg4 main_arg5 main_v4 main_v9 main_v14 main_v16
-- ==== Pre_finite_inproj.lean ====
abbrev S4096x1024 : Shape := ⟨2, ![4096, 1024]⟩
abbrev S1x1024 : Shape := ⟨2, ![1, 1024]⟩
abbrev S1x1024x2056 : Shape := ⟨3, ![1, 1024, 2056]⟩
abbrev S4096x512 : Shape := ⟨2, ![4096, 512]⟩
abbrev S4096x8 : Shape := ⟨2, ![4096, 8]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x2056 : S_.BroadcastsInDim S1x1024x2056 (![] : Fin 0 → Fin S1x1024x2056.rank)
  bcast_S_S4096x512 : S_.BroadcastsInDim S4096x512 (![] : Fin 0 → Fin S4096x512.rank)
  bcast_S_S4096x8 : S_.BroadcastsInDim S4096x8 (![] : Fin 0 → Fin S4096x8.rank)

variable [Facts]

def fn_part2 {F : FTy → Type} [FloatOps F] (main_arg7 : FVec F S4096x512 .f32) (main_v4 : IVec S4096x1024 1) (main_v9 : IVec S1x1024 1) (main_v14 : IVec S1x1024x2056 1) (main_v19 : IVec S4096x512 1) (main_v24 : IVec S4096x512 1) (main_v29 : IVec S4096x512 1) (main_v31 : IVec S4096x8 1) (main_v33 : IVec S4096x8 1) : IVec S4096x1024 1 × IVec S1x1024 1 × IVec S1x1024x2056 1 × IVec S4096x512 1 × IVec S4096x512 1 × IVec S4096x512 1 × IVec S4096x8 1 × IVec S4096x512 1 :=
  let main_v34 : IVec S4096x8 1 := andi main_v31 main_v33
  let main_cst_13 : FVec F S_ .f32 := constant S_ .f32 0x7F800000#32
  let main_v35 : FVec F S4096x512 .f32 := broadcastInDim S4096x512 ![] bcast_S_S4096x512 main_cst_13
  let main_v36 : IVec S4096x512 1 := cmpf .olt main_arg7 main_v35
  let main_cst_14 : FVec F S_ .f32 := constant S_ .f32 0xFF800000#32
  let main_v37 : FVec F S4096x512 .f32 := broadcastInDim S4096x512 ![] bcast_S_S4096x512 main_cst_14
  let main_v38 : IVec S4096x512 1 := cmpf .ogt main_arg7 main_v37
  let main_v39 : IVec S4096x512 1 := andi main_v36 main_v38
  (main_v4, main_v9, main_v14, main_v19, main_v24, main_v29, main_v34, main_v39)

def fn_part1 {F : FTy → Type} [FloatOps F] (main_arg3 : FVec F S4096x512 .f32) (main_arg4 : FVec F S4096x512 .f32) (main_arg5 : FVec F S4096x512 .f32) (main_arg6 : FVec F S4096x8 .f32) (main_arg7 : FVec F S4096x512 .f32) (main_v4 : IVec S4096x1024 1) (main_v9 : IVec S1x1024 1) (main_v14 : IVec S1x1024x2056 1) (main_v16 : IVec S4096x512 1) : IVec S4096x1024 1 × IVec S1x1024 1 × IVec S1x1024x2056 1 × IVec S4096x512 1 × IVec S4096x512 1 × IVec S4096x512 1 × IVec S4096x8 1 × IVec S4096x512 1 :=
  let main_cst_6 : FVec F S_ .f32 := constant S_ .f32 0xFF800000#32
  let main_v17 : FVec F S4096x512 .f32 := broadcastInDim S4096x512 ![] bcast_S_S4096x512 main_cst_6
  let main_v18 : IVec S4096x512 1 := cmpf .ogt main_arg3 main_v17
  let main_v19 : IVec S4096x512 1 := andi main_v16 main_v18
  let main_cst_7 : FVec F S_ .f32 := constant S_ .f32 0x7F800000#32
  let main_v20 : FVec F S4096x512 .f32 := broadcastInDim S4096x512 ![] bcast_S_S4096x512 main_cst_7
  let main_v21 : IVec S4096x512 1 := cmpf .olt main_arg4 main_v20
  let main_cst_8 : FVec F S_ .f32 := constant S_ .f32 0xFF800000#32
  let main_v22 : FVec F S4096x512 .f32 := broadcastInDim S4096x512 ![] bcast_S_S4096x512 main_cst_8
  let main_v23 : IVec S4096x512 1 := cmpf .ogt main_arg4 main_v22
  let main_v24 : IVec S4096x512 1 := andi main_v21 main_v23
  let main_cst_9 : FVec F S_ .f32 := constant S_ .f32 0x7F800000#32
  let main_v25 : FVec F S4096x512 .f32 := broadcastInDim S4096x512 ![] bcast_S_S4096x512 main_cst_9
  let main_v26 : IVec S4096x512 1 := cmpf .olt main_arg5 main_v25
  let main_cst_10 : FVec F S_ .f32 := constant S_ .f32 0xFF800000#32
  let main_v27 : FVec F S4096x512 .f32 := broadcastInDim S4096x512 ![] bcast_S_S4096x512 main_cst_10
  let main_v28 : IVec S4096x512 1 := cmpf .ogt main_arg5 main_v27
  let main_v29 : IVec S4096x512 1 := andi main_v26 main_v28
  let main_cst_11 : FVec F S_ .f32 := constant S_ .f32 0x7F800000#32
  let main_v30 : FVec F S4096x8 .f32 := broadcastInDim S4096x8 ![] bcast_S_S4096x8 main_cst_11
  let main_v31 : IVec S4096x8 1 := cmpf .olt main_arg6 main_v30
  let main_cst_12 : FVec F S_ .f32 := constant S_ .f32 0xFF800000#32
  let main_v32 : FVec F S4096x8 .f32 := broadcastInDim S4096x8 ![] bcast_S_S4096x8 main_cst_12
  let main_v33 : IVec S4096x8 1 := cmpf .ogt main_arg6 main_v32
  fn_part2 (F := F) main_arg7 main_v4 main_v9 main_v14 main_v19 main_v24 main_v29 main_v31 main_v33

def fn {F : FTy → Type} [FloatOps F] (main_arg0 : FVec F S4096x1024 .f32) (main_arg1 : FVec F S1x1024 .f32) (main_arg2 : FVec F S1x1024x2056 .f32) (main_arg3 : FVec F S4096x512 .f32) (main_arg4 : FVec F S4096x512 .f32) (main_arg5 : FVec F S4096x512 .f32) (main_arg6 : FVec F S4096x8 .f32) (main_arg7 : FVec F S4096x512 .f32) (main_arg8 : FVec F S4096x1024 .f32) : IVec S4096x1024 1 × IVec S1x1024 1 × IVec S1x1024x2056 1 × IVec S4096x512 1 × IVec S4096x512 1 × IVec S4096x512 1 × IVec S4096x8 1 × IVec S4096x512 1 :=
  let main_cst : FVec F S_ .f32 := constant S_ .f32 0x7F800000#32
  let main_v0 : FVec F S4096x1024 .f32 := broadcastInDim S4096x1024 ![] bcast_S_S4096x1024 main_cst
  let main_v1 : IVec S4096x1024 1 := cmpf .olt main_arg0 main_v0
  let main_cst_0 : FVec F S_ .f32 := constant S_ .f32 0xFF800000#32
  let main_v2 : FVec F S4096x1024 .f32 := broadcastInDim S4096x1024 ![] bcast_S_S4096x1024 main_cst_0
  let main_v3 : IVec S4096x1024 1 := cmpf .ogt main_arg0 main_v2
  let main_v4 : IVec S4096x1024 1 := andi main_v1 main_v3
  let main_cst_1 : FVec F S_ .f32 := constant S_ .f32 0x7F800000#32
  let main_v5 : FVec F S1x1024 .f32 := broadcastInDim S1x1024 ![] bcast_S_S1x1024 main_cst_1
  let main_v6 : IVec S1x1024 1 := cmpf .olt main_arg1 main_v5
  let main_cst_2 : FVec F S_ .f32 := constant S_ .f32 0xFF800000#32
  let main_v7 : FVec F S1x1024 .f32 := broadcastInDim S1x1024 ![] bcast_S_S1x1024 main_cst_2
  let main_v8 : IVec S1x1024 1 := cmpf .ogt main_arg1 main_v7
  let main_v9 : IVec S1x1024 1 := andi main_v6 main_v8
  let main_cst_3 : FVec F S_ .f32 := constant S_ .f32 0x7F800000#32
  let main_v10 : FVec F S1x1024x2056 .f32 := broadcastInDim S1x1024x2056 ![] bcast_S_S1x1024x2056 main_cst_3
  let main_v11 : IVec S1x1024x2056 1 := cmpf .olt main_arg2 main_v10
  let main_cst_4 : FVec F S_ .f32 := constant S_ .f32 0xFF800000#32
  let main_v12 : FVec F S1x1024x2056 .f32 := broadcastInDim S1x1024x2056 ![] bcast_S_S1x1024x2056 main_cst_4
  let main_v13 : IVec S1x1024x2056 1 := cmpf .ogt main_arg2 main_v12
  let main_v14 : IVec S1x1024x2056 1 := andi main_v11 main_v13
  let main_cst_5 : FVec F S_ .f32 := constant S_ .f32 0x7F800000#32
  let main_v15 : FVec F S4096x512 .f32 := broadcastInDim S4096x512 ![] bcast_S_S4096x512 main_cst_5
  let main_v16 : IVec S4096x512 1 := cmpf .olt main_arg3 main_v15
  fn_part1 (F := F) main_arg3 main_arg4 main_arg5 main_arg6 main_arg7 main_v4 main_v9 main_v14 main_v16
-- ==== Pre_finite_mlp_fwd.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)
  bcast_S_S1024 : S_.BroadcastsInDim S1024 (![] : Fin 0 → Fin S1024.rank)

variable [Facts]

def fn_part2 {F : FTy → Type} [FloatOps F] (main_v4 : IVec S4096x1024 1) (main_v9 : IVec S1x1024 1) (main_v14 : IVec S1x1024x2816 1) (main_v19 : IVec S1x1024x2816 1) (main_v24 : IVec S1x2816x1024 1) (main_v29 : IVec S1024 1) (main_v31 : IVec S4096x1024 1) (main_v33 : IVec S4096x1024 1) : IVec S4096x1024 1 × IVec S1x1024 1 × IVec S1x1024x2816 1 × IVec S1x1024x2816 1 × IVec S1x2816x1024 1 × IVec S1024 1 × IVec S4096x1024 1 :=
  let main_v34 : IVec S4096x1024 1 := andi main_v31 main_v33
  (main_v4, main_v9, main_v14, main_v19, main_v24, main_v29, main_v34)

def fn_part1 {F : FTy → Type} [FloatOps F] (main_arg3 : FVec F S1x1024x2816 .f32) (main_arg4 : FVec F S1x2816x1024 .f32) (main_arg5 : FVec F S1024 .f32) (main_arg6 : FVec F S4096x1024 .f32) (main_v4 : IVec S4096x1024 1) (main_v9 : IVec S1x1024 1) (main_v14 : IVec S1x1024x2816 1) (main_v16 : IVec S1x1024x2816 1) : IVec S4096x1024 1 × IVec S1x1024 1 × IVec S1x1024x2816 1 × IVec S1x1024x2816 1 × IVec S1x2816x1024 1 × IVec S1024 1 × IVec S4096x1024 1 :=
  let main_cst_6 : FVec F S_ .f32 := constant S_ .f32 0xFF800000#32
  let main_v17 : FVec F S1x1024x2816 .f32 := broadcastInDim S1x1024x2816 ![] bcast_S_S1x1024x2816 main_cst_6
  let main_v18 : IVec S1x1024x2816 1 := cmpf .ogt main_arg3 main_v17
  let main_v19 : IVec S1x1024x2816 1 := andi main_v16 main_v18
  let main_cst_7 : FVec F S_ .f32 := constant S_ .f32 0x7F800000#32
  let main_v20 : FVec F S1x2816x1024 .f32 := broadcastInDim S1x2816x1024 ![] bcast_S_S1x2816x1024 main_cst_7
  let main_v21 : IVec S1x2816x1024 1 := cmpf .olt main_arg4 main_v20
  let main_cst_8 : FVec F S_ .f32 := constant S_ .f32 0xFF800000#32
  let main_v22 : FVec F S1x2816x1024 .f32 := broadcastInDim S1x2816x1024 ![] bcast_S_S1x2816x1024 main_cst_8
  let main_v23 : IVec S1x2816x1024 1 := cmpf .ogt main_arg4 main_v22
  let main_v24 : IVec S1x2816x1024 1 := andi main_v21 main_v23
  let main_cst_9 : FVec F S_ .f32 := constant S_ .f32 0x7F800000#32
  let main_v25 : FVec F S1024 .f32 := broadcastInDim S1024 ![] bcast_S_S1024 main_cst_9
  let main_v26 : IVec S1024 1 := cmpf .olt main_arg5 main_v25
  let main_cst_10 : FVec F S_ .f32 := constant S_ .f32 0xFF800000#32
  let main_v27 : FVec F S1024 .f32 := broadcastInDim S1024 ![] bcast_S_S1024 main_cst_10
  let main_v28 : IVec S1024 1 := cmpf .ogt main_arg5 main_v27
  let main_v29 : IVec S1024 1 := andi main_v26 main_v28
  let main_cst_11 : FVec F S_ .f32 := constant S_ .f32 0x7F800000#32
  let main_v30 : FVec F S4096x1024 .f32 := broadcastInDim S4096x1024 ![] bcast_S_S4096x1024 main_cst_11
  let main_v31 : IVec S4096x1024 1 := cmpf .olt main_arg6 main_v30
  let main_cst_12 : FVec F S_ .f32 := constant S_ .f32 0xFF800000#32
  let main_v32 : FVec F S4096x1024 .f32 := broadcastInDim S4096x1024 ![] bcast_S_S4096x1024 main_cst_12
  let main_v33 : IVec S4096x1024 1 := cmpf .ogt main_arg6 main_v32
  fn_part2 (F := F) main_v4 main_v9 main_v14 main_v19 main_v24 main_v29 main_v31 main_v33

def fn {F : FTy → Type} [FloatOps F] (main_arg0 : FVec F S4096x1024 .f32) (main_arg1 : FVec F S1x1024 .f32) (main_arg2 : FVec F S1x1024x2816 .f32) (main_arg3 : FVec F S1x1024x2816 .f32) (main_arg4 : FVec F S1x2816x1024 .f32) (main_arg5 : FVec F S1024 .f32) (main_arg6 : FVec F S4096x1024 .f32) : IVec S4096x1024 1 × IVec S1x1024 1 × IVec S1x1024x2816 1 × IVec S1x1024x2816 1 × IVec S1x2816x1024 1 × IVec S1024 1 × IVec S4096x1024 1 :=
  let main_cst : FVec F S_ .f32 := constant S_ .f32 0x7F800000#32
  let main_v0 : FVec F S4096x1024 .f32 := broadcastInDim S4096x1024 ![] bcast_S_S4096x1024 main_cst
  let main_v1 : IVec S4096x1024 1 := cmpf .olt main_arg0 main_v0
  let main_cst_0 : FVec F S_ .f32 := constant S_ .f32 0xFF800000#32
  let main_v2 : FVec F S4096x1024 .f32 := broadcastInDim S4096x1024 ![] bcast_S_S4096x1024 main_cst_0
  let main_v3 : IVec S4096x1024 1 := cmpf .ogt main_arg0 main_v2
  let main_v4 : IVec S4096x1024 1 := andi main_v1 main_v3
  let main_cst_1 : FVec F S_ .f32 := constant S_ .f32 0x7F800000#32
  let main_v5 : FVec F S1x1024 .f32 := broadcastInDim S1x1024 ![] bcast_S_S1x1024 main_cst_1
  let main_v6 : IVec S1x1024 1 := cmpf .olt main_arg1 main_v5
  let main_cst_2 : FVec F S_ .f32 := constant S_ .f32 0xFF800000#32
  let main_v7 : FVec F S1x1024 .f32 := broadcastInDim S1x1024 ![] bcast_S_S1x1024 main_cst_2
  let main_v8 : IVec S1x1024 1 := cmpf .ogt main_arg1 main_v7
  let main_v9 : IVec S1x1024 1 := andi main_v6 main_v8
  let main_cst_3 : FVec F S_ .f32 := constant S_ .f32 0x7F800000#32
  let main_v10 : FVec F S1x1024x2816 .f32 := broadcastInDim S1x1024x2816 ![] bcast_S_S1x1024x2816 main_cst_3
  let main_v11 : IVec S1x1024x2816 1 := cmpf .olt main_arg2 main_v10
  let main_cst_4 : FVec F S_ .f32 := constant S_ .f32 0xFF800000#32
  let main_v12 : FVec F S1x1024x2816 .f32 := broadcastInDim S1x1024x2816 ![] bcast_S_S1x1024x2816 main_cst_4
  let main_v13 : IVec S1x1024x2816 1 := cmpf .ogt main_arg2 main_v12
  let main_v14 : IVec S1x1024x2816 1 := andi main_v11 main_v13
  let main_cst_5 : FVec F S_ .f32 := constant S_ .f32 0x7F800000#32
  let main_v15 : FVec F S1x1024x2816 .f32 := broadcastInDim S1x1024x2816 ![] bcast_S_S1x1024x2816 main_cst_5
  let main_v16 : IVec S1x1024x2816 1 := cmpf .olt main_arg3 main_v15
  fn_part1 (F := F) main_arg3 main_arg4 main_arg5 main_arg6 main_v4 main_v9 main_v14 main_v16
-- ==== MlpBwd.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S512x1024 : Shape := ⟨2, ![512, 1024]⟩
abbrev S1x512x704 : Shape := ⟨3, ![1, 512, 704]⟩
abbrev S1x256x1024 : Shape := ⟨3, ![1, 256, 1024]⟩
abbrev S256x1024 : Shape := ⟨2, ![256, 1024]⟩
abbrev S512x256 : Shape := ⟨2, ![512, 256]⟩
abbrev S1x192x1024 : Shape := ⟨3, ![1, 192, 1024]⟩
abbrev S192x1024 : Shape := ⟨2, ![192, 1024]⟩
abbrev S512x192 : Shape := ⟨2, ![512, 192]⟩
abbrev S1x512x256 : Shape := ⟨3, ![1, 512, 256]⟩
abbrev S1x512x192 : Shape := ⟨3, ![1, 512, 192]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 66
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x2816, .f32⟩
  | .hbm, ⟨22, _⟩ => ⟨S4096x2816, .f32⟩
  | .hbm, ⟨23, _⟩ => ⟨S1024x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .bf16⟩
  | .hbm, ⟨44, _⟩ => ⟨S4096x2816, .bf16⟩
  | .hbm, ⟨45, _⟩ => ⟨S4096x4x704, .bf16⟩
  | .hbm, ⟨46, _⟩ => ⟨S4x4096x704, .bf16⟩
  | .hbm, ⟨47, _⟩ => ⟨S4096x2816, .bf16⟩
  | .hbm, ⟨48, _⟩ => ⟨S4096x4x704, .bf16⟩
  | .hbm, ⟨49, _⟩ => ⟨S4x4096x704, .bf16⟩
  | .hbm, ⟨50, _⟩ => ⟨S1024x2816, .f32⟩
  | .hbm, ⟨51, _⟩ => ⟨S2816x1024, .f32⟩
  | .hbm, ⟨52, _⟩ => ⟨S2816x1024, .bf16⟩
  | .hbm, ⟨53, _⟩ => ⟨S4x704x1024, .bf16⟩
  | .hbm, ⟨54, _⟩ => ⟨S1024x2816, .f32⟩
  | .hbm, ⟨55, _⟩ => ⟨S2816x1024, .f32⟩
  | .hbm, ⟨56, _⟩ => ⟨S2816x1024, .bf16⟩
  | .hbm, ⟨57, _⟩ => ⟨S4x704x1024, .bf16⟩
  | .hbm, ⟨58, _⟩ => ⟨S2816x1024, .f32⟩
  | .hbm, ⟨59, _⟩ => ⟨S2816x1024, .bf16⟩
  | .hbm, ⟨60, _⟩ => ⟨S4x704x1024, .bf16⟩
  | .hbm, ⟨61, _⟩ => ⟨S4x4096x704, .bf16⟩
  | .hbm, ⟨62, _⟩ => ⟨S4x4096x704, .bf16⟩
  | .hbm, ⟨63, _⟩ => ⟨S4096x1024, .f32⟩
  | .hbm, ⟨64, _⟩ => ⟨S4096x1024, .bf16⟩
  | .hbm, ⟨65, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S4x704x1024, .bf16⟩
  | .local _ .vmem, ⟨9, _⟩ => ⟨S4x704x1024, .bf16⟩
  | .local _ .vmem, ⟨10, _⟩ => ⟨S4x704x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48_0 : Ref sig .tc := ⟨.hbm, 61, rfl⟩
abbrev main_v48_1 : Ref sig .tc := ⟨.hbm, 62, rfl⟩
abbrev main_v48_2 : Ref sig .tc := ⟨.hbm, 63, rfl⟩
abbrev main_v48_3 : Ref sig .tc := ⟨.hbm, 64, rfl⟩
abbrev main_v48_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v7 : Index := Scalar.indexCast arg1
  let c0_3 : Index := 0#32
  let c0_4 : Index := 0#32
  ![v7.toNat, 0, 0]
def k0_off2 (i : grid0.Coords) : Fin 3 → Nat :=
  let arg1 : BitVec 32 := BitVec.ofNat 32 (i 1).val
  let v11 : Index := Scalar.indexCast arg1
  let c256 : Index := 256#32
  let c0_5 : Index := 0#32
  ![v11.toNat, 256, 0]
def k0_off3 (i : grid0.Coords) : Fin 3 → Nat :=
  let arg1 : BitVec 32 := BitVec.ofNat 32 (i 1).val
  let v15 : Index := Scalar.indexCast arg1
  let c512 : Index := 512#32
  let c0_7 : Index := 0#32
  ![v15.toNat, 512, 0]
def k0_off4 (i : grid0.Coords) : Fin 3 → Nat :=
  let arg1 : BitVec 32 := BitVec.ofNat 32 (i 1).val
  let v69 : Index := Scalar.indexCast arg1
  let c0_48 : Index := 0#32
  let c0_49 : Index := 0#32
  ![v69.toNat, 0, 0]
def k0_cond4 (i : grid0.Coords) : BitVec 1 :=
  let arg1 : BitVec 32 := BitVec.ofNat 32 (i 1).val
  let c3_i32 : BitVec 32 := 3#32
  let v86 : BitVec 1 := Scalar.cmpi .eq arg1 c3_i32
  let v87 : BitVec 32 := Scalar.extui v86
  let c0_i32_61 : BitVec 32 := 0#32
  let v88 : BitVec 1 := Scalar.cmpi .ne v87 c0_i32_61
  v88

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== MlpBwdRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S1024 : Shape := ⟨1, ![1024]⟩
abbrev S4096x4x704 : Shape := ⟨3, ![4096, 4, 704]⟩
abbrev S4x4096x704 : Shape := ⟨3, ![4, 4096, 704]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x2816, .f32⟩
  | .hbm, ⟨26, _⟩ => ⟨S4096x2816, .f32⟩
  | .hbm, ⟨27, _⟩ => ⟨S1024x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S2816x1024, .f32⟩
  | .hbm, ⟨44, _⟩ => ⟨S4096x1024, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S1024x2816, .f32⟩
  | .hbm, ⟨53, _⟩ => ⟨S4096x2816, .f32⟩
  | .hbm, ⟨54, _⟩ => ⟨S1024x2816, .f32⟩
  | .hbm, ⟨55, _⟩ => ⟨S4096x2816, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x2816, .bf16⟩
  | .hbm, ⟨84, _⟩ => ⟨S4096x4x704, .bf16⟩
  | .hbm, ⟨85, _⟩ => ⟨S4x4096x704, .bf16⟩
  | .hbm, ⟨86, _⟩ => ⟨S4096x2816, .bf16⟩
  | .hbm, ⟨87, _⟩ => ⟨S4096x4x704, .bf16⟩
  | .hbm, ⟨88, _⟩ => ⟨S4x4096x704, .bf16⟩
  | .hbm, ⟨89, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_4 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== InprojBwd.lean ====
abbrev S4096x1024 : Shape := ⟨2, ![4096, 1024]⟩
abbrev S1x1024 : Shape := ⟨2, ![1, 1024]⟩
abbrev S1x1024x2056 : Shape := ⟨3, ![1, 1024, 2056]⟩
abbrev S4096x512 : Shape := ⟨2, ![4096, 512]⟩
abbrev S4096x8 : Shape := ⟨2, ![4096, 8]⟩
abbrev S_ : Shape := ⟨0, ![]⟩
abbrev S4096x120 : Shape := ⟨2, ![4096, 120]⟩
abbrev S4096x128 : Shape := ⟨2, ![4096, 128]⟩
abbrev S1024x2056 : Shape := ⟨2, ![1024, 2056]⟩
abbrev S2056x1024 : Shape := ⟨2, ![2056, 1024]⟩
abbrev S1536x1024 : Shape := ⟨2, ![1536, 1024]⟩
abbrev S512x1024 : Shape := ⟨2, ![512, 1024]⟩
abbrev S8x1024 : Shape := ⟨2, ![8, 1024]⟩
abbrev S120x1024 : Shape := ⟨2, ![120, 1024]⟩
abbrev S2176x1024 : Shape := ⟨2, ![2176, 1024]⟩
abbrev S512x512 : Shape := ⟨2, ![512, 512]⟩
abbrev S512x128 : Shape := ⟨2, ![512, 128]⟩
abbrev S512x2176 : Shape := ⟨2, ![512, 2176]⟩
abbrev S512 : Shape := ⟨1, ![512]⟩
abbrev S512x1 : Shape := ⟨2, ![512, 1]⟩
abbrev S1024 : Shape := ⟨1, ![1024]⟩

abbrev nBuf : Space → Nat
  | .hbm => 28
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2056, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x8, .f32⟩
  | .hbm, ⟨7, _⟩ => ⟨S4096x512, .f32⟩
  | .hbm, ⟨8, _⟩ => ⟨S4096x1024, .f32⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S_, .f32⟩
  | .hbm, ⟨14, _⟩ => ⟨S4096x120, .f32⟩
  | .hbm, ⟨15, _⟩ => ⟨S4096x128, .f32⟩
  | .hbm, ⟨16, _⟩ => ⟨S4096x128, .bf16⟩
  | .hbm, ⟨17, _⟩ => ⟨S1024x2056, .f32⟩
  | .hbm, ⟨18, _⟩ => ⟨S2056x1024, .f32⟩
  | .hbm, ⟨19, _⟩ => ⟨S2056x1024, .bf16⟩
  | .hbm, ⟨20, _⟩ => ⟨S1536x1024, .bf16⟩
  | .hbm, ⟨21, _⟩ => ⟨S512x1024, .bf16⟩
  | .hbm, ⟨22, _⟩ => ⟨S8x1024, .bf16⟩
  | .hbm, ⟨23, _⟩ => ⟨S_, .bf16⟩
  | .hbm, ⟨24, _⟩ => ⟨S120x1024, .bf16⟩
  | .hbm, ⟨25, _⟩ => ⟨S2176x1024, .bf16⟩
  | .hbm, ⟨26, _⟩ => ⟨S4096x1024, .f32⟩
  | .hbm, ⟨27, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S2176x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2176x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InprojBwdRefIdeal.lean ====
abbrev S4096x1024 : Shape := ⟨2, ![4096, 1024]⟩
abbrev S1x1024 : Shape := ⟨2, ![1, 1024]⟩
abbrev S1x1024x2056 : Shape := ⟨3, ![1, 1024, 2056]⟩
abbrev S4096x512 : Shape := ⟨2, ![4096, 512]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S1024x2056 : Shape := ⟨2, ![1024, 2056]⟩
abbrev S4096x2056 : Shape := ⟨2, ![4096, 2056]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2056, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x8, .f32⟩
  | .hbm, ⟨7, _⟩ => ⟨S4096x512, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x2056, .f32⟩
  | .hbm, ⟨29, _⟩ => ⟨S4096x2056, .f32⟩
  | .hbm, ⟨30, _⟩ => ⟨S4096x2056, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== MlpFwd.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S2816x1024 : Shape := ⟨2, ![2816, 1024]⟩
abbrev S4x704x1024 : Shape := ⟨3, ![4, 704, 1024]⟩
abbrev S8x128 : Shape := ⟨2, ![8, 128]⟩
abbrev S4x4096x704 : Shape := ⟨3, ![4, 4096, 704]⟩
abbrev S512x1024 : Shape := ⟨2, ![512, 1024]⟩
abbrev S1x512x704 : Shape := ⟨3, ![1, 512, 704]⟩
abbrev S1x256x1024 : Shape := ⟨3, ![1, 256, 1024]⟩
abbrev S256x1024 : Shape := ⟨2, ![256, 1024]⟩
abbrev S512x256 : Shape := ⟨2, ![512, 256]⟩
abbrev S1x192x1024 : Shape := ⟨3, ![1, 192, 1024]⟩
abbrev S192x1024 : Shape := ⟨2, ![192, 1024]⟩
abbrev S512x192 : Shape := ⟨2, ![512, 192]⟩
abbrev S1x512x256 : Shape := ⟨3, ![1, 512, 256]⟩
abbrev S1x512x192 : Shape := ⟨3, ![1, 512, 192]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 42
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S1024x2816, .f32⟩
  | .hbm, ⟨24, _⟩ => ⟨S2816x1024, .f32⟩
  | .hbm, ⟨25, _⟩ => ⟨S2816x1024, .bf16⟩
  | .hbm, ⟨26, _⟩ => ⟨S4x704x1024, .bf16⟩
  | .hbm, ⟨27, _⟩ => ⟨S1024x2816, .f32⟩
  | .hbm, ⟨28, _⟩ => ⟨S2816x1024, .f32⟩
  | .hbm, ⟨29, _⟩ => ⟨S2816x1024, .bf16⟩
  | .hbm, ⟨30, _⟩ => ⟨S4x704x1024, .bf16⟩
  | .hbm, ⟨31, _⟩ => ⟨S2816x1024, .f32⟩
  | .hbm, ⟨32, _⟩ => ⟨S2816x1024, .bf16⟩
  | .hbm, ⟨33, _⟩ => ⟨S4x704x1024, .bf16⟩
  | .hbm, ⟨34, _⟩ => ⟨S1x1024, .f32⟩
  | .hbm, ⟨35, _⟩ => ⟨S8x128, .f32⟩
  | .hbm, ⟨36, _⟩ => ⟨S1x1024, .f32⟩
  | .hbm, ⟨37, _⟩ => ⟨S4096x1024, .f32⟩
  | .hbm, ⟨38, _⟩ => ⟨S4096x1024, .bf16⟩
  | .hbm, ⟨39, _⟩ => ⟨S4x4096x704, .bf16⟩
  | .hbm, ⟨40, _⟩ => ⟨S4x4096x704, .bf16⟩
  | .hbm, ⟨41, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4x704x1024, .bf16⟩
  | .local _ .vmem, ⟨5, _⟩ => ⟨S4x704x1024, .bf16⟩
  | .local _ .vmem, ⟨6, _⟩ => ⟨S4x704x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S8x128, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev main_v25_3 : Ref sig .tc := ⟨.hbm, 38, rfl⟩
abbrev main_v25_4 : Ref sig .tc := ⟨.hbm, 39, rfl⟩
abbrev main_v25_5 : Ref sig .tc := ⟨.hbm, 40, rfl⟩
abbrev main_v25_6 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v7 : Index := Scalar.indexCast arg1
  let c0_3 : Index := 0#32
  let c0_4 : Index := 0#32
  ![v7.toNat, 0, 0]
def k0_off2 (i : grid0.Coords) : Fin 3 → Nat :=
  let arg1 : BitVec 32 := BitVec.ofNat 32 (i 1).val
  let v15 : Index := Scalar.indexCast arg1
  let c256 : Index := 256#32
  let c0_8 : Index := 0#32
  ![v15.toNat, 256, 0]
def k0_off3 (i : grid0.Coords) : Fin 3 → Nat :=
  let arg1 : BitVec 32 := BitVec.ofNat 32 (i 1).val
  let v23 : Index := Scalar.indexCast arg1
  let c512 : Index := 512#32
  let c0_13 : Index := 0#32
  ![v23.toNat, 512, 0]
def k0_off4 (i : grid0.Coords) : Fin 3 → Nat :=
  let arg1 : BitVec 32 := BitVec.ofNat 32 (i 1).val
  let v99 : Index := Scalar.indexCast arg1
  let c0_54 : Index := 0#32
  let c0_55 : Index := 0#32
  ![v99.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond4 (i : grid0.Coords) : BitVec 1 :=
  let arg1 : BitVec 32 := BitVec.ofNat 32 (i 1).val
  let c3_i32 : BitVec 32 := 3#32
  let v109 : BitVec 1 := Scalar.cmpi .eq arg1 c3_i32
  let v110 : BitVec 32 := Scalar.extui v109
  let c0_i32_61 : BitVec 32 := 0#32
  let v111 : BitVec 1 := Scalar.cmpi .ne v110 c0_i32_61
  v111

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MlpFwdRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S8x128 : Shape := ⟨2, ![8, 128]⟩
abbrev S4096x4x704 : Shape := ⟨3, ![4096, 4, 704]⟩
abbrev S4x4096x704 : Shape := ⟨3, ![4, 4096, 704]⟩

abbrev nBuf : Space → Nat
  | .hbm => 128
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1024x2816, .f32⟩
  | .hbm, ⟨23, _⟩ => ⟨S4096x2816, .f32⟩
  | .hbm, ⟨24, _⟩ => ⟨S1024x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S2816x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S4096x1024, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S4096x1024, .f32⟩
  | .hbm, ⟨99, _⟩ => ⟨S4096x1024, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S_, .f32⟩
  | .hbm, ⟨105, _⟩ => ⟨S4096, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x2816, .f32⟩
  | .hbm, ⟨112, _⟩ => ⟨S4096x2816, .f32⟩
  | .hbm, ⟨113, _⟩ => ⟨S4096x2816, .f32⟩
  | .hbm, ⟨114, _⟩ => ⟨S4096x2816, .f32⟩
  | .hbm, ⟨115, _⟩ => ⟨S8x128, .f32⟩
  | .hbm, ⟨116, _⟩ => ⟨S1x1024, .f32⟩
  | .hbm, ⟨117, _⟩ => ⟨S4096x1024, .bf16⟩
  | .hbm, ⟨118, _⟩ => ⟨S4096x2816, .bf16⟩
  | .hbm, ⟨119, _⟩ => ⟨S4096x4x704, .bf16⟩
  | .hbm, ⟨120, _⟩ => ⟨S4x4096x704, .bf16⟩
  | .hbm, ⟨121, _⟩ => ⟨S4096x2816, .bf16⟩
  | .hbm, ⟨122, _⟩ => ⟨S4096x4x704, .bf16⟩
  | .hbm, ⟨123, _⟩ => ⟨S4x4096x704, .bf16⟩
  | .hbm, ⟨124, _⟩ => ⟨S4096x2816, .f32⟩
  | .hbm, ⟨125, _⟩ => ⟨S4096x2816, .bf16⟩
  | .hbm, ⟨126, _⟩ => ⟨S4096x4x704, .bf16⟩
  | .hbm, ⟨127, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_cst_11 : Ref sig .tc := ⟨.hbm, 77, rfl⟩
abbrev main_cst_12 : Ref sig .tc := ⟨.hbm, 78, rfl⟩
abbrev main_v46 : Ref sig .tc := ⟨.hbm, 79, rfl⟩
abbrev main_v47 : Ref sig .tc := ⟨.hbm, 80, rfl⟩
abbrev main_cst_13 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_14 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_15 : Ref sig .tc := ⟨.hbm, 92, rfl⟩
abbrev main_v57 : Ref sig .tc := ⟨.hbm, 93, rfl⟩
abbrev main_v58 : Ref sig .tc := ⟨.hbm, 94, rfl⟩
abbrev main_cst_16 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_17 : Ref sig .tc := ⟨.hbm, 101, rfl⟩
abbrev main_v64 : Ref sig .tc := ⟨.hbm, 102, rfl⟩
abbrev main_v65 : Ref sig .tc := ⟨.hbm, 103, rfl⟩
abbrev main_cst_18 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩

abbrev nD : Nat := 1
abbrev τ : Topo := Topo.v7x

variable {F : FTy → Type} [FloatOps F]
-- ==== DwIn.lean ====
abbrev S4096x1024 : Shape := ⟨2, ![4096, 1024]⟩
abbrev S1x1024 : Shape := ⟨2, ![1, 1024]⟩
abbrev S1x1024x2056 : Shape := ⟨3, ![1, 1024, 2056]⟩
abbrev S4096x512 : Shape := ⟨2, ![4096, 512]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x120 : Shape := ⟨2, ![4096, 120]⟩
abbrev S4096x128 : Shape := ⟨2, ![4096, 128]⟩
abbrev S512x1024 : Shape := ⟨2, ![512, 1024]⟩
abbrev S128x1024 : Shape := ⟨2, ![128, 1024]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 37
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2056, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x8, .f32⟩
  | .hbm, ⟨7, _⟩ => ⟨S4096x512, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x512, .bf16⟩
  | .hbm, ⟨25, _⟩ => ⟨S4096x512, .bf16⟩
  | .hbm, ⟨26, _⟩ => ⟨S4096x512, .bf16⟩
  | .hbm, ⟨27, _⟩ => ⟨S4096x512, .bf16⟩
  | .hbm, ⟨28, _⟩ => ⟨S_, .f32⟩
  | .hbm, ⟨29, _⟩ => ⟨S4096x120, .f32⟩
  | .hbm, ⟨30, _⟩ => ⟨S4096x128, .f32⟩
  | .hbm, ⟨31, _⟩ => ⟨S4096x128, .bf16⟩
  | .hbm, ⟨32, _⟩ => ⟨S512x1024, .bf16⟩
  | .hbm, ⟨33, _⟩ => ⟨S512x1024, .bf16⟩
  | .hbm, ⟨34, _⟩ => ⟨S512x1024, .bf16⟩
  | .hbm, ⟨35, _⟩ => ⟨S512x1024, .bf16⟩
  | .hbm, ⟨36, _⟩ => ⟨S128x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .bf16⟩
  | .local _ .vmem, ⟨9, _⟩ => ⟨S1024x128, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S128x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_6 : BitVec 32 := 0#32
  let v13 : BitVec 1 := Scalar.cmpi .ne v12 c0_i32_6
  v13

def k0_cond6 (i : grid0.Coords) : BitVec 1 :=
  let arg0 : BitVec 32 := BitVec.ofNat 32 (i 0).val
  let c3_i32_14 : BitVec 32 := 3#32
  let v23 : BitVec 1 := Scalar.cmpi .eq arg0 c3_i32_14
  let v24 : BitVec 32 := Scalar.extui v23
  let c0_i32_15 : BitVec 32 := 0#32
  let v25 : BitVec 1 := Scalar.cmpi .ne v24 c0_i32_15
  v25

def k0_cond9 (i : grid0.Coords) : BitVec 1 :=
  let arg0 : BitVec 32 := BitVec.ofNat 32 (i 0).val
  let c3_i32_23 : BitVec 32 := 3#32
  let v35 : BitVec 1 := Scalar.cmpi .eq arg0 c3_i32_23
  let v36 : BitVec 32 := Scalar.extui v35
  let c0_i32_24 : BitVec 32 := 0#32
  let v37 : BitVec 1 := Scalar.cmpi .ne v36 c0_i32_24
  v37

def k0_cond12 (i : grid0.Coords) : BitVec 1 :=
  let arg0 : BitVec 32 := BitVec.ofNat 32 (i 0).val
  let c3_i32_32 : BitVec 32 := 3#32
  let v47 : BitVec 1 := Scalar.cmpi .eq arg0 c3_i32_32
  let v48 : BitVec 32 := Scalar.extui v47
  let c0_i32_33 : BitVec 32 := 0#32
  let v49 : BitVec 1 := Scalar.cmpi .ne v48 c0_i32_33
  v49

def k0_cond15 (i : grid0.Coords) : BitVec 1 :=
  let arg0 : BitVec 32 := BitVec.ofNat 32 (i 0).val
  let c3_i32_41 : BitVec 32 := 3#32
  let v59 : BitVec 1 := Scalar.cmpi .eq arg0 c3_i32_41
  let v60 : BitVec 32 := Scalar.extui v59
  let c0_i32_42 : BitVec 32 := 0#32
  let v61 : BitVec 1 := Scalar.cmpi .ne v60 c0_i32_42
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DwInRefIdeal.lean ====
abbrev S4096x1024 : Shape := ⟨2, ![4096, 1024]⟩
abbrev S1x1024 : Shape := ⟨2, ![1, 1024]⟩
abbrev S1x1024x2056 : Shape := ⟨3, ![1, 1024, 2056]⟩
abbrev S4096x512 : Shape := ⟨2, ![4096, 512]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S1024x2056 : Shape := ⟨2, ![1024, 2056]⟩
abbrev S4096x2056 : Shape := ⟨2, ![4096, 2056]⟩
abbrev S2056x1024 : Shape := ⟨2, ![2056, 1024]⟩
abbrev S512x1024 : Shape := ⟨2, ![512, 1024]⟩
abbrev S8x1024 : Shape := ⟨2, ![8, 1024]⟩
abbrev S120x1024 : Shape := ⟨2, ![120, 1024]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2056, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x8, .f32⟩
  | .hbm, ⟨7, _⟩ => ⟨S4096x512, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1024x2056, .f32⟩
  | .hbm, ⟨24, _⟩ => ⟨S4096x2056, .f32⟩
  | .hbm, ⟨25, _⟩ => ⟨S4096x2056, .f32⟩
  | .hbm, ⟨26, _⟩ => ⟨S2056x1024, .f32⟩
  | .hbm, ⟨27, _⟩ => ⟨S1024x2056, .f32⟩
  | .hbm, ⟨28, _⟩ => ⟨S1x1024x2056, .f32⟩
  | .hbm, ⟨29, _⟩ => ⟨S1024x2056, .f32⟩
  | .hbm, ⟨30, _⟩ => ⟨S2056x1024, .f32⟩
  | .hbm, ⟨31, _⟩ => ⟨S2056x1024, .bf16⟩
  | .hbm, ⟨32, _⟩ => ⟨S512x1024, .bf16⟩
  | .hbm, ⟨33, _⟩ => ⟨S512x1024, .bf16⟩
  | .hbm, ⟨34, _⟩ => ⟨S512x1024, .bf16⟩
  | .hbm, ⟨35, _⟩ => ⟨S512x1024, .bf16⟩
  | .hbm, ⟨36, _⟩ => ⟨S8x1024, .bf16⟩
  | .hbm, ⟨37, _⟩ => ⟨S_, .bf16⟩
  | .hbm, ⟨38, _⟩ => ⟨S120x1024, .bf16⟩
  | .hbm, ⟨39, _⟩ => ⟨S128x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== DwMlp.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x704x1024 : Shape := ⟨3, ![1, 704, 1024]⟩
abbrev S2x4096x704 : Shape := ⟨3, ![2, 4096, 704]⟩
abbrev S2x4096x1024 : Shape := ⟨3, ![2, 4096, 1024]⟩
abbrev S2 : Shape := ⟨1, ![2]⟩
abbrev S1 : Shape := ⟨1, ![1]⟩
abbrev S1x4096x704 : Shape := ⟨3, ![1, 4096, 704]⟩
abbrev S4096x704 : Shape := ⟨2, ![4096, 704]⟩
abbrev S1x4096x1024 : Shape := ⟨3, ![1, 4096, 1024]⟩
abbrev S704x1024 : Shape := ⟨2, ![704, 1024]⟩

abbrev nBuf : Space → Nat
  | .hbm => 61
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x2816, .f32⟩
  | .hbm, ⟨22, _⟩ => ⟨S4096x2816, .f32⟩
  | .hbm, ⟨23, _⟩ => ⟨S1024x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S2816x1024, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .bf16⟩
  | .hbm, ⟨48, _⟩ => ⟨S4096x4x704, .bf16⟩
  | .hbm, ⟨49, _⟩ => ⟨S4x4096x704, .bf16⟩
  | .hbm, ⟨50, _⟩ => ⟨S4096x2816, .bf16⟩
  | .hbm, ⟨51, _⟩ => ⟨S4096x4x704, .bf16⟩
  | .hbm, ⟨52, _⟩ => ⟨S4x4096x704, .bf16⟩
  | .hbm, ⟨53, _⟩ => ⟨S4096x2816, .bf16⟩
  | .hbm, ⟨54, _⟩ => ⟨S4096x4x704, .bf16⟩
  | .hbm, ⟨55, _⟩ => ⟨S4x4096x704, .bf16⟩
  | .hbm, ⟨56, _⟩ => ⟨S4096x1024, .bf16⟩
  | .hbm, ⟨57, _⟩ => ⟨S4096x1024, .bf16⟩
  | .hbm, ⟨58, _⟩ => ⟨S4x704x1024, .bf16⟩
  | .hbm, ⟨59, _⟩ => ⟨S4x704x1024, .bf16⟩
  | .hbm, ⟨60, _⟩ => ⟨S4x704x1024, .bf16⟩
  | .local _ .vmem, ⟨0, _⟩ => ⟨S1x704x1024, .bf16⟩
  | .local _ .vmem, ⟨1, _⟩ => ⟨S1x704x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S2x4096x704, .bf16⟩
  | .local _ .vmem, ⟨7, _⟩ => ⟨S2x4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34_0 : Ref sig .tc := ⟨.hbm, 58, rfl⟩
abbrev main_v34_1 : Ref sig .tc := ⟨.hbm, 59, rfl⟩
abbrev main_v34_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_2 : BitVec 32 := 0#32
  let v2 : BitVec 1 := Scalar.cmpi .ne v1 c0_i32_2
  v2

def k0_cond2 (i : grid0.Coords) : BitVec 1 :=
  let arg0 : BitVec 32 := BitVec.ofNat 32 (i 0).val
  let c4_i32_40 : BitVec 32 := 4#32
  let v54 : BitVec 32 := Scalar.divsi arg0 c4_i32_40
  let c0_i32_41 : BitVec 32 := 0#32
  let v55 : BitVec 1 := Scalar.cmpi .eq v54 c0_i32_41
  let v56 : BitVec 32 := Scalar.extui v55
  let c0_i32_42 : BitVec 32 := 0#32
  let v57 : BitVec 1 := Scalar.cmpi .ne v56 c0_i32_42
  v57

def k0_off1 (i : grid0.Coords) : Fin 1 → Nat :=
  let arg0 : BitVec 32 := BitVec.ofNat 32 (i 0).val
  let c2_i32_39 : BitVec 32 := 2#32
  let v53 : BitVec 32 := Scalar.remsi arg0 c2_i32_39
  ![v53.toNat]
def k0_off2 (i : grid0.Coords) : Fin 3 → Nat :=
  let arg0 : BitVec 32 := BitVec.ofNat 32 (i 0).val
  let c2_i32_39 : BitVec 32 := 2#32
  let v53 : BitVec 32 := Scalar.remsi arg0 c2_i32_39
  let c0_i32_52 : BitVec 32 := 0#32
  let c0_i32_53 : BitVec 32 := 0#32
  ![v53.toNat, 0, 0]
def k0_off3 (i : grid0.Coords) : Fin 3 → Nat :=
  let arg0 : BitVec 32 := BitVec.ofNat 32 (i 0).val
  let c4_i32_51 : BitVec 32 := 4#32
  let v70 : BitVec 32 := Scalar.remsi arg0 c4_i32_51
  let c0_i32_54 : BitVec 32 := 0#32
  let c0_i32_55 : BitVec 32 := 0#32
  ![v70.toNat, 0, 0]
def k0_cond3 (i : grid0.Coords) : BitVec 1 :=
  let arg0 : BitVec 32 := BitVec.ofNat 32 (i 0).val
  let c4_i32_43 : BitVec 32 := 4#32
  let v58 : BitVec 32 := Scalar.divsi arg0 c4_i32_43
  let c1_i32_44 : BitVec 32 := 1#32
  let v59 : BitVec 1 := Scalar.cmpi .eq v58 c1_i32_44
  let v60 : BitVec 32 := Scalar.extui v59
  let c0_i32_45 : BitVec 32 := 0#32
  let v61 : BitVec 1 := Scalar.cmpi .ne v60 c0_i32_45
  v61

def k0_off4 (i : grid0.Coords) : Fin 1 → Nat :=
  let arg0 : BitVec 32 := BitVec.ofNat 32 (i 0).val
  let c2_i32_39 : BitVec 32 := 2#32
  let v53 : BitVec 32 := Scalar.remsi arg0 c2_i32_39
  ![v53.toNat]
def k0_off5 (i : grid0.Coords) : Fin 3 → Nat :=
  let arg0 : BitVec 32 := BitVec.ofNat 32 (i 0).val
  let c2_i32_39 : BitVec 32 := 2#32
  let v53 : BitVec 32 := Scalar.remsi arg0 c2_i32_39
  let c0_i32_52 : BitVec 32 := 0#32
  let c0_i32_53 : BitVec 32 := 0#32
  ![v53.toNat, 0, 0]
def k0_off6 (i : grid0.Coords) : Fin 3 → Nat :=
  let arg0 : BitVec 32 := BitVec.ofNat 32 (i 0).val
  let c4_i32_51 : BitVec 32 := 4#32
  let v70 : BitVec 32 := Scalar.remsi arg0 c4_i32_51
  let c0_i32_54 : BitVec 32 := 0#32
  let c0_i32_55 : BitVec 32 := 0#32
  ![v70.toNat, 0, 0]
def k0_cond4 (i : grid0.Coords) : BitVec 1 :=
  let arg0 : BitVec 32 := BitVec.ofNat 32 (i 0).val
  let c4_i32_46 : BitVec 32 := 4#32
  let v62 : BitVec 32 := Scalar.divsi arg0 c4_i32_46
  let c2_i32_47 : BitVec 32 := 2#32
  let v63 : BitVec 1 := Scalar.cmpi .eq v62 c2_i32_47
  let v64 : BitVec 32 := Scalar.extui v63
  let c0_i32_48 : BitVec 32 := 0#32
  let v65 : BitVec 1 := Scalar.cmpi .ne v64 c0_i32_48
  v65

def k0_off7 (i : grid0.Coords) : Fin 1 → Nat :=
  let arg0 : BitVec 32 := BitVec.ofNat 32 (i 0).val
  let c2_i32_39 : BitVec 32 := 2#32
  let v53 : BitVec 32 := Scalar.remsi arg0 c2_i32_39
  ![v53.toNat]
def k0_off8 (i : grid0.Coords) : Fin 3 → Nat :=
  let arg0 : BitVec 32 := BitVec.ofNat 32 (i 0).val
  let c2_i32_39 : BitVec 32 := 2#32
  let v53 : BitVec 32 := Scalar.remsi arg0 c2_i32_39
  let c0_i32_52 : BitVec 32 := 0#32
  let c0_i32_53 : BitVec 32 := 0#32
  ![v53.toNat, 0, 0]
def k0_off9 (i : grid0.Coords) : Fin 3 → Nat :=
  let arg0 : BitVec 32 := BitVec.ofNat 32 (i 0).val
  let c4_i32_51 : BitVec 32 := 4#32
  let v70 : BitVec 32 := Scalar.remsi arg0 c4_i32_51
  let c0_i32_54 : BitVec 32 := 0#32
  let c0_i32_55 : BitVec 32 := 0#32
  ![v70.toNat, 0, 0]
def k0_cond5 (i : grid0.Coords) : BitVec 1 :=
  let arg0 : BitVec 32 := BitVec.ofNat 32 (i 0).val
  let c1_i32 : BitVec 32 := 1#32
  let v3 : BitVec 32 := Scalar.addi arg0 c1_i32
  let c12_i32 : BitVec 32 := 12#32
  let v4 : BitVec 1 := Scalar.cmpi .slt v3 c12_i32
  let v5 : BitVec 32 := Scalar.extui v4
  let c0_i32_3 : BitVec 32 := 0#32
  let v6 : BitVec 1 := Scalar.cmpi .ne v5 c0_i32_3
  v6

def k0_cond6 (i : grid0.Coords) : BitVec 1 :=
  let arg0 : BitVec 32 := BitVec.ofNat 32 (i 0).val
  let c1_i32_39 : BitVec 32 := 1#32
  let v53 : BitVec 32 := Scalar.addi arg0 c1_i32_39
  let c4_i32_41 : BitVec 32 := 4#32
  let v55 : BitVec 32 := Scalar.divsi v53 c4_i32_41
  let c0_i32_42 : BitVec 32 := 0#32
  let v56 : BitVec 1 := Scalar.cmpi .eq v55 c0_i32_42
  let v57 : BitVec 32 := Scalar.extui v56
  let c0_i32_43 : BitVec 32 := 0#32
  let v58 : BitVec 1 := Scalar.cmpi .ne v57 c0_i32_43
  v58

def k0_off10 (i : grid0.Coords) : Fin 1 → Nat :=
  let arg0 : BitVec 32 := BitVec.ofNat 32 (i 0).val
  let c1_i32_39 : BitVec 32 := 1#32
  let v53 : BitVec 32 := Scalar.addi arg0 c1_i32_39
  let c2_i32_40 : BitVec 32 := 2#32
  let v54 : BitVec 32 := Scalar.remsi v53 c2_i32_40
  ![v54.toNat]
def k0_off11 (i : grid0.Coords) : Fin 3 → Nat :=
  let arg0 : BitVec 32 := BitVec.ofNat 32 (i 0).val
  let c1_i32_39 : BitVec 32 := 1#32
  let v53 : BitVec 32 := Scalar.addi arg0 c1_i32_39
  let c2_i32_40 : BitVec 32 := 2#32
  let v54 : BitVec 32 := Scalar.remsi v53 c2_i32_40
  let c0_i32_51 : BitVec 32 := 0#32
  let c0_i32_52 : BitVec 32 := 0#32
  ![v54.toNat, 0, 0]
def k0_off12 (i : grid0.Coords) : Fin 3 → Nat :=
  let arg0 : BitVec 32 := BitVec.ofNat 32 (i 0).val
  let c1_i32_39 : BitVec 32 := 1#32
  let v53 : BitVec 32 := Scalar.addi arg0 c1_i32_39
  let c4_i32_50 : BitVec 32 := 4#32
  let v67 : BitVec 32 := Scalar.remsi v53 c4_i32_50
  let c0_i32_53 : BitVec 32 := 0#32
  let c0_i32_54 : BitVec 32 := 0#32
  ![v67.toNat, 0, 0]
def k0_cond7 (i : grid0.Coords) : BitVec 1 :=
  let arg0 : BitVec 32 := BitVec.ofNat 32 (i 0).val
  let c1_i32_39 : BitVec 32 := 1#32
  let v53 : BitVec 32 := Scalar.addi arg0 c1_i32_39
  let c4_i32_44 : BitVec 32 := 4#32
  let v59 : BitVec 32 := Scalar.divsi v53 c4_i32_44
  let c1_i32_45 : BitVec 32 := 1#32
  let v60 : BitVec 1 := Scalar.cmpi .eq v59 c1_i32_45
  let v61 : BitVec 32 := Scalar.extui v60
  let c0_i32_46 : BitVec 32 := 0#32
  let v62 : BitVec 1 := Scalar.cmpi .ne v61 c0_i32_46
  v62

def k0_off13 (i : grid0.Coords) : Fin 1 → Nat :=
  let arg0 : BitVec 32 := BitVec.ofNat 32 (i 0).val
  let c1_i32_39 : BitVec 32 := 1#32
  let v53 : BitVec 32 := Scalar.addi arg0 c1_i32_39
  let c2_i32_40 : BitVec 32 := 2#32
  let v54 : BitVec 32 := Scalar.remsi v53 c2_i32_40
  ![v54.toNat]
def k0_off14 (i : grid0.Coords) : Fin 3 → Nat :=
  let arg0 : BitVec 32 := BitVec.ofNat 32 (i 0).val
  let c1_i32_39 : BitVec 32 := 1#32
  let v53 : BitVec 32 := Scalar.addi arg0 c1_i32_39
  let c2_i32_40 : BitVec 32 := 2#32
  let v54 : BitVec 32 := Scalar.remsi v53 c2_i32_40
  let c0_i32_51 : BitVec 32 := 0#32
  let c0_i32_52 : BitVec 32 := 0#32
  ![v54.toNat, 0, 0]
def k0_off15 (i : grid0.Coords) : Fin 3 → Nat :=
  let arg0 : BitVec 32 := BitVec.ofNat 32 (i 0).val
  let c1_i32_39 : BitVec 32 := 1#32
  let v53 : BitVec 32 := Scalar.addi arg0 c1_i32_39
  let c4_i32_50 : BitVec 32 := 4#32
  let v67 : BitVec 32 := Scalar.remsi v53 c4_i32_50
  let c0_i32_53 : BitVec 32 := 0#32
  let c0_i32_54 : BitVec 32 := 0#32
  ![v67.toNat, 0, 0]
def k0_cond8 (i : grid0.Coords) : BitVec 1 :=
  let arg0 : BitVec 32 := BitVec.ofNat 32 (i 0).val
  let c1_i32_39 : BitVec 32 := 1#32
  let v53 : BitVec 32 := Scalar.addi arg0 c1_i32_39
  let c4_i32_47 : BitVec 32 := 4#32
  let v63 : BitVec 32 := Scalar.divsi v53 c4_i32_47
  let c2_i32_48 : BitVec 32 := 2#32
  let v64 : BitVec 1 := Scalar.cmpi .eq v63 c2_i32_48
  let v65 : BitVec 32 := Scalar.extui v64
  let c0_i32_49 : BitVec 32 := 0#32
  let v66 : BitVec 1 := Scalar.cmpi .ne v65 c0_i32_49
  v66

def k0_off16 (i : grid0.Coords) : Fin 1 → Nat :=
  let arg0 : BitVec 32 := BitVec.ofNat 32 (i 0).val
  let c1_i32_39 : BitVec 32 := 1#32
  let v53 : BitVec 32 := Scalar.addi arg0 c1_i32_39
  let c2_i32_40 : BitVec 32 := 2#32
  let v54 : BitVec 32 := Scalar.remsi v53 c2_i32_40
  ![v54.toNat]
def k0_off17 (i : grid0.Coords) : Fin 3 → Nat :=
  let arg0 : BitVec 32 := BitVec.ofNat 32 (i 0).val
  let c1_i32_39 : BitVec 32 := 1#32
  let v53 : BitVec 32 := Scalar.addi arg0 c1_i32_39
  let c2_i32_40 : BitVec 32 := 2#32
  let v54 : BitVec 32 := Scalar.remsi v53 c2_i32_40
  let c0_i32_51 : BitVec 32 := 0#32
  let c0_i32_52 : BitVec 32 := 0#32
  ![v54.toNat, 0, 0]
def k0_off18 (i : grid0.Coords) : Fin 3 → Nat :=
  let arg0 : BitVec 32 := BitVec.ofNat 32 (i 0).val
  let c1_i32_39 : BitVec 32 := 1#32
  let v53 : BitVec 32 := Scalar.addi arg0 c1_i32_39
  let c4_i32_50 : BitVec 32 := 4#32
  let v67 : BitVec 32 := Scalar.remsi v53 c4_i32_50
  let c0_i32_53 : BitVec 32 := 0#32
  let c0_i32_54 : BitVec 32 := 0#32
  ![v67.toNat, 0, 0]
def k0_cond10 (i : grid0.Coords) : BitVec 1 :=
  let arg0 : BitVec 32 := BitVec.ofNat 32 (i 0).val
  let c4_i32 : BitVec 32 := 4#32
  let v11 : BitVec 32 := Scalar.divsi arg0 c4_i32
  let c0_i32_8 : BitVec 32 := 0#32
  let v12 : BitVec 1 := Scalar.cmpi .eq v11 c0_i32_8
  let v13 : BitVec 32 := Scalar.extui v12
  let c0_i32_9 : BitVec 32 := 0#32
  let v14 : BitVec 1 := Scalar.cmpi .ne v13 c0_i32_9
  v14

def k0_off19 (i : grid0.Coords) : Fin 1 → Nat :=
  let arg0 : BitVec 32 := BitVec.ofNat 32 (i 0).val
  let c2_i32 : BitVec 32 := 2#32
  let v10 : BitVec 32 := Scalar.remsi arg0 c2_i32
  ![v10.toNat]
def k0_off20 (i : grid0.Coords) : Fin 3 → Nat :=
  let arg0 : BitVec 32 := BitVec.ofNat 32 (i 0).val
  let c2_i32 : BitVec 32 := 2#32
  let v10 : BitVec 32 := Scalar.remsi arg0 c2_i32
  let c0_i32_40 : BitVec 32 := 0#32
  let c0_i32_41 : BitVec 32 := 0#32
  ![v10.toNat, 0, 0]
def k0_off21 (i : grid0.Coords) : Fin 3 → Nat :=
  let arg0 : BitVec 32 := BitVec.ofNat 32 (i 0).val
  let c4_i32_39 : BitVec 32 := 4#32
  let v53 : BitVec 32 := Scalar.remsi arg0 c4_i32_39
  let c0_i32_42 : BitVec 32 := 0#32
  let c0_i32_43 : BitVec 32 := 0#32
  ![v53.toNat, 0, 0]
def k0_cond11 (i : grid0.Coords) : BitVec 1 :=
  let arg0 : BitVec 32 := BitVec.ofNat 32 (i 0).val
  let c4_i32_10 : BitVec 32 := 4#32
  let v15 : BitVec 32 := Scalar.divsi arg0 c4_i32_10
  let c1_i32_11 : BitVec 32 := 1#32
  let v16 : BitVec 1 := Scalar.cmpi .eq v15 c1_i32_11
  let v17 : BitVec 32 := Scalar.extui v16
  let c0_i32_12 : BitVec 32 := 0#32
  let v18 : BitVec 1 := Scalar.cmpi .ne v17 c0_i32_12
  v18

def k0_off22 (i : grid0.Coords) : Fin 1 → Nat :=
  let arg0 : BitVec 32 := BitVec.ofNat 32 (i 0).val
  let c2_i32 : BitVec 32 := 2#32
  let v10 : BitVec 32 := Scalar.remsi arg0 c2_i32
  ![v10.toNat]
def k0_off23 (i : grid0.Coords) : Fin 3 → Nat :=
  let arg0 : BitVec 32 := BitVec.ofNat 32 (i 0).val
  let c2_i32 : BitVec 32 := 2#32
  let v10 : BitVec 32 := Scalar.remsi arg0 c2_i32
  let c0_i32_40 : BitVec 32 := 0#32
  let c0_i32_41 : BitVec 32 := 0#32
  ![v10.toNat, 0, 0]
def k0_off24 (i : grid0.Coords) : Fin 3 → Nat :=
  let arg0 : BitVec 32 := BitVec.ofNat 32 (i 0).val
  let c4_i32_39 : BitVec 32 := 4#32
  let v53 : BitVec 32 := Scalar.remsi arg0 c4_i32_39
  let c0_i32_42 : BitVec 32 := 0#32
  let c0_i32_43 : BitVec 32 := 0#32
  ![v53.toNat, 0, 0]
def k0_cond12 (i : grid0.Coords) : BitVec 1 :=
  let arg0 : BitVec 32 := BitVec.ofNat 32 (i 0).val
  let c4_i32_13 : BitVec 32 := 4#32
  let v19 : BitVec 32 := Scalar.divsi arg0 c4_i32_13
  let c2_i32_14 : BitVec 32 := 2#32
  let v20 : BitVec 1 := Scalar.cmpi .eq v19 c2_i32_14
  let v21 : BitVec 32 := Scalar.extui v20
  let c0_i32_15 : BitVec 32 := 0#32
  let v22 : BitVec 1 := Scalar.cmpi .ne v21 c0_i32_15
  v22

def k0_off25 (i : grid0.Coords) : Fin 1 → Nat :=
  let arg0 : BitVec 32 := BitVec.ofNat 32 (i 0).val
  let c2_i32 : BitVec 32 := 2#32
  let v10 : BitVec 32 := Scalar.remsi arg0 c2_i32
  ![v10.toNat]
def k0_off26 (i : grid0.Coords) : Fin 3 → Nat :=
  let arg0 : BitVec 32 := BitVec.ofNat 32 (i 0).val
  let c2_i32 : BitVec 32 := 2#32
  let v10 : BitVec 32 := Scalar.remsi arg0 c2_i32
  let c0_i32_40 : BitVec 32 := 0#32
  let c0_i32_41 : BitVec 32 := 0#32
  ![v10.toNat, 0, 0]
def k0_off27 (i : grid0.Coords) : Fin 3 → Nat :=
  let arg0 : BitVec 32 := BitVec.ofNat 32 (i 0).val
  let c4_i32_39 : BitVec 32 := 4#32
  let v53 : BitVec 32 := Scalar.remsi arg0 c4_i32_39
  let c0_i32_42 : BitVec 32 := 0#32
  let c0_i32_43 : BitVec 32 := 0#32
  ![v53.toNat, 0, 0]
def k0_off28 (i : grid0.Coords) : Fin 3 → Nat :=
  let arg0 : BitVec 32 := BitVec.ofNat 32 (i 0).val
  let c2_i32_26 : BitVec 32 := 2#32
  let v32 : BitVec 32 := Scalar.remsi arg0 c2_i32_26
  let v33 : Index := Scalar.indexCast v32
  let c0 : Index := 0#32
  let c0_27 : Index := 0#32
  ![v33.toNat, 0, 0]
def k0_off29 (i : grid0.Coords) : Fin 3 → Nat :=
  let c0_i32_25 : BitVec 32 := 0#32
  let arg0 : BitVec 32 := BitVec.ofNat 32 (i 0).val
  let c4_i32_24 : BitVec 32 := 4#32
  let v29 : BitVec 1 := Scalar.cmpi .sge arg0 c4_i32_24
  let v30 : BitVec 32 := Scalar.extui v29
  let v31 : BitVec 32 := Scalar.addi c0_i32_25 v30
  let v36 : Index := Scalar.indexCast v31
  let c0_28 : Index := 0#32
  let c0_29 : Index := 0#32
  ![v36.toNat, 0, 0]
def k0_cond15 (i : grid0.Coords) : BitVec 1 :=
  let arg0 : BitVec 32 := BitVec.ofNat 32 (i 0).val
  let c4_i32_30 : BitVec 32 := 4#32
  let v41 : BitVec 32 := Scalar.divsi arg0 c4_i32_30
  let c0_i32_31 : BitVec 32 := 0#32
  let v42 : BitVec 1 := Scalar.cmpi .eq v41 c0_i32_31
  let v43 : BitVec 32 := Scalar.extui v42
  let c0_i32_32 : BitVec 32 := 0#32
  let v44 : BitVec 1 := Scalar.cmpi .ne v43 c0_i32_32
  v44

def k0_cond16 (i : grid0.Coords) : BitVec 1 :=
  let arg0 : BitVec 32 := BitVec.ofNat 32 (i 0).val
  let c4_i32_33 : BitVec 32 := 4#32
  let v45 : BitVec 32 := Scalar.divsi arg0 c4_i32_33
  let c1_i32_34 : BitVec 32 := 1#32
  let v46 : BitVec 1 := Scalar.cmpi .eq v45 c1_i32_34
  let v47 : BitVec 32 := Scalar.extui v46
  let c0_i32_35 : BitVec 32 := 0#32
  let v48 : BitVec 1 := Scalar.cmpi .ne v47 c0_i32_35
  v48

def k0_cond17 (i : grid0.Coords) : BitVec 1 :=
  let arg0 : BitVec 32 := BitVec.ofNat 32 (i 0).val
  let c4_i32_36 : BitVec 32 := 4#32
  let v49 : BitVec 32 := Scalar.divsi arg0 c4_i32_36
  let c2_i32_37 : BitVec 32 := 2#32
  let v50 : BitVec 1 := Scalar.cmpi .eq v49 c2_i32_37
  let v51 : BitVec 32 := Scalar.extui v50
  let c0_i32_38 : BitVec 32 := 0#32
  let v52 : BitVec 1 := Scalar.cmpi .ne v51 c0_i32_38
  v52

def cc0_transform_5 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![v2.toNat, c0_i32_1.toNat, c0_i32_2.toNat]

def cc0_transform_6 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![v2.toNat, c0_i32_0.toNat, c0_i32_1.toNat]

def cc0_transform_7 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![v2.toNat, c0_i32_0.toNat, c0_i32_1.toNat]

abbrev stage0_0 : Fin 2 → Memref sig .tc .vmem S1x704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwMlpRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S4x704x1024 : Shape := ⟨3, ![4, 704, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S1024x2816, .f32⟩
  | .hbm, ⟨37, _⟩ => ⟨S4096x2816, .f32⟩
  | .hbm, ⟨38, _⟩ => ⟨S4096x2816, .f32⟩
  | .hbm, ⟨39, _⟩ => ⟨S2816x1024, .f32⟩
  | .hbm, ⟨40, _⟩ => ⟨S4096x1024, .f32⟩
  | .hbm, ⟨41, _⟩ => ⟨S1024x2816, .f32⟩
  | .hbm, ⟨42, _⟩ => ⟨S2816x1024, .f32⟩
  | .hbm, ⟨43, _⟩ => ⟨S4096x2816, .f32⟩
  | .hbm, ⟨44, _⟩ => ⟨S1x2816x1024, .f32⟩
  | .hbm, ⟨45, _⟩ => ⟨S4096x2816, .f32⟩
  | .hbm, ⟨46, _⟩ => ⟨S4096x2816, .f32⟩
  | .hbm, ⟨47, _⟩ => ⟨S2816x1024, .f32⟩
  | .hbm, ⟨48, _⟩ => ⟨S1024x2816, .f32⟩
  | .hbm, ⟨49, _⟩ => ⟨S1x1024x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S2816x1024, .f32⟩
  | .hbm, ⟨55, _⟩ => ⟨S1024x2816, .f32⟩
  | .hbm, ⟨56, _⟩ => ⟨S1x1024x2816, .f32⟩
  | .hbm, ⟨57, _⟩ => ⟨S2816x1024, .f32⟩
  | .hbm, ⟨58, _⟩ => ⟨S2816x1024, .bf16⟩
  | .hbm, ⟨59, _⟩ => ⟨S4x704x1024, .bf16⟩
  | .hbm, ⟨60, _⟩ => ⟨S1024x2816, .f32⟩
  | .hbm, ⟨61, _⟩ => ⟨S2816x1024, .f32⟩
  | .hbm, ⟨62, _⟩ => ⟨S2816x1024, .bf16⟩
  | .hbm, ⟨63, _⟩ => ⟨S4x704x1024, .bf16⟩
  | .hbm, ⟨64, _⟩ => ⟨S1024x2816, .f32⟩
  | .hbm, ⟨65, _⟩ => ⟨S2816x1024, .f32⟩
  | .hbm, ⟨66, _⟩ => ⟨S2816x1024, .bf16⟩
  | .hbm, ⟨67, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== OutprojBwd.lean ====
abbrev S4096x512 : Shape := ⟨2, ![4096, 512]⟩
abbrev S1x1024x1024 : Shape := ⟨3, ![1, 1024, 1024]⟩
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x1024x1024, .f32⟩
  | .hbm, ⟨3, _⟩ => ⟨S4096x1024, .f32⟩
  | .hbm, ⟨4, _⟩ => ⟨S4096x1024, .bf16⟩
  | .hbm, ⟨5, _⟩ => ⟨S1024x1024, .f32⟩
  | .hbm, ⟨6, _⟩ => ⟨S1024x1024, .bf16⟩
  | .hbm, ⟨7, _⟩ => ⟨S4096x512, .bf16⟩
  | .hbm, ⟨8, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutprojBwdRefIdeal.lean ====
abbrev S4096x512 : Shape := ⟨2, ![4096, 512]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x1024x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DwOut.lean ====
abbrev S4096x512 : Shape := ⟨2, ![4096, 512]⟩
abbrev S1x1024x1024 : Shape := ⟨3, ![1, 1024, 1024]⟩
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x1024x1024, .f32⟩
  | .hbm, ⟨3, _⟩ => ⟨S4096x1024, .f32⟩
  | .hbm, ⟨4, _⟩ => ⟨S4096x512, .bf16⟩
  | .hbm, ⟨5, _⟩ => ⟨S4096x512, .bf16⟩
  | .hbm, ⟨6, _⟩ => ⟨S4096x1024, .bf16⟩
  | .hbm, ⟨7, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c1_i32 : BitVec 32 := 1#32
  let v11 : BitVec 1 := Scalar.cmpi .eq arg0 c1_i32
  let v12 : BitVec 32 := Scalar.extui v11
  let c0_i32_6 : BitVec 32 := 0#32
  let v13 : BitVec 1 := Scalar.cmpi .ne v12 c0_i32_6
  v13

def k0_cond6 (i : grid0.Coords) : BitVec 1 :=
  let arg0 : BitVec 32 := BitVec.ofNat 32 (i 0).val
  let c1_i32_14 : BitVec 32 := 1#32
  let v23 : BitVec 1 := Scalar.cmpi .eq arg0 c1_i32_14
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DwOutRefIdeal.lean ====
abbrev S4096x512 : Shape := ⟨2, ![4096, 512]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x1024x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1024x1024, .f32⟩
  | .hbm, ⟨11, _⟩ => ⟨S1024x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.MlpBwdTile.lean ====
module
public import proofs.«01_k».proof.Proof.Gen.MlpBwdIdeal.Frame
public import Idealize.ShloMosaic.Lib.Pipeline.ValueKit
public import Idealize.ShloMosaic.Lib.Pointwise
/-!
# The tiles of the MLP's backward kernel

What the kernel's body leaves, at one grid point, in the tiles of the two branch gradients: three column
chunks per tile, each a product with the shard's rows of the down projection times a factor.
-/

@[expose] public section
set_option maxRecDepth 16384
noncomputable section
open Idealize.ShloMosaic Idealize.ShloMosaic.TcCoe Idealize.SL.Sem
open Idealize.ShloMosaic.Pipeline (Dat)
open scoped BigOperators
namespace Cert.MlpBwdIdeal.Own
open Cert.MlpBwdIdeal Cert.MlpBwdIdeal.Gen
variable (m : (ℓ : Loc nD τ sig) → Buf (Elt Ideal) ℓ)

/-- Every window's block index at every grid point (row block `t / 4`, feature shard `t % 4`). -/
theorem idx : ∀ t : Fin cfg0.N, win0_0.index t = ![t.val / 4, 0]
    ∧ win0_1.index t = ![t.val / 4, 0]
    ∧ win0_2.index t = ![t.val % 4, t.val / 4, 0]
    ∧ win0_3.index t = ![t.val % 4, t.val / 4, 0]
    ∧ win0_4.index t = ![0, 0, 0]
    ∧ win0_5.index t = ![0, 0, 0]
    ∧ win0_6.index t = ![0, 0, 0]
    ∧ win0_7.index t = ![t.val / 4, 0]
    ∧ win0_8.index t = ![0, 0]
    ∧ win0_9.index t = ![t.val % 4, t.val / 4, 0]
    ∧ win0_10.index t = ![t.val % 4, t.val / 4, 0]
    ∧ win0_11.index t = ![t.val / 4, 0]
    ∧ win0_12.index t = ![t.val / 4, 0]
    ∧ win0_13.index t = ![0, 0]
    ∧ t.val / 4 < 8 :=
  (by decide +kernel : ∀ t : Fin grid0.N, _)

/-- Where the body's weight loads start: at the shard's own slab, at the chunk's first row. -/
theorem offs : ∀ t : Fin cfg0.N, k0_off1 (grid0.coords t) = ![t.val % 4, 0, 0]
    ∧ k0_off2 (grid0.coords t) = ![t.val % 4, 256, 0]
    ∧ k0_off3 (grid0.coords t) = ![t.val % 4, 512, 0]
    ∧ k0_off4 (grid0.coords t) = ![t.val % 4, 0, 0] :=
  (by decide +kernel : ∀ t : Fin grid0.N, _)

/-- The product of a row of the output's gradient with a row of a sharded down projection, times an
    elementwise factor: the gradient of one of the two gate branches. -/
def branch (X : FVec Ideal S4096x1024 .bf16) (W : FVec Ideal S4x704x1024 .bf16) (U : FVec Ideal S4x4096x704 .bf16) :
    FVec Ideal S4x4096x704 .bf16 :=
  fun i => (∑ k : Fin 1024, X (ix2 (i 1) k) * W (ix3 (i 0) (i 2) k)) * U i

/-- The three column chunks (256, 256 and 192 wide) of a 704-column tile cover it. -/
theorem cover (w2 : Vec Ideal S1x512x192 .bf16) (w1 w0 : Vec Ideal S1x512x256 .bf16) (y : S1x512x704.Idx) :
    ∃ p ∈ ([⟨Rect.unit ![0, 0, 512] ![1, 512, 192] inb_S1x512x704_S1x512x192_0_0_512, w2⟩,
      ⟨Rect.unit ![0, 0, 256] ![1, 512, 256] inb_S1x512x704_S1x512x256_0_0_256, w1⟩,
      ⟨Rect.unit ![0, 0, 0] ![1, 512, 256] inb_S1x512x704_S1x512x256_0_0_0, w0⟩] : List (View.Piece (Elt Ideal) S1x512x704 .bf16)),
      y ∈ p.1.set := by
  idx_bounds y
  have key (o n : ℕ) (inb : ∀ a, (![0, 0, o] : Fin 3 → ℕ) a + (![1, 512, n] : Fin 3 → ℕ) a ≤ S1x512x704.size a)
      (h : o ≤ (y 2 : ℕ)) (h' : (y 2 : ℕ) < o + n) : y ∈ (Rect.unit (s := S1x512x704) ![0, 0, o] ![1, 512, n] inb).set := by
    rw [Rect.mem_set_unit]
    intro a
    match a with
    | ⟨0, _⟩ => exact ⟨Nat.zero_le _, (by omega : (y 0 : ℕ) < 0 + 1)⟩
    | ⟨1, _⟩ => exact ⟨Nat.zero_le _, (by omega : (y 1 : ℕ) < 0 + 512)⟩
    | ⟨2, _⟩ => exact ⟨h, h'⟩
  by_cases h1 : (y 2 : ℕ) < 256
  · exact ⟨_, .tail _ (.tail _ (.head _)), key 0 256 inb_S1x512x704_S1x512x256_0_0_0 (Nat.zero_le _) (by omega)⟩
  · by_cases h2 : (y 2 : ℕ) < 512
    · exact ⟨_, .tail _ (.head _), key 256 256 inb_S1x512x704_S1x512x256_0_0_256 (by omega) (by omega)⟩
    · exact ⟨_, .head _, key 512 192 inb_S1x512x704_S1x512x192_0_0_512 (by omega) (by omega)⟩

/-- What the three chunk stores of the first branch leave in a tile: the product with the shard's slab of the down
    projection, times the factor. -/
theorem tile9 (B : Vec Ideal S512x1024 .bf16) (W : Vec Ideal S4x704x1024 .bf16) (U : Vec Ideal S1x512x704 .bf16) (s : Fin 4)
    (o1 o2 o3 : Fin 3 → ℕ) (e1 : o1 = ![s.val, 0, 0]) (e2 : o2 = ![s.val, 256, 0]) (e3 : o3 = ![s.val, 512, 0]) (i1) (i2) (i3)
    (y : S1x512x704.Idx) :
    View.canon (Val := Elt Ideal) (s := S1x512x704) (e := .bf16)
      [⟨Rect.unit ![0, 0, 512] ![1, 512, 192] inb_S1x512x704_S1x512x192_0_0_512,
        k0_pay20 (k0_pay14 B (View.ld (S := S4x704x1024) W (Rect.unit o3 ![1, 192, 1024] i3)))
          (View.ld U (Rect.unit ![0, 0, 512] ![1, 512, 192] inb_S1x512x704_S1x512x192_0_0_512))⟩,
      ⟨Rect.unit ![0, 0, 256] ![1, 512, 256] inb_S1x512x704_S1x512x256_0_0_256,
        k0_pay18 (k0_pay13 B (View.ld (S := S4x704x1024) W (Rect.unit o2 ![1, 256, 1024] i2)))
          (View.ld U (Rect.unit ![0, 0, 256] ![1, 512, 256] inb_S1x512x704_S1x512x256_0_0_256))⟩,
      ⟨Rect.unit ![0, 0, 0] ![1, 512, 256] inb_S1x512x704_S1x512x256_0_0_0,
        k0_pay15 B (View.ld (S := S4x704x1024) W (Rect.unit o1 ![1, 256, 1024] i1))
          (View.ld U (Rect.unit ![0, 0, 0] ![1, 512, 256] inb_S1x512x704_S1x512x256_0_0_0))⟩] y
      = (∑ k : Fin 1024, B (ix2 (y 1) k) * W (ix3 s (y 2) k)) * U y := by
  subst e1 e2 e3
  canon_tiles x h using cover _ _ _ _
  all_goals
    open_payloads
    pointwise
    blk_point

/-- The same of the second branch. -/
theorem tile10 (B : Vec Ideal S512x1024 .bf16) (W : Vec Ideal S4x704x1024 .bf16) (U : Vec Ideal S1x512x704 .bf16) (s : Fin 4)
    (o1 o2 o3 : Fin 3 → ℕ) (e1 : o1 = ![s.val, 0, 0]) (e2 : o2 = ![s.val, 256, 0]) (e3 : o3 = ![s.val, 512, 0]) (i1) (i2) (i3)
    (y : S1x512x704.Idx) :
    View.canon (Val := Elt Ideal) (s := S1x512x704) (e := .bf16)
      [⟨Rect.unit ![0, 0, 512] ![1, 512, 192] inb_S1x512x704_S1x512x192_0_0_512,
        k0_pay1 (k0_pay21 (k0_pay14 B (View.ld (S := S4x704x1024) W (Rect.unit o3 ![1, 192, 1024] i3)))
          (View.ld U (Rect.unit ![0, 0, 512] ![1, 512, 192] inb_S1x512x704_S1x512x192_0_0_512)))⟩,
      ⟨Rect.unit ![0, 0, 256] ![1, 512, 256] inb_S1x512x704_S1x512x256_0_0_256,
        k0_pay19 (k0_pay13 B (View.ld (S := S4x704x1024) W (Rect.unit o2 ![1, 256, 1024] i2)))
          (View.ld U (Rect.unit ![0, 0, 256] ![1, 512, 256] inb_S1x512x704_S1x512x256_0_0_256))⟩,
      ⟨Rect.unit ![0, 0, 0] ![1, 512, 256] inb_S1x512x704_S1x512x256_0_0_0,
        k0_pay17 (k0_pay16 B (View.ld (S := S4x704x1024) W (Rect.unit o1 ![1, 256, 1024] i1))
          (View.ld U (Rect.unit ![0, 0, 0] ![1, 512, 256] inb_S1x512x704_S1x512x256_0_0_0)))⟩] y
      = (∑ k : Fin 1024, B (ix2 (y 1) k) * W (ix3 s (y 2) k)) * U y := by
  subst e1 e2 e3
  canon_tiles x h using cover _ _ _ _
  all_goals
    open_payloads
    pointwise
    blk_point

end Cert.MlpBwdIdeal.Own
-- ==== Proof.MlpBwdPoint.lean ====
module
public import proofs.«01_k».proof.Proof.MlpBwdTile

/-!
# The MLP's backward kernel, point by point

The grid has 8 row blocks, each walked over 4 feature shards. Every point writes its own tile of the two
branch gradients; the gradient of the norm's output is summed over a row block's four points in scratch.
-/

@[expose] public section
set_option maxRecDepth 16384
noncomputable section
open Idealize.ShloMosaic Idealize.ShloMosaic.TcCoe Idealize.SL.Sem
open Idealize.ShloMosaic.Pipeline (Dat)
open scoped BigOperators
namespace Cert.MlpBwdIdeal.Own
open Cert.MlpBwdIdeal Cert.MlpBwdIdeal.Gen
variable (m : (ℓ : Loc nD τ sig) → Buf (Elt Ideal) ℓ)

/-- A load of a whole buffer reads what the stores before it left there. -/
theorem readCov_whole {Val : EltTy → Type} [∀ e, Nonempty (Val e)] {sg : RefSig} {κ : Kind} {sp : Space} {S : Shape} {e : EltTy}
    (v : View sg κ sp S e) (L : List (View.Piece Val S e)) {off : Fin S.rank → ℕ} (inb : ∀ a, off a + S.size a ≤ S.size a)
    (h : ∀ a, off a = 0) : v.readCov L (Rect.unit off S.size inb).toLoadRect = View.canon L := by
  unfold View.readCov
  rw [View.readAt_eq_ld, View.read_writes_junk_eq_canon, View.ld_unit_lit inb _ h]

/-- Every grid point is in one of the body's four control cases. -/
theorem cases (t : ℕ) : (t % 32 = 0 ∧ t % 4 = 0 ∧ ¬1 ≤ t % 4 ∧ ¬t % 4 = 3) ∨ (¬t % 32 = 0 ∧ ¬t % 4 = 0 ∧ 1 ≤ t % 4 ∧ ¬t % 4 = 3)
    ∨ (¬t % 32 = 0 ∧ ¬t % 4 = 0 ∧ 1 ≤ t % 4 ∧ t % 4 = 3) ∨ (¬t % 32 = 0 ∧ t % 4 = 0 ∧ ¬1 ≤ t % 4 ∧ ¬t % 4 = 3) := by
  omega

theorem lt4 (t : ℕ) : t % 4 < 4 := Nat.mod_lt _ (by decide)

/-- The input blocks of a grid point, at their shapes. -/
abbrev b0 (c : Dev nD) (t : Fin cfg0.N) : FVec Ideal S512x1024 .bf16 := iblk m c 0 t
abbrev b1 (c : Dev nD) (t : Fin cfg0.N) : FVec Ideal S512x1024 .f32 := iblk m c 1 t
abbrev b2 (c : Dev nD) (t : Fin cfg0.N) : FVec Ideal S1x512x704 .bf16 := iblk m c 2 t
abbrev b3 (c : Dev nD) (t : Fin cfg0.N) : FVec Ideal S1x512x704 .bf16 := iblk m c 3 t
abbrev b4 (c : Dev nD) (t : Fin cfg0.N) : FVec Ideal S4x704x1024 .bf16 := iblk m c 4 t
abbrev b5 (c : Dev nD) (t : Fin cfg0.N) : FVec Ideal S4x704x1024 .bf16 := iblk m c 5 t
abbrev b6 (c : Dev nD) (t : Fin cfg0.N) : FVec Ideal S4x704x1024 .bf16 := iblk m c 6 t
abbrev b7 (c : Dev nD) (t : Fin cfg0.N) : FVec Ideal S512x1024 .f32 := iblk m c 7 t
abbrev b8 (c : Dev nD) (t : Fin cfg0.N) : FVec Ideal S1x1024 .f32 := iblk m c 8 t

/-! Each block, read off its array. -/

theorem b0_at (c : Dev nD) (t : Fin cfg0.N) (y : S512x1024.Idx) (i : S4096x1024.Idx) (e0 : (i 0 : ℕ) = t.val / 4 * 512 + y 0)
    (e1 : (i 1 : ℕ) = y 1) : b0 m c t y = V m c main_v30 i := by
  unfold b0; blk_ext [iblk, (idx t).1]
theorem b1_at (c : Dev nD) (t : Fin cfg0.N) (y : S512x1024.Idx) (i : S4096x1024.Idx) (e0 : (i 0 : ℕ) = t.val / 4 * 512 + y 0)
    (e1 : (i 1 : ℕ) = y 1) : b1 m c t y = V m c main_arg5 i := by
  unfold b1; blk_ext [iblk, (idx t).2.1]
theorem b2_at (c : Dev nD) (t : Fin cfg0.N) (y : S1x512x704.Idx) (i : S4x4096x704.Idx) (e0 : (i 0 : ℕ) = t.val % 4)
    (e1 : (i 1 : ℕ) = t.val / 4 * 512 + y 1) (e2 : (i 2 : ℕ) = y 2) : b2 m c t y = V m c main_v33 i := by
  unfold b2; blk_ext [iblk, (idx t).2.2.1]
theorem b3_at (c : Dev nD) (t : Fin cfg0.N) (y : S1x512x704.Idx) (i : S4x4096x704.Idx) (e0 : (i 0 : ℕ) = t.val % 4)
    (e1 : (i 1 : ℕ) = t.val / 4 * 512 + y 1) (e2 : (i 2 : ℕ) = y 2) : b3 m c t y = V m c main_v36 i := by
  unfold b3; blk_ext [iblk, (idx t).2.2.2.1]
theorem b4_at (c : Dev nD) (t : Fin cfg0.N) (y : S4x704x1024.Idx) : b4 m c t y = V m c main_v40 y := by
  unfold b4; blk_ext [iblk, (idx t).2.2.2.2.1]
theorem b5_at (c : Dev nD) (t : Fin cfg0.N) (y : S4x704x1024.Idx) : b5 m c t y = V m c main_v44 y := by
  unfold b5; blk_ext [iblk, (idx t).2.2.2.2.2.1]
theorem b6_at (c : Dev nD) (t : Fin cfg0.N) (y : S4x704x1024.Idx) : b6 m c t y = V m c main_v47 y := by
  unfold b6; blk_ext [iblk, (idx t).2.2.2.2.2.2.1]
theorem b7_at (c : Dev nD) (t : Fin cfg0.N) (y : S512x1024.Idx) (i : S4096x1024.Idx) (e0 : (i 0 : ℕ) = t.val / 4 * 512 + y 0)
    (e1 : (i 1 : ℕ) = y 1) : b7 m c t y = V m c main_arg0 i := by
  unfold b7; blk_ext [iblk, (idx t).2.2.2.2.2.2.2.1]
theorem b8_at (c : Dev nD) (t : Fin cfg0.N) (y : S1x1024.Idx) : b8 m c t y = V m c main_arg1 y := by
  unfold b8; blk_ext [iblk, (idx t).2.2.2.2.2.2.2.2.1]

theorem blk9 (c : Dev nD) (t : Fin cfg0.N) (y : S1x512x704.Idx) (i : S4x4096x704.Idx) (e0 : (i 0 : ℕ) = t.val % 4)
    (e1 : (i 1 : ℕ) = t.val / 4 * 512 + y 1) (e2 : (i 2 : ℕ) = y 2) (X : FVec Ideal S1x512x704 .bf16) (A : FVec Ideal S4x4096x704 .bf16)
    (h : X y = A i) :
    (∑ k : Fin 1024, b0 m c t (ix2 (y 1) k) * b6 m c t (ix3 (⟨t.val % 4, lt4 t⟩ : Fin 4) (y 2) k)) * X y
      = branch (V m c main_v30) (V m c main_v47) A i := by
  unfold branch
  have e0' : i 0 = (⟨t.val % 4, lt4 t⟩ : Fin 4) := Fin.ext e0
  have e2' : i 2 = y 2 := Fin.ext e2
  rw [h, e0', e2']
  refine congrArg (· * A i) (Finset.sum_congr rfl fun k _ => ?_)
  rw [b0_at m c t (ix2 (y 1) k) (ix2 (i 1) k) e1 rfl, b6_at]

/-- The tile of the gate's gradient after the body. -/
theorem out9 (c : Dev nD) (t : Fin cfg0.N) (y : S1x512x704.Idx) (i : S4x4096x704.Idx) (e0 : (i 0 : ℕ) = t.val % 4)
    (e1 : (i 1 : ℕ) = t.val / 4 * 512 + y 1) (e2 : (i 2 : ℕ) = y 2) :
    (outsAt0 m c t.val t.isLt).1 y = branch (V m c main_v30) (V m c main_v47) (V m c main_v33) i := by
  obtain ⟨o1, o2, o3, o4⟩ := offs t
  rcases cases t.val with ⟨h0, h1, h2, h3⟩ | ⟨h0, h1, h2, h3⟩ | ⟨h0, h1, h2, h3⟩ | ⟨h0, h1, h2, h3⟩
  · rw [outsAt0_A m c t h0 h1 h2 h3]; frame_out
    exact (tile9 _ _ _ ⟨t.val % 4, lt4 t⟩ _ _ _ o1 o2 o3 _ _ _ y).trans (blk9 m c t y i e0 e1 e2 _ _ (b2_at m c t y i e0 e1 e2))
  · rw [outsAt0_B m c t h0 h1 h2 h3]; frame_out
    exact (tile9 _ _ _ ⟨t.val % 4, lt4 t⟩ _ _ _ o1 o2 o3 _ _ _ y).trans (blk9 m c t y i e0 e1 e2 _ _ (b2_at m c t y i e0 e1 e2))
  · rw [outsAt0_C m c t h0 h1 h2 h3]; frame_out
    exact (tile9 _ _ _ ⟨t.val % 4, lt4 t⟩ _ _ _ o1 o2 o3 _ _ _ y).trans (blk9 m c t y i e0 e1 e2 _ _ (b2_at m c t y i e0 e1 e2))
  · rw [outsAt0_D m c t h0 h1 h2 h3]; frame_out
    exact (tile9 _ _ _ ⟨t.val % 4, lt4 t⟩ _ _ _ o1 o2 o3 _ _ _ y).trans (blk9 m c t y i e0 e1 e2 _ _ (b2_at m c t y i e0 e1 e2))

/-- The tile of the up projection's gradient after the body. -/
theorem out10 (c : Dev nD) (t : Fin cfg0.N) (y : S1x512x704.Idx) (i : S4x4096x704.Idx) (e0 : (i 0 : ℕ) = t.val % 4)
    (e1 : (i 1 : ℕ) = t.val / 4 * 512 + y 1) (e2 : (i 2 : ℕ) = y 2) :
    (outsAt0 m c t.val t.isLt).2.1 y = branch (V m c main_v30) (V m c main_v47) (V m c main_v36) i := by
  obtain ⟨o1, o2, o3, o4⟩ := offs t
  rcases cases t.val with ⟨h0, h1, h2, h3⟩ | ⟨h0, h1, h2, h3⟩ | ⟨h0, h1, h2, h3⟩ | ⟨h0, h1, h2, h3⟩
  · rw [outsAt0_A m c t h0 h1 h2 h3]; frame_out
    exact (tile10 _ _ _ ⟨t.val % 4, lt4 t⟩ _ _ _ o1 o2 o3 _ _ _ y).trans (blk9 m c t y i e0 e1 e2 _ _ (b3_at m c t y i e0 e1 e2))
  · rw [outsAt0_B m c t h0 h1 h2 h3]; frame_out
    exact (tile10 _ _ _ ⟨t.val % 4, lt4 t⟩ _ _ _ o1 o2 o3 _ _ _ y).trans (blk9 m c t y i e0 e1 e2 _ _ (b3_at m c t y i e0 e1 e2))
  · rw [outsAt0_C m c t h0 h1 h2 h3]; frame_out
    exact (tile10 _ _ _ ⟨t.val % 4, lt4 t⟩ _ _ _ o1 o2 o3 _ _ _ y).trans (blk9 m c t y i e0 e1 e2 _ _ (b3_at m c t y i e0 e1 e2))
  · rw [outsAt0_D m c t h0 h1 h2 h3]; frame_out
    exact (tile10 _ _ _ ⟨t.val % 4, lt4 t⟩ _ _ _ o1 o2 o3 _ _ _ y).trans (blk9 m c t y i e0 e1 e2 _ _ (b3_at m c t y i e0 e1 e2))

/-- The part a shard adds to the gradient of the norm's output, from the two tiles of branch gradients. -/
theorem part_at (g u : Vec Ideal S1x512x704 .bf16) (Wg Wu : Vec Ideal S4x704x1024 .bf16) (s : Fin 4) (o : Fin 3 → ℕ)
    (e : o = ![s.val, 0, 0]) (i1) (i2) (j : S512x1024.Idx) :
    k0_pay2 (F := Ideal) g (View.ld (S := S4x704x1024) Wg (Rect.unit o ![1, 704, 1024] i1)) u
        (View.ld (S := S4x704x1024) Wu (Rect.unit o ![1, 704, 1024] i2)) j
      = ∑ f : Fin 704, g (ix3 0 (j 0) f) * Wg (ix3 s f (j 1)) + ∑ f : Fin 704, u (ix3 0 (j 0) f) * Wu (ix3 s f (j 1)) := by
  subst e
  pointwise [k0_pay2]

/-- The two branch tiles, and the scratch, after point `t`. -/
abbrev a9 (c : Dev nD) (t : Fin cfg0.N) : FVec Ideal S1x512x704 .bf16 := (outsAt0 m c t.val t.isLt).1
abbrev a10 (c : Dev nD) (t : Fin cfg0.N) : FVec Ideal S1x512x704 .bf16 := (outsAt0 m c t.val t.isLt).2.1

/-- The part of the gradient of the norm's output that point `t` adds. -/
def part (c : Dev nD) (t : Fin cfg0.N) (j : S512x1024.Idx) : EReal :=
  ∑ f : Fin 704, a9 m c t (ix3 0 (j 0) f)
      * b4 m c t (ix3 (⟨t.val % 4, lt4 t⟩ : Fin 4) f (j 1))
    + ∑ f : Fin 704, a10 m c t (ix3 0 (j 0) f)
      * b5 m c t (ix3 (⟨t.val % 4, lt4 t⟩ : Fin 4) f (j 1))

theorem pay3_at (a b d e) (j : S512x1024.Idx) : k0_pay3 (F := Ideal) a b d e j = k0_pay2 (F := Ideal) a b d e j := by
  pointwise [k0_pay3]

theorem pay4_at (a b d e x) (j : S512x1024.Idx) : k0_pay4 (F := Ideal) a b d e x j = x j + k0_pay2 (F := Ideal) a b d e j := by
  pointwise [k0_pay4]

/-- At a row block's first point the scratch holds that point's part; -/
theorem acc_first (c : Dev nD) (t : Fin cfg0.N) (h : t.val % 4 = 0) (j : S512x1024.Idx) :
    (outsAt0 m c t.val t.isLt).2.2.2.2.2 j = 0 + part m c t j := by
  obtain ⟨o1, o2, o3, o4⟩ := offs t
  unfold part a9 a10
  rcases cases t.val with ⟨h0, h1, h2, h3⟩ | ⟨h0, h1, h2, h3⟩ | ⟨h0, h1, h2, h3⟩ | ⟨h0, h1, h2, h3⟩
  · rw [outsAt0_A m c t h0 h1 h2 h3]; frame_out
    rw [readCov_whole _ _ _ (by decide), readCov_whole _ _ _ (by decide), zero_add]
    exact (pay3_at _ _ _ _ j).trans (part_at _ _ _ _ ⟨t.val % 4, lt4 t⟩ _ o4 _ _ j)
  · exact absurd h h1
  · exact absurd h h1
  · rw [outsAt0_D m c t h0 h1 h2 h3]; frame_out
    rw [readCov_whole _ _ _ (by decide), readCov_whole _ _ _ (by decide), zero_add]
    exact (pay3_at _ _ _ _ j).trans (part_at _ _ _ _ ⟨t.val % 4, lt4 t⟩ _ o4 _ _ j)

/-- and at each later point what it held before plus that point's part. -/
theorem acc_next (c : Dev nD) (t : Fin cfg0.N) (h : ¬t.val % 4 = 0) (j : S512x1024.Idx) :
    (outsAt0 m c t.val t.isLt).2.2.2.2.2 j
      = (outsAt0 m c (t.val - 1) (Nat.lt_of_le_of_lt (Nat.sub_le _ _) t.isLt)).2.2.2.2.2 j + part m c t j := by
  obtain ⟨o1, o2, o3, o4⟩ := offs t
  unfold part a9 a10
  rcases cases t.val with ⟨h0, h1, h2, h3⟩ | ⟨h0, h1, h2, h3⟩ | ⟨h0, h1, h2, h3⟩ | ⟨h0, h1, h2, h3⟩
  · exact absurd h1 h
  · rw [outsAt0_B m c t h0 h1 h2 h3]; frame_out
    rw [readCov_whole _ _ _ (by decide), readCov_whole _ _ _ (by decide)]
    refine (pay4_at _ _ _ _ _ j).trans (congrArg₂ (· + ·) ?_ (part_at _ _ _ _ ⟨t.val % 4, lt4 t⟩ _ o4 _ _ j))
    exact congrFun (Memref.IsWhole.read_unread _ _) j
  · rw [outsAt0_C m c t h0 h1 h2 h3]; frame_out
    rw [readCov_whole _ _ _ (by decide), readCov_whole _ _ _ (by decide)]
    refine (pay4_at _ _ _ _ _ j).trans (congrArg₂ (· + ·) ?_ (part_at _ _ _ _ ⟨t.val % 4, lt4 t⟩ _ o4 _ _ j))
    exact congrFun (Memref.IsWhole.read_unread _ _) j
  · exact absurd h1 h
end Cert.MlpBwdIdeal.Own
-- ==== Proof.BlockMath.lean ====
module
public import Idealize.ShloMosaic.PureOps.Ideal
public import Idealize.ShloMosaic.PureOps.Ideal.Laws
public import Idealize.ShloMosaic.Lib.IdealHost

/-!
# The block's arithmetic on rows

The functions of rows that the kernels and their references compute, and the identities
between them that need the entries to be real numbers.
-/

@[expose] public section
noncomputable section
open Idealize.ShloMosaic
open scoped BigOperators
namespace Cert.BlockMath

/-! ## Real extended reals -/

/-- The extended real is a real number. -/
def IsR (a : EReal) : Prop := ∃ r : ℝ, a = r

theorem isR_of_bounds {a : EReal} (h₁ : a ≠ ⊤) (h₂ : a ≠ ⊥) : IsR a := ⟨a.toReal, (EReal.coe_toReal h₁ h₂).symm⟩
theorem IsR.add {a b : EReal} : IsR a → IsR b → IsR (a + b) := fun ⟨x, hx⟩ ⟨y, hy⟩ => ⟨x + y, by rw [hx, hy, EReal.coe_add]⟩
theorem IsR.sub {a b : EReal} : IsR a → IsR b → IsR (a - b) := fun ⟨x, hx⟩ ⟨y, hy⟩ => ⟨x - y, by rw [hx, hy, EReal.coe_sub]⟩
theorem IsR.mul {a b : EReal} : IsR a → IsR b → IsR (a * b) := fun ⟨x, hx⟩ ⟨y, hy⟩ => ⟨x * y, by rw [hx, hy, EReal.coe_mul]⟩
theorem IsR.neg {a : EReal} : IsR a → IsR (-a) := fun ⟨x, hx⟩ => ⟨-x, by rw [hx, EReal.coe_neg]⟩
theorem isR_one : IsR 1 := ⟨1, rfl⟩
theorem coe_sum {n : ℕ} (f : Fin n → ℝ) : ((∑ k, f k : ℝ) : EReal) = ∑ k, (f k : EReal) := by
  induction n with
  | zero => rfl
  | succ n ih => rw [Fin.sum_univ_succ, Fin.sum_univ_succ, EReal.coe_add, ih]
theorem IsR.sum {n : ℕ} {f : Fin n → EReal} (h : ∀ k, IsR (f k)) : IsR (∑ k, f k) := by
  choose g hg using h
  exact ⟨∑ k, g k, by rw [coe_sum]; exact Finset.sum_congr rfl fun k _ => hg k⟩

/-! ## The constants -/

theorem ofBits_1024 : Ideal.ofBits .f32 0x44800000#32 = ((1024 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
/-- The norm's epsilon. -/
def eps : ℝ := 8796093 / 2 ^ 43
theorem eps_pos : 0 < eps := by unfold eps; positivity
theorem ofBits_eps : Ideal.ofBits .f32 0x358637BD#32 = (eps : EReal) := by
  unfold eps; simp [Ideal.ofBits, Ideal.ieee, -EReal.coe_mul]; norm_num

/-! ## The root-mean-square norm of a row -/

/-- A row's mean square, with epsilon. -/
def ms (x : Fin 1024 → EReal) : EReal :=
  Ideal.div (∑ k, x k * x k) (Ideal.ofBits .f32 0x44800000#32) + Ideal.ofBits .f32 0x358637BD#32

/-- A row's reciprocal root mean square. -/
def rs (x : Fin 1024 → EReal) : EReal := Ideal.rsqrt (ms x)

/-- The gradient of a row through the norm, from the gradient `z` of the normalised row. -/
def nb (x z : Fin 1024 → EReal) (d : Fin 1024) : EReal :=
  rs x * (z d - x d * rs x * Ideal.div (∑ k, z k * (x k * rs x)) (Ideal.ofBits .f32 0x44800000#32))

/-- The same gradient as the chain rule gives it, the derivative of the reciprocal root written `-1/2 · r/v`. -/
def nbChain (x z : Fin 1024 → EReal) (d : Fin 1024) : EReal :=
  let w := Ideal.div ((∑ k, x k * z k) * (Ideal.ofBits .f32 0xBF000000#32 * Ideal.div (rs x) (ms x))) (Ideal.ofBits .f32 0x44800000#32)
  z d * rs x + x d * w + w * x d

theorem ms_coe (x : Fin 1024 → ℝ) : ms (fun k => (x k : EReal)) = (((∑ k, x k * x k) * (1 / 1024) + eps : ℝ) : EReal) := by
  unfold ms
  rw [ofBits_1024, ofBits_eps, Ideal.div_coe (by norm_num)]
  simp only [EReal.coe_add, EReal.coe_mul, coe_sum]

theorem ms_pos (x : Fin 1024 → ℝ) : 0 < (∑ k, x k * x k) * (1 / 1024) + eps :=
  add_pos_of_nonneg_of_pos (mul_nonneg (Finset.sum_nonneg fun k _ => mul_self_nonneg _) (by norm_num)) eps_pos

theorem rs_coe (x : Fin 1024 → ℝ) :
    rs (fun k => (x k : EReal)) = (((Real.sqrt ((∑ k, x k * x k) * (1 / 1024) + eps))⁻¹ : ℝ) : EReal) := by
  unfold rs
  rw [ms_coe, Ideal.rsqrt_coe, if_neg (not_lt.mpr (ms_pos x).le), if_neg (ms_pos x).ne']

theorem isR_rs {x : Fin 1024 → EReal} (h : ∀ k, IsR (x k)) : IsR (rs x) := by
  choose y hy using h
  rw [show x = fun k => (y k : EReal) from funext hy]
  exact ⟨_, rs_coe y⟩

/-- The kernel's form of the norm's gradient is the chain rule's. -/
theorem nb_eq_chain {x z : Fin 1024 → EReal} (hx : ∀ k, IsR (x k)) (hz : ∀ k, IsR (z k)) (d : Fin 1024) : nb x z d = nbChain x z d := by
  choose x' hx' using hx
  choose z' hz' using hz
  rw [show x = fun k => (x' k : EReal) from funext hx', show z = fun k => (z' k : EReal) from funext hz']
  unfold nb nbChain
  have hv := ms_pos x'
  rw [rs_coe, ms_coe, ofBits_1024, ofBits_neg_half]
  set v := (∑ k, x' k * x' k) * (1 / 1024) + eps with hvd
  have hr : (Real.sqrt v)⁻¹ * (Real.sqrt v)⁻¹ = v⁻¹ := by rw [← mul_inv, Real.mul_self_sqrt hv.le]
  set r := (Real.sqrt v)⁻¹
  have hs : ∑ k, z' k * (x' k * r) = (∑ k, x' k * z' k) * r := by
    rw [Finset.sum_mul]; exact Finset.sum_congr rfl fun k _ => by ring
  simp only [Ideal.div_coe hv.ne', Ideal.div_coe (show (1024 : ℝ) ≠ 0 by norm_num), ← EReal.coe_mul, ← coe_sum, ← EReal.coe_sub, ← EReal.coe_add, hs]
  rw [EReal.coe_eq_coe_iff]
  have e : r * (x' d * r * ((∑ k, x' k * z' k) * r * (1 / 1024))) = x' d * (∑ k, x' k * z' k) * r * (1 / 1024) * (r * r) := by ring
  rw [mul_sub, e, hr]
  field_simp
  ring

/-! ## The gated unit -/

/-- The logistic function. -/
def sg (a : EReal) : EReal := Ideal.div 1 (1 + Ideal.exp (-a))

theorem isR_sg {a : EReal} (h : IsR a) : IsR (sg a) := by
  obtain ⟨r, rfl⟩ := h
  unfold sg
  rw [← EReal.coe_neg, Ideal.exp_coe, show (1 : EReal) = ((1 : ℝ) : EReal) from rfl, ← EReal.coe_add,
    Ideal.div_coe (by positivity), ← EReal.coe_mul]
  exact ⟨_, rfl⟩

/-- The gate's gradient with the derivative of `a · σ(a)` factored, and as the product rule gives it. -/
theorem gate_eq {a u d : EReal} (ha : IsR a) (hu : IsR u) (hd : IsR d) :
    d * (u * (sg a * (1 + a * (1 - sg a)))) = d * u * sg a + a * (d * u) * (sg a * (1 - sg a)) := by
  obtain ⟨s, hs⟩ := isR_sg ha
  obtain ⟨a, rfl⟩ := ha
  obtain ⟨u, rfl⟩ := hu
  obtain ⟨d, rfl⟩ := hd
  rw [hs, show (1 : EReal) = ((1 : ℝ) : EReal) from rfl]
  simp only [← EReal.coe_mul, ← EReal.coe_sub, ← EReal.coe_add]
  rw [EReal.coe_eq_coe_iff]
  ring

end Cert.BlockMath
-- ==== Proof.MlpBwdArray.lean ====
module
public import proofs.«01_k».proof.Proof.MlpBwdPoint
public import proofs.«01_k».proof.Proof.BlockMath

/-!
# The MLP's backward kernel, array by array

The five arrays the kernel leaves, as closed forms over the arrays it was given.
-/

@[expose] public section
set_option maxRecDepth 16384
noncomputable section
open Idealize.ShloMosaic Idealize.ShloMosaic.TcCoe Idealize.SL.Sem
open Idealize.ShloMosaic.Pipeline (Dat)
open scoped BigOperators
namespace Cert.MlpBwdIdeal.Own
open Cert.MlpBwdIdeal Cert.MlpBwdIdeal.Gen Cert.BlockMath
variable (m : (ℓ : Loc nD τ sig) → Buf (Elt Ideal) ℓ)

/-- The gradients of the two branches. -/
abbrev DG (c : Dev nD) : FVec Ideal S4x4096x704 .bf16 := branch (V m c main_v30) (V m c main_v47) (V m c main_v33)
abbrev DU (c : Dev nD) : FVec Ideal S4x4096x704 .bf16 := branch (V m c main_v30) (V m c main_v47) (V m c main_v36)

theorem final9 (c : Dev nD) : (dats m 0 c).arrAt 9 (cfgs 0).N = DG m c := by
  refine (dats m 0 c).arrAt_eq_of_covers 9 _ (by decide +kernel) fun t hf y => ?_
  blk_simp; rw [after0_9]
  refine out9 m c t y _ ?_ ?_ ?_
  all_goals (blk_simp [idx t] <;> try omega)

theorem final10 (c : Dev nD) : (dats m 0 c).arrAt 10 (cfgs 0).N = DU m c := by
  refine (dats m 0 c).arrAt_eq_of_covers 10 _ (by decide +kernel) fun t hf y => ?_
  blk_simp; rw [after0_10]
  refine out10 m c t y _ ?_ ?_ ?_
  all_goals (blk_simp [idx t] <;> try omega)

/-- The two branch gradients carried back through the gate and up projections, shard by shard. -/
def back (G U : FVec Ideal S4x4096x704 .bf16) (Wg Wu : FVec Ideal S4x704x1024 .bf16) : FVec Ideal S4096x1024 .f32 :=
  fun i => ∑ s : Fin 4, (∑ f : Fin 704, G (ix3 s (i 0) f) * Wg (ix3 s f (i 1)) + ∑ f : Fin 704, U (ix3 s (i 0) f) * Wu (ix3 s f (i 1)))

/-- The gradient of the norm's output. -/
abbrev DH (c : Dev nD) : FVec Ideal S4096x1024 .f32 := back (DG m c) (DU m c) (V m c main_v40) (V m c main_v44)

theorem row_lt (t : Fin cfg0.N) (r : Fin 512) : t.val / 4 * 512 + r.val < 4096 := by
  have := (idx t).2.2.2.2.2.2.2.2.2.2.2.2.2.2
  have := r.isLt
  omega

/-- A point's part, over the whole arrays. -/
theorem part_eq (c : Dev nD) (t : Fin cfg0.N) (j : S512x1024.Idx) :
    part m c t j = ∑ f : Fin 704, DG m c (ix3 (⟨t.val % 4, lt4 t⟩ : Fin 4) ⟨_, row_lt t (j 0)⟩ f) * V m c main_v40 (ix3 (⟨t.val % 4, lt4 t⟩ : Fin 4) f (j 1))
      + ∑ f : Fin 704, DU m c (ix3 (⟨t.val % 4, lt4 t⟩ : Fin 4) ⟨_, row_lt t (j 0)⟩ f) * V m c main_v44 (ix3 (⟨t.val % 4, lt4 t⟩ : Fin 4) f (j 1)) := by
  unfold part
  refine congrArg₂ (· + ·) (Finset.sum_congr rfl fun f _ => ?_) (Finset.sum_congr rfl fun f _ => ?_)
  · rw [b4_at]
    exact congrArg (· * _) (out9 m c t (ix3 0 (j 0) f) _ rfl rfl rfl)
  · rw [b5_at]
    exact congrArg (· * _) (out10 m c t (ix3 0 (j 0) f) _ rfl rfl rfl)

/-- The scratch after a row block's last point: the gradient of the norm's output on those rows. -/
theorem acc_last (c : Dev nD) (t : Fin cfg0.N) (h : t.val % 4 = 3) (j : S512x1024.Idx) (i : S4096x1024.Idx)
    (e0 : (i 0 : ℕ) = t.val / 4 * 512 + j 0) (e1 : (i 1 : ℕ) = j 1) :
    (outsAt0 m c t.val t.isLt).2.2.2.2.2 j = DH m c i := by
  rw [Pipeline.eq_sum_fin_of_reset_step_apply_of_flush (fun n h => (outsAt0 m c n h).2.2.2.2.2) 4 (fun _ => (0 : EReal)) (part m c)
    (fun t h j => acc_first m c t h j) (fun t h j => acc_next m c t h j) t h j, zero_add]
  unfold DH back
  refine Finset.sum_congr rfl fun s _ => ?_
  have hs := s.isLt
  rw [part_eq]
  have es : (⟨(4 * (t.val / 4) + s.val) % 4, lt4 _⟩ : Fin 4) = s := Fin.ext (by show _ % 4 = _; omega)
  have ei : (⟨_, row_lt ⟨4 * (t.val / 4) + s.val, Pipeline.run_point_lt_of_flush t h s⟩ (j 0)⟩ : Fin 4096) = i 0 :=
    Fin.ext (by rw [e0]; show (4 * (t.val / 4) + s.val) / 4 * 512 + _ = _; omega)
  have ej : j 1 = i 1 := Fin.ext e1.symm
  rw [ei, ej]
  simp only [es]

theorem pay8_at (x a : Vec Ideal S512x1024 .f32) (g) (y : Vec Ideal S512x1024 .f32) (j : S512x1024.Idx) :
    k0_pay8 (F := Ideal) x a g y j
      = y j + nb (fun k => x (ix2 (j 0) k)) (fun k => a (ix2 (j 0) k) * g (ix2 0 k)) (j 1) := by
  obtain ⟨r, d, rfl⟩ : ∃ (r : Fin 512) (d : Fin 1024), j = ix2 r d := ⟨j 0, j 1, by funext a; fin_cases a <;> rfl⟩
  unfold nb rs ms
  pointwise [k0_pay8, k0_pay6, k0_pay5]

theorem pay7_at (x a : Vec Ideal S512x1024 .f32) (g : Vec Ideal S1x1024 .f32) (j : S1x1024.Idx) :
    k0_pay7 (F := Ideal) x a g j
      = g j + ∑ r : Fin 512, a (ix2 r (j 1)) * (x (ix2 r (j 1)) * rs (fun k => x (ix2 r k))) := by
  obtain ⟨r, d, rfl⟩ : ∃ (r : Fin 1) (d : Fin 1024), j = ix2 r d := ⟨j 0, j 1, by funext a; fin_cases a <;> rfl⟩
  unfold rs ms
  pointwise [k0_pay7, k0_pay6, k0_pay5]

/-- The input's gradient: the residual's gradient plus the gradient through the norm. -/
def dxOf (dy x h : FVec Ideal S4096x1024 .f32) (g : FVec Ideal S1x1024 .f32) : FVec Ideal S4096x1024 .f32 := fun i =>
  dy i + nb (fun k => x (ix2 (i 0) k)) (fun k => h (ix2 (i 0) k) * g (ix2 0 k)) (i 1)

/-- A row's term in the gradient of the norm's weight. -/
def dnRow (x h : FVec Ideal S4096x1024 .f32) (r : Fin 4096) (d : Fin 1024) : EReal :=
  h (ix2 r d) * (x (ix2 r d) * rs (fun k => x (ix2 r k)))

/-- The gradient of the norm's weight. -/
def dnOf (x h : FVec Ideal S4096x1024 .f32) : FVec Ideal S1x1024 .f32 := fun i => ∑ r : Fin 4096, dnRow x h r (i 1)

abbrev DX (c : Dev nD) : FVec Ideal S4096x1024 .f32 := dxOf (V m c main_arg5) (V m c main_arg0) (DH m c) (V m c main_arg1)
abbrev DN (c : Dev nD) : FVec Ideal S1x1024 .f32 := dnOf (V m c main_arg0) (DH m c)

theorem pay8_eq (c : Dev nD) (t : Fin cfg0.N) (h : t.val % 4 = 3) (a : Vec Ideal S512x1024 .f32)
    (ha : a = (outsAt0 m c t.val t.isLt).2.2.2.2.2) (j : S512x1024.Idx) (i : S4096x1024.Idx)
    (e0 : (i 0 : ℕ) = t.val / 4 * 512 + j 0) (e1 : (i 1 : ℕ) = j 1) :
    k0_pay8 (F := Ideal) (b7 m c t) a (b8 m c t) (b1 m c t) j = DX m c i := by
  have ej : j 1 = i 1 := Fin.ext e1.symm
  have e7 (k : Fin 1024) : b7 m c t (ix2 (j 0) k) = V m c main_arg0 (ix2 (i 0) k) := b7_at m c t (ix2 (j 0) k) (ix2 (i 0) k) e0 rfl
  have eh (k : Fin 1024) : a (ix2 (j 0) k) = DH m c (ix2 (i 0) k) := by
    rw [ha]; exact acc_last m c t h (ix2 (j 0) k) (ix2 (i 0) k) e0 rfl
  rw [pay8_at]
  unfold DX dxOf
  simp only [b8_at, e7, eh, b1_at m c t j i e0 e1, ej]

theorem out11 (c : Dev nD) (t : Fin cfg0.N) (h : t.val % 4 = 3) (j : S512x1024.Idx) (i : S4096x1024.Idx)
    (e0 : (i 0 : ℕ) = t.val / 4 * 512 + j 0) (e1 : (i 1 : ℕ) = j 1) :
    (outsAt0 m c t.val t.isLt).2.2.1 j = DX m c i := by
  have h0 : ¬t.val % 32 = 0 := by omega
  have h1 : ¬t.val % 4 = 0 := by omega
  have h2 : 1 ≤ t.val % 4 := by omega
  refine Eq.trans ?_ (pay8_eq m c t h _ rfl j i e0 e1)
  rw [outsAt0_C m c t h0 h1 h2 h]; frame_out

theorem out12 (c : Dev nD) (t : Fin cfg0.N) (h : t.val % 4 = 3) (j : S512x1024.Idx) (i : S4096x1024.Idx)
    (e0 : (i 0 : ℕ) = t.val / 4 * 512 + j 0) (e1 : (i 1 : ℕ) = j 1) :
    (outsAt0 m c t.val t.isLt).2.2.2.1 j = DX m c i := by
  have h0 : ¬t.val % 32 = 0 := by omega
  have h1 : ¬t.val % 4 = 0 := by omega
  have h2 : 1 ≤ t.val % 4 := by omega
  refine Eq.trans ?_ (pay8_eq m c t h _ rfl j i e0 e1)
  rw [outsAt0_C m c t h0 h1 h2 h]; frame_out; rfl

theorem final11 (c : Dev nD) : (dats m 0 c).arrAt 11 (cfgs 0).N = DX m c := by
  refine (dats m 0 c).arrAt_eq_of_covers 11 _ (by decide +kernel) fun t hf y => ?_
  blk_simp; rw [after0_11]
  refine out11 m c t ((flush0_11 t).mp hf) y _ ?_ ?_
  all_goals (blk_simp [idx t] <;> try omega)

theorem final12 (c : Dev nD) : (dats m 0 c).arrAt 12 (cfgs 0).N = DX m c := by
  refine (dats m 0 c).arrAt_eq_of_covers 12 _ (by decide +kernel) fun t hf y => ?_
  blk_simp; rw [after0_12]
  refine out12 m c t ((flush0_12 t).mp hf) y _ ?_ ?_
  all_goals (blk_simp [idx t] <;> try omega)

/-- What point `t` adds to the norm weight's gradient: a row block's sum at its last point, else nothing. -/
def dnPart (c : Dev nD) (t : Fin cfg0.N) (j : S1x1024.Idx) : EReal :=
  if t.val % 4 = 3 then ∑ r : Fin 512, dnRow (V m c main_arg0) (DH m c) ⟨_, row_lt t r⟩ (j 1) else 0

theorem dn_first (c : Dev nD) (t : Fin cfg0.N) (h0 : t.val % 32 = 0) (j : S1x1024.Idx) :
    (outsAt0 m c t.val t.isLt).2.2.2.2.1 j = 0 + dnPart m c t j := by
  have h1 : t.val % 4 = 0 := by omega
  have h2 : ¬1 ≤ t.val % 4 := by omega
  have h3 : ¬t.val % 4 = 3 := by omega
  rw [dnPart, if_neg h3, add_zero, outsAt0_A m c t h0 h1 h2 h3]; frame_out
  pointwise [k0_pay10]

theorem dn_next (c : Dev nD) (t : Fin cfg0.N) (h0 : ¬t.val % 32 = 0) (j : S1x1024.Idx) :
    (outsAt0 m c t.val t.isLt).2.2.2.2.1 j
      = (outsAt0 m c (t.val - 1) (Nat.lt_of_le_of_lt (Nat.sub_le _ _) t.isLt)).2.2.2.2.1 j + dnPart m c t j := by
  rcases cases t.val with ⟨h0', h1, h2, h3⟩ | ⟨_, h1, h2, h3⟩ | ⟨_, h1, h2, h3⟩ | ⟨_, h1, h2, h3⟩
  · exact absurd h0' h0
  · rw [dnPart, if_neg h3, add_zero, outsAt0_B m c t h0 h1 h2 h3]; dsimp only; unfold out0_B_13; frame_out
  · rw [dnPart, if_pos h3]
    refine Eq.trans (b := k0_pay7 (F := Ideal) (b7 m c t) ((outsAt0 m c t.val t.isLt).2.2.2.2.2)
      ((outsAt0 m c (t.val - 1) (Nat.lt_of_le_of_lt (Nat.sub_le _ _) t.isLt)).2.2.2.2.1) j) ?_ ?_
    · rw [outsAt0_C m c t h0 h1 h2 h3]; frame_out
    · rw [pay7_at]
      refine congrArg₂ (· + ·) rfl (Finset.sum_congr rfl fun r _ => ?_)
      have e7 (k : Fin 1024) : b7 m c t (ix2 r k) = V m c main_arg0 (ix2 ⟨_, row_lt t r⟩ k) := b7_at m c t (ix2 r k) (ix2 ⟨_, row_lt t r⟩ k) rfl rfl
      unfold dnRow
      rw [acc_last m c t h3 (ix2 r (j 1)) (ix2 ⟨_, row_lt t r⟩ (j 1)) rfl rfl, e7 (j 1)]
      simp only [e7]
  · rw [dnPart, if_neg h3, add_zero, outsAt0_D m c t h0 h1 h2 h3]; dsimp only; unfold out0_D_13; frame_out

/-- The points' parts together are the sum over all rows. -/
theorem dn_sum (c : Dev nD) (y : S1x1024.Idx) : ∑ t : Fin cfg0.N, dnPart m c t y = DN m c y := by
  refine (Fin.sum_divmod_congr (A := 8) (S := 4) (F := fun p => dnPart m c p y)
    (f := fun a s => if s.val = 3 then ∑ r : Fin 512, dnRow (V m c main_arg0) (DH m c) ⟨a.val * 512 + r.val, by omega⟩ (y 1) else 0)
    (fun t ha hs => rfl) N_0).trans ?_
  refine Eq.trans ?_ (Fin.sum_mul_add_congr (L := 4096) (S := 8) (n := 512)
    (F := fun a r => dnRow (V m c main_arg0) (DH m c) ⟨a.val * 512 + r.val, by omega⟩ (y 1)) (fun a r hl => rfl))
  refine Finset.sum_congr rfl fun a _ => ?_
  rw [Fin.sum_univ_four, if_neg (by decide), if_neg (by decide), if_neg (by decide), if_pos (by decide), add_zero, add_zero, zero_add]

/-- The norm weight's gradient after the last point. -/
theorem out13 (c : Dev nD) (t : Fin cfg0.N) (h : t.val % 32 = 31) (y : S1x1024.Idx) :
    (outsAt0 m c t.val t.isLt).2.2.2.2.1 y = DN m c y := by
  have hN : t.val + 1 = cfg0.N := by have h : t.val < grid0.N := t.isLt; have h' := N_0; show t.val + 1 = grid0.N; omega
  rw [Pipeline.eq_sum_fin_of_reset_step_apply_last (fun n h => (outsAt0 m c n h).2.2.2.2.1) 32 (fun _ => (0 : EReal)) (dnPart m c)
    (fun t h j => dn_first m c t h j) (fun t h j => dn_next m c t h j) (le_of_eq N_0) t hN y, zero_add, dn_sum]

theorem final13 (c : Dev nD) : (dats m 0 c).arrAt 13 (cfgs 0).N = DN m c := by
  refine (dats m 0 c).arrAt_eq_of_covers 13 _ (by decide +kernel) fun t hf y => ?_
  have e1 : ((win0_13.blk t).view.emb y) 1 = y 1 := Fin.ext (by blk_simp [idx t])
  blk_simp; rw [after0_13]
  refine (out13 m c t ((flush0_13 t).mp hf) y).trans ?_
  exact congrArg (fun d => ∑ r : Fin 4096, dnRow (V m c main_arg0) (DH m c) r d) e1.symm
end Cert.MlpBwdIdeal.Own
-- ==== Proof.MlpBwdHost.lean ====
module
public import proofs.«01_k».proof.Proof.MlpBwdArray

/-!
# The MLP's backward kernel: its operands

The arrays the host hands the kernel, read at an index in terms of the arguments.
-/

@[expose] public section
set_option maxRecDepth 16384
noncomputable section
open Idealize.ShloMosaic Idealize.ShloMosaic.TcCoe Idealize.SL.Sem
open scoped BigOperators
namespace Cert.MlpBwdIdeal.Own
open Cert.MlpBwdIdeal Cert.MlpBwdIdeal.Gen Cert.BlockMath
variable (m : (ℓ : Loc nD τ sig) → Buf (Elt Ideal) ℓ)

theorem col_lt (s : Fin 4) (f : Fin 704) : s.val * 704 + f.val < 2816 := by omega

abbrev A0 (c : Dev nD) : FVec Ideal S4096x1024 .f32 := m ((c : Thread nD τ).loc main_arg0)
abbrev A1 (c : Dev nD) : FVec Ideal S1x1024 .f32 := m ((c : Thread nD τ).loc main_arg1)
abbrev A2 (c : Dev nD) : FVec Ideal S1x1024x2816 .f32 := m ((c : Thread nD τ).loc main_arg2)
abbrev A3 (c : Dev nD) : FVec Ideal S1x1024x2816 .f32 := m ((c : Thread nD τ).loc main_arg3)
abbrev A4 (c : Dev nD) : FVec Ideal S1x2816x1024 .f32 := m ((c : Thread nD τ).loc main_arg4)
abbrev A5 (c : Dev nD) : FVec Ideal S4096x1024 .f32 := m ((c : Thread nD τ).loc main_arg5)
abbrev V30 (c : Dev nD) : FVec Ideal S4096x1024 .bf16 := V m c main_v30
abbrev V33 (c : Dev nD) : FVec Ideal S4x4096x704 .bf16 := V m c main_v33
abbrev V36 (c : Dev nD) : FVec Ideal S4x4096x704 .bf16 := V m c main_v36
abbrev V40 (c : Dev nD) : FVec Ideal S4x704x1024 .bf16 := V m c main_v40
abbrev V44 (c : Dev nD) : FVec Ideal S4x704x1024 .bf16 := V m c main_v44
abbrev V47 (c : Dev nD) : FVec Ideal S4x704x1024 .bf16 := V m c main_v47

/-- A gate or up projection of the normalised row. -/
abbrev Gt (x : FVec Ideal S4096x1024 .f32) (g : FVec Ideal S1x1024 .f32) (w : FVec Ideal S1x1024x2816 .f32) (r : Fin 4096) (f : Fin 2816) : EReal :=
  ∑ k, x (ix2 r k) * rs (fun k => x (ix2 r k)) * g (ix2 0 k) * w (ix3 0 k f)

theorem v30_at (c : Dev nD) (i : S4096x1024.Idx) : V30 m c i = A5 m c i := by
  unfold V30; entry_read
  pointwise []
theorem v40_at (c : Dev nD) (s : Fin 4) (f : Fin 704) (d : Fin 1024) : V40 m c (ix3 s f d) = A2 m c (ix3 0 d ⟨_, col_lt s f⟩) := by
  unfold V40; entry_read
  pointwise []
theorem v44_at (c : Dev nD) (s : Fin 4) (f : Fin 704) (d : Fin 1024) : V44 m c (ix3 s f d) = A3 m c (ix3 0 d ⟨_, col_lt s f⟩) := by
  unfold V44; entry_read
  pointwise []
theorem v47_at (c : Dev nD) (s : Fin 4) (f : Fin 704) (d : Fin 1024) : V47 m c (ix3 s f d) = A4 m c (ix3 0 ⟨_, col_lt s f⟩ d) := by
  unfold V47; entry_read
  pointwise []
theorem v36_at (c : Dev nD) (s : Fin 4) (r : Fin 4096) (f : Fin 704) : V36 m c (ix3 s r f)
    = Gt (A0 m c) (A1 m c) (A2 m c) r ⟨_, col_lt s f⟩ * sg (Gt (A0 m c) (A1 m c) (A2 m c) r ⟨_, col_lt s f⟩) := by
  unfold V36 Gt sg rs ms; entry_read
  pointwise []
theorem v33_at (c : Dev nD) (s : Fin 4) (r : Fin 4096) (f : Fin 704) : V33 m c (ix3 s r f)
    = Gt (A0 m c) (A1 m c) (A3 m c) r ⟨_, col_lt s f⟩ * (sg (Gt (A0 m c) (A1 m c) (A2 m c) r ⟨_, col_lt s f⟩)
      * (1 + Gt (A0 m c) (A1 m c) (A2 m c) r ⟨_, col_lt s f⟩ * (1 - sg (Gt (A0 m c) (A1 m c) (A2 m c) r ⟨_, col_lt s f⟩)))) := by
  unfold V33 Gt sg rs ms; entry_read
  pointwise []
end Cert.MlpBwdIdeal.Own
-- ==== Proof.MlpBwdRef.lean ====
module
public import proofs.«01_k».proof.Proof.Gen.MlpBwdRefIdeal.Read
public import proofs.«01_k».proof.Proof.BlockMath
public import Idealize.ShloMosaic.Lib.Pointwise

/-!
# The reference of the MLP's backward pass, read at an index
-/

@[expose] public section
set_option maxRecDepth 16384
noncomputable section
open Idealize.ShloMosaic Idealize.ShloMosaic.TcCoe Idealize.SL.Sem
open scoped BigOperators
namespace Cert.MlpBwdRefIdeal.Own
open Cert.MlpBwdRefIdeal Cert.MlpBwdRefIdeal.Read Cert.BlockMath

variable (x0 : (⟨S4096x1024, .f32⟩ : BufTy).Contents (Elt Ideal)) (x1 : (⟨S1x1024, .f32⟩ : BufTy).Contents (Elt Ideal))
  (x2 x3 : (⟨S1x1024x2816, .f32⟩ : BufTy).Contents (Elt Ideal)) (x4 : (⟨S1x2816x1024, .f32⟩ : BufTy).Contents (Elt Ideal))
  (x5 : (⟨S4096x1024, .f32⟩ : BufTy).Contents (Elt Ideal))

theorem r_at (r : Fin 4096) : val_main_v7 x0 (ix2 r 0) = rs (fun k => x0 (ix2 r k)) := by
  unfold rs ms
  pointwise [val_main_v7, val_main_v6, val_main_v5, val_main_v4, val_main_v3, val_main_v2, val_main_v1, val_main_v0,
    val_main_cst, val_main_cst_0, val_main_cst_1]

theorem w_at (r : Fin 4096) : val_main_v10 x0 (ix2 r 0)
    = Ideal.ofBits .f32 0xBF000000#32 * Ideal.div (rs (fun k => x0 (ix2 r k))) (ms (fun k => x0 (ix2 r k))) := by
  unfold rs ms
  pointwise [val_main_v10, val_main_v9, val_main_cst_2, val_main_v8, val_main_v7, val_main_v6, val_main_v5, val_main_v4, val_main_v3, val_main_v2, val_main_v1, val_main_v0,
    val_main_cst, val_main_cst_0, val_main_cst_1]

/-- The normalised row, scaled. -/
abbrev H (r : Fin 4096) (k : Fin 1024) : EReal := x0 (ix2 r k) * rs (fun k => x0 (ix2 r k)) * x1 (ix2 0 k)
abbrev Gt (r : Fin 4096) (f : Fin 2816) : EReal := ∑ k, H x0 x1 r k * x2 (ix3 0 k f)
abbrev Da (r : Fin 4096) (f : Fin 2816) : EReal := ∑ k, x5 (ix2 r k) * x4 (ix3 0 f k)

theorem h_at (r : Fin 4096) (k : Fin 1024) : val_main_v14 x0 x1 (ix2 r k) = H x0 x1 r k := by
  unfold H; rw [← r_at]
  pointwise [val_main_v14, val_main_v13, val_main_v12, val_main_v11]

theorem gate_at (r : Fin 4096) (f : Fin 2816) : val_main_v16 x0 x1 x2 (ix2 r f) = Gt x0 x1 x2 r f := by
  unfold Gt; simp only [← h_at]
  pointwise [val_main_v16, val_main_v15]

theorem up_at (r : Fin 4096) (f : Fin 2816) : val_main_v18 x0 x1 x3 (ix2 r f) = Gt x0 x1 x3 r f := by
  unfold Gt; simp only [← h_at]
  pointwise [val_main_v18, val_main_v17]

theorem da_at (r : Fin 4096) (f : Fin 2816) : val_main_v23 x4 x5 (ix2 r f) = Da x4 x5 r f := by
  unfold Da
  pointwise [val_main_v23, val_main_v21]

theorem sg_at (r : Fin 4096) (f : Fin 2816) : val_main_v19_2 x0 x1 x2 (ix2 r f) = sg (Gt x0 x1 x2 r f) := by
  rw [← gate_at]; unfold sg
  pointwise [val_main_v19_2, val_main_call0_v4, val_main_call0_cst_0, val_main_call0_v3, val_main_call0_v2, val_main_call0_cst, val_main_call0_v1, val_main_call0_v0]

/-- The gradients of the up projection's and the gate's outputs. -/
abbrev dU (r : Fin 4096) (f : Fin 2816) : EReal := Gt x0 x1 x2 r f * sg (Gt x0 x1 x2 r f) * Da x4 x5 r f
abbrev dG (r : Fin 4096) (f : Fin 2816) : EReal := Da x4 x5 r f * Gt x0 x1 x3 r f * sg (Gt x0 x1 x2 r f)
  + Gt x0 x1 x2 r f * (Da x4 x5 r f * Gt x0 x1 x3 r f) * (sg (Gt x0 x1 x2 r f) * (1 - sg (Gt x0 x1 x2 r f)))

theorem du_at (r : Fin 4096) (f : Fin 2816) : val_main_v24 x0 x1 x2 x4 x5 (ix2 r f) = dU x0 x1 x2 x4 x5 r f := by
  unfold dU; rw [← sg_at, ← gate_at, ← da_at]
  pointwise [val_main_v24, val_main_v19_0]

theorem dg_at (r : Fin 4096) (f : Fin 2816) : val_main_v26 x0 x1 x2 x3 x4 x5 (ix2 r f) = dG x0 x1 x2 x3 x4 x5 r f := by
  unfold dG; rw [← sg_at, ← gate_at x0 x1 x2, ← up_at x0 x1 x3, ← da_at]
  pointwise [val_main_v26, val_main_call1_v2, val_main_call1_v1, val_main_call1_v0, val_main_v25, val_main_v19_1, val_main_call0_v7, val_main_call0_v6, val_main_call0_cst_1]

/-- The gradient of the norm's output. -/
abbrev dH (r : Fin 4096) (k : Fin 1024) : EReal :=
  ∑ f, dU x0 x1 x2 x4 x5 r f * x3 (ix3 0 k f) + ∑ f, dG x0 x1 x2 x3 x4 x5 r f * x2 (ix3 0 k f)

theorem dh_at (r : Fin 4096) (k : Fin 1024) : val_main_v33 x0 x1 x2 x3 x4 x5 (ix2 r k) = dH x0 x1 x2 x3 x4 x5 r k := by
  unfold dH; simp only [← du_at, ← dg_at]
  pointwise [val_main_v33, val_main_v32, val_main_v31, val_main_v29, val_main_v27]

theorem dx_at (r : Fin 4096) (d : Fin 1024) : val_main_v53 x0 x1 x2 x3 x4 x5 (ix2 r d)
    = x5 (ix2 r d) + nbChain (fun k => x0 (ix2 r k)) (fun k => dH x0 x1 x2 x3 x4 x5 r k * x1 (ix2 0 k)) d := by
  unfold nbChain; simp only [← dh_at, ← w_at]; simp only [← r_at]
  pointwise [val_main_v53, val_main_v52, val_main_v51, val_main_v50, val_main_v49, val_main_v48, val_main_v47, val_main_v46, val_main_v45, val_main_v44,
    val_main_v43, val_main_v42, val_main_v41, val_main_v40, val_main_v39, val_main_v38, val_main_v37, val_main_cst_4, val_main_cst_5, val_main_cst_6]
  simp only [Fin.sum_univ_one]

theorem dn_at (d : Fin 1024) : val_main_v36 x0 x1 x2 x3 x4 x5 (ix2 0 d)
    = ∑ r : Fin 4096, x0 (ix2 r d) * rs (fun k => x0 (ix2 r k)) * dH x0 x1 x2 x3 x4 x5 r d := by
  simp only [← dh_at, ← r_at]
  pointwise [val_main_v36, val_main_v35, val_main_v34, val_main_cst_3, val_main_v12, val_main_v11]

theorem col_lt (s : Fin 4) (f : Fin 704) : s.val * 704 + f.val < 2816 := by omega

theorem cutg_at (s : Fin 4) (r : Fin 4096) (f : Fin 704) : val_main_v56 x0 x1 x2 x3 x4 x5 (ix3 s r f)
    = dG x0 x1 x2 x3 x4 x5 r ⟨s.val * 704 + f.val, col_lt s f⟩ := by
  rw [← dg_at]
  pointwise [val_main_v56, val_main_v55, val_main_v54]

theorem cutu_at (s : Fin 4) (r : Fin 4096) (f : Fin 704) : val_main_v59 x0 x1 x2 x4 x5 (ix3 s r f)
    = dU x0 x1 x2 x4 x5 r ⟨s.val * 704 + f.val, col_lt s f⟩ := by
  rw [← du_at]
  pointwise [val_main_v59, val_main_v58, val_main_v57]

end Cert.MlpBwdRefIdeal.Own
-- ==== Proof.MlpBwdEq.lean ====
module
public import proofs.«01_k».proof.Proof.MlpBwdHost
public import proofs.«01_k».proof.Proof.MlpBwdRef

/-!
# The MLP's backward kernel against its reference

On finite arguments each array the kernel leaves is the reference's.
-/

@[expose] public section
set_option maxRecDepth 16384
noncomputable section
open Idealize.ShloMosaic Idealize.ShloMosaic.TcCoe Idealize.SL.Sem
open scoped BigOperators
namespace Cert.MlpBwdIdeal.Own
open Cert.MlpBwdIdeal Cert.MlpBwdIdeal.Gen Cert.BlockMath
open Cert.MlpBwdRefIdeal.Own (dU dG dH Da)
open Cert.MlpBwdRefIdeal.Read
variable (m : (ℓ : Loc nD τ sig) → Buf (Elt Ideal) ℓ)

/-- Every argument's entries are real numbers. -/
structure Fin6 (c : Dev nD) : Prop where
  a0 : ∀ i, IsR (A0 m c i)
  a1 : ∀ i, IsR (A1 m c i)
  a2 : ∀ i, IsR (A2 m c i)
  a3 : ∀ i, IsR (A3 m c i)
  a4 : ∀ i, IsR (A4 m c i)
  a5 : ∀ i, IsR (A5 m c i)

theorem isR_gt {x : FVec Ideal S4096x1024 .f32} {g : FVec Ideal S1x1024 .f32} {w : FVec Ideal S1x1024x2816 .f32}
    (hx : ∀ i, IsR (x i)) (hg : ∀ i, IsR (g i)) (hw : ∀ i, IsR (w i)) (r : Fin 4096) (f : Fin 2816) : IsR (Gt x g w r f) :=
  IsR.sum fun k => (((hx _).mul (isR_rs fun _ => hx _)).mul (hg _)).mul (hw _)

theorem isR_da {w : FVec Ideal S1x2816x1024 .f32} {y : FVec Ideal S4096x1024 .f32} (hw : ∀ i, IsR (w i)) (hy : ∀ i, IsR (y i))
    (r : Fin 4096) (f : Fin 2816) : IsR (Da w y r f) := IsR.sum fun k => (hy _).mul (hw _)

variable {m} {c : Dev nD} (h : Fin6 m c)
include h

theorem dg_eq (s : Fin 4) (r : Fin 4096) (f : Fin 704) :
    DG m c (ix3 s r f) = dG (A0 m c) (A1 m c) (A2 m c) (A3 m c) (A4 m c) (A5 m c) r ⟨_, col_lt s f⟩ := by
  refine Eq.trans (congrArg₂ (· * ·) (Finset.sum_congr rfl fun k _ => congrArg₂ (· * ·) (v30_at m c _) (v47_at m c s f k)) (v33_at m c s r f)) ?_
  exact gate_eq (isR_gt h.a0 h.a1 h.a2 _ _) (isR_gt h.a0 h.a1 h.a3 _ _) (isR_da h.a4 h.a5 _ _)

omit h in
theorem du_eq (s : Fin 4) (r : Fin 4096) (f : Fin 704) :
    DU m c (ix3 s r f) = dU (A0 m c) (A1 m c) (A2 m c) (A4 m c) (A5 m c) r ⟨_, col_lt s f⟩ := by
  refine Eq.trans (congrArg₂ (· * ·) (Finset.sum_congr rfl fun k _ => congrArg₂ (· * ·) (v30_at m c _) (v47_at m c s f k)) (v36_at m c s r f)) ?_
  exact mul_comm _ _

theorem dh_eq (r : Fin 4096) (k : Fin 1024) :
    DH m c (ix2 r k) = dH (A0 m c) (A1 m c) (A2 m c) (A3 m c) (A4 m c) (A5 m c) r k := by
  show ∑ s : Fin 4, (∑ f : Fin 704, DG m c (ix3 s r f) * V40 m c (ix3 s f k) + ∑ f : Fin 704, DU m c (ix3 s r f) * V44 m c (ix3 s f k)) = _
  rw [Finset.sum_add_distrib, add_comm]
  refine congrArg₂ (· + ·) (Fin.sum_mul_add_congr fun s f hl => ?_) (Fin.sum_mul_add_congr fun s f hl => ?_)
  · rw [du_eq, v44_at]
  · rw [dg_eq h, v40_at]

theorem isR_du (r : Fin 4096) (f : Fin 2816) : IsR (dU (A0 m c) (A1 m c) (A2 m c) (A4 m c) (A5 m c) r f) :=
  ((isR_gt h.a0 h.a1 h.a2 r f).mul (isR_sg (isR_gt h.a0 h.a1 h.a2 r f))).mul (isR_da h.a4 h.a5 r f)

theorem isR_dg (r : Fin 4096) (f : Fin 2816) : IsR (dG (A0 m c) (A1 m c) (A2 m c) (A3 m c) (A4 m c) (A5 m c) r f) :=
  have g := isR_gt h.a0 h.a1 h.a2 r f
  have d := (isR_da h.a4 h.a5 r f).mul (isR_gt h.a0 h.a1 h.a3 r f)
  (d.mul (isR_sg g)).add ((g.mul d).mul ((isR_sg g).mul (isR_one.sub (isR_sg g))))

theorem isR_dh (r : Fin 4096) (k : Fin 1024) : IsR (dH (A0 m c) (A1 m c) (A2 m c) (A3 m c) (A4 m c) (A5 m c) r k) :=
  (IsR.sum fun f => (isR_du h r f).mul (h.a3 _)).add (IsR.sum fun f => (isR_dg h r f).mul (h.a2 _))

theorem arr9 : DG m c = val_main_v56 (F := Ideal) (A0 m c) (A1 m c) (A2 m c) (A3 m c) (A4 m c) (A5 m c) := by
  funext i
  obtain ⟨s, r, f, rfl⟩ : ∃ (s : Fin 4) (r : Fin 4096) (f : Fin 704), i = ix3 s r f := ⟨i 0, i 1, i 2, by funext a; fin_cases a <;> rfl⟩
  exact (dg_eq h s r f).trans (Cert.MlpBwdRefIdeal.Own.cutg_at _ _ _ _ _ _ s r f).symm

omit h in
theorem arr10 : DU m c = val_main_v59 (F := Ideal) (A0 m c) (A1 m c) (A2 m c) (A4 m c) (A5 m c) := by
  funext i
  obtain ⟨s, r, f, rfl⟩ : ∃ (s : Fin 4) (r : Fin 4096) (f : Fin 704), i = ix3 s r f := ⟨i 0, i 1, i 2, by funext a; fin_cases a <;> rfl⟩
  exact (du_eq s r f).trans (Cert.MlpBwdRefIdeal.Own.cutu_at _ _ _ _ _ s r f).symm

theorem arr11 : DX m c = val_main_v53 (F := Ideal) (A0 m c) (A1 m c) (A2 m c) (A3 m c) (A4 m c) (A5 m c) := by
  funext i
  obtain ⟨r, d, rfl⟩ : ∃ (r : Fin 4096) (d : Fin 1024), i = ix2 r d := ⟨i 0, i 1, by funext a; fin_cases a <;> rfl⟩
  refine Eq.trans ?_ (Cert.MlpBwdRefIdeal.Own.dx_at _ _ _ _ _ _ r d).symm
  unfold DX
  rw [V_main_arg5, V_main_arg0, V_main_arg1]
  show A5 m c (ix2 r d) + nb (fun k => A0 m c (ix2 r k)) (fun k => DH m c (ix2 r k) * A1 m c (ix2 0 k)) d = _
  simp only [dh_eq h]
  exact congrArg _ (nb_eq_chain (fun k => h.a0 _) (fun k => (isR_dh h r k).mul (h.a1 _)) d)

theorem arr13 : DN m c = val_main_v36 (F := Ideal) (A0 m c) (A1 m c) (A2 m c) (A3 m c) (A4 m c) (A5 m c) := by
  funext i
  obtain ⟨z, d, rfl⟩ : ∃ (z : Fin 1) (d : Fin 1024), i = ix2 z d := ⟨i 0, i 1, by funext a; fin_cases a <;> rfl⟩
  obtain rfl : z = 0 := Subsingleton.elim _ _
  refine Eq.trans ?_ (Cert.MlpBwdRefIdeal.Own.dn_at _ _ _ _ _ _ d).symm
  show ∑ r : Fin 4096, dnRow (V m c main_arg0) (DH m c) r d = _
  rw [V_main_arg0]
  refine Finset.sum_congr rfl fun r _ => ?_
  unfold dnRow
  rw [dh_eq h, mul_comm]

end Cert.MlpBwdIdeal.Own
-- ==== Proof.ClaimMath.lean ====
module
public import proofs.«01_k».proof.Proof.BlockMath

/-!
# Two small facts the claims share

A test of finiteness read at an entry, and a function of several arrays at equal arguments.
-/

@[expose] public section
noncomputable section
open Idealize.ShloMosaic
namespace Cert.ClaimMath
open Cert.BlockMath

/-- An entry strictly between the two infinities is a real number. -/
theorem isR_of_test {a : EReal} (h : BitVec.and (FloatOps.cmpf (F := Ideal) (φ := .f32) .olt a (Ideal.ofBits .f32 0x7F800000#32))
    (FloatOps.cmpf (F := Ideal) (φ := .f32) .ogt a (Ideal.ofBits .f32 0xFF800000#32)) = 1#1) : IsR a := by
  have e1 : Ideal.ofBits .f32 0x7F800000#32 = (⊤ : EReal) := by simp [Ideal.ofBits, Ideal.ieee]
  have e2 : Ideal.ofBits .f32 0xFF800000#32 = (⊥ : EReal) := by simp [Ideal.ofBits, Ideal.ieee]
  rw [Ideal.cmpf_def, Ideal.cmpf_def, e1, e2] at h
  refine isR_of_bounds (fun ht => ?_) (fun hb => ?_)
  · subst ht; revert h; simp [Ideal.cmp]
  · subst hb; revert h; simp [Ideal.cmp]

/-- A function of one array at equal arguments. -/
theorem one {T0 T : Type} {a0 b0 : T0}
    (h0 : b0 = a0)
    (f : T0 → T) {v : T} (h : v = f a0) : f b0 = v := by
  subst h0; exact h.symm

/-- A function of two arrays at equal arguments. -/
theorem two {T0 T1 T : Type} {a0 b0 : T0} {a1 b1 : T1}
    (h0 : b0 = a0) (h1 : b1 = a1)
    (f : T0 → T1 → T) {v : T} (h : v = f a0 a1) : f b0 b1 = v := by
  subst h0 h1; exact h.symm

/-- A function of three arrays at equal arguments. -/
theorem three {T0 T1 T2 T : Type} {a0 b0 : T0} {a1 b1 : T1} {a2 b2 : T2}
    (h0 : b0 = a0) (h1 : b1 = a1) (h2 : b2 = a2)
    (f : T0 → T1 → T2 → T) {v : T} (h : v = f a0 a1 a2) : f b0 b1 b2 = v := by
  subst h0 h1 h2; exact h.symm

/-- A function of four arrays at equal arguments. -/
theorem four {T0 T1 T2 T3 T : Type} {a0 b0 : T0} {a1 b1 : T1} {a2 b2 : T2} {a3 b3 : T3}
    (h0 : b0 = a0) (h1 : b1 = a1) (h2 : b2 = a2) (h3 : b3 = a3)
    (f : T0 → T1 → T2 → T3 → T) {v : T} (h : v = f a0 a1 a2 a3) : f b0 b1 b2 b3 = v := by
  subst h0 h1 h2 h3; exact h.symm

/-- A function of five arrays at equal arguments. -/
theorem five {T0 T1 T2 T3 T4 T : Type} {a0 b0 : T0} {a1 b1 : T1} {a2 b2 : T2} {a3 b3 : T3} {a4 b4 : T4}
    (h0 : b0 = a0) (h1 : b1 = a1) (h2 : b2 = a2) (h3 : b3 = a3) (h4 : b4 = a4)
    (f : T0 → T1 → T2 → T3 → T4 → T) {v : T} (h : v = f a0 a1 a2 a3 a4) : f b0 b1 b2 b3 b4 = v := by
  subst h0 h1 h2 h3 h4; exact h.symm

/-- A function of six arrays at equal arguments. -/
theorem six {T0 T1 T2 T3 T4 T5 T : Type} {a0 b0 : T0} {a1 b1 : T1} {a2 b2 : T2} {a3 b3 : T3} {a4 b4 : T4} {a5 b5 : T5}
    (h0 : b0 = a0) (h1 : b1 = a1) (h2 : b2 = a2) (h3 : b3 = a3) (h4 : b4 = a4) (h5 : b5 = a5)
    (f : T0 → T1 → T2 → T3 → T4 → T5 → T) {v : T} (h : v = f a0 a1 a2 a3 a4 a5) : f b0 b1 b2 b3 b4 b5 = v := by
  subst h0 h1 h2 h3 h4 h5; exact h.symm

/-- A function of seven arrays at equal arguments. -/
theorem seven {T0 T1 T2 T3 T4 T5 T6 T : Type} {a0 b0 : T0} {a1 b1 : T1} {a2 b2 : T2} {a3 b3 : T3} {a4 b4 : T4} {a5 b5 : T5} {a6 b6 : T6}
    (h0 : b0 = a0) (h1 : b1 = a1) (h2 : b2 = a2) (h3 : b3 = a3) (h4 : b4 = a4) (h5 : b5 = a5) (h6 : b6 = a6)
    (f : T0 → T1 → T2 → T3 → T4 → T5 → T6 → T) {v : T} (h : v = f a0 a1 a2 a3 a4 a5 a6) : f b0 b1 b2 b3 b4 b5 b6 = v := by
  subst h0 h1 h2 h3 h4 h5 h6; exact h.symm

/-- A function of eight arrays at equal arguments. -/
theorem eight {T0 T1 T2 T3 T4 T5 T6 T7 T : Type} {a0 b0 : T0} {a1 b1 : T1} {a2 b2 : T2} {a3 b3 : T3} {a4 b4 : T4} {a5 b5 : T5} {a6 b6 : T6} {a7 b7 : T7}
    (h0 : b0 = a0) (h1 : b1 = a1) (h2 : b2 = a2) (h3 : b3 = a3) (h4 : b4 = a4) (h5 : b5 = a5) (h6 : b6 = a6) (h7 : b7 = a7)
    (f : T0 → T1 → T2 → T3 → T4 → T5 → T6 → T7 → T) {v : T} (h : v = f a0 a1 a2 a3 a4 a5 a6 a7) : f b0 b1 b2 b3 b4 b5 b6 b7 = v := by
  subst h0 h1 h2 h3 h4 h5 h6 h7; exact h.symm

/-- A function of nine arrays at equal arguments. -/
theorem nine {T0 T1 T2 T3 T4 T5 T6 T7 T8 T : Type} {a0 b0 : T0} {a1 b1 : T1} {a2 b2 : T2} {a3 b3 : T3} {a4 b4 : T4} {a5 b5 : T5} {a6 b6 : T6} {a7 b7 : T7} {a8 b8 : T8}
    (h0 : b0 = a0) (h1 : b1 = a1) (h2 : b2 = a2) (h3 : b3 = a3) (h4 : b4 = a4) (h5 : b5 = a5) (h6 : b6 = a6) (h7 : b7 = a7) (h8 : b8 = a8)
    (f : T0 → T1 → T2 → T3 → T4 → T5 → T6 → T7 → T8 → T) {v : T} (h : v = f a0 a1 a2 a3 a4 a5 a6 a7 a8) : f b0 b1 b2 b3 b4 b5 b6 b7 b8 = v := by
  subst h0 h1 h2 h3 h4 h5 h6 h7 h8; exact h.symm

end Cert.ClaimMath
-- ==== Proof.MlpBwdClaim.lean ====
module
public import proofs.«01_k».proof.Defs
public import proofs.«01_k».proof.Proof.MlpBwdEq
public import proofs.«01_k».proof.Proof.ClaimMath
public import proofs.«01_k».proof.Proof.Gen.MlpBwdRefIdeal.Run
public import proofs.«01_k».proof.Proof.Gen.MlpBwd.Frame

/-!
# The claims about the MLP's backward kernel
-/

@[expose] public section
set_option maxRecDepth 16384
noncomputable section
open Idealize.ShloMosaic Idealize.ShloMosaic.TcCoe Idealize.SL.Sem

namespace Cert.Pre_finite.Own
open Cert.Pre_finite

instance facts : Cert.Pre_finite.Facts where
  bcast_S_S4096x1024 := by decide
  bcast_S_S1x1024 := by decide
  bcast_S_S1x1024x2816 := by decide
  bcast_S_S1x2816x1024 := by decide

end Cert.Pre_finite.Own

namespace Cert.MlpBwdIdeal.Own
open Cert.MlpBwdIdeal Cert.MlpBwdIdeal.Gen Cert.ClaimMath

theorem fin6 (m : (ℓ : Loc nD τ sig) → Buf (Elt Ideal) ℓ) (h : Cert.Pre_MlpBwdIdeal_finite m) (c : Dev nD) : Fin6 m c := by
  obtain ⟨h0, h1, h2, h3, h4, h5⟩ := h c
  have g0 (i) := congrFun h0 i
  have g1 (i) := congrFun h1 i
  have g2 (i) := congrFun h2 i
  have g3 (i) := congrFun h3 i
  have g4 (i) := congrFun h4 i
  have g5 (i) := congrFun h5 i
  exact ⟨fun i => isR_of_test (g0 i), fun i => isR_of_test (g1 i), fun i => isR_of_test (g2 i), fun i => isR_of_test (g3 i),
    fun i => isR_of_test (g4 i), fun i => isR_of_test (g5 i)⟩

/-- The sixth result rounds the third one: over the reals it is the same array. -/
theorem arr12 {m : (ℓ : Loc nD τ sig) → Buf (Elt Ideal) ℓ} {c : Dev nD} (h : Fin6 m c) :
    DX m c = Cert.MlpBwdRefIdeal.Read.val_main_v60 (F := Ideal) (A0 m c) (A1 m c) (A2 m c) (A3 m c) (A4 m c) (A5 m c) :=
  (arr11 h).trans (funext fun i => (Cert.MlpBwdRefIdeal.Read.val_main_v60_apply (F := Ideal) _ _ _ _ _ _ i).symm)

theorem frame_ref : Cert.quiescent_MlpBwdRefIdeal := fun m ρ _ =>
  (θ_run Cert.MlpBwdRefIdeal.defs _ _).mono (fun r h => ⟨fun c => (h c).2.2.2.2.2, sem_eq_zero_of_no_sems (by decide) r.2⟩)
    (Cert.MlpBwdRefIdeal.Value.run m ρ)

theorem value : Cert.algebraic_MlpBwdIdeal_MlpBwdRefIdeal_pre_finite := by
  intro m g m' g' hp hag
  refine ⟨fun c => DG m c, fun c => DU m c, fun c => DX m c, fun c => DX m c, fun c => DN m c, ?_, ?_⟩
  · refine (θ_run defs _ _).mono (fun r h c => ?_) (θ_run_and (run_main m g) (unchanged m g))
    exact ⟨((h.1 c).1 9).trans (final9 m c), ((h.1 c).1 10).trans (final10 m c), ((h.1 c).1 11).trans (final11 m c),
      ((h.1 c).1 12).trans (final12 m c), ((h.1 c).1 13).trans (final13 m c), h.2 c⟩
  · refine (θ_run Cert.MlpBwdRefIdeal.defs _ _).mono (fun r h c => ?_) (Cert.MlpBwdRefIdeal.Value.run m' g')
    have hf := fin6 m hp c
    obtain ⟨a0, a1, a2, a3, a4, a5⟩ := hag c
    obtain ⟨r0, r1, r2, r3, r4, ra⟩ := h c
    exact ⟨r0.trans ((Cert.MlpBwdRefIdeal.Read.val_main_v56_eq m' c).trans (six a0 a1 a2 a3 a4 a5 Cert.MlpBwdRefIdeal.Read.val_main_v56 (arr9 hf))),
      r1.trans ((Cert.MlpBwdRefIdeal.Read.val_main_v59_eq _ _ _ _ _).trans (five a0 a1 a2 a4 a5 Cert.MlpBwdRefIdeal.Read.val_main_v59 arr10)),
      r2.trans ((Cert.MlpBwdRefIdeal.Read.val_main_v53_eq m' c).trans (six a0 a1 a2 a3 a4 a5 Cert.MlpBwdRefIdeal.Read.val_main_v53 (arr11 hf))),
      r3.trans ((Cert.MlpBwdRefIdeal.Read.val_main_v60_eq m' c).trans (six a0 a1 a2 a3 a4 a5 Cert.MlpBwdRefIdeal.Read.val_main_v60 (arr12 hf))),
      r4.trans ((Cert.MlpBwdRefIdeal.Read.val_main_v36_eq m' c).trans (six a0 a1 a2 a3 a4 a5 Cert.MlpBwdRefIdeal.Read.val_main_v36 (arr13 hf))), ra⟩
end Cert.MlpBwdIdeal.Own
-- ==== Proof.BlockJoin.lean ====
module
public import Idealize.ShloMosaic.PureOps.Ideal.Laws
/-!
# Sums over joined pieces

A sum over five pieces laid end to end, the first three 512 long, is the sum of the pieces' sums.
-/

@[expose] public section
noncomputable section
open scoped BigOperators
namespace Cert.BlockMath

theorem sum_split {a b n : ℕ} (h : a + b = n) (F : Fin n → EReal) :
    ∑ x, F x = ∑ e : Fin a, F ⟨e.val, by omega⟩ + ∑ e : Fin b, F ⟨a + e.val, by omega⟩ := by
  subst h
  exact Fin.sum_univ_add F

/-- The sum of the pieces' products with the columns they meet. -/
def pieces {s4 s5 n : ℕ} (h : 1536 + s4 + s5 = n) (q k v : Fin 512 → EReal) (u : Fin s4 → EReal) (f : Fin s5 → EReal) (w : Fin n → EReal) : EReal :=
  (((∑ e : Fin 512, q e * w ⟨e.val, by omega⟩ + ∑ e : Fin 512, k e * w ⟨512 + e.val, by omega⟩)
    + ∑ e : Fin 512, v e * w ⟨1024 + e.val, by omega⟩) + ∑ e : Fin s4, u e * w ⟨1536 + e.val, by omega⟩)
    + ∑ e : Fin s5, f e * w ⟨1536 + s4 + e.val, by omega⟩

/-- The entry at a place of the joined row. -/
def joined {s4 s5 n : ℕ} (h : 1536 + s4 + s5 = n) (q k v : Fin 512 → EReal) (u : Fin s4 → EReal) (f : Fin s5 → EReal) (x : Fin n) : EReal :=
  if h : x.val < 512 then q ⟨x.val, h⟩
  else if h : x.val - 512 < 512 then k ⟨x.val - 512, h⟩
  else if h : x.val - 512 - 512 < 512 then v ⟨x.val - 512 - 512, h⟩
  else if h : x.val - 512 - 512 - 512 < s4 then u ⟨x.val - 512 - 512 - 512, h⟩
  else f ⟨x.val - 512 - 512 - 512 - s4, by have := x.isLt; omega⟩

section
variable {s4 s5 n : ℕ} (h : 1536 + s4 + s5 = n) (q k v : Fin 512 → EReal) (u : Fin s4 → EReal) (f : Fin s5 → EReal)
include h

theorem joined_q (e : Fin 512) : joined h q k v u f ⟨e.val, by omega⟩ = q e := by
  unfold joined; rw [dif_pos e.isLt]

theorem joined_k (e : Fin 512) : joined h q k v u f ⟨512 + e.val, by omega⟩ = k e := by
  have := e.isLt
  unfold joined
  rw [dif_neg (by show ¬512 + e.val < 512; omega), dif_pos (by show 512 + e.val - 512 < 512; omega)]
  exact congrArg k (Fin.ext (by show 512 + e.val - 512 = _; omega))

theorem joined_v (e : Fin 512) : joined h q k v u f ⟨1024 + e.val, by omega⟩ = v e := by
  have := e.isLt
  unfold joined
  rw [dif_neg (by show ¬1024 + e.val < 512; omega), dif_neg (by show ¬1024 + e.val - 512 < 512; omega),
    dif_pos (by show 1024 + e.val - 512 - 512 < 512; omega)]
  exact congrArg v (Fin.ext (by show 1024 + e.val - 512 - 512 = _; omega))

theorem joined_u (e : Fin s4) : joined h q k v u f ⟨1536 + e.val, by omega⟩ = u e := by
  have := e.isLt
  unfold joined
  rw [dif_neg (by show ¬1536 + e.val < 512; omega), dif_neg (by show ¬1536 + e.val - 512 < 512; omega),
    dif_neg (by show ¬1536 + e.val - 512 - 512 < 512; omega), dif_pos (by show 1536 + e.val - 512 - 512 - 512 < s4; omega)]
  exact congrArg u (Fin.ext (by show 1536 + e.val - 512 - 512 - 512 = _; omega))

theorem joined_f (e : Fin s5) : joined h q k v u f ⟨1536 + s4 + e.val, by omega⟩ = f e := by
  have := e.isLt
  unfold joined
  rw [dif_neg (by show ¬1536 + s4 + e.val < 512; omega), dif_neg (by show ¬1536 + s4 + e.val - 512 < 512; omega),
    dif_neg (by show ¬1536 + s4 + e.val - 512 - 512 < 512; omega), dif_neg (by show ¬1536 + s4 + e.val - 512 - 512 - 512 < s4; omega)]
  exact congrArg f (Fin.ext (by show 1536 + s4 + e.val - 512 - 512 - 512 - s4 = _; omega))

theorem sum_joined (w : Fin n → EReal) : ∑ x, joined h q k v u f x * w x = pieces h q k v u f w := by
  unfold pieces
  rw [sum_split h, sum_split (a := 1536) (b := s4) rfl, sum_split (a := 1024) (b := 512) rfl, sum_split (a := 512) (b := 512) rfl]
  refine congrArg₂ (· + ·) (congrArg₂ (· + ·) (congrArg₂ (· + ·) (congrArg₂ (· + ·) ?_ ?_) ?_) ?_) ?_
  · exact Finset.sum_congr rfl fun e _ => congrArg (· * _) (joined_q h q k v u f e)
  · exact Finset.sum_congr rfl fun e _ => congrArg (· * _) (joined_k h q k v u f e)
  · exact Finset.sum_congr rfl fun e _ => congrArg (· * _) (joined_v h q k v u f e)
  · exact Finset.sum_congr rfl fun e _ => congrArg (· * _) (joined_u h q k v u f e)
  · exact Finset.sum_congr rfl fun e _ => congrArg (· * _) (joined_f h q k v u f e)
end

/-- Two arrangements of the pieces, the gates' eight columns last and padded with zero columns, or between the values'
    and the pooled columns: the same sum, once the columns they meet are the same. -/
theorem pieces_eq (q k v u : Fin 512 → EReal) (f : Fin 8 → EReal) (f' : Fin 128 → EReal) (w : Fin 2056 → EReal) (w' : Fin 2176 → EReal)
    (hw0 : ∀ e : Fin 1536, w' ⟨e.val, by omega⟩ = w ⟨e.val, by omega⟩)
    (hwu : ∀ e : Fin 512, w' ⟨1536 + e.val, by omega⟩ = w ⟨1544 + e.val, by omega⟩)
    (hwf : ∀ e : Fin 8, w' ⟨2048 + e.val, by omega⟩ = w ⟨1536 + e.val, by omega⟩)
    (hf : ∀ e : Fin 8, f' ⟨e.val, by omega⟩ = f e) (hz : ∀ e : Fin 120, f' ⟨8 + e.val, by omega⟩ = 0) :
    pieces (s4 := 512) (s5 := 128) (n := 2176) rfl q k v u f' w' = pieces (s4 := 8) (s5 := 512) (n := 2056) rfl q k v f u w := by
  unfold pieces
  rw [sum_split (a := 8) (b := 120) (n := 128) rfl, add_assoc _ (∑ e : Fin 512, u e * _), add_assoc _ (∑ e : Fin 8, f e * _)]
  refine congrArg₂ (· + ·) (congrArg₂ (· + ·) (congrArg₂ (· + ·) ?_ ?_) ?_) ?_
  · exact Finset.sum_congr rfl fun e _ => congrArg (q e * ·) (hw0 ⟨e.val, by omega⟩)
  · exact Finset.sum_congr rfl fun e _ => congrArg (k e * ·) (hw0 ⟨512 + e.val, by omega⟩)
  · exact Finset.sum_congr rfl fun e _ => congrArg (v e * ·) (hw0 ⟨1024 + e.val, by omega⟩)
  · rw [show ∑ e : Fin 120, f' ⟨8 + e.val, _⟩ * w' ⟨1536 + 512 + (8 + e.val), _⟩ = 0 from
      Finset.sum_eq_zero fun e _ => by rw [hz e, zero_mul], add_zero, add_comm]
    exact congrArg₂ (· + ·) (Finset.sum_congr rfl fun e _ => congrArg₂ (· * ·) (hf e) (hwf e))
      (Finset.sum_congr rfl fun e _ => congrArg (u e * ·) (hwu e))
end Cert.BlockMath
-- ==== Proof.InprojBwdArray.lean ====
module
public import proofs.«01_k».proof.Proof.Gen.InprojBwdIdeal.Frame
public import proofs.«01_k».proof.Proof.BlockMath
public import proofs.«01_k».proof.Proof.BlockJoin
public import Idealize.ShloMosaic.Lib.Pipeline.ValueKit
public import Idealize.ShloMosaic.Lib.Pointwise
/-!
# The input projection's backward kernel

The grid has 8 row blocks. Every point joins the five gradients of the projection's columns, multiplies them
with the projection's rows, and carries the product back through the first norm; the gradient of the norm's
weight is summed over the points. This module gives the two arrays the kernel leaves as closed forms over the
arrays it was given.
-/

@[expose] public section
set_option maxRecDepth 16384
noncomputable section
open Idealize.ShloMosaic Idealize.ShloMosaic.TcCoe Idealize.SL.Sem
open Idealize.ShloMosaic.Pipeline (Dat)
open scoped BigOperators
namespace Cert.InprojBwdIdeal.Own
open Cert.InprojBwdIdeal Cert.InprojBwdIdeal.Gen Cert.BlockMath
variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![t.val, 0] ∧ win0_10.index t = ![0, 0]
    ∧ t.val < 8 :=
  (by decide +kernel : ∀ t : Fin grid0.N, _)

/-- The input blocks of a grid point, at their shapes. -/
abbrev b0 (c : Dev nD) (t : Fin cfg0.N) : FVec Ideal S512x512 .bf16 := iblk m c 0 t
abbrev b1 (c : Dev nD) (t : Fin cfg0.N) : FVec Ideal S512x512 .bf16 := iblk m c 1 t
abbrev b2 (c : Dev nD) (t : Fin cfg0.N) : FVec Ideal S512x512 .bf16 := iblk m c 2 t
abbrev b3 (c : Dev nD) (t : Fin cfg0.N) : FVec Ideal S512x512 .bf16 := iblk m c 3 t
abbrev b4 (c : Dev nD) (t : Fin cfg0.N) : FVec Ideal S512x128 .bf16 := iblk m c 4 t
abbrev b5 (c : Dev nD) (t : Fin cfg0.N) : FVec Ideal S2176x1024 .bf16 := iblk m c 5 t
abbrev b6 (c : Dev nD) (t : Fin cfg0.N) : FVec Ideal S512x1024 .f32 := iblk m c 6 t
abbrev b7 (c : Dev nD) (t : Fin cfg0.N) : FVec Ideal S512x1024 .f32 := iblk m c 7 t
abbrev b8 (c : Dev nD) (t : Fin cfg0.N) : FVec Ideal S1x1024 .f32 := iblk m c 8 t

/-! Each block, read off its array. -/

theorem b0_at (c : Dev nD) (t : Fin cfg0.N) (y : S512x512.Idx) (i : S4096x512.Idx) (e0 : (i 0 : ℕ) = t.val * 512 + y 0)
    (e1 : (i 1 : ℕ) = y 1) : b0 m c t y = V m c main_v0 i := by
  unfold b0; blk_ext [iblk, (idx t).1]
theorem b1_at (c : Dev nD) (t : Fin cfg0.N) (y : S512x512.Idx) (i : S4096x512.Idx) (e0 : (i 0 : ℕ) = t.val * 512 + y 0)
    (e1 : (i 1 : ℕ) = y 1) : b1 m c t y = V m c main_v1 i := by
  unfold b1; blk_ext [iblk, (idx t).2.1]
theorem b2_at (c : Dev nD) (t : Fin cfg0.N) (y : S512x512.Idx) (i : S4096x512.Idx) (e0 : (i 0 : ℕ) = t.val * 512 + y 0)
    (e1 : (i 1 : ℕ) = y 1) : b2 m c t y = V m c main_v2 i := by
  unfold b2; blk_ext [iblk, (idx t).2.2.1]
theorem b3_at (c : Dev nD) (t : Fin cfg0.N) (y : S512x512.Idx) (i : S4096x512.Idx) (e0 : (i 0 : ℕ) = t.val * 512 + y 0)
    (e1 : (i 1 : ℕ) = y 1) : b3 m c t y = V m c main_v3 i := by
  unfold b3; blk_ext [iblk, (idx t).2.2.2.1]
theorem b4_at (c : Dev nD) (t : Fin cfg0.N) (y : S512x128.Idx) (i : S4096x128.Idx) (e0 : (i 0 : ℕ) = t.val * 512 + y 0)
    (e1 : (i 1 : ℕ) = y 1) : b4 m c t y = V m c main_v6 i := by
  unfold b4; blk_ext [iblk, (idx t).2.2.2.2.1]
theorem b5_at (c : Dev nD) (t : Fin cfg0.N) (y : S2176x1024.Idx) : b5 m c t y = V m c main_v14 y := by
  unfold b5; blk_ext [iblk, (idx t).2.2.2.2.2.1]
theorem b6_at (c : Dev nD) (t : Fin cfg0.N) (y : S512x1024.Idx) (i : S4096x1024.Idx) (e0 : (i 0 : ℕ) = t.val * 512 + y 0)
    (e1 : (i 1 : ℕ) = y 1) : b6 m c t y = V m c main_arg0 i := by
  unfold b6; blk_ext [iblk, (idx t).2.2.2.2.2.2.1]
theorem b7_at (c : Dev nD) (t : Fin cfg0.N) (y : S512x1024.Idx) (i : S4096x1024.Idx) (e0 : (i 0 : ℕ) = t.val * 512 + y 0)
    (e1 : (i 1 : ℕ) = y 1) : b7 m c t y = V m c main_arg8 i := by
  unfold b7; blk_ext [iblk, (idx t).2.2.2.2.2.2.2.1]
theorem b8_at (c : Dev nD) (t : Fin cfg0.N) (y : S1x1024.Idx) : b8 m c t y = V m c main_arg1 y := by
  unfold b8; blk_ext [iblk, (idx t).2.2.2.2.2.2.2.2.1]

/-- The gradient of the norm's output: the joined gradients times the projection's rows. -/
def dhOf (q k v u : FVec Ideal S4096x512 .bf16) (f : FVec Ideal S4096x128 .bf16) (w : FVec Ideal S2176x1024 .bf16) : FVec Ideal S4096x1024 .f32 := fun i =>
  pieces (s4 := 512) (s5 := 128) (n := 2176) rfl (fun e => q (ix2 (i 0) e)) (fun e => k (ix2 (i 0) e)) (fun e => v (ix2 (i 0) e))
    (fun e => u (ix2 (i 0) e)) (fun e => f (ix2 (i 0) e)) (fun e => w (ix2 e (i 1)))

theorem pay3_at (q k v u : Vec Ideal S512x512 .bf16) (f : Vec Ideal S512x128 .bf16) (w : Vec Ideal S2176x1024 .bf16) (j : S512x1024.Idx) :
    k0_pay3 (F := Ideal) q k v u f w j
      = pieces (s4 := 512) (s5 := 128) (n := 2176) rfl (fun e => q (ix2 (j 0) e)) (fun e => k (ix2 (j 0) e)) (fun e => v (ix2 (j 0) e))
          (fun e => u (ix2 (j 0) e)) (fun e => f (ix2 (j 0) e)) (fun e => w (ix2 e (j 1))) := by
  obtain ⟨r, d, rfl⟩ : ∃ (r : Fin 512) (d : Fin 1024), j = ix2 r d := ⟨j 0, j 1, by funext a; fin_cases a <;> rfl⟩
  rw [← sum_joined]
  unfold joined
  pointwise [k0_pay3]

abbrev DH (c : Dev nD) : FVec Ideal S4096x1024 .f32 :=
  dhOf (V m c main_v0) (V m c main_v1) (V m c main_v2) (V m c main_v3) (V m c main_v6) (V m c main_v14)

/-- A point's product is the whole gradient's rows. -/
theorem dh_block (c : Dev nD) (t : Fin cfg0.N) (j : S512x1024.Idx) (i : S4096x1024.Idx) (e0 : (i 0 : ℕ) = t.val * 512 + j 0) (e1 : (i 1 : ℕ) = j 1) :
    k0_pay3 (F := Ideal) (b0 m c t) (b1 m c t) (b2 m c t) (b3 m c t) (b4 m c t) (b5 m c t) j = DH m c i := by
  rw [pay3_at]
  unfold DH dhOf
  have ej : j 1 = i 1 := Fin.ext e1.symm
  have h0 (e : Fin 512) : b0 m c t (ix2 (j 0) e) = V m c main_v0 (ix2 (i 0) e) := b0_at m c t (ix2 (j 0) e) (ix2 (i 0) e) e0 rfl
  have h1 (e : Fin 512) : b1 m c t (ix2 (j 0) e) = V m c main_v1 (ix2 (i 0) e) := b1_at m c t (ix2 (j 0) e) (ix2 (i 0) e) e0 rfl
  have h2 (e : Fin 512) : b2 m c t (ix2 (j 0) e) = V m c main_v2 (ix2 (i 0) e) := b2_at m c t (ix2 (j 0) e) (ix2 (i 0) e) e0 rfl
  have h3 (e : Fin 512) : b3 m c t (ix2 (j 0) e) = V m c main_v3 (ix2 (i 0) e) := b3_at m c t (ix2 (j 0) e) (ix2 (i 0) e) e0 rfl
  have h4 (e : Fin 128) : b4 m c t (ix2 (j 0) e) = V m c main_v6 (ix2 (i 0) e) := b4_at m c t (ix2 (j 0) e) (ix2 (i 0) e) e0 rfl
  simp only [h0, h1, h2, h3, h4, b5_at, ej]

theorem pay1_at (h : FVec Ideal S512x1024 .f32) (x : Vec Ideal S512x1024 .f32) (g : Vec Ideal S1x1024 .f32) (y : Vec Ideal S512x1024 .f32) (j : S512x1024.Idx) :
    k0_pay1 (F := Ideal) h (k0_pay4 x) (k0_pay5 x) g y j
      = y j + nb (fun k => x (ix2 (j 0) k)) (fun k => h (ix2 (j 0) k) * g (ix2 0 k)) (j 1) := by
  obtain ⟨r, d, rfl⟩ : ∃ (r : Fin 512) (d : Fin 1024), j = ix2 r d := ⟨j 0, j 1, by funext a; fin_cases a <;> rfl⟩
  unfold nb rs ms
  pointwise [k0_pay1, k0_pay5, k0_pay4]

/-- The input's gradient: the residual's gradient plus the gradient through the norm. -/
def dxOf (dy x h : FVec Ideal S4096x1024 .f32) (g : FVec Ideal S1x1024 .f32) : FVec Ideal S4096x1024 .f32 := fun i =>
  dy i + nb (fun k => x (ix2 (i 0) k)) (fun k => h (ix2 (i 0) k) * g (ix2 0 k)) (i 1)

/-- A row's term in the gradient of the norm's weight. -/
def dnRow (x h : FVec Ideal S4096x1024 .f32) (r : Fin 4096) (d : Fin 1024) : EReal :=
  h (ix2 r d) * (x (ix2 r d) * rs (fun k => x (ix2 r k)))

/-- The gradient of the norm's weight. -/
def dnOf (x h : FVec Ideal S4096x1024 .f32) : FVec Ideal S1x1024 .f32 := fun i => ∑ r : Fin 4096, dnRow x h r (i 1)

abbrev DX (c : Dev nD) : FVec Ideal S4096x1024 .f32 := dxOf (V m c main_arg8) (V m c main_arg0) (DH m c) (V m c main_arg1)
abbrev DN (c : Dev nD) : FVec Ideal S1x1024 .f32 := dnOf (V m c main_arg0) (DH m c)

theorem pay1_eq (c : Dev nD) (t : Fin cfg0.N) (j : S512x1024.Idx) (i : S4096x1024.Idx) (e0 : (i 0 : ℕ) = t.val * 512 + j 0) (e1 : (i 1 : ℕ) = j 1) :
    k0_pay1 (F := Ideal) (k0_pay3 (b0 m c t) (b1 m c t) (b2 m c t) (b3 m c t) (b4 m c t) (b5 m c t)) (k0_pay4 (b6 m c t)) (k0_pay5 (b6 m c t))
      (b8 m c t) (b7 m c t) j = DX m c i := by
  have ej : j 1 = i 1 := Fin.ext e1.symm
  have e6 (k : Fin 1024) : b6 m c t (ix2 (j 0) k) = V m c main_arg0 (ix2 (i 0) k) := b6_at m c t (ix2 (j 0) k) (ix2 (i 0) k) e0 rfl
  have eh (k : Fin 1024) : k0_pay3 (F := Ideal) (b0 m c t) (b1 m c t) (b2 m c t) (b3 m c t) (b4 m c t) (b5 m c t) (ix2 (j 0) k) = DH m c (ix2 (i 0) k) :=
    dh_block m c t (ix2 (j 0) k) (ix2 (i 0) k) e0 rfl
  rw [pay1_at]
  unfold DX dxOf
  simp only [b8_at, e6, eh, b7_at m c t j i e0 e1, ej]

theorem out9 (c : Dev nD) (t : Fin cfg0.N) (j : S512x1024.Idx) (i : S4096x1024.Idx) (e0 : (i 0 : ℕ) = t.val * 512 + j 0) (e1 : (i 1 : ℕ) = j 1) :
    (outsAt0 m c t.val t.isLt).1 j = DX m c i := by
  refine Eq.trans ?_ (pay1_eq m c t j i e0 e1)
  by_cases h0 : t.val % 8 = 0
  · rw [outsAt0_A m c t h0]; frame_out
  · rw [outsAt0_B m c t h0]; frame_out

theorem final9 (c : Dev nD) : (dats m 0 c).arrAt 9 (cfgs 0).N = DX m c := by
  refine (dats m 0 c).arrAt_eq_of_covers 9 _ (by decide +kernel) fun t hf y => ?_
  blk_simp; rw [after0_9]
  refine out9 m c t y _ ?_ ?_
  all_goals (blk_simp [idx t] <;> try omega)

theorem row_lt (t : Fin cfg0.N) (r : Fin 512) : t.val * 512 + r.val < 4096 := by
  have := (idx t).2.2.2.2.2.2.2.2.2.2.2
  have := r.isLt
  omega

/-- What point `t` adds to the norm weight's gradient. -/
def dnPart (c : Dev nD) (t : Fin cfg0.N) (j : S1x1024.Idx) : EReal :=
  ∑ r : Fin 512, dnRow (V m c main_arg0) (DH m c) ⟨_, row_lt t r⟩ (j 1)

theorem pay6_at (q k v u : Vec Ideal S512x512 .bf16) (f : Vec Ideal S512x128 .bf16) (w : Vec Ideal S2176x1024 .bf16) (x : Vec Ideal S512x1024 .f32)
    (g : Vec Ideal S1x1024 .f32) (j : S1x1024.Idx) :
    k0_pay6 (F := Ideal) q k v u f w x g j
      = g j + ∑ r : Fin 512, k0_pay3 (F := Ideal) q k v u f w (ix2 r (j 1)) * (x (ix2 r (j 1)) * rs (fun k => x (ix2 r k))) := by
  obtain ⟨r, d, rfl⟩ : ∃ (r : Fin 1) (d : Fin 1024), j = ix2 r d := ⟨j 0, j 1, by funext a; fin_cases a <;> rfl⟩
  unfold rs ms k0_pay6
  generalize k0_pay3 (F := Ideal) q k v u f w = h
  pointwise [k0_pay5, k0_pay4]

theorem pay6_eq (c : Dev nD) (t : Fin cfg0.N) (g : Vec Ideal S1x1024 .f32) (j : S1x1024.Idx) :
    k0_pay6 (F := Ideal) (b0 m c t) (b1 m c t) (b2 m c t) (b3 m c t) (b4 m c t) (b5 m c t) (b6 m c t) g j = g j + dnPart m c t j := by
  rw [pay6_at]
  refine congrArg₂ (· + ·) rfl (Finset.sum_congr rfl fun r _ => ?_)
  have e6 (k : Fin 1024) : b6 m c t (ix2 r k) = V m c main_arg0 (ix2 ⟨_, row_lt t r⟩ k) := b6_at m c t (ix2 r k) (ix2 ⟨_, row_lt t r⟩ k) rfl rfl
  unfold dnRow
  rw [dh_block m c t (ix2 r (j 1)) (ix2 ⟨_, row_lt t r⟩ (j 1)) rfl rfl, e6 (j 1)]
  simp only [e6]

theorem dn_first (c : Dev nD) (t : Fin cfg0.N) (h0 : t.val % 8 = 0) (j : S1x1024.Idx) :
    (outsAt0 m c t.val t.isLt).2 j = 0 + dnPart m c t j := by
  refine Eq.trans (b := k0_pay6 (F := Ideal) (b0 m c t) (b1 m c t) (b2 m c t) (b3 m c t) (b4 m c t) (b5 m c t) (b6 m c t) (k0_pay2 (F := Ideal)) j) ?_ ?_
  · rw [outsAt0_A m c t h0]; frame_out
  · rw [pay6_eq]
    refine congrArg (· + _) ?_
    pointwise [k0_pay2]

theorem dn_next (c : Dev nD) (t : Fin cfg0.N) (h0 : ¬t.val % 8 = 0) (j : S1x1024.Idx) :
    (outsAt0 m c t.val t.isLt).2 j = (outsAt0 m c (t.val - 1) (Nat.lt_of_le_of_lt (Nat.sub_le _ _) t.isLt)).2 j + dnPart m c t j := by
  refine Eq.trans (b := k0_pay6 (F := Ideal) (b0 m c t) (b1 m c t) (b2 m c t) (b3 m c t) (b4 m c t) (b5 m c t) (b6 m c t)
    ((outsAt0 m c (t.val - 1) (Nat.lt_of_le_of_lt (Nat.sub_le _ _) t.isLt)).2) j) ?_ (pay6_eq m c t _ j)
  rw [outsAt0_B m c t h0]; frame_out

/-- The points' parts together are the sum over all rows. -/
theorem dn_sum (c : Dev nD) (y : S1x1024.Idx) : ∑ t : Fin cfg0.N, dnPart m c t y = DN m c y :=
  Fin.sum_mul_add_congr (L := 4096) (S := cfg0.N) (n := 512)
    (F := fun t r => dnRow (V m c main_arg0) (DH m c) ⟨_, row_lt t r⟩ (y 1)) (fun a r hl => rfl)

/-- The norm weight's gradient after the last point. -/
theorem out10 (c : Dev nD) (t : Fin cfg0.N) (h : t.val % 8 = 7) (y : S1x1024.Idx) : (outsAt0 m c t.val t.isLt).2 y = DN m c y := by
  have hN : t.val + 1 = cfg0.N := by have h : t.val < grid0.N := t.isLt; have h' := N_0; show t.val + 1 = grid0.N; omega
  rw [Pipeline.eq_sum_fin_of_reset_step_apply_last (fun n h => (outsAt0 m c n h).2) 8 (fun _ => (0 : EReal)) (dnPart m c)
    (fun t h j => dn_first m c t h j) (fun t h j => dn_next m c t h j) (le_of_eq N_0) t hN y, zero_add, dn_sum]

theorem final10 (c : Dev nD) : (dats m 0 c).arrAt 10 (cfgs 0).N = DN m c := by
  refine (dats m 0 c).arrAt_eq_of_covers 10 _ (by decide +kernel) fun t hf y => ?_
  have e1 : ((win0_10.blk t).view.emb y) 1 = y 1 := Fin.ext (by blk_simp [idx t])
  blk_simp; rw [after0_10]
  refine (out10 m c t ((flush0_10 t).mp hf) y).trans ?_
  exact congrArg (fun d => ∑ r : Fin 4096, dnRow (V m c main_arg0) (DH m c) r d) e1.symm
end Cert.InprojBwdIdeal.Own
-- ==== Proof.InprojBwdHost.lean ====
module
public import proofs.«01_k».proof.Proof.InprojBwdArray
public import Idealize.ShloMosaic.Lib.StableHlo.RunRead

/-!
# The input projection's backward kernel: its operands

The arrays the host hands the kernel, read at an index in terms of the arguments.
-/

@[expose] public section
set_option maxRecDepth 16384
noncomputable section
open Idealize.ShloMosaic Idealize.ShloMosaic.TcCoe Idealize.SL.Sem
open scoped BigOperators
namespace Cert.InprojBwdIdeal.Own
open Cert.InprojBwdIdeal Cert.InprojBwdIdeal.Gen Cert.BlockMath
variable (m : (ℓ : Loc nD τ sig) → Buf (Elt Ideal) ℓ)

abbrev A0 (c : Dev nD) : FVec Ideal S4096x1024 .f32 := m ((c : Thread nD τ).loc main_arg0)
abbrev A1 (c : Dev nD) : FVec Ideal S1x1024 .f32 := m ((c : Thread nD τ).loc main_arg1)
abbrev A2 (c : Dev nD) : FVec Ideal S1x1024x2056 .f32 := m ((c : Thread nD τ).loc main_arg2)
abbrev A3 (c : Dev nD) : FVec Ideal S4096x512 .f32 := m ((c : Thread nD τ).loc main_arg3)
abbrev A4 (c : Dev nD) : FVec Ideal S4096x512 .f32 := m ((c : Thread nD τ).loc main_arg4)
abbrev A5 (c : Dev nD) : FVec Ideal S4096x512 .f32 := m ((c : Thread nD τ).loc main_arg5)
abbrev A6 (c : Dev nD) : FVec Ideal S4096x8 .f32 := m ((c : Thread nD τ).loc main_arg6)
abbrev A7 (c : Dev nD) : FVec Ideal S4096x512 .f32 := m ((c : Thread nD τ).loc main_arg7)
abbrev A8 (c : Dev nD) : FVec Ideal S4096x1024 .f32 := m ((c : Thread nD τ).loc main_arg8)
abbrev V0 (c : Dev nD) : FVec Ideal S4096x512 .bf16 := V m c main_v0
abbrev V1 (c : Dev nD) : FVec Ideal S4096x512 .bf16 := V m c main_v1
abbrev V2 (c : Dev nD) : FVec Ideal S4096x512 .bf16 := V m c main_v2
abbrev V3 (c : Dev nD) : FVec Ideal S4096x512 .bf16 := V m c main_v3
abbrev V5 (c : Dev nD) : FVec Ideal S4096x128 .bf16 := V m c main_v6
abbrev V13 (c : Dev nD) : FVec Ideal S2176x1024 .bf16 := V m c main_v14

theorem v0_at (c : Dev nD) (i : S4096x512.Idx) : V0 m c i = A3 m c i := by
  unfold V0; entry_read
  pointwise []
theorem v1_at (c : Dev nD) (i : S4096x512.Idx) : V1 m c i = A4 m c i := by
  unfold V1; entry_read
  pointwise []
theorem v2_at (c : Dev nD) (i : S4096x512.Idx) : V2 m c i = A5 m c i := by
  unfold V2; entry_read
  pointwise []
theorem v3_at (c : Dev nD) (i : S4096x512.Idx) : V3 m c i = A7 m c i := by
  unfold V3; entry_read
  pointwise []
theorem v5_at (c : Dev nD) (r : Fin 4096) (e : Fin 8) : V5 m c (ix2 r ⟨e.val, by omega⟩) = A6 m c (ix2 r e) := by
  unfold V5; entry_read
  pointwise []
theorem v5_zero (c : Dev nD) (r : Fin 4096) (e : Fin 120) : V5 m c (ix2 r ⟨8 + e.val, by omega⟩) = 0 := by
  unfold V5; entry_read
  pointwise []
/-- The four pieces of the projection's rows, as they stand just before they are laid end to end. -/
abbrev W10 (c : Dev nD) : FVec Ideal S1536x1024 .bf16 := StableHlo.upto hostOps0 (fun b => m (c, b)) 16 (Proc.devRef .tc main_v10)
abbrev W11 (c : Dev nD) : FVec Ideal S512x1024 .bf16 := StableHlo.upto hostOps0 (fun b => m (c, b)) 16 (Proc.devRef .tc main_v11)
abbrev W12 (c : Dev nD) : FVec Ideal S8x1024 .bf16 := StableHlo.upto hostOps0 (fun b => m (c, b)) 16 (Proc.devRef .tc main_v12)
abbrev W13 (c : Dev nD) : FVec Ideal S120x1024 .bf16 := StableHlo.upto hostOps0 (fun b => m (c, b)) 16 (Proc.devRef .tc main_v13)

theorem v13_eq (c : Dev nD) : V13 m c = concatenate S2176x1024 0 [⟨S1536x1024, W10 m c⟩, ⟨S512x1024, W11 m c⟩, ⟨S8x1024, W12 m c⟩, ⟨S120x1024, W13 m c⟩]
    concatenates_S1536x1024_S512x1024_S8x1024_S120x1024_S2176x1024_d0 := by
  unfold V13 V
  after_reads_simp
  rfl

theorem w10_at (c : Dev nD) (e : Fin 1536) (d : Fin 1024) : W10 m c (ix2 e d) = A2 m c (ix3 0 d ⟨e.val, by omega⟩) := by
  unfold W10
  after_reads_simp
  pointwise []
theorem w11_at (c : Dev nD) (e : Fin 512) (d : Fin 1024) : W11 m c (ix2 e d) = A2 m c (ix3 0 d ⟨1544 + e.val, by omega⟩) := by
  unfold W11
  after_reads_simp
  pointwise []
theorem w12_at (c : Dev nD) (e : Fin 8) (d : Fin 1024) : W12 m c (ix2 e d) = A2 m c (ix3 0 d ⟨1536 + e.val, by omega⟩) := by
  unfold W12
  after_reads_simp
  pointwise []

theorem v13_at (c : Dev nD) (e : Fin 1536) (d : Fin 1024) : V13 m c (ix2 ⟨e.val, by omega⟩ d) = A2 m c (ix3 0 d ⟨e.val, by omega⟩) := by
  rw [v13_eq, ← w10_at]
  generalize W10 m c = a; generalize W11 m c = b; generalize W12 m c = x; generalize W13 m c = z
  pointwise []
theorem v13_pool (c : Dev nD) (e : Fin 512) (d : Fin 1024) : V13 m c (ix2 ⟨1536 + e.val, by omega⟩ d) = A2 m c (ix3 0 d ⟨1544 + e.val, by omega⟩) := by
  rw [v13_eq, ← w11_at]
  generalize W10 m c = a; generalize W11 m c = b; generalize W12 m c = x; generalize W13 m c = z
  pointwise []
theorem v13_gate (c : Dev nD) (e : Fin 8) (d : Fin 1024) : V13 m c (ix2 ⟨2048 + e.val, by omega⟩ d) = A2 m c (ix3 0 d ⟨1536 + e.val, by omega⟩) := by
  rw [v13_eq, ← w12_at]
  generalize W10 m c = a; generalize W11 m c = b; generalize W12 m c = x; generalize W13 m c = z
  pointwise []
  have := e.isLt
  rw [dif_neg (by omega), dif_neg (by omega), dif_pos (by omega)]
  exact congrArg (fun q => x (ix2 q d)) (Fin.ext (by show 2048 + e.val - 1536 - 512 = _; omega))
end Cert.InprojBwdIdeal.Own
-- ==== Proof.InprojBwdRef.lean ====
module
public import proofs.«01_k».proof.Proof.Gen.InprojBwdRefIdeal.Read
public import proofs.«01_k».proof.Proof.BlockMath
public import proofs.«01_k».proof.Proof.BlockJoin
public import Idealize.ShloMosaic.Lib.Pointwise

/-!
# The reference of the input projection's backward pass, read at an index
-/

@[expose] public section
set_option maxRecDepth 16384
noncomputable section
open Idealize.ShloMosaic Idealize.ShloMosaic.TcCoe Idealize.SL.Sem
open scoped BigOperators
namespace Cert.InprojBwdRefIdeal.Own
open Cert.InprojBwdRefIdeal Cert.InprojBwdRefIdeal.Read Cert.BlockMath

variable (x0 : (⟨S4096x1024, .f32⟩ : BufTy).Contents (Elt Ideal)) (x1 : (⟨S1x1024, .f32⟩ : BufTy).Contents (Elt Ideal))
  (x2 : (⟨S1x1024x2056, .f32⟩ : BufTy).Contents (Elt Ideal)) (x3 x4 x5 : (⟨S4096x512, .f32⟩ : BufTy).Contents (Elt Ideal))
  (x6 : (⟨S4096x8, .f32⟩ : BufTy).Contents (Elt Ideal)) (x7 : (⟨S4096x512, .f32⟩ : BufTy).Contents (Elt Ideal))
  (x8 : (⟨S4096x1024, .f32⟩ : BufTy).Contents (Elt Ideal))

theorem r_at (r : Fin 4096) : val_main_v7 x0 (ix2 r 0) = rs (fun k => x0 (ix2 r k)) := by
  unfold rs ms
  pointwise [val_main_v7, val_main_v6, val_main_v5, val_main_v4, val_main_v3, val_main_v2, val_main_v1, val_main_v0,
    val_main_cst, val_main_cst_0, val_main_cst_1]

theorem w_at (r : Fin 4096) : val_main_v10 x0 (ix2 r 0)
    = Ideal.ofBits .f32 0xBF000000#32 * Ideal.div (rs (fun k => x0 (ix2 r k))) (ms (fun k => x0 (ix2 r k))) := by
  unfold rs ms
  pointwise [val_main_v10, val_main_v9, val_main_cst_2, val_main_v8, val_main_v7, val_main_v6, val_main_v5, val_main_v4, val_main_v3, val_main_v2, val_main_v1, val_main_v0,
    val_main_cst, val_main_cst_0, val_main_cst_1]

/-- The gradient of the norm's output: the five gradients of the projection's columns, each times the columns it belongs to. -/
abbrev dH (r : Fin 4096) (d : Fin 1024) : EReal :=
  pieces (s4 := 8) (s5 := 512) (n := 2056) rfl (fun e => x3 (ix2 r e)) (fun e => x4 (ix2 r e)) (fun e => x5 (ix2 r e)) (fun e => x6 (ix2 r e))
    (fun e => x7 (ix2 r e)) (fun e => x2 (ix3 0 d e))

theorem dh_at (r : Fin 4096) (d : Fin 1024) : val_main_v18 x2 x3 x4 x5 x6 x7 (ix2 r d) = dH x2 x3 x4 x5 x6 x7 r d := by
  unfold dH
  rw [← sum_joined]
  unfold joined
  pointwise [val_main_v18, val_main_v17, val_main_v15]

theorem dx_at (r : Fin 4096) (d : Fin 1024) : val_main_v38 x0 x1 x2 x3 x4 x5 x6 x7 x8 (ix2 r d)
    = x8 (ix2 r d) + nbChain (fun k => x0 (ix2 r k)) (fun k => dH x2 x3 x4 x5 x6 x7 r k * x1 (ix2 0 k)) d := by
  unfold nbChain; simp only [← dh_at, ← w_at]; simp only [← r_at]
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_cst_4, val_main_cst_5, val_main_cst_6]
  simp only [Fin.sum_univ_one]

theorem dn_at (d : Fin 1024) : val_main_v21 x0 x2 x3 x4 x5 x6 x7 (ix2 0 d)
    = ∑ r : Fin 4096, x0 (ix2 r d) * rs (fun k => x0 (ix2 r k)) * dH x2 x3 x4 x5 x6 x7 r d := by
  simp only [← dh_at, ← r_at]
  pointwise [val_main_v21, val_main_v20, val_main_v19, val_main_cst_3, val_main_v12, val_main_v11]

end Cert.InprojBwdRefIdeal.Own
-- ==== Proof.InprojBwdEq.lean ====
module
public import proofs.«01_k».proof.Proof.InprojBwdHost
public import proofs.«01_k».proof.Proof.InprojBwdRef

/-!
# The input projection's backward kernel against its reference

On finite arguments both arrays the kernel leaves are the reference's.
-/

@[expose] public section
set_option maxRecDepth 16384
noncomputable section
open Idealize.ShloMosaic Idealize.ShloMosaic.TcCoe Idealize.SL.Sem
open scoped BigOperators
namespace Cert.InprojBwdIdeal.Own
open Cert.InprojBwdIdeal Cert.InprojBwdIdeal.Gen Cert.BlockMath
open Cert.InprojBwdRefIdeal.Own (dH)
open Cert.InprojBwdRefIdeal.Read
variable (m : (ℓ : Loc nD τ sig) → Buf (Elt Ideal) ℓ)

/-- Every argument's entries, but the residual's gradient's, are real numbers. -/
structure Fin8 (c : Dev nD) : Prop where
  a0 : ∀ i, IsR (A0 m c i)
  a1 : ∀ i, IsR (A1 m c i)
  a2 : ∀ i, IsR (A2 m c i)
  a3 : ∀ i, IsR (A3 m c i)
  a4 : ∀ i, IsR (A4 m c i)
  a5 : ∀ i, IsR (A5 m c i)
  a6 : ∀ i, IsR (A6 m c i)
  a7 : ∀ i, IsR (A7 m c i)

variable {m} {c : Dev nD}

theorem pieces_congr {s4 s5 n : ℕ} {h : 1536 + s4 + s5 = n} {q k v q' k' v' : Fin 512 → EReal} {u u' : Fin s4 → EReal} {f : Fin s5 → EReal} {w : Fin n → EReal}
    (hq : q = q') (hk : k = k') (hv : v = v') (hu : u = u') : pieces h q k v u f w = pieces h q' k' v' u' f w := by
  subst hq hk hv hu; rfl

theorem isR_pieces {s4 s5 n : ℕ} {h : 1536 + s4 + s5 = n} {q k v : Fin 512 → EReal} {u : Fin s4 → EReal} {f : Fin s5 → EReal} {w : Fin n → EReal}
    (hq : ∀ e, IsR (q e)) (hk : ∀ e, IsR (k e)) (hv : ∀ e, IsR (v e)) (hu : ∀ e, IsR (u e)) (hf : ∀ e, IsR (f e)) (hw : ∀ e, IsR (w e)) :
    IsR (pieces h q k v u f w) :=
  ((((IsR.sum fun e => (hq e).mul (hw _)).add (IsR.sum fun e => (hk e).mul (hw _))).add (IsR.sum fun e => (hv e).mul (hw _))).add
    (IsR.sum fun e => (hu e).mul (hw _))).add (IsR.sum fun e => (hf e).mul (hw _))

theorem dh_eq (r : Fin 4096) (d : Fin 1024) :
    DH m c (ix2 r d) = dH (A2 m c) (A3 m c) (A4 m c) (A5 m c) (A6 m c) (A7 m c) r d := by
  show pieces (s4 := 512) (s5 := 128) (n := 2176) rfl (fun e => V0 m c (ix2 r e)) (fun e => V1 m c (ix2 r e)) (fun e => V2 m c (ix2 r e))
    (fun e => V3 m c (ix2 r e)) (fun e => V5 m c (ix2 r e)) (fun e => V13 m c (ix2 e d)) = _
  exact (pieces_congr (funext fun e => v0_at m c (ix2 r e)) (funext fun e => v1_at m c (ix2 r e)) (funext fun e => v2_at m c (ix2 r e))
    (funext fun e => v3_at m c (ix2 r e))).trans (pieces_eq _ _ _ _ _ _ _ _ (fun e => v13_at m c e d) (fun e => v13_pool m c e d)
    (fun e => v13_gate m c e d) (fun e => v5_at m c r e) (fun e => v5_zero m c r e))

variable (h : Fin8 m c)
include h

theorem isR_dh (r : Fin 4096) (d : Fin 1024) : IsR (dH (A2 m c) (A3 m c) (A4 m c) (A5 m c) (A6 m c) (A7 m c) r d) :=
  isR_pieces (fun e => h.a3 _) (fun e => h.a4 _) (fun e => h.a5 _) (fun e => h.a6 _) (fun e => h.a7 _) (fun e => h.a2 _)

omit h in
theorem dx_host (r : Fin 4096) (d : Fin 1024) : DX m c (ix2 r d)
    = A8 m c (ix2 r d) + nb (fun k => A0 m c (ix2 r k)) (fun k => DH m c (ix2 r k) * A1 m c (ix2 0 k)) d := by
  generalize hd : DH m c = y
  have e8 := V_main_arg8 m c
  have e0 := V_main_arg0 m c
  have e1 := V_main_arg1 m c
  show dxOf (V m c main_arg8) (V m c main_arg0) (DH m c) (V m c main_arg1) (ix2 r d) = _
  rw [e8, e0, e1, hd]
  rfl

theorem dx_real (r : Fin 4096) (d : Fin 1024) : DX m c (ix2 r d)
    = A8 m c (ix2 r d) + nbChain (fun k => A0 m c (ix2 r k)) (fun k => dH (A2 m c) (A3 m c) (A4 m c) (A5 m c) (A6 m c) (A7 m c) r k * A1 m c (ix2 0 k)) d := by
  rw [dx_host, show (fun k => DH m c (ix2 r k) * A1 m c (ix2 0 k)) = fun k => dH (A2 m c) (A3 m c) (A4 m c) (A5 m c) (A6 m c) (A7 m c) r k * A1 m c (ix2 0 k)
    from funext fun k => by rw [dh_eq]]
  rw [nb_eq_chain (fun k => h.a0 _) (fun k => (isR_dh h r k).mul (h.a1 _)) d]

theorem arr9 : DX m c = val_main_v38 (F := Ideal) (A0 m c) (A1 m c) (A2 m c) (A3 m c) (A4 m c) (A5 m c) (A6 m c) (A7 m c) (A8 m c) := by
  funext i
  obtain ⟨r, d, rfl⟩ : ∃ (r : Fin 4096) (d : Fin 1024), i = ix2 r d := ⟨i 0, i 1, by funext a; fin_cases a <;> rfl⟩
  exact (dx_real h r d).trans (Cert.InprojBwdRefIdeal.Own.dx_at _ _ _ _ _ _ _ _ _ r d).symm

omit h in
theorem arr10 : DN m c = val_main_v21 (F := Ideal) (A0 m c) (A2 m c) (A3 m c) (A4 m c) (A5 m c) (A6 m c) (A7 m c) := by
  funext i
  obtain ⟨z, d, rfl⟩ : ∃ (z : Fin 1) (d : Fin 1024), i = ix2 z d := ⟨i 0, i 1, by funext a; fin_cases a <;> rfl⟩
  obtain rfl : z = 0 := Subsingleton.elim _ _
  refine Eq.trans ?_ (Cert.InprojBwdRefIdeal.Own.dn_at _ _ _ _ _ _ _ d).symm
  show ∑ r : Fin 4096, dnRow (V m c main_arg0) (DH m c) r d = _
  rw [V_main_arg0]
  refine Finset.sum_congr rfl fun r _ => ?_
  unfold dnRow
  rw [dh_eq, mul_comm]

end Cert.InprojBwdIdeal.Own
-- ==== Proof.InprojBwdClaim.lean ====
module
public import proofs.«01_k».proof.Defs
public import proofs.«01_k».proof.Proof.InprojBwdEq
public import proofs.«01_k».proof.Proof.ClaimMath
public import proofs.«01_k».proof.Proof.Gen.InprojBwdRefIdeal.Run
public import proofs.«01_k».proof.Proof.Gen.InprojBwd.Frame

/-!
# The claims about the input projection's backward kernel
-/

@[expose] public section
set_option maxRecDepth 16384
noncomputable section
open Idealize.ShloMosaic Idealize.ShloMosaic.TcCoe Idealize.SL.Sem

namespace Cert.Pre_finite_inproj.Own
open Cert.Pre_finite_inproj

instance facts : Cert.Pre_finite_inproj.Facts where
  bcast_S_S4096x1024 := by decide
  bcast_S_S1x1024 := by decide
  bcast_S_S1x1024x2056 := by decide
  bcast_S_S4096x512 := by decide
  bcast_S_S4096x8 := by decide

end Cert.Pre_finite_inproj.Own

namespace Cert.InprojBwdIdeal.Own
open Cert.InprojBwdIdeal Cert.InprojBwdIdeal.Gen Cert.ClaimMath

theorem fin8 (m : (ℓ : Loc nD τ sig) → Buf (Elt Ideal) ℓ) (h : Cert.Pre_InprojBwdIdeal_finite_inproj m) (c : Dev nD) : Fin8 m c := by
  obtain ⟨h0, h1, h2, h3, h4, h5, h6, h7⟩ := h c
  have g0 (i) := congrFun h0 i
  have g1 (i) := congrFun h1 i
  have g2 (i) := congrFun h2 i
  have g3 (i) := congrFun h3 i
  have g4 (i) := congrFun h4 i
  have g5 (i) := congrFun h5 i
  have g6 (i) := congrFun h6 i
  have g7 (i) := congrFun h7 i
  exact ⟨fun i => isR_of_test (g0 i), fun i => isR_of_test (g1 i), fun i => isR_of_test (g2 i), fun i => isR_of_test (g3 i),
    fun i => isR_of_test (g4 i), fun i => isR_of_test (g5 i), fun i => isR_of_test (g6 i), fun i => isR_of_test (g7 i)⟩

theorem frame_ref : Cert.quiescent_InprojBwdRefIdeal := fun m ρ _ =>
  (θ_run Cert.InprojBwdRefIdeal.defs _ _).mono (fun r h => ⟨fun c => (h c).2.2, sem_eq_zero_of_no_sems (by decide) r.2⟩)
    (Cert.InprojBwdRefIdeal.Value.run m ρ)

theorem value : Cert.algebraic_InprojBwdIdeal_InprojBwdRefIdeal_pre_finite_inproj := by
  intro m g m' g' hp hag
  refine ⟨fun c => DX m c, fun c => DN m c, ?_, ?_⟩
  · refine (θ_run defs _ _).mono (fun r h c => ?_) (θ_run_and (run_main m g) (unchanged m g))
    exact ⟨((h.1 c).1 9).trans (final9 m c), ((h.1 c).1 10).trans (final10 m c), h.2 c⟩
  · refine (θ_run Cert.InprojBwdRefIdeal.defs _ _).mono (fun r h c => ?_) (Cert.InprojBwdRefIdeal.Value.run m' g')
    have hf := fin8 m hp c
    obtain ⟨a0, a1, a2, a3, a4, a5, a6, a7, a8⟩ := hag c
    obtain ⟨r0, r1, ra⟩ := h c
    exact ⟨r0.trans ((Cert.InprojBwdRefIdeal.Read.val_main_v38_eq m' c).trans (nine a0 a1 a2 a3 a4 a5 a6 a7 a8 Cert.InprojBwdRefIdeal.Read.val_main_v38 (arr9 hf))),
      r1.trans ((Cert.InprojBwdRefIdeal.Read.val_main_v21_eq _ _ _ _ _ _ _).trans
        (seven a0 a2 a3 a4 a5 a6 a7 Cert.InprojBwdRefIdeal.Read.val_main_v21 arr10)), ra⟩

end Cert.InprojBwdIdeal.Own
-- ==== Proof.MlpFwdTile.lean ====
module
public import proofs.«01_k».proof.Proof.Gen.MlpFwdIdeal.Frame
public import proofs.«01_k».proof.Proof.BlockMath
public import Idealize.ShloMosaic.Lib.Pipeline.ValueKit
public import Idealize.ShloMosaic.Lib.Pointwise
/-!
# The tiles of the MLP's forward kernel

What the kernel's body leaves, at one grid point, in the three tiles kept for the backward pass: three column
chunks per tile, each made from the products of the rows with the shard's rows of the gate and the up projection.
-/

@[expose] public section
set_option maxRecDepth 16384
noncomputable section
open Idealize.ShloMosaic Idealize.ShloMosaic.TcCoe Idealize.SL.Sem
open Idealize.ShloMosaic.Pipeline (Dat)
open scoped BigOperators
namespace Cert.MlpFwdIdeal.Own
open Cert.MlpFwdIdeal Cert.MlpFwdIdeal.Gen Cert.BlockMath
variable (m : (ℓ : Loc nD τ sig) → Buf (Elt Ideal) ℓ)

/-- Every window's block index at every grid point (row block `t / 4`, feature shard `t % 4`). -/
theorem idx : ∀ t : Fin cfg0.N, win0_0.index t = ![t.val / 4, 0]
    ∧ win0_1.index t = ![t.val / 4, 0]
    ∧ win0_2.index t = ![0, 0, 0]
    ∧ win0_3.index t = ![0, 0, 0]
    ∧ win0_4.index t = ![0, 0, 0]
    ∧ win0_5.index t = ![t.val / 4, 0]
    ∧ win0_6.index t = ![0, 0]
    ∧ win0_7.index t = ![0, 0]
    ∧ win0_8.index t = ![0, 0]
    ∧ win0_9.index t = ![t.val / 4, 0]
    ∧ win0_10.index t = ![t.val / 4, 0]
    ∧ win0_11.index t = ![t.val % 4, t.val / 4, 0]
    ∧ win0_12.index t = ![t.val % 4, t.val / 4, 0]
    ∧ win0_13.index t = ![t.val % 4, t.val / 4, 0]
    ∧ t.val / 4 < 8 :=
  (by decide +kernel : ∀ t : Fin grid0.N, _)

/-- Where the body's weight loads start: at the shard's own slab, at the chunk's first row. -/
theorem offs : ∀ t : Fin cfg0.N, k0_off1 (grid0.coords t) = ![t.val % 4, 0, 0]
    ∧ k0_off2 (grid0.coords t) = ![t.val % 4, 256, 0]
    ∧ k0_off3 (grid0.coords t) = ![t.val % 4, 512, 0]
    ∧ k0_off4 (grid0.coords t) = ![t.val % 4, 0, 0] :=
  (by decide +kernel : ∀ t : Fin grid0.N, _)

/-- A gate entry's silu, and the up entry times silu's derivative at the gate entry. -/
def siOf (g : EReal) : EReal := g * Ideal.logistic g
def udOf (g u : EReal) : EReal := u * (Ideal.logistic g * (1 + g * (1 - Ideal.logistic g)))

/-- The three column chunks (256, 256 and 192 wide) of a 704-column tile cover it. -/
theorem cover (w2 : Vec Ideal S1x512x192 .bf16) (w1 w0 : Vec Ideal S1x512x256 .bf16) (y : S1x512x704.Idx) :
    ∃ p ∈ ([⟨Rect.unit ![0, 0, 512] ![1, 512, 192] inb_S1x512x704_S1x512x192_0_0_512, w2⟩,
      ⟨Rect.unit ![0, 0, 256] ![1, 512, 256] inb_S1x512x704_S1x512x256_0_0_256, w1⟩,
      ⟨Rect.unit ![0, 0, 0] ![1, 512, 256] inb_S1x512x704_S1x512x256_0_0_0, w0⟩] : List (View.Piece (Elt Ideal) S1x512x704 .bf16)),
      y ∈ p.1.set := by
  idx_bounds y
  have key (o n : ℕ) (inb : ∀ a, (![0, 0, o] : Fin 3 → ℕ) a + (![1, 512, n] : Fin 3 → ℕ) a ≤ S1x512x704.size a)
      (h : o ≤ (y 2 : ℕ)) (h' : (y 2 : ℕ) < o + n) : y ∈ (Rect.unit (s := S1x512x704) ![0, 0, o] ![1, 512, n] inb).set := by
    rw [Rect.mem_set_unit]
    intro a
    match a with
    | ⟨0, _⟩ => exact ⟨Nat.zero_le _, (by omega : (y 0 : ℕ) < 0 + 1)⟩
    | ⟨1, _⟩ => exact ⟨Nat.zero_le _, (by omega : (y 1 : ℕ) < 0 + 512)⟩
    | ⟨2, _⟩ => exact ⟨h, h'⟩
  by_cases h1 : (y 2 : ℕ) < 256
  · exact ⟨_, .tail _ (.tail _ (.head _)), key 0 256 inb_S1x512x704_S1x512x256_0_0_0 (Nat.zero_le _) (by omega)⟩
  · by_cases h2 : (y 2 : ℕ) < 512
    · exact ⟨_, .tail _ (.head _), key 256 256 inb_S1x512x704_S1x512x256_0_0_256 (by omega) (by omega)⟩
    · exact ⟨_, .head _, key 512 192 inb_S1x512x704_S1x512x192_0_0_512 (by omega) (by omega)⟩

/-- The factor of the gate's gradient: the up branch times the derivative of silu. -/
theorem tileU (B : Vec Ideal S512x1024 .bf16) (G U : Vec Ideal S4x704x1024 .bf16) (s : Fin 4)
    (o1 o2 o3 : Fin 3 → ℕ) (e1 : o1 = ![s.val, 0, 0]) (e2 : o2 = ![s.val, 256, 0]) (e3 : o3 = ![s.val, 512, 0]) (i1) (i2) (i3)
    (y : S1x512x704.Idx) :
    View.canon (Val := Elt Ideal) (s := S1x512x704) (e := .bf16)
      [⟨Rect.unit ![0, 0, 512] ![1, 512, 192] inb_S1x512x704_S1x512x192_0_0_512,
        k0_pay35 (k0_pay21 B (View.ld (S := S4x704x1024) G (Rect.unit o3 ![1, 192, 1024] i3))) (k0_pay22 B (View.ld (S := S4x704x1024) U (Rect.unit o3 ![1, 192, 1024] i3)))⟩,
      ⟨Rect.unit ![0, 0, 256] ![1, 512, 256] inb_S1x512x704_S1x512x256_0_0_256,
        k0_pay30 (k0_pay19 B (View.ld (S := S4x704x1024) G (Rect.unit o2 ![1, 256, 1024] i2))) (k0_pay20 B (View.ld (S := S4x704x1024) U (Rect.unit o2 ![1, 256, 1024] i2)))⟩,
      ⟨Rect.unit ![0, 0, 0] ![1, 512, 256] inb_S1x512x704_S1x512x256_0_0_0,
        k0_pay25 (k0_pay17 B (View.ld (S := S4x704x1024) G (Rect.unit o1 ![1, 256, 1024] i1))) (k0_pay18 B (View.ld (S := S4x704x1024) U (Rect.unit o1 ![1, 256, 1024] i1))) (k0_pay23 B (View.ld (S := S4x704x1024) G (Rect.unit o1 ![1, 256, 1024] i1))) (Scalar.ofBits .f32 0x3F800000#32)⟩] y
      = udOf (∑ k : Fin 1024, B (ix2 (y 1) k) * G (ix3 s (y 2) k)) (∑ k : Fin 1024, B (ix2 (y 1) k) * U (ix3 s (y 2) k)) := by
  subst e1 e2 e3
  unfold udOf
  canon_tiles x h using cover _ _ _ _
  all_goals
    open_payloads
    pointwise
    blk_point

/-- The gate's silu. -/
theorem tileS (B : Vec Ideal S512x1024 .bf16) (G U : Vec Ideal S4x704x1024 .bf16) (s : Fin 4)
    (o1 o2 o3 : Fin 3 → ℕ) (e1 : o1 = ![s.val, 0, 0]) (e2 : o2 = ![s.val, 256, 0]) (e3 : o3 = ![s.val, 512, 0]) (i1) (i2) (i3)
    (y : S1x512x704.Idx) :
    View.canon (Val := Elt Ideal) (s := S1x512x704) (e := .bf16)
      [⟨Rect.unit ![0, 0, 512] ![1, 512, 192] inb_S1x512x704_S1x512x192_0_0_512,
        k0_pay36 (k0_pay21 B (View.ld (S := S4x704x1024) G (Rect.unit o3 ![1, 192, 1024] i3)))⟩,
      ⟨Rect.unit ![0, 0, 256] ![1, 512, 256] inb_S1x512x704_S1x512x256_0_0_256,
        k0_pay31 (k0_pay19 B (View.ld (S := S4x704x1024) G (Rect.unit o2 ![1, 256, 1024] i2)))⟩,
      ⟨Rect.unit ![0, 0, 0] ![1, 512, 256] inb_S1x512x704_S1x512x256_0_0_0,
        k0_pay26 (k0_pay24 B (View.ld (S := S4x704x1024) G (Rect.unit o1 ![1, 256, 1024] i1)))⟩] y
      = siOf (∑ k : Fin 1024, B (ix2 (y 1) k) * G (ix3 s (y 2) k)) := by
  subst e1 e2 e3
  unfold siOf
  canon_tiles x h using cover _ _ _ _
  all_goals
    open_payloads
    pointwise
    blk_point

/-- The gated product. -/
theorem tileA (B : Vec Ideal S512x1024 .bf16) (G U : Vec Ideal S4x704x1024 .bf16) (s : Fin 4)
    (o1 o2 o3 : Fin 3 → ℕ) (e1 : o1 = ![s.val, 0, 0]) (e2 : o2 = ![s.val, 256, 0]) (e3 : o3 = ![s.val, 512, 0]) (i1) (i2) (i3)
    (y : S1x512x704.Idx) :
    View.canon (Val := Elt Ideal) (s := S1x512x704) (e := .bf16)
      [⟨Rect.unit ![0, 0, 512] ![1, 512, 192] inb_S1x512x704_S1x512x192_0_0_512,
        k0_pay37 (k0_pay21 B (View.ld (S := S4x704x1024) G (Rect.unit o3 ![1, 192, 1024] i3))) (k0_pay22 B (View.ld (S := S4x704x1024) U (Rect.unit o3 ![1, 192, 1024] i3)))⟩,
      ⟨Rect.unit ![0, 0, 256] ![1, 512, 256] inb_S1x512x704_S1x512x256_0_0_256,
        k0_pay32 (k0_pay20 B (View.ld (S := S4x704x1024) U (Rect.unit o2 ![1, 256, 1024] i2))) (k0_pay29 (k0_pay19 B (View.ld (S := S4x704x1024) G (Rect.unit o2 ![1, 256, 1024] i2))))⟩,
      ⟨Rect.unit ![0, 0, 0] ![1, 512, 256] inb_S1x512x704_S1x512x256_0_0_0,
        k0_pay27 (k0_pay18 B (View.ld (S := S4x704x1024) U (Rect.unit o1 ![1, 256, 1024] i1))) (k0_pay24 B (View.ld (S := S4x704x1024) G (Rect.unit o1 ![1, 256, 1024] i1)))⟩] y
      = siOf (∑ k : Fin 1024, B (ix2 (y 1) k) * G (ix3 s (y 2) k)) * ∑ k : Fin 1024, B (ix2 (y 1) k) * U (ix3 s (y 2) k) := by
  subst e1 e2 e3
  unfold siOf
  canon_tiles x h using cover _ _ _ _
  all_goals
    open_payloads
    pointwise
    blk_point

end Cert.MlpFwdIdeal.Own
-- ==== Proof.MlpFwdPoint.lean ====
module
public import proofs.«01_k».proof.Proof.MlpFwdTile

/-!
# The MLP's forward kernel, point by point

The grid has 8 row blocks, each walked over 4 feature shards. Every point writes its own tile of the three
arrays kept for the backward pass; a row block's four points sum the MLP's output onto the residual in scratch.
-/

@[expose] public section
set_option maxRecDepth 16384
noncomputable section
open Idealize.ShloMosaic Idealize.ShloMosaic.TcCoe Idealize.SL.Sem
open Idealize.ShloMosaic.Pipeline (Dat)
open scoped BigOperators
namespace Cert.MlpFwdIdeal.Own
open Cert.MlpFwdIdeal Cert.MlpFwdIdeal.Gen
variable (m : (ℓ : Loc nD τ sig) → Buf (Elt Ideal) ℓ)

/-- A load of a whole buffer reads what the stores before it left there. -/
theorem readCov_whole {Val : EltTy → Type} [∀ e, Nonempty (Val e)] {sg : RefSig} {κ : Kind} {sp : Space} {S : Shape} {e : EltTy}
    (v : View sg κ sp S e) (L : List (View.Piece Val S e)) {off : Fin S.rank → ℕ} (inb : ∀ a, off a + S.size a ≤ S.size a)
    (h : ∀ a, off a = 0) : v.readCov L (Rect.unit off S.size inb).toLoadRect = View.canon L := by
  unfold View.readCov
  rw [View.readAt_eq_ld, View.read_writes_junk_eq_canon, View.ld_unit_lit inb _ h]

/-- Every grid point is in one of the body's four control cases. -/
theorem cases (t : ℕ) : (t % 32 = 0 ∧ t % 4 = 0 ∧ ¬1 ≤ t % 4 ∧ ¬t % 4 = 3) ∨ (¬t % 32 = 0 ∧ ¬t % 4 = 0 ∧ 1 ≤ t % 4 ∧ ¬t % 4 = 3)
    ∨ (¬t % 32 = 0 ∧ ¬t % 4 = 0 ∧ 1 ≤ t % 4 ∧ t % 4 = 3) ∨ (¬t % 32 = 0 ∧ t % 4 = 0 ∧ ¬1 ≤ t % 4 ∧ ¬t % 4 = 3) := by
  omega

theorem lt4 (t : ℕ) : t % 4 < 4 := Nat.mod_lt _ (by decide)

/-- The input blocks of a grid point, at their shapes. -/
abbrev b0 (c : Dev nD) (t : Fin cfg0.N) : FVec Ideal S512x1024 .bf16 := iblk m c 0 t
abbrev b1 (c : Dev nD) (t : Fin cfg0.N) : FVec Ideal S512x1024 .f32 := iblk m c 1 t
abbrev b2 (c : Dev nD) (t : Fin cfg0.N) : FVec Ideal S4x704x1024 .bf16 := iblk m c 2 t
abbrev b3 (c : Dev nD) (t : Fin cfg0.N) : FVec Ideal S4x704x1024 .bf16 := iblk m c 3 t
abbrev b4 (c : Dev nD) (t : Fin cfg0.N) : FVec Ideal S4x704x1024 .bf16 := iblk m c 4 t
abbrev b5 (c : Dev nD) (t : Fin cfg0.N) : FVec Ideal S512x1024 .f32 := iblk m c 5 t
abbrev b6 (c : Dev nD) (t : Fin cfg0.N) : FVec Ideal S1x1024 .f32 := iblk m c 6 t

/-! Each block, read off its array. -/

theorem b0_at (c : Dev nD) (t : Fin cfg0.N) (y : S512x1024.Idx) (i : S4096x1024.Idx) (e0 : (i 0 : ℕ) = t.val / 4 * 512 + y 0)
    (e1 : (i 1 : ℕ) = y 1) : b0 m c t y = V m c main_v12 i := by
  unfold b0; blk_ext [iblk, (idx t).1]
theorem b1_at (c : Dev nD) (t : Fin cfg0.N) (y : S512x1024.Idx) (i : S4096x1024.Idx) (e0 : (i 0 : ℕ) = t.val / 4 * 512 + y 0)
    (e1 : (i 1 : ℕ) = y 1) : b1 m c t y = V m c main_arg0 i := by
  unfold b1; blk_ext [iblk, (idx t).2.1]
theorem b2_at (c : Dev nD) (t : Fin cfg0.N) (y : S4x704x1024.Idx) : b2 m c t y = V m c main_v16 y := by
  unfold b2; blk_ext [iblk, (idx t).2.2.1]
theorem b3_at (c : Dev nD) (t : Fin cfg0.N) (y : S4x704x1024.Idx) : b3 m c t y = V m c main_v20 y := by
  unfold b3; blk_ext [iblk, (idx t).2.2.2.1]
theorem b4_at (c : Dev nD) (t : Fin cfg0.N) (y : S4x704x1024.Idx) : b4 m c t y = V m c main_v23 y := by
  unfold b4; blk_ext [iblk, (idx t).2.2.2.2.1]
theorem b5_at (c : Dev nD) (t : Fin cfg0.N) (y : S512x1024.Idx) (i : S4096x1024.Idx) (e0 : (i 0 : ℕ) = t.val / 4 * 512 + y 0)
    (e1 : (i 1 : ℕ) = y 1) : b5 m c t y = V m c main_arg6 i := by
  unfold b5; blk_ext [iblk, (idx t).2.2.2.2.2.1]
theorem b6_at (c : Dev nD) (t : Fin cfg0.N) (y : S1x1024.Idx) : b6 m c t y = V m c main_v24 y := by
  unfold b6; blk_ext [iblk, (idx t).2.2.2.2.2.2.1]

/-- A projection of the rows by a sharded weight. -/
def proj (h : FVec Ideal S4096x1024 .bf16) (w : FVec Ideal S4x704x1024 .bf16) : FVec Ideal S4x4096x704 .bf16 := fun i =>
  ∑ k : Fin 1024, h (ix2 (i 1) k) * w (ix3 (i 0) (i 2) k)

theorem proj2 (c : Dev nD) (t : Fin cfg0.N) (y : S1x512x704.Idx) (i : S4x4096x704.Idx) (e0 : (i 0 : ℕ) = t.val % 4)
    (e1 : (i 1 : ℕ) = t.val / 4 * 512 + y 1) (e2 : (i 2 : ℕ) = y 2) :
    (∑ k : Fin 1024, b0 m c t (ix2 (y 1) k) * b2 m c t (ix3 (⟨t.val % 4, lt4 t⟩ : Fin 4) (y 2) k)) = proj (V m c main_v12) (V m c main_v16) i := by
  unfold proj
  have e0' : i 0 = (⟨t.val % 4, lt4 t⟩ : Fin 4) := Fin.ext e0
  have e2' : i 2 = y 2 := Fin.ext e2
  rw [e0', e2']
  refine Finset.sum_congr rfl fun k _ => ?_
  rw [b0_at m c t (ix2 (y 1) k) (ix2 (i 1) k) e1 rfl, b2_at]

theorem proj3 (c : Dev nD) (t : Fin cfg0.N) (y : S1x512x704.Idx) (i : S4x4096x704.Idx) (e0 : (i 0 : ℕ) = t.val % 4)
    (e1 : (i 1 : ℕ) = t.val / 4 * 512 + y 1) (e2 : (i 2 : ℕ) = y 2) :
    (∑ k : Fin 1024, b0 m c t (ix2 (y 1) k) * b3 m c t (ix3 (⟨t.val % 4, lt4 t⟩ : Fin 4) (y 2) k)) = proj (V m c main_v12) (V m c main_v20) i := by
  unfold proj
  have e0' : i 0 = (⟨t.val % 4, lt4 t⟩ : Fin 4) := Fin.ext e0
  have e2' : i 2 = y 2 := Fin.ext e2
  rw [e0', e2']
  refine Finset.sum_congr rfl fun k _ => ?_
  rw [b0_at m c t (ix2 (y 1) k) (ix2 (i 1) k) e1 rfl, b3_at]

/-- The gate's and the up projection's entries, and the three arrays kept from them. -/
abbrev GT (c : Dev nD) : FVec Ideal S4x4096x704 .bf16 := proj (V m c main_v12) (V m c main_v16)
abbrev UP (c : Dev nD) : FVec Ideal S4x4096x704 .bf16 := proj (V m c main_v12) (V m c main_v20)
def UD (c : Dev nD) : FVec Ideal S4x4096x704 .bf16 := fun i => udOf (GT m c i) (UP m c i)
def SI (c : Dev nD) : FVec Ideal S4x4096x704 .bf16 := fun i => siOf (GT m c i)
def AA (c : Dev nD) : FVec Ideal S4x4096x704 .bf16 := fun i => siOf (GT m c i) * UP m c i

/-- The tile of the gate's derivative factor after the body. -/
theorem out11 (c : Dev nD) (t : Fin cfg0.N) (y : S1x512x704.Idx) (i : S4x4096x704.Idx) (e0 : (i 0 : ℕ) = t.val % 4)
    (e1 : (i 1 : ℕ) = t.val / 4 * 512 + y 1) (e2 : (i 2 : ℕ) = y 2) :
    (outsAt0 m c t.val t.isLt).2.2.2.2.1 y = UD m c i := by
  obtain ⟨o1, o2, o3, o4⟩ := offs t
  have e : udOf (∑ k : Fin 1024, b0 m c t (ix2 (y 1) k) * b2 m c t (ix3 (⟨t.val % 4, lt4 t⟩ : Fin 4) (y 2) k))
      (∑ k : Fin 1024, b0 m c t (ix2 (y 1) k) * b3 m c t (ix3 (⟨t.val % 4, lt4 t⟩ : Fin 4) (y 2) k)) = UD m c i := by
    unfold UD GT UP
    rw [← proj2 m c t y i e0 e1 e2, ← proj3 m c t y i e0 e1 e2]
  rcases cases t.val with ⟨h0, h1, h2, h3⟩ | ⟨h0, h1, h2, h3⟩ | ⟨h0, h1, h2, h3⟩ | ⟨h0, h1, h2, h3⟩
  · rw [outsAt0_A m c t h0 h1 h2 h3]; frame_out
    exact (tileU _ _ _ ⟨t.val % 4, lt4 t⟩ _ _ _ o1 o2 o3 _ _ _ y).trans e
  · rw [outsAt0_B m c t h0 h1 h2 h3]; frame_out
    exact (tileU _ _ _ ⟨t.val % 4, lt4 t⟩ _ _ _ o1 o2 o3 _ _ _ y).trans e
  · rw [outsAt0_C m c t h0 h1 h2 h3]; frame_out
    exact (tileU _ _ _ ⟨t.val % 4, lt4 t⟩ _ _ _ o1 o2 o3 _ _ _ y).trans e
  · rw [outsAt0_D m c t h0 h1 h2 h3]; frame_out
    exact (tileU _ _ _ ⟨t.val % 4, lt4 t⟩ _ _ _ o1 o2 o3 _ _ _ y).trans e

/-- The tile of the gate's silu after the body. -/
theorem out12 (c : Dev nD) (t : Fin cfg0.N) (y : S1x512x704.Idx) (i : S4x4096x704.Idx) (e0 : (i 0 : ℕ) = t.val % 4)
    (e1 : (i 1 : ℕ) = t.val / 4 * 512 + y 1) (e2 : (i 2 : ℕ) = y 2) :
    (outsAt0 m c t.val t.isLt).2.2.2.2.2.1 y = SI m c i := by
  obtain ⟨o1, o2, o3, o4⟩ := offs t
  have e : siOf (∑ k : Fin 1024, b0 m c t (ix2 (y 1) k) * b2 m c t (ix3 (⟨t.val % 4, lt4 t⟩ : Fin 4) (y 2) k)) = SI m c i := by
    unfold SI GT
    rw [← proj2 m c t y i e0 e1 e2]
  rcases cases t.val with ⟨h0, h1, h2, h3⟩ | ⟨h0, h1, h2, h3⟩ | ⟨h0, h1, h2, h3⟩ | ⟨h0, h1, h2, h3⟩
  · rw [outsAt0_A m c t h0 h1 h2 h3]; frame_out
    exact (tileS _ _ (b3 m c t) ⟨t.val % 4, lt4 t⟩ _ _ _ o1 o2 o3 _ _ _ y).trans e
  · rw [outsAt0_B m c t h0 h1 h2 h3]; frame_out
    exact (tileS _ _ (b3 m c t) ⟨t.val % 4, lt4 t⟩ _ _ _ o1 o2 o3 _ _ _ y).trans e
  · rw [outsAt0_C m c t h0 h1 h2 h3]; frame_out
    exact (tileS _ _ (b3 m c t) ⟨t.val % 4, lt4 t⟩ _ _ _ o1 o2 o3 _ _ _ y).trans e
  · rw [outsAt0_D m c t h0 h1 h2 h3]; frame_out
    exact (tileS _ _ (b3 m c t) ⟨t.val % 4, lt4 t⟩ _ _ _ o1 o2 o3 _ _ _ y).trans e

/-- The tile of the gated product after the body. -/
theorem out13 (c : Dev nD) (t : Fin cfg0.N) (y : S1x512x704.Idx) (i : S4x4096x704.Idx) (e0 : (i 0 : ℕ) = t.val % 4)
    (e1 : (i 1 : ℕ) = t.val / 4 * 512 + y 1) (e2 : (i 2 : ℕ) = y 2) :
    (outsAt0 m c t.val t.isLt).2.2.2.2.2.2.1 y = AA m c i := by
  obtain ⟨o1, o2, o3, o4⟩ := offs t
  have e : siOf (∑ k : Fin 1024, b0 m c t (ix2 (y 1) k) * b2 m c t (ix3 (⟨t.val % 4, lt4 t⟩ : Fin 4) (y 2) k))
      * (∑ k : Fin 1024, b0 m c t (ix2 (y 1) k) * b3 m c t (ix3 (⟨t.val % 4, lt4 t⟩ : Fin 4) (y 2) k)) = AA m c i := by
    unfold AA GT UP
    rw [← proj2 m c t y i e0 e1 e2, ← proj3 m c t y i e0 e1 e2]
  rcases cases t.val with ⟨h0, h1, h2, h3⟩ | ⟨h0, h1, h2, h3⟩ | ⟨h0, h1, h2, h3⟩ | ⟨h0, h1, h2, h3⟩
  · rw [outsAt0_A m c t h0 h1 h2 h3]; frame_out
    exact (tileA _ _ _ ⟨t.val % 4, lt4 t⟩ _ _ _ o1 o2 o3 _ _ _ y).trans e
  · rw [outsAt0_B m c t h0 h1 h2 h3]; frame_out
    exact (tileA _ _ _ ⟨t.val % 4, lt4 t⟩ _ _ _ o1 o2 o3 _ _ _ y).trans e
  · rw [outsAt0_C m c t h0 h1 h2 h3]; frame_out
    exact (tileA _ _ _ ⟨t.val % 4, lt4 t⟩ _ _ _ o1 o2 o3 _ _ _ y).trans e
  · rw [outsAt0_D m c t h0 h1 h2 h3]; frame_out
    exact (tileA _ _ _ ⟨t.val % 4, lt4 t⟩ _ _ _ o1 o2 o3 _ _ _ y).trans e

/-- The part a shard adds to the MLP's output, from the tile of the gated product. -/
theorem part_at (a : Vec Ideal S1x512x704 .bf16) (W : Vec Ideal S4x704x1024 .bf16) (s : Fin 4) (o : Fin 3 → ℕ)
    (e : o = ![s.val, 0, 0]) (i1) (j : S512x1024.Idx) :
    k0_pay38 (F := Ideal) a (View.ld (S := S4x704x1024) W (Rect.unit o ![1, 704, 1024] i1)) j
      = ∑ f : Fin 704, a (ix3 0 (j 0) f) * W (ix3 s f (j 1)) := by
  subst e
  pointwise [k0_pay38]

/-- The tile of the gated product after point `t`. -/
abbrev aT (c : Dev nD) (t : Fin cfg0.N) : FVec Ideal S1x512x704 .bf16 := (outsAt0 m c t.val t.isLt).2.2.2.2.2.2.1

/-- What point `t` adds to the scratch: its part of the MLP's output, at a row block's first point on the residual. -/
def part (c : Dev nD) (t : Fin cfg0.N) (j : S512x1024.Idx) : EReal :=
  ∑ f : Fin 704, aT m c t (ix3 0 (j 0) f) * b4 m c t (ix3 (⟨t.val % 4, lt4 t⟩ : Fin 4) f (j 1))
def term (c : Dev nD) (t : Fin cfg0.N) (j : S512x1024.Idx) : EReal :=
  if t.val % 4 = 0 then b1 m c t j + part m c t j else part m c t j

theorem pay1_at (a x) (j : S512x1024.Idx) : k0_pay1 (F := Ideal) a x j = x j + a j := by
  pointwise [k0_pay1]
theorem pay2_at (a x) (j : S512x1024.Idx) : k0_pay2 (F := Ideal) a x j = x j + a j := by
  pointwise [k0_pay2]

theorem acc_first (c : Dev nD) (t : Fin cfg0.N) (h : t.val % 4 = 0) (j : S512x1024.Idx) :
    (outsAt0 m c t.val t.isLt).2.2.2.2.2.2.2 j = 0 + term m c t j := by
  obtain ⟨o1, o2, o3, o4⟩ := offs t
  unfold term part aT
  rw [if_pos h]
  rcases cases t.val with ⟨h0, h1, h2, h3⟩ | ⟨h0, h1, h2, h3⟩ | ⟨h0, h1, h2, h3⟩ | ⟨h0, h1, h2, h3⟩
  · rw [outsAt0_A m c t h0 h1 h2 h3]; frame_out
    rw [readCov_whole _ _ _ (by decide), zero_add]
    exact (pay1_at _ _ j).trans (congrArg₂ (· + ·) rfl (part_at _ _ ⟨t.val % 4, lt4 t⟩ _ o4 _ j))
  · exact absurd h h1
  · exact absurd h h1
  · rw [outsAt0_D m c t h0 h1 h2 h3]; frame_out
    rw [readCov_whole _ _ _ (by decide), zero_add]
    exact (pay1_at _ _ j).trans (congrArg₂ (· + ·) rfl (part_at _ _ ⟨t.val % 4, lt4 t⟩ _ o4 _ j))

theorem acc_next (c : Dev nD) (t : Fin cfg0.N) (h : ¬t.val % 4 = 0) (j : S512x1024.Idx) :
    (outsAt0 m c t.val t.isLt).2.2.2.2.2.2.2 j
      = (outsAt0 m c (t.val - 1) (Nat.lt_of_le_of_lt (Nat.sub_le _ _) t.isLt)).2.2.2.2.2.2.2 j + term m c t j := by
  obtain ⟨o1, o2, o3, o4⟩ := offs t
  unfold term part aT
  rw [if_neg h]
  rcases cases t.val with ⟨h0, h1, h2, h3⟩ | ⟨h0, h1, h2, h3⟩ | ⟨h0, h1, h2, h3⟩ | ⟨h0, h1, h2, h3⟩
  · exact absurd h1 h
  · rw [outsAt0_B m c t h0 h1 h2 h3]; frame_out
    rw [readCov_whole _ _ _ (by decide)]
    refine (pay2_at _ _ j).trans (congrArg₂ (· + ·) ?_ (part_at _ _ ⟨t.val % 4, lt4 t⟩ _ o4 _ j))
    exact congrFun (Memref.IsWhole.read_unread _ _) j
  · rw [outsAt0_C m c t h0 h1 h2 h3]; frame_out
    rw [readCov_whole _ _ _ (by decide)]
    refine (pay2_at _ _ j).trans (congrArg₂ (· + ·) ?_ (part_at _ _ ⟨t.val % 4, lt4 t⟩ _ o4 _ j))
    exact congrFun (Memref.IsWhole.read_unread _ _) j
  · exact absurd h1 h
end Cert.MlpFwdIdeal.Own
-- ==== Proof.LossMath.lean ====
module
public import proofs.«01_k».proof.Proof.BlockMath

/-!
# The loss head's arithmetic on rows

The squared error of a normalised row against its target, and its gradient, as the kernel and the reference
write them, and the identities between the two that need the entries to be real numbers.
-/

@[expose] public section
noncomputable section
open Idealize.ShloMosaic
open scoped BigOperators
namespace Cert.BlockMath

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_1_1024 : Ideal.ofBits .f32 0x3A800000#32 = ((1 / 1024 : ℝ) : EReal) := by
  simp [Ideal.ofBits, Ideal.ieee, -EReal.coe_mul]; norm_num

/-- The error of a row `x`, normalised and scaled by `g`, against the target `t`. -/
def lerr (x g t : Fin 1024 → EReal) (d : Fin 1024) : EReal := x d * rs x * g d - t d

/-- The gradient of the loss at the scaled row: the error over the row's length. -/
def ldy (x g t : Fin 1024 → EReal) (d : Fin 1024) : EReal := lerr x g t d * Ideal.ofBits .f32 0x3A800000#32

/-- The mean squared error of a row. -/
def lrow (x g t : Fin 1024 → EReal) : EReal :=
  Ideal.div (∑ d, lerr x g t d * lerr x g t d) (Ideal.ofBits .f32 0x44800000#32)

theorem isR_lerr {x g t : Fin 1024 → EReal} (hx : ∀ k, IsR (x k)) (hg : ∀ k, IsR (g k)) (ht : ∀ k, IsR (t k)) (d : Fin 1024) :
    IsR (lerr x g t d) := (((hx d).mul (isR_rs hx)).mul (hg d)).sub (ht d)

theorem isR_ldy {x g t : Fin 1024 → EReal} (hx : ∀ k, IsR (x k)) (hg : ∀ k, IsR (g k)) (ht : ∀ k, IsR (t k)) (d : Fin 1024) :
    IsR (ldy x g t d) := (isR_lerr hx hg ht d).mul ⟨_, ofBits_1_1024⟩

theorem isR_lrow {x g t : Fin 1024 → EReal} (hx : ∀ k, IsR (x k)) (hg : ∀ k, IsR (g k)) (ht : ∀ k, IsR (t k)) :
    IsR (lrow x g t) := by
  obtain ⟨s, hs⟩ := IsR.sum fun d => (isR_lerr hx hg ht d).mul (isR_lerr hx hg ht d)
  unfold lrow
  rw [hs, ofBits_1024, Ideal.div_coe (by norm_num), ← EReal.coe_mul]
  exact ⟨_, rfl⟩

/-- The reference's factor on twice the error: the half of one over the row's length. -/
theorem factor_eq : Ideal.div (Ideal.ofBits .f32 0x3F000000#32 * 1) (Ideal.ofBits .f32 0x44800000#32)
    = ((1 / 2048 : ℝ) : EReal) := by
  rw [mul_one, ofBits_half, ofBits_1024, Ideal.div_coe (by norm_num), ← EReal.coe_mul]
  norm_num

theorem ldy_eq {x g t : Fin 1024 → EReal} (hx : ∀ k, IsR (x k)) (hg : ∀ k, IsR (g k)) (ht : ∀ k, IsR (t k)) (d : Fin 1024) :
    ((1 / 2048 : ℝ) : EReal) * (((2 : ℝ) : EReal) * lerr x g t d) = ldy x g t d := by
  obtain ⟨e, he⟩ := isR_lerr hx hg ht d
  unfold ldy
  rw [he, ofBits_1_1024, ← EReal.coe_mul, ← EReal.coe_mul, ← EReal.coe_mul]
  congr 1; ring

/-- A real factor goes into a sum of reals. -/
theorem mul_sum_isR {n : ℕ} {f : Fin n → EReal} {a : EReal} (ha : IsR a) (h : ∀ k, IsR (f k)) : ∑ k, a * f k = a * ∑ k, f k := by
  obtain ⟨a, rfl⟩ := ha
  choose g hg using h
  have e : ∀ k, (a : EReal) * f k = ((a * g k : ℝ) : EReal) := fun k => by rw [hg, EReal.coe_mul]
  rw [Finset.sum_congr rfl fun k _ => e k, ← coe_sum, Finset.sum_congr rfl fun k _ => hg k, ← coe_sum, ← EReal.coe_mul, Finset.mul_sum]

/-- The up entry times silu's derivative, as the product rule gives it. -/
theorem ud_eq {a u : EReal} (ha : IsR a) (hu : IsR u) :
    u * (sg a * (1 + a * (1 - sg a))) = u * sg a + a * u * (sg a * (1 - sg a)) := by
  have h := gate_eq ha hu isR_one
  rwa [one_mul, one_mul] at h
end Cert.BlockMath
-- ==== Proof.MlpFwdArray.lean ====
module
public import proofs.«01_k».proof.Proof.MlpFwdPoint
public import proofs.«01_k».proof.Proof.LossMath

/-!
# The MLP's forward kernel, array by array

The seven arrays the kernel leaves, as closed forms over the arrays it was given.
-/

@[expose] public section
set_option maxRecDepth 16384
noncomputable section
open Idealize.ShloMosaic Idealize.ShloMosaic.TcCoe Idealize.SL.Sem
open Idealize.ShloMosaic.Pipeline (Dat)
open scoped BigOperators
namespace Cert.MlpFwdIdeal.Own
open Cert.MlpFwdIdeal Cert.MlpFwdIdeal.Gen Cert.BlockMath
variable (m : (ℓ : Loc nD τ sig) → Buf (Elt Ideal) ℓ)

theorem final11 (c : Dev nD) : (dats m 0 c).arrAt 11 (cfgs 0).N = UD m c := by
  refine (dats m 0 c).arrAt_eq_of_covers 11 _ (by decide +kernel) fun t hf y => ?_
  blk_simp; rw [after0_11]
  refine out11 m c t y _ ?_ ?_ ?_
  all_goals (blk_simp [idx t] <;> try omega)

theorem final12 (c : Dev nD) : (dats m 0 c).arrAt 12 (cfgs 0).N = SI m c := by
  refine (dats m 0 c).arrAt_eq_of_covers 12 _ (by decide +kernel) fun t hf y => ?_
  blk_simp; rw [after0_12]
  refine out12 m c t y _ ?_ ?_ ?_
  all_goals (blk_simp [idx t] <;> try omega)

theorem final13 (c : Dev nD) : (dats m 0 c).arrAt 13 (cfgs 0).N = AA m c := by
  refine (dats m 0 c).arrAt_eq_of_covers 13 _ (by decide +kernel) fun t hf y => ?_
  blk_simp; rw [after0_13]
  refine out13 m c t y _ ?_ ?_ ?_
  all_goals (blk_simp [idx t] <;> try omega)

/-- The block's output: the residual plus the gated product through the down projection, shard by shard. -/
def outOf (x : FVec Ideal S4096x1024 .f32) (a : FVec Ideal S4x4096x704 .bf16) (w : FVec Ideal S4x704x1024 .bf16) : FVec Ideal S4096x1024 .f32 :=
  fun i => x i + ∑ s : Fin 4, ∑ f : Fin 704, a (ix3 s (i 0) f) * w (ix3 s f (i 1))

/-- The residual, the targets, the norm's weight and the down projection, as the kernel is given them. -/
abbrev R0 (c : Dev nD) : FVec Ideal S4096x1024 .f32 := V m c main_arg0
abbrev T0 (c : Dev nD) : FVec Ideal S4096x1024 .f32 := V m c main_arg6
abbrev G0 (c : Dev nD) : FVec Ideal S1x1024 .f32 := V m c main_v24
abbrev W0 (c : Dev nD) : FVec Ideal S4x704x1024 .bf16 := V m c main_v23

abbrev X2 (c : Dev nD) : FVec Ideal S4096x1024 .f32 := outOf (R0 m c) (AA m c) (W0 m c)

theorem row_lt (t : Fin cfg0.N) (r : Fin 512) : t.val / 4 * 512 + r.val < 4096 := by
  have := (idx t).2.2.2.2.2.2.2.2.2.2.2.2.2.2
  have := r.isLt
  omega

/-- A point's part, over the whole arrays. -/
theorem part_eq (c : Dev nD) (t : Fin cfg0.N) (j : S512x1024.Idx) :
    part m c t j = ∑ f : Fin 704, AA m c (ix3 (⟨t.val % 4, lt4 t⟩ : Fin 4) ⟨_, row_lt t (j 0)⟩ f)
      * W0 m c (ix3 (⟨t.val % 4, lt4 t⟩ : Fin 4) f (j 1)) := by
  unfold part
  refine Finset.sum_congr rfl fun f _ => ?_
  rw [b4_at]
  exact congrArg (· * _) (out13 m c t (ix3 0 (j 0) f) _ rfl rfl rfl)

/-- The scratch after a row block's last point: the block's output on those rows. -/
theorem acc_last (c : Dev nD) (t : Fin cfg0.N) (h : t.val % 4 = 3) (j : S512x1024.Idx) (i : S4096x1024.Idx)
    (e0 : (i 0 : ℕ) = t.val / 4 * 512 + j 0) (e1 : (i 1 : ℕ) = j 1) :
    (outsAt0 m c t.val t.isLt).2.2.2.2.2.2.2 j = X2 m c i := by
  rw [Pipeline.eq_sum_fin_of_reset_step_apply_of_flush (fun n h => (outsAt0 m c n h).2.2.2.2.2.2.2) 4 (fun _ => (0 : EReal)) (term m c)
    (fun t h j => acc_first m c t h j) (fun t h j => acc_next m c t h j) t h j, zero_add]
  have hp (s : Fin 4) : part m c ⟨4 * (t.val / 4) + s.val, Pipeline.run_point_lt_of_flush t h s⟩ j
      = ∑ f : Fin 704, AA m c (ix3 s (i 0) f) * W0 m c (ix3 s f (i 1)) := by
    have hs := s.isLt
    rw [part_eq]
    have es : (⟨(4 * (t.val / 4) + s.val) % 4, lt4 _⟩ : Fin 4) = s := Fin.ext (by show _ % 4 = _; omega)
    have ei : (⟨_, row_lt ⟨4 * (t.val / 4) + s.val, Pipeline.run_point_lt_of_flush t h s⟩ (j 0)⟩ : Fin 4096) = i 0 :=
      Fin.ext (by rw [e0]; show (4 * (t.val / 4) + s.val) / 4 * 512 + _ = _; omega)
    have ej : j 1 = i 1 := Fin.ext e1.symm
    rw [ei, ej]
    simp only [es]
  have hb : b1 m c ⟨4 * (t.val / 4) + (0 : Fin 4).val, Pipeline.run_point_lt_of_flush t h 0⟩ j = R0 m c i :=
    b1_at m c _ j i (by rw [e0]; show _ = (4 * (t.val / 4) + 0) / 4 * 512 + _; omega) e1
  have ht (s : Fin 4) : term m c ⟨4 * (t.val / 4) + s.val, Pipeline.run_point_lt_of_flush t h s⟩ j
      = (if s = 0 then R0 m c i else 0) + ∑ f : Fin 704, AA m c (ix3 s (i 0) f) * W0 m c (ix3 s f (i 1)) := by
    have hs := s.isLt
    unfold term
    by_cases h0 : s = 0
    · subst h0
      rw [if_pos (by show (4 * (t.val / 4) + 0) % 4 = 0; omega), if_pos rfl, hp, hb]
    · have h0' : s.val ≠ 0 := fun e => h0 (Fin.ext e)
      rw [if_neg (by show ¬(4 * (t.val / 4) + s.val) % 4 = 0; omega), if_neg h0, hp, zero_add]
  rw [Finset.sum_congr rfl fun s _ => ht s, Finset.sum_add_distrib]
  unfold X2 outOf
  refine congrArg (· + _) ?_
  rw [Finset.sum_ite_eq' Finset.univ (0 : Fin 4) (fun _ => R0 m c i), if_pos (Finset.mem_univ _)]

/-! The payloads of a row block's last point, over the rows. -/

theorem pay4_at (x t : Vec Ideal S512x1024 .f32) (g : Vec Ideal S1x1024 .f32) (j : S512x1024.Idx) :
    k0_pay4 (F := Ideal) (k0_pay6 g) (k0_pay7 x) (k0_pay8 x) (k0_pay11 x g t) j
      = nb (fun k => x (ix2 (j 0) k)) (fun k => ldy (fun k => x (ix2 (j 0) k)) (fun k => g (ix2 0 k)) (fun k => t (ix2 (j 0) k)) k * g (ix2 0 k)) (j 1) := by
  obtain ⟨r, d, rfl⟩ : ∃ (r : Fin 512) (d : Fin 1024), j = ix2 r d := ⟨j 0, j 1, by funext a; fin_cases a <;> rfl⟩
  unfold nb ldy lerr rs ms
  pointwise [k0_pay4, k0_pay6, k0_pay7, k0_pay8, k0_pay11, k0_pay9]

theorem pay3_at (x t : Vec Ideal S512x1024 .f32) (g p : Vec Ideal S1x1024 .f32) (j : S1x1024.Idx) :
    k0_pay3 (F := Ideal) (k0_pay12 p) (k0_pay13 x g t) j
      = p j + ∑ r : Fin 512, ldy (fun k => x (ix2 r k)) (fun k => g (ix2 0 k)) (fun k => t (ix2 r k)) (j 1)
          * (x (ix2 r (j 1)) * rs (fun k => x (ix2 r k))) := by
  obtain ⟨r, d, rfl⟩ : ∃ (r : Fin 1) (d : Fin 1024), j = ix2 r d := ⟨j 0, j 1, by funext a; fin_cases a <;> rfl⟩
  unfold ldy lerr rs ms
  pointwise [k0_pay3, k0_pay12, k0_pay13, k0_pay8, k0_pay7, k0_pay11, k0_pay9, k0_pay6]

theorem pay10_at (x t : Vec Ideal S512x1024 .f32) (g : Vec Ideal S1x1024 .f32) (p : Vec Ideal S8x128 .f32) (j : S8x128.Idx) :
    k0_pay10 (F := Ideal) x g t p j
      = p j + Ideal.ofBits .f32 0x3F000000#32
          * ∑ r : Fin 512, lrow (fun k => x (ix2 r k)) (fun k => g (ix2 0 k)) (fun k => t (ix2 r k)) := by
  obtain ⟨r, d, rfl⟩ : ∃ (r : Fin 8) (d : Fin 128), j = ix2 r d := ⟨j 0, j 1, by funext a; fin_cases a <;> rfl⟩
  unfold lrow lerr rs ms
  pointwise [k0_pay10, k0_pay8, k0_pay7, k0_pay9, k0_pay6]
  simp only [Fin.sum_univ_one]

/-- A row of the block's output, of the targets, and the norm's weight. -/
abbrev xr (c : Dev nD) (r : Fin 4096) : Fin 1024 → EReal := fun k => X2 m c (ix2 r k)
abbrev tr (c : Dev nD) (r : Fin 4096) : Fin 1024 → EReal := fun k => T0 m c (ix2 r k)
abbrev gr (c : Dev nD) : Fin 1024 → EReal := fun k => G0 m c (ix2 0 k)

/-- The gradient of the block's output. -/
def DX (c : Dev nD) : FVec Ideal S4096x1024 .f32 := fun i =>
  nb (xr m c (i 0)) (fun k => ldy (xr m c (i 0)) (gr m c) (tr m c (i 0)) k * gr m c k) (i 1)

/-- A row's term in the gradient of the norm's weight. -/
def dgRow (c : Dev nD) (r : Fin 4096) (d : Fin 1024) : EReal :=
  ldy (xr m c r) (gr m c) (tr m c r) d * (xr m c r d * rs (xr m c r))

/-- The gradient of the norm's weight. -/
def DG (c : Dev nD) : FVec Ideal S1x1024 .f32 := fun i => ∑ r : Fin 4096, dgRow m c r (i 1)

/-- The loss, row block by row block. -/
def LS (c : Dev nD) : FVec Ideal S8x128 .f32 := fun _ =>
  ∑ a : Fin 8, Ideal.ofBits .f32 0x3F000000#32 * ∑ r : Fin 512, lrow (xr m c ⟨a.val * 512 + r.val, by omega⟩) (gr m c) (tr m c ⟨a.val * 512 + r.val, by omega⟩)

theorem gr_eq (c : Dev nD) (t : Fin cfg0.N) : (fun k => b6 m c t (ix2 0 k)) = gr m c := funext fun k => b6_at m c t _
theorem tr_eq (c : Dev nD) (t : Fin cfg0.N) (r : Fin 512) (r' : Fin 4096) (e : (r' : ℕ) = t.val / 4 * 512 + r) :
    (fun k => b5 m c t (ix2 r k)) = tr m c r' := funext fun k => b5_at m c t (ix2 r k) (ix2 r' k) e rfl
theorem xr_eq (c : Dev nD) (t : Fin cfg0.N) (h : t.val % 4 = 3) (a : Vec Ideal S512x1024 .f32)
    (ha : a = (outsAt0 m c t.val t.isLt).2.2.2.2.2.2.2) (r : Fin 512) (r' : Fin 4096) (e : (r' : ℕ) = t.val / 4 * 512 + r) :
    (fun k => a (ix2 r k)) = xr m c r' := funext fun k => by
  rw [ha]; exact acc_last m c t h (ix2 r k) (ix2 r' k) e rfl

theorem nb_congr {x x' g g' t t' : Fin 1024 → EReal} {d d' : Fin 1024} (ex : x = x') (eg : g = g') (et : t = t') (ed : d = d') :
    nb x (fun k => ldy x g t k * g k) d = nb x' (fun k => ldy x' g' t' k * g' k) d' := by subst ex eg et ed; rfl
theorem dg_congr {x x' g g' t t' : Fin 1024 → EReal} {d : Fin 1024} (ex : x = x') (eg : g = g') (et : t = t') :
    ldy x g t d * (x d * rs x) = ldy x' g' t' d * (x' d * rs x') := by subst ex eg et; rfl
theorem lrow_congr {x x' g g' t t' : Fin 1024 → EReal} (ex : x = x') (eg : g = g') (et : t = t') :
    lrow x g t = lrow x' g' t' := by subst ex eg et; rfl

theorem pay4_eq (c : Dev nD) (t : Fin cfg0.N) (h : t.val % 4 = 3) (a : Vec Ideal S512x1024 .f32)
    (ha : a = (outsAt0 m c t.val t.isLt).2.2.2.2.2.2.2) (j : S512x1024.Idx) (i : S4096x1024.Idx)
    (e0 : (i 0 : ℕ) = t.val / 4 * 512 + j 0) (e1 : (i 1 : ℕ) = j 1) :
    k0_pay4 (F := Ideal) (k0_pay6 (b6 m c t)) (k0_pay7 a) (k0_pay8 a) (k0_pay11 a (b6 m c t) (b5 m c t)) j = DX m c i :=
  (pay4_at a (b5 m c t) (b6 m c t) j).trans
    (nb_congr (xr_eq m c t h a ha (j 0) (i 0) e0) (gr_eq m c t) (tr_eq m c t (j 0) (i 0) e0) (Fin.ext e1.symm))

theorem out9 (c : Dev nD) (t : Fin cfg0.N) (h : t.val % 4 = 3) (j : S512x1024.Idx) (i : S4096x1024.Idx)
    (e0 : (i 0 : ℕ) = t.val / 4 * 512 + j 0) (e1 : (i 1 : ℕ) = j 1) :
    (outsAt0 m c t.val t.isLt).2.2.1 j = DX m c i := by
  have h0 : ¬t.val % 32 = 0 := by omega
  have h1 : ¬t.val % 4 = 0 := by omega
  have h2 : 1 ≤ t.val % 4 := by omega
  refine Eq.trans ?_ (pay4_eq m c t h _ rfl j i e0 e1)
  rw [outsAt0_C m c t h0 h1 h2 h]; frame_out

theorem out10 (c : Dev nD) (t : Fin cfg0.N) (h : t.val % 4 = 3) (j : S512x1024.Idx) (i : S4096x1024.Idx)
    (e0 : (i 0 : ℕ) = t.val / 4 * 512 + j 0) (e1 : (i 1 : ℕ) = j 1) :
    (outsAt0 m c t.val t.isLt).2.2.2.1 j = DX m c i := by
  have h0 : ¬t.val % 32 = 0 := by omega
  have h1 : ¬t.val % 4 = 0 := by omega
  have h2 : 1 ≤ t.val % 4 := by omega
  refine Eq.trans ?_ (pay4_eq m c t h _ rfl j i e0 e1)
  rw [outsAt0_C m c t h0 h1 h2 h]; frame_out; rfl

theorem final9 (c : Dev nD) : (dats m 0 c).arrAt 9 (cfgs 0).N = DX m c := by
  refine (dats m 0 c).arrAt_eq_of_covers 9 _ (by decide +kernel) fun t hf y => ?_
  blk_simp; rw [after0_9]
  refine out9 m c t ((flush0_9 t).mp hf) y _ ?_ ?_
  all_goals (blk_simp [idx t] <;> try omega)

theorem final10 (c : Dev nD) : (dats m 0 c).arrAt 10 (cfgs 0).N = DX m c := by
  refine (dats m 0 c).arrAt_eq_of_covers 10 _ (by decide +kernel) fun t hf y => ?_
  blk_simp; rw [after0_10]
  refine out10 m c t ((flush0_10 t).mp hf) y _ ?_ ?_
  all_goals (blk_simp [idx t] <;> try omega)

/-! The norm weight's gradient and the loss: a row block adds its sum at its last point. -/

def dgPart (c : Dev nD) (t : Fin cfg0.N) (j : S1x1024.Idx) : EReal :=
  if t.val % 4 = 3 then ∑ r : Fin 512, dgRow m c ⟨_, row_lt t r⟩ (j 1) else 0

theorem dg_first (c : Dev nD) (t : Fin cfg0.N) (h0 : t.val % 32 = 0) (j : S1x1024.Idx) :
    (outsAt0 m c t.val t.isLt).2.1 j = 0 + dgPart m c t j := by
  have h1 : t.val % 4 = 0 := by omega
  have h2 : ¬1 ≤ t.val % 4 := by omega
  have h3 : ¬t.val % 4 = 3 := by omega
  rw [dgPart, if_neg h3, add_zero, outsAt0_A m c t h0 h1 h2 h3]; frame_out
  pointwise [k0_pay15]

theorem dg_next (c : Dev nD) (t : Fin cfg0.N) (h0 : ¬t.val % 32 = 0) (j : S1x1024.Idx) :
    (outsAt0 m c t.val t.isLt).2.1 j
      = (outsAt0 m c (t.val - 1) (Nat.lt_of_le_of_lt (Nat.sub_le _ _) t.isLt)).2.1 j + dgPart m c t j := by
  rcases cases t.val with ⟨h0', h1, h2, h3⟩ | ⟨_, h1, h2, h3⟩ | ⟨_, h1, h2, h3⟩ | ⟨_, h1, h2, h3⟩
  · exact absurd h0' h0
  · rw [dgPart, if_neg h3, add_zero, outsAt0_B m c t h0 h1 h2 h3]; dsimp only; unfold out0_B_8; frame_out
  · rw [dgPart, if_pos h3]
    refine Eq.trans (b := k0_pay3 (F := Ideal) (k0_pay12 ((outsAt0 m c (t.val - 1) (Nat.lt_of_le_of_lt (Nat.sub_le _ _) t.isLt)).2.1))
      (k0_pay13 ((outsAt0 m c t.val t.isLt).2.2.2.2.2.2.2) (b6 m c t) (b5 m c t)) j) ?_ ?_
    · rw [outsAt0_C m c t h0 h1 h2 h3]; frame_out
    · rw [pay3_at]
      refine congrArg₂ (· + ·) rfl (Finset.sum_congr rfl fun r _ => ?_)
      exact dg_congr (xr_eq m c t h3 _ rfl r ⟨_, row_lt t r⟩ rfl) (gr_eq m c t) (tr_eq m c t r ⟨_, row_lt t r⟩ rfl)
  · rw [dgPart, if_neg h3, add_zero, outsAt0_D m c t h0 h1 h2 h3]; dsimp only; unfold out0_D_8; frame_out

theorem dg_sum (c : Dev nD) (y : S1x1024.Idx) : ∑ t : Fin cfg0.N, dgPart m c t y = DG m c y := by
  refine (Fin.sum_divmod_congr (A := 8) (S := 4) (F := fun p => dgPart m c p y)
    (f := fun a s => if s.val = 3 then ∑ r : Fin 512, dgRow m c ⟨a.val * 512 + r.val, by omega⟩ (y 1) else 0)
    (fun t ha hs => rfl) N_0).trans ?_
  refine Eq.trans ?_ (Fin.sum_mul_add_congr (L := 4096) (S := 8) (n := 512)
    (F := fun a r => dgRow m c ⟨a.val * 512 + r.val, by omega⟩ (y 1)) (fun a r hl => rfl))
  refine Finset.sum_congr rfl fun a _ => ?_
  rw [Fin.sum_univ_four, if_neg (by decide), if_neg (by decide), if_neg (by decide), if_pos (by decide), add_zero, add_zero, zero_add]

theorem out8 (c : Dev nD) (t : Fin cfg0.N) (h : t.val % 32 = 31) (y : S1x1024.Idx) :
    (outsAt0 m c t.val t.isLt).2.1 y = DG m c y := by
  have hN : t.val + 1 = cfg0.N := by have h : t.val < grid0.N := t.isLt; have h' := N_0; show t.val + 1 = grid0.N; omega
  rw [Pipeline.eq_sum_fin_of_reset_step_apply_last (fun n h => (outsAt0 m c n h).2.1) 32 (fun _ => (0 : EReal)) (dgPart m c)
    (fun t h j => dg_first m c t h j) (fun t h j => dg_next m c t h j) (le_of_eq N_0) t hN y, zero_add, dg_sum]

theorem final8 (c : Dev nD) : (dats m 0 c).arrAt 8 (cfgs 0).N = DG m c := by
  refine (dats m 0 c).arrAt_eq_of_covers 8 _ (by decide +kernel) fun t hf y => ?_
  have e1 : ((win0_8.blk t).view.emb y) 1 = y 1 := Fin.ext (by blk_simp [idx t])
  blk_simp; rw [after0_8]
  refine (out8 m c t ((flush0_8 t).mp hf) y).trans ?_
  exact congrArg (fun d => ∑ r : Fin 4096, dgRow m c r d) e1.symm

def lsPart (c : Dev nD) (t : Fin cfg0.N) (j : S8x128.Idx) : EReal :=
  if t.val % 4 = 3 then Ideal.ofBits .f32 0x3F000000#32
    * ∑ r : Fin 512, lrow (xr m c ⟨_, row_lt t r⟩) (gr m c) (tr m c ⟨_, row_lt t r⟩) else 0

theorem ls_first (c : Dev nD) (t : Fin cfg0.N) (h0 : t.val % 32 = 0) (j : S8x128.Idx) :
    (outsAt0 m c t.val t.isLt).1 j = 0 + lsPart m c t j := by
  have h1 : t.val % 4 = 0 := by omega
  have h2 : ¬1 ≤ t.val % 4 := by omega
  have h3 : ¬t.val % 4 = 3 := by omega
  rw [lsPart, if_neg h3, add_zero, outsAt0_A m c t h0 h1 h2 h3]; frame_out
  pointwise [k0_pay14]

theorem ls_next (c : Dev nD) (t : Fin cfg0.N) (h0 : ¬t.val % 32 = 0) (j : S8x128.Idx) :
    (outsAt0 m c t.val t.isLt).1 j
      = (outsAt0 m c (t.val - 1) (Nat.lt_of_le_of_lt (Nat.sub_le _ _) t.isLt)).1 j + lsPart m c t j := by
  rcases cases t.val with ⟨h0', h1, h2, h3⟩ | ⟨_, h1, h2, h3⟩ | ⟨_, h1, h2, h3⟩ | ⟨_, h1, h2, h3⟩
  · exact absurd h0' h0
  · rw [lsPart, if_neg h3, add_zero, outsAt0_B m c t h0 h1 h2 h3]; dsimp only; unfold out0_B_7; frame_out
  · rw [lsPart, if_pos h3]
    refine Eq.trans (b := k0_pay10 (F := Ideal) ((outsAt0 m c t.val t.isLt).2.2.2.2.2.2.2) (b6 m c t) (b5 m c t)
      ((outsAt0 m c (t.val - 1) (Nat.lt_of_le_of_lt (Nat.sub_le _ _) t.isLt)).1) j) ?_ ?_
    · rw [outsAt0_C m c t h0 h1 h2 h3]; frame_out
    · rw [pay10_at]
      refine congrArg₂ (· + ·) rfl (congrArg (Ideal.ofBits .f32 0x3F000000#32 * ·) (Finset.sum_congr rfl fun r _ => ?_))
      exact lrow_congr (xr_eq m c t h3 _ rfl r ⟨_, row_lt t r⟩ rfl) (gr_eq m c t) (tr_eq m c t r ⟨_, row_lt t r⟩ rfl)
  · rw [lsPart, if_neg h3, add_zero, outsAt0_D m c t h0 h1 h2 h3]; dsimp only; unfold out0_D_7; frame_out

theorem ls_sum (c : Dev nD) (y : S8x128.Idx) : ∑ t : Fin cfg0.N, lsPart m c t y = LS m c y := by
  refine (Fin.sum_divmod_congr (A := 8) (S := 4) (F := fun p => lsPart m c p y)
    (f := fun a s => if s.val = 3 then Ideal.ofBits .f32 0x3F000000#32
      * ∑ r : Fin 512, lrow (xr m c ⟨a.val * 512 + r.val, by omega⟩) (gr m c) (tr m c ⟨a.val * 512 + r.val, by omega⟩) else 0)
    (fun t ha hs => rfl) N_0).trans ?_
  unfold LS
  refine Finset.sum_congr rfl fun a _ => ?_
  rw [Fin.sum_univ_four, if_neg (by decide), if_neg (by decide), if_neg (by decide), if_pos (by decide), add_zero, add_zero, zero_add]

theorem out7 (c : Dev nD) (t : Fin cfg0.N) (h : t.val % 32 = 31) (y : S8x128.Idx) :
    (outsAt0 m c t.val t.isLt).1 y = LS m c y := by
  have hN : t.val + 1 = cfg0.N := by have h : t.val < grid0.N := t.isLt; have h' := N_0; show t.val + 1 = grid0.N; omega
  rw [Pipeline.eq_sum_fin_of_reset_step_apply_last (fun n h => (outsAt0 m c n h).1) 32 (fun _ => (0 : EReal)) (lsPart m c)
    (fun t h j => ls_first m c t h j) (fun t h j => ls_next m c t h j) (le_of_eq N_0) t hN y, zero_add, ls_sum]

theorem final7 (c : Dev nD) : (dats m 0 c).arrAt 7 (cfgs 0).N = LS m c := by
  refine (dats m 0 c).arrAt_eq_of_covers 7 _ (by decide +kernel) fun t hf y => ?_
  blk_simp; rw [after0_7]
  exact out7 m c t ((flush0_7 t).mp hf) y
end Cert.MlpFwdIdeal.Own
-- ==== Proof.MlpFwdHost.lean ====
module
public import proofs.«01_k».proof.Proof.MlpFwdArray

/-!
# The arguments of the MLP's forward kernel

What the host code makes of the arguments before the call: the normalised rows, and the sharded weights.
-/

@[expose] public section
set_option maxRecDepth 16384
noncomputable section
open Idealize.ShloMosaic Idealize.ShloMosaic.TcCoe Idealize.SL.Sem
open scoped BigOperators
namespace Cert.MlpFwdIdeal.Own
open Cert.MlpFwdIdeal Cert.MlpFwdIdeal.Gen Cert.BlockMath
variable (m : (ℓ : Loc nD τ sig) → Buf (Elt Ideal) ℓ)

theorem col_lt (s : Fin 4) (f : Fin 704) : s.val * 704 + f.val < 2816 := by omega

abbrev A0 (c : Dev nD) : FVec Ideal S4096x1024 .f32 := m ((c : Thread nD τ).loc main_arg0)
abbrev A1 (c : Dev nD) : FVec Ideal S1x1024 .f32 := m ((c : Thread nD τ).loc main_arg1)
abbrev A2 (c : Dev nD) : FVec Ideal S1x1024x2816 .f32 := m ((c : Thread nD τ).loc main_arg2)
abbrev A3 (c : Dev nD) : FVec Ideal S1x1024x2816 .f32 := m ((c : Thread nD τ).loc main_arg3)
abbrev A4 (c : Dev nD) : FVec Ideal S1x2816x1024 .f32 := m ((c : Thread nD τ).loc main_arg4)
abbrev A5 (c : Dev nD) : FVec Ideal S1024 .f32 := m ((c : Thread nD τ).loc main_arg5)
abbrev A6 (c : Dev nD) : FVec Ideal S4096x1024 .f32 := m ((c : Thread nD τ).loc main_arg6)
abbrev V12 (c : Dev nD) : FVec Ideal S4096x1024 .bf16 := V m c main_v12
abbrev V16 (c : Dev nD) : FVec Ideal S4x704x1024 .bf16 := V m c main_v16
abbrev V20 (c : Dev nD) : FVec Ideal S4x704x1024 .bf16 := V m c main_v20

theorem v12_at (c : Dev nD) (r : Fin 4096) (k : Fin 1024) : V12 m c (ix2 r k)
    = A0 m c (ix2 r k) * rs (fun k => A0 m c (ix2 r k)) * A1 m c (ix2 0 k) := by
  unfold V12 rs ms; entry_read
  pointwise []
theorem v16_at (c : Dev nD) (s : Fin 4) (f : Fin 704) (d : Fin 1024) : V16 m c (ix3 s f d) = A2 m c (ix3 0 d ⟨_, col_lt s f⟩) := by
  unfold V16; entry_read
  pointwise []
theorem v20_at (c : Dev nD) (s : Fin 4) (f : Fin 704) (d : Fin 1024) : V20 m c (ix3 s f d) = A3 m c (ix3 0 d ⟨_, col_lt s f⟩) := by
  unfold V20; entry_read
  pointwise []
theorem w0_at (c : Dev nD) (s : Fin 4) (f : Fin 704) (d : Fin 1024) : W0 m c (ix3 s f d) = A4 m c (ix3 0 ⟨_, col_lt s f⟩ d) := by
  unfold W0; entry_read
  pointwise []
theorem g0_at (c : Dev nD) (d : Fin 1024) : G0 m c (ix2 0 d) = A5 m c (ix1 d) := by
  unfold G0; entry_read
  pointwise []
theorem r0_at (c : Dev nD) : R0 m c = A0 m c := V_main_arg0 m c
theorem t0_at (c : Dev nD) : T0 m c = A6 m c := V_main_arg6 m c
end Cert.MlpFwdIdeal.Own
-- ==== Proof.MlpFwdRef.lean ====
module
public import proofs.«01_k».proof.Proof.Gen.MlpFwdRefIdeal.Read
public import proofs.«01_k».proof.Proof.LossMath
public import Idealize.ShloMosaic.Lib.Pointwise

/-!
# The MLP's forward reference, read entry by entry
-/

@[expose] public section
set_option maxRecDepth 16384
noncomputable section
open Idealize.ShloMosaic Idealize.ShloMosaic.TcCoe Idealize.SL.Sem
open scoped BigOperators
namespace Cert.MlpFwdRefIdeal.Own
open Cert.MlpFwdRefIdeal Cert.MlpFwdRefIdeal.Read Cert.BlockMath

variable (x0 : (⟨S4096x1024, .f32⟩ : BufTy).Contents (Elt Ideal)) (x1 : (⟨S1x1024, .f32⟩ : BufTy).Contents (Elt Ideal))
  (x2 x3 : (⟨S1x1024x2816, .f32⟩ : BufTy).Contents (Elt Ideal)) (x4 : (⟨S1x2816x1024, .f32⟩ : BufTy).Contents (Elt Ideal))
  (x5 : (⟨S1024, .f32⟩ : BufTy).Contents (Elt Ideal)) (x6 : (⟨S4096x1024, .f32⟩ : BufTy).Contents (Elt Ideal))

theorem r_at (r : Fin 4096) : val_main_v7 x0 (ix2 r 0) = rs (fun k => x0 (ix2 r k)) := by
  unfold rs ms
  pointwise [val_main_v7, val_main_v6, val_main_v5, val_main_v4, val_main_v3, val_main_v2, val_main_v1, val_main_v0,
    val_main_cst, val_main_cst_0, val_main_cst_1]

/-- The normalised row, scaled, and a projection of it. -/
abbrev H (r : Fin 4096) (k : Fin 1024) : EReal := x0 (ix2 r k) * rs (fun k => x0 (ix2 r k)) * x1 (ix2 0 k)
abbrev Gt (r : Fin 4096) (f : Fin 2816) : EReal := ∑ k, H x0 x1 r k * x2 (ix3 0 k f)

theorem h_at (r : Fin 4096) (k : Fin 1024) : val_main_v11 x0 x1 (ix2 r k) = H x0 x1 r k := by
  unfold H; rw [← r_at]
  pointwise [val_main_v11, val_main_v10, val_main_v9, val_main_v8]

theorem gate_at (r : Fin 4096) (f : Fin 2816) : val_main_v13 x0 x1 x2 (ix2 r f) = Gt x0 x1 x2 r f := by
  unfold Gt; simp only [← h_at]
  pointwise [val_main_v13, val_main_v12]

theorem up_at (r : Fin 4096) (f : Fin 2816) : val_main_v15 x0 x1 x3 (ix2 r f) = Gt x0 x1 x3 r f := by
  unfold Gt; simp only [← h_at]
  pointwise [val_main_v15, val_main_v14]

theorem sg_at (r : Fin 4096) (f : Fin 2816) : val_main_v16_2 x0 x1 x2 (ix2 r f) = sg (Gt x0 x1 x2 r f) := by
  rw [← gate_at]; unfold sg
  pointwise [val_main_v16_2, val_main_call0_v4, val_main_call0_cst_0, val_main_call0_v3, val_main_call0_v2, val_main_call0_cst, val_main_call0_v1, val_main_call0_v0]

/-- The gate's silu, the gated product, and the up entry times silu's derivative. -/
abbrev Si (r : Fin 4096) (f : Fin 2816) : EReal := Gt x0 x1 x2 r f * sg (Gt x0 x1 x2 r f)
abbrev Ga (r : Fin 4096) (f : Fin 2816) : EReal := Si x0 x1 x2 r f * Gt x0 x1 x3 r f
abbrev Ud (r : Fin 4096) (f : Fin 2816) : EReal := Gt x0 x1 x3 r f * sg (Gt x0 x1 x2 r f)
  + Gt x0 x1 x2 r f * Gt x0 x1 x3 r f * (sg (Gt x0 x1 x2 r f) * (1 - sg (Gt x0 x1 x2 r f)))

theorem si_at (r : Fin 4096) (f : Fin 2816) : val_main_v16_0 x0 x1 x2 (ix2 r f) = Si x0 x1 x2 r f := by
  unfold Si; rw [← sg_at, ← gate_at]
  pointwise [val_main_v16_0]

theorem ga_at (r : Fin 4096) (f : Fin 2816) : val_main_v17 x0 x1 x2 x3 (ix2 r f) = Ga x0 x1 x2 x3 r f := by
  unfold Ga; rw [← si_at, ← up_at]
  pointwise [val_main_v17]

theorem ud_at (r : Fin 4096) (f : Fin 2816) : val_main_v72 x0 x1 x2 x3 (ix2 r f) = Ud x0 x1 x2 x3 r f := by
  unfold Ud; rw [← sg_at, ← gate_at x0 x1 x2, ← up_at x0 x1 x3]
  pointwise [val_main_v72, val_main_call1_v2, val_main_call1_v1, val_main_call1_v0, val_main_v16_1, val_main_call0_v7, val_main_call0_v6, val_main_call0_cst_1]

/-- The block's output, row by row. -/
abbrev XX (r : Fin 4096) (k : Fin 1024) : EReal := x0 (ix2 r k) + ∑ f, Ga x0 x1 x2 x3 r f * x4 (ix3 0 f k)

theorem xx_at (r : Fin 4096) (k : Fin 1024) : val_main_v20 x0 x1 x2 x3 x4 (ix2 r k) = XX x0 x1 x2 x3 x4 r k := by
  unfold XX; simp only [← ga_at]
  pointwise [val_main_v20, val_main_v19, val_main_v18]

theorem ms2_at (r : Fin 4096) : val_main_v27 x0 x1 x2 x3 x4 (ix2 r 0) = ms (XX x0 x1 x2 x3 x4 r) := by
  rw [show XX x0 x1 x2 x3 x4 r = fun k => val_main_v20 x0 x1 x2 x3 x4 (ix2 r k) from funext fun k => (xx_at x0 x1 x2 x3 x4 r k).symm]
  unfold ms
  pointwise [val_main_v27, val_main_v26, val_main_v25, val_main_v24, val_main_v23, val_main_v22, val_main_v21, val_main_cst_2, val_main_cst_3, val_main_cst_4]

theorem rs2_at (r : Fin 4096) : val_main_v28 x0 x1 x2 x3 x4 (ix2 r 0) = rs (XX x0 x1 x2 x3 x4 r) := by
  unfold rs; rw [← ms2_at]
  pointwise [val_main_v28]

theorem w2_at (r : Fin 4096) : val_main_v31 x0 x1 x2 x3 x4 (ix2 r 0)
    = Ideal.ofBits .f32 0xBF000000#32 * Ideal.div (rs (XX x0 x1 x2 x3 x4 r)) (ms (XX x0 x1 x2 x3 x4 r)) := by
  rw [← ms2_at, ← rs2_at]
  pointwise [val_main_v31, val_main_v30, val_main_v29, val_main_cst_5]

theorem xh_at (r : Fin 4096) (k : Fin 1024) : val_main_v33 x0 x1 x2 x3 x4 (ix2 r k) = XX x0 x1 x2 x3 x4 r k * rs (XX x0 x1 x2 x3 x4 r) := by
  rw [← xx_at, ← rs2_at]
  pointwise [val_main_v33, val_main_v32]

/-- The norm's weight and the targets' row. -/
abbrev gw : Fin 1024 → EReal := fun k => x5 (ix1 k)
abbrev tg (r : Fin 4096) : Fin 1024 → EReal := fun k => x6 (ix2 r k)

theorem err_at (r : Fin 4096) (k : Fin 1024) : val_main_v37 x0 x1 x2 x3 x4 x5 x6 (ix2 r k)
    = lerr (XX x0 x1 x2 x3 x4 r) (gw x5) (tg x6 r) k := by
  unfold lerr; rw [← xh_at]
  pointwise [val_main_v37, val_main_v36, val_main_v35, val_main_v34]

theorem row_at (r : Fin 4096) : val_main_v43 x0 x1 x2 x3 x4 x5 x6 (ix1 r) = lrow (XX x0 x1 x2 x3 x4 r) (gw x5) (tg x6 r) := by
  unfold lrow; simp only [← err_at]
  pointwise [val_main_v43, val_main_v42, val_main_v41, val_main_v38, val_main_cst_7, val_main_cst_8]

theorem loss_at (i : S8x128.Idx) : val_main_v73 x0 x1 x2 x3 x4 x5 x6 i
    = Ideal.ofBits .f32 0x3F000000#32 * ∑ r : Fin 4096, lrow (XX x0 x1 x2 x3 x4 r) (gw x5) (tg x6 r) := by
  simp only [← row_at]
  pointwise [val_main_v73, val_main_v45, val_main_v44, val_main_cst_9, val_main_cst_10]

/-- The gradient at the scaled row, as the chain rule gives it. -/
abbrev dy (r : Fin 4096) (k : Fin 1024) : EReal :=
  Ideal.div (Ideal.ofBits .f32 0x3F000000#32 * 1) (Ideal.ofBits .f32 0x44800000#32)
    * (Ideal.ofBits .f32 0x40000000#32 * lerr (XX x0 x1 x2 x3 x4 r) (gw x5) (tg x6 r) k)

theorem dy_at (r : Fin 4096) (k : Fin 1024) : val_main_v51 x0 x1 x2 x3 x4 x5 x6 (ix2 r k) = dy x0 x1 x2 x3 x4 x5 x6 r k := by
  unfold dy; rw [← err_at]
  pointwise [val_main_v51, val_main_v50, val_main_v49, val_main_v48, val_main_v47, val_main_v46, val_main_v40, val_main_v39, val_main_cst_6, val_main_cst_11,
    val_main_cst_12, val_main_cst_13]

theorem z_at (r : Fin 4096) (k : Fin 1024) : val_main_v56 x0 x1 x2 x3 x4 x5 x6 (ix2 r k) = dy x0 x1 x2 x3 x4 x5 x6 r k * gw x5 k := by
  rw [← dy_at]
  pointwise [val_main_v56, val_main_v55, val_main_v34]

theorem dg_at (d : Fin 1024) : val_main_v74 x0 x1 x2 x3 x4 x5 x6 (ix2 0 d)
    = ∑ r : Fin 4096, XX x0 x1 x2 x3 x4 r d * rs (XX x0 x1 x2 x3 x4 r) * dy x0 x1 x2 x3 x4 x5 x6 r d := by
  simp only [← dy_at, ← xh_at]
  pointwise [val_main_v74, val_main_v57, val_main_v54, val_main_v53, val_main_v52, val_main_cst_14, val_main_cst_15]
  simp only [Fin.sum_univ_one]

theorem dx_at (r : Fin 4096) (d : Fin 1024) : val_main_v71 x0 x1 x2 x3 x4 x5 x6 (ix2 r d)
    = nbChain (XX x0 x1 x2 x3 x4 r) (fun k => dy x0 x1 x2 x3 x4 x5 x6 r k * gw x5 k) d := by
  unfold nbChain; simp only [← z_at, ← w2_at]; simp only [← rs2_at]; simp only [← xx_at]
  pointwise [val_main_v71, val_main_v70, val_main_v69, val_main_v68, val_main_v67, val_main_v66, val_main_v65, val_main_v64, val_main_v63, val_main_v62,
    val_main_v61, val_main_v60, val_main_v59, val_main_v58, val_main_cst_16, val_main_cst_17, val_main_cst_18]
  simp only [Fin.sum_univ_one]

theorem col_lt (s : Fin 4) (f : Fin 704) : s.val * 704 + f.val < 2816 := by omega

theorem cut_ud (s : Fin 4) (r : Fin 4096) (f : Fin 704) : val_main_v78 x0 x1 x2 x3 (ix3 s r f)
    = Ud x0 x1 x2 x3 r ⟨s.val * 704 + f.val, col_lt s f⟩ := by
  rw [← ud_at]
  pointwise [val_main_v78, val_main_v77, val_main_v76]

theorem cut_si (s : Fin 4) (r : Fin 4096) (f : Fin 704) : val_main_v81 x0 x1 x2 (ix3 s r f)
    = Si x0 x1 x2 r ⟨s.val * 704 + f.val, col_lt s f⟩ := by
  rw [← si_at]
  pointwise [val_main_v81, val_main_v80, val_main_v79]

theorem cut_ga (s : Fin 4) (r : Fin 4096) (f : Fin 704) : val_main_v85 x0 x1 x2 x3 (ix3 s r f)
    = Ga x0 x1 x2 x3 r ⟨s.val * 704 + f.val, col_lt s f⟩ := by
  unfold Ga; rw [← si_at, ← up_at]
  pointwise [val_main_v85, val_main_v84, val_main_v83, val_main_v82]
end Cert.MlpFwdRefIdeal.Own
-- ==== Proof.MlpFwdEq.lean ====
module
public import proofs.«01_k».proof.Proof.MlpFwdHost
public import proofs.«01_k».proof.Proof.MlpFwdRef

/-!
# The MLP's forward kernel against its reference

On finite arguments each array the kernel leaves is the reference's.
-/

@[expose] public section
set_option maxRecDepth 16384
noncomputable section
open Idealize.ShloMosaic Idealize.ShloMosaic.TcCoe Idealize.SL.Sem
open scoped BigOperators
namespace Cert.MlpFwdIdeal.Own
open Cert.MlpFwdIdeal Cert.MlpFwdIdeal.Gen Cert.BlockMath
open Cert.MlpFwdRefIdeal.Own (Gt Si Ga Ud XX dy gw tg)
open Cert.MlpFwdRefIdeal.Read
variable (m : (ℓ : Loc nD τ sig) → Buf (Elt Ideal) ℓ)

/-- Every argument's entries are real numbers. -/
structure Fin7 (c : Dev nD) : Prop where
  a0 : ∀ i, IsR (A0 m c i)
  a1 : ∀ i, IsR (A1 m c i)
  a2 : ∀ i, IsR (A2 m c i)
  a3 : ∀ i, IsR (A3 m c i)
  a4 : ∀ i, IsR (A4 m c i)
  a5 : ∀ i, IsR (A5 m c i)
  a6 : ∀ i, IsR (A6 m c i)

theorem isR_gt {x : FVec Ideal S4096x1024 .f32} {g : FVec Ideal S1x1024 .f32} {w : FVec Ideal S1x1024x2816 .f32}
    (hx : ∀ i, IsR (x i)) (hg : ∀ i, IsR (g i)) (hw : ∀ i, IsR (w i)) (r : Fin 4096) (f : Fin 2816) : IsR (Gt x g w r f) :=
  IsR.sum fun k => (((hx _).mul (isR_rs fun _ => hx _)).mul (hg _)).mul (hw _)

variable {m} {c : Dev nD}

theorem gt_eq (s : Fin 4) (r : Fin 4096) (f : Fin 704) :
    GT m c (ix3 s r f) = Gt (A0 m c) (A1 m c) (A2 m c) r ⟨_, col_lt s f⟩ :=
  Finset.sum_congr rfl fun k _ => congrArg₂ (· * ·) (v12_at m c r k) (v16_at m c s f k)

theorem up_eq (s : Fin 4) (r : Fin 4096) (f : Fin 704) :
    UP m c (ix3 s r f) = Gt (A0 m c) (A1 m c) (A3 m c) r ⟨_, col_lt s f⟩ :=
  Finset.sum_congr rfl fun k _ => congrArg₂ (· * ·) (v12_at m c r k) (v20_at m c s f k)

theorem si_eq (s : Fin 4) (r : Fin 4096) (f : Fin 704) :
    SI m c (ix3 s r f) = Si (A0 m c) (A1 m c) (A2 m c) r ⟨_, col_lt s f⟩ := by
  unfold SI; rw [gt_eq]; rfl

theorem aa_eq (s : Fin 4) (r : Fin 4096) (f : Fin 704) :
    AA m c (ix3 s r f) = Ga (A0 m c) (A1 m c) (A2 m c) (A3 m c) r ⟨_, col_lt s f⟩ := by
  unfold AA; rw [gt_eq, up_eq]; rfl

theorem xr_host (r : Fin 4096) : xr m c r = XX (A0 m c) (A1 m c) (A2 m c) (A3 m c) (A4 m c) r := funext fun k => by
  show R0 m c (ix2 r k) + ∑ s : Fin 4, ∑ f : Fin 704, AA m c (ix3 s r f) * W0 m c (ix3 s f k) = _
  rw [r0_at]
  refine congrArg (_ + ·) (Fin.sum_mul_add_congr fun s f hl => ?_)
  rw [aa_eq, w0_at]

theorem gr_host : gr m c = gw (A5 m c) := funext fun k => g0_at m c k
theorem tr_host (r : Fin 4096) : tr m c r = tg (A6 m c) r := funext fun k => congrFun (t0_at m c) (ix2 r k)

theorem arr12 : SI m c = val_main_v81 (F := Ideal) (A0 m c) (A1 m c) (A2 m c) := by
  funext i
  obtain ⟨s, r, f, rfl⟩ : ∃ (s : Fin 4) (r : Fin 4096) (f : Fin 704), i = ix3 s r f := ⟨i 0, i 1, i 2, by funext a; fin_cases a <;> rfl⟩
  exact (si_eq s r f).trans (Cert.MlpFwdRefIdeal.Own.cut_si _ _ _ s r f).symm

theorem arr13 : AA m c = val_main_v85 (F := Ideal) (A0 m c) (A1 m c) (A2 m c) (A3 m c) := by
  funext i
  obtain ⟨s, r, f, rfl⟩ : ∃ (s : Fin 4) (r : Fin 4096) (f : Fin 704), i = ix3 s r f := ⟨i 0, i 1, i 2, by funext a; fin_cases a <;> rfl⟩
  exact (aa_eq s r f).trans (Cert.MlpFwdRefIdeal.Own.cut_ga _ _ _ _ s r f).symm

variable (h : Fin7 m c)
include h

theorem isR_si (r : Fin 4096) (f : Fin 2816) : IsR (Si (A0 m c) (A1 m c) (A2 m c) r f) :=
  (isR_gt h.a0 h.a1 h.a2 r f).mul (isR_sg (isR_gt h.a0 h.a1 h.a2 r f))

theorem isR_xx (r : Fin 4096) (k : Fin 1024) : IsR (XX (A0 m c) (A1 m c) (A2 m c) (A3 m c) (A4 m c) r k) :=
  (h.a0 _).add (IsR.sum fun f => ((isR_si h r f).mul (isR_gt h.a0 h.a1 h.a3 r f)).mul (h.a4 _))

theorem arr11 : UD m c = val_main_v78 (F := Ideal) (A0 m c) (A1 m c) (A2 m c) (A3 m c) := by
  funext i
  obtain ⟨s, r, f, rfl⟩ : ∃ (s : Fin 4) (r : Fin 4096) (f : Fin 704), i = ix3 s r f := ⟨i 0, i 1, i 2, by funext a; fin_cases a <;> rfl⟩
  refine Eq.trans ?_ (Cert.MlpFwdRefIdeal.Own.cut_ud _ _ _ _ s r f).symm
  unfold UD
  rw [gt_eq, up_eq]
  exact ud_eq (isR_gt h.a0 h.a1 h.a2 r _) (isR_gt h.a0 h.a1 h.a3 r _)

theorem dy_eq (r : Fin 4096) (k : Fin 1024) : dy (A0 m c) (A1 m c) (A2 m c) (A3 m c) (A4 m c) (A5 m c) (A6 m c) r k
    = ldy (XX (A0 m c) (A1 m c) (A2 m c) (A3 m c) (A4 m c) r) (gw (A5 m c)) (tg (A6 m c) r) k := by
  unfold dy
  rw [factor_eq, ofBits_two]
  exact ldy_eq (isR_xx h r) (fun k => h.a5 _) (fun k => h.a6 _) k

theorem isR_dyg (r : Fin 4096) (k : Fin 1024) :
    IsR (ldy (XX (A0 m c) (A1 m c) (A2 m c) (A3 m c) (A4 m c) r) (gw (A5 m c)) (tg (A6 m c) r) k * gw (A5 m c) k) :=
  (isR_ldy (isR_xx h r) (fun k => h.a5 _) (fun k => h.a6 _) k).mul (h.a5 _)

theorem arr9 : DX m c = val_main_v71 (F := Ideal) (A0 m c) (A1 m c) (A2 m c) (A3 m c) (A4 m c) (A5 m c) (A6 m c) := by
  funext i
  obtain ⟨r, d, rfl⟩ : ∃ (r : Fin 4096) (d : Fin 1024), i = ix2 r d := ⟨i 0, i 1, by funext a; fin_cases a <;> rfl⟩
  refine Eq.trans ?_ (Cert.MlpFwdRefIdeal.Own.dx_at _ _ _ _ _ _ _ r d).symm
  refine Eq.trans (b := nb (XX (A0 m c) (A1 m c) (A2 m c) (A3 m c) (A4 m c) r)
    (fun k => ldy (XX (A0 m c) (A1 m c) (A2 m c) (A3 m c) (A4 m c) r) (gw (A5 m c)) (tg (A6 m c) r) k * gw (A5 m c) k) d) ?_ ?_
  · exact nb_congr (xr_host r) gr_host (tr_host r) rfl
  · simp only [dy_eq h]
    exact nb_eq_chain (isR_xx h r) (isR_dyg h r) d

theorem arr10 : DX m c = val_main_v75 (F := Ideal) (A0 m c) (A1 m c) (A2 m c) (A3 m c) (A4 m c) (A5 m c) (A6 m c) :=
  (arr9 h).trans (funext fun i => (val_main_v75_apply (F := Ideal) _ _ _ _ _ _ _ i).symm)

theorem arr8 : DG m c = val_main_v74 (F := Ideal) (A0 m c) (A1 m c) (A2 m c) (A3 m c) (A4 m c) (A5 m c) (A6 m c) := by
  funext i
  obtain ⟨z, d, rfl⟩ : ∃ (z : Fin 1) (d : Fin 1024), i = ix2 z d := ⟨i 0, i 1, by funext a; fin_cases a <;> rfl⟩
  obtain rfl : z = 0 := Subsingleton.elim _ _
  refine Eq.trans ?_ (Cert.MlpFwdRefIdeal.Own.dg_at _ _ _ _ _ _ _ d).symm
  show ∑ r : Fin 4096, dgRow m c r d = _
  refine Finset.sum_congr rfl fun r _ => ?_
  rw [dy_eq h, mul_comm]
  exact dg_congr (xr_host r) gr_host (tr_host r)

theorem arr7 : LS m c = val_main_v73 (F := Ideal) (A0 m c) (A1 m c) (A2 m c) (A3 m c) (A4 m c) (A5 m c) (A6 m c) := by
  funext i
  refine Eq.trans ?_ (Cert.MlpFwdRefIdeal.Own.loss_at _ _ _ _ _ _ _ i).symm
  have hr (r : Fin 4096) : IsR (lrow (XX (A0 m c) (A1 m c) (A2 m c) (A3 m c) (A4 m c) r) (gw (A5 m c)) (tg (A6 m c) r)) :=
    isR_lrow (isR_xx h r) (fun k => h.a5 _) (fun k => h.a6 _)
  have hl (r : Fin 4096) : lrow (xr m c r) (gr m c) (tr m c r)
      = lrow (XX (A0 m c) (A1 m c) (A2 m c) (A3 m c) (A4 m c) r) (gw (A5 m c)) (tg (A6 m c) r) :=
    lrow_congr (xr_host r) gr_host (tr_host r)
  unfold LS
  rw [mul_sum_isR ⟨_, ofBits_half⟩ fun a => IsR.sum fun r => by rw [hl]; exact hr _]
  refine congrArg (_ * ·) (Fin.sum_mul_add_congr fun a r hlt => ?_)
  exact hl _
end Cert.MlpFwdIdeal.Own
-- ==== Proof.MlpFwdClaim.lean ====
module
public import proofs.«01_k».proof.Defs
public import proofs.«01_k».proof.Proof.MlpFwdEq
public import proofs.«01_k».proof.Proof.ClaimMath
public import proofs.«01_k».proof.Proof.Gen.MlpFwdRefIdeal.Run
public import proofs.«01_k».proof.Proof.Gen.MlpFwd.Frame

/-!
# The claims about the MLP's forward kernel
-/

@[expose] public section
set_option maxRecDepth 16384
noncomputable section
open Idealize.ShloMosaic Idealize.ShloMosaic.TcCoe Idealize.SL.Sem

namespace Cert.Pre_finite_mlp_fwd.Own
open Cert.Pre_finite_mlp_fwd

instance facts : Cert.Pre_finite_mlp_fwd.Facts where
  bcast_S_S4096x1024 := by decide
  bcast_S_S1x1024 := by decide
  bcast_S_S1x1024x2816 := by decide
  bcast_S_S1x2816x1024 := by decide
  bcast_S_S1024 := by decide

end Cert.Pre_finite_mlp_fwd.Own

namespace Cert.MlpFwdIdeal.Own
open Cert.MlpFwdIdeal Cert.MlpFwdIdeal.Gen Cert.ClaimMath

theorem fin7 (m : (ℓ : Loc nD τ sig) → Buf (Elt Ideal) ℓ) (h : Cert.Pre_MlpFwdIdeal_finite_mlp_fwd m) (c : Dev nD) : Fin7 m c := by
  obtain ⟨h0, h1, h2, h3, h4, h5, h6⟩ := h c
  have g0 (i) := congrFun h0 i
  have g1 (i) := congrFun h1 i
  have g2 (i) := congrFun h2 i
  have g3 (i) := congrFun h3 i
  have g4 (i) := congrFun h4 i
  have g5 (i) := congrFun h5 i
  have g6 (i) := congrFun h6 i
  exact ⟨fun i => isR_of_test (g0 i), fun i => isR_of_test (g1 i), fun i => isR_of_test (g2 i), fun i => isR_of_test (g3 i),
    fun i => isR_of_test (g4 i), fun i => isR_of_test (g5 i), fun i => isR_of_test (g6 i)⟩

theorem frame_ref : Cert.quiescent_MlpFwdRefIdeal := fun m ρ _ =>
  (θ_run Cert.MlpFwdRefIdeal.defs _ _).mono (fun r h => ⟨fun c => (h c).2.2.2.2.2.2.2, sem_eq_zero_of_no_sems (by decide) r.2⟩)
    (Cert.MlpFwdRefIdeal.Value.run m ρ)

set_option maxHeartbeats 1600000 in
theorem value : Cert.algebraic_MlpFwdIdeal_MlpFwdRefIdeal_pre_finite_mlp_fwd := by
  intro m g m' g' hp hag
  refine ⟨fun c => LS m c, fun c => DG m c, fun c => DX m c, fun c => DX m c, fun c => UD m c, fun c => SI m c, fun c => AA m c, ?_, ?_⟩
  · refine (θ_run defs _ _).mono (fun r h c => ?_) (θ_run_and (run_main m g) (unchanged m g))
    exact ⟨((h.1 c).1 7).trans (final7 m c), ((h.1 c).1 8).trans (final8 m c), ((h.1 c).1 9).trans (final9 m c),
      ((h.1 c).1 10).trans (final10 m c), ((h.1 c).1 11).trans (final11 m c), ((h.1 c).1 12).trans (final12 m c),
      ((h.1 c).1 13).trans (final13 m c), h.2 c⟩
  · refine (θ_run Cert.MlpFwdRefIdeal.defs _ _).mono (fun r h c => ?_) (Cert.MlpFwdRefIdeal.Value.run m' g')
    have hf := fin7 m hp c
    obtain ⟨a0, a1, a2, a3, a4, a5, a6⟩ := hag c
    obtain ⟨r0, r1, r2, r3, r4, r5, r6, ra⟩ := h c
    have s5 := (Cert.MlpFwdRefIdeal.Read.val_main_v81_eq (F := Ideal) (m' ((c.tc : Thread Cert.MlpFwdRefIdeal.nD Cert.MlpFwdRefIdeal.τ).loc Cert.MlpFwdRefIdeal.main_arg0)) (m' ((c.tc : Thread Cert.MlpFwdRefIdeal.nD Cert.MlpFwdRefIdeal.τ).loc Cert.MlpFwdRefIdeal.main_arg1)) (m' ((c.tc : Thread Cert.MlpFwdRefIdeal.nD Cert.MlpFwdRefIdeal.τ).loc Cert.MlpFwdRefIdeal.main_arg2))).trans
      (three a0 a1 a2 Cert.MlpFwdRefIdeal.Read.val_main_v81 arr12)
    have s6 := (Cert.MlpFwdRefIdeal.Read.val_main_v85_eq (F := Ideal) (m' ((c.tc : Thread Cert.MlpFwdRefIdeal.nD Cert.MlpFwdRefIdeal.τ).loc Cert.MlpFwdRefIdeal.main_arg0)) (m' ((c.tc : Thread Cert.MlpFwdRefIdeal.nD Cert.MlpFwdRefIdeal.τ).loc Cert.MlpFwdRefIdeal.main_arg1)) (m' ((c.tc : Thread Cert.MlpFwdRefIdeal.nD Cert.MlpFwdRefIdeal.τ).loc Cert.MlpFwdRefIdeal.main_arg2)) (m' ((c.tc : Thread Cert.MlpFwdRefIdeal.nD Cert.MlpFwdRefIdeal.τ).loc Cert.MlpFwdRefIdeal.main_arg3))).trans
      (four a0 a1 a2 a3 Cert.MlpFwdRefIdeal.Read.val_main_v85 arr13)
    exact ⟨r0.trans ((Cert.MlpFwdRefIdeal.Read.val_main_v73_eq m' c).trans (seven a0 a1 a2 a3 a4 a5 a6 Cert.MlpFwdRefIdeal.Read.val_main_v73 (arr7 hf))),
      r1.trans ((Cert.MlpFwdRefIdeal.Read.val_main_v74_eq m' c).trans (seven a0 a1 a2 a3 a4 a5 a6 Cert.MlpFwdRefIdeal.Read.val_main_v74 (arr8 hf))),
      r2.trans ((Cert.MlpFwdRefIdeal.Read.val_main_v71_eq m' c).trans (seven a0 a1 a2 a3 a4 a5 a6 Cert.MlpFwdRefIdeal.Read.val_main_v71 (arr9 hf))),
      r3.trans ((Cert.MlpFwdRefIdeal.Read.val_main_v75_eq m' c).trans (seven a0 a1 a2 a3 a4 a5 a6 Cert.MlpFwdRefIdeal.Read.val_main_v75 (arr10 hf))),
      r4.trans ((Cert.MlpFwdRefIdeal.Read.val_main_v78_eq m' c).trans (four a0 a1 a2 a3 Cert.MlpFwdRefIdeal.Read.val_main_v78 (arr11 hf))),
      r5.trans s5, r6.trans s6, ra⟩
end Cert.MlpFwdIdeal.Own
-- ==== Proof.DwInPoint.lean ====
module
public import proofs.«01_k».proof.Proof.Gen.DwInIdeal.Frame
public import Idealize.ShloMosaic.Lib.Pipeline.ValueKit
public import Idealize.ShloMosaic.Lib.Pointwise

/-!
# The input projection's weight gradient kernel: one point

The four points take 1024 rows of the sequence each. At each point the kernel adds, into five
accumulators, the transposes of five blocks times the block of normalised rows; the last point
writes the accumulators out.
-/

@[expose] public section
set_option maxRecDepth 16384
noncomputable section
open Idealize.ShloMosaic Idealize.ShloMosaic.TcCoe Idealize.SL.Sem
open Idealize.ShloMosaic.Pipeline (Dat)
open scoped BigOperators
namespace Cert.DwInIdeal.Own
open Cert.DwInIdeal Cert.DwInIdeal.Gen
variable (m : (ℓ : Loc nD τ sig) → Buf (Elt Ideal) ℓ)

abbrev V0 (c : Dev nD) : FVec Ideal S4096x512 .bf16 := V m c main_v13
abbrev V1 (c : Dev nD) : FVec Ideal S4096x512 .bf16 := V m c main_v14
abbrev V2 (c : Dev nD) : FVec Ideal S4096x512 .bf16 := V m c main_v15
abbrev V3 (c : Dev nD) : FVec Ideal S4096x512 .bf16 := V m c main_v16
abbrev V4 (c : Dev nD) : FVec Ideal S4096x128 .bf16 := V m c main_v19
abbrev V5 (c : Dev nD) : FVec Ideal S4096x1024 .bf16 := V m c main_v12

theorem t_lt (t : Fin cfg0.N) : t.val < 4 := by have h : t.val < grid0.N := t.isLt; have h' := N_0; omega
theorem row_lt (t : Fin cfg0.N) (r : Fin 1024) : t.val * 1024 + r.val < 4096 := by have := t_lt t; omega

/-- Which block each array's window shows at each point: the inputs walk down the rows. -/
theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

def b0 (c : Dev nD) (t : Fin cfg0.N) : Vec Ideal S1024x512 .bf16 := iblk m c 0 t
def b1 (c : Dev nD) (t : Fin cfg0.N) : Vec Ideal S1024x512 .bf16 := iblk m c 1 t
def b2 (c : Dev nD) (t : Fin cfg0.N) : Vec Ideal S1024x512 .bf16 := iblk m c 2 t
def b3 (c : Dev nD) (t : Fin cfg0.N) : Vec Ideal S1024x512 .bf16 := iblk m c 3 t
def b4 (c : Dev nD) (t : Fin cfg0.N) : Vec Ideal S1024x128 .bf16 := iblk m c 4 t
def b5 (c : Dev nD) (t : Fin cfg0.N) : Vec Ideal S1024x1024 .bf16 := iblk m c 5 t
theorem b0_at (c : Dev nD) (t : Fin cfg0.N) (r : Fin 1024) (e : Fin 512) : b0 m c t (ix2 r e) = V0 m c (ix2 ⟨_, row_lt t r⟩ e) := by
  unfold b0; blk_ext [iblk, (idx t).1]
theorem b1_at (c : Dev nD) (t : Fin cfg0.N) (r : Fin 1024) (e : Fin 512) : b1 m c t (ix2 r e) = V1 m c (ix2 ⟨_, row_lt t r⟩ e) := by
  unfold b1; blk_ext [iblk, (idx t).2.1]
theorem b2_at (c : Dev nD) (t : Fin cfg0.N) (r : Fin 1024) (e : Fin 512) : b2 m c t (ix2 r e) = V2 m c (ix2 ⟨_, row_lt t r⟩ e) := by
  unfold b2; blk_ext [iblk, (idx t).2.2.1]
theorem b3_at (c : Dev nD) (t : Fin cfg0.N) (r : Fin 1024) (e : Fin 512) : b3 m c t (ix2 r e) = V3 m c (ix2 ⟨_, row_lt t r⟩ e) := by
  unfold b3; blk_ext [iblk, (idx t).2.2.2.1]
theorem b4_at (c : Dev nD) (t : Fin cfg0.N) (r : Fin 1024) (e : Fin 128) : b4 m c t (ix2 r e) = V4 m c (ix2 ⟨_, row_lt t r⟩ e) := by
  unfold b4; blk_ext [iblk, (idx t).2.2.2.2.1]
theorem b5_at (c : Dev nD) (t : Fin cfg0.N) (r : Fin 1024) (e : Fin 1024) : b5 m c t (ix2 r e) = V5 m c (ix2 ⟨_, row_lt t r⟩ e) := by
  unfold b5; blk_ext [iblk, (idx t).2.2.2.2.2.1]

/-- The part of a transposed product that the rows of the point `t` give. -/
def part (a : FVec Ideal S4096x512 .bf16) (h : FVec Ideal S4096x1024 .bf16) (t : Fin cfg0.N) (j : S512x1024.Idx) : EReal :=
  ∑ r : Fin 1024, a (ix2 ⟨_, row_lt t r⟩ (j 0)) * h (ix2 ⟨_, row_lt t r⟩ (j 1))
/-- The transposed product of two whole arrays. -/
def prod (a : FVec Ideal S4096x512 .bf16) (h : FVec Ideal S4096x1024 .bf16) : FVec Ideal S512x1024 .bf16 := fun j =>
  ∑ r : Fin 4096, a (ix2 r (j 0)) * h (ix2 r (j 1))
theorem part_sum (a : FVec Ideal S4096x512 .bf16) (h : FVec Ideal S4096x1024 .bf16) (j : S512x1024.Idx) : ∑ t : Fin cfg0.N, part a h t j = prod a h j :=
  Fin.sum_mul_add_congr (L := 4096) (S := cfg0.N) (n := 1024)
    (F := fun t r => a (ix2 ⟨_, row_lt t r⟩ (j 0)) * h (ix2 ⟨_, row_lt t r⟩ (j 1))) (fun a r hl => rfl)

/-- The part of a transposed product that the rows of the point `t` give. -/
def part' (a : FVec Ideal S4096x128 .bf16) (h : FVec Ideal S4096x1024 .bf16) (t : Fin cfg0.N) (j : S128x1024.Idx) : EReal :=
  ∑ r : Fin 1024, a (ix2 ⟨_, row_lt t r⟩ (j 0)) * h (ix2 ⟨_, row_lt t r⟩ (j 1))
/-- The transposed product of two whole arrays. -/
def prod' (a : FVec Ideal S4096x128 .bf16) (h : FVec Ideal S4096x1024 .bf16) : FVec Ideal S128x1024 .bf16 := fun j =>
  ∑ r : Fin 4096, a (ix2 r (j 0)) * h (ix2 r (j 1))
theorem part_sum' (a : FVec Ideal S4096x128 .bf16) (h : FVec Ideal S4096x1024 .bf16) (j : S128x1024.Idx) : ∑ t : Fin cfg0.N, part' a h t j = prod' a h j :=
  Fin.sum_mul_add_congr (L := 4096) (S := cfg0.N) (n := 1024)
    (F := fun t r => a (ix2 ⟨_, row_lt t r⟩ (j 0)) * h (ix2 ⟨_, row_lt t r⟩ (j 1))) (fun a r hl => rfl)

/-! ## The query columns -/

theorem first0_at (h : Vec Ideal S1024x1024 .bf16) (a : Vec Ideal S1024x512 .bf16) (i : Fin 512) (d : Fin 1024) :
    k0_pay4 (F := Ideal) h a (ix2 i d) = ∑ r : Fin 1024, a (ix2 r i) * h (ix2 r d) := by
  pointwise [k0_pay4, k0_pay3, k0_pay2]
theorem next0_at (h : Vec Ideal S1024x1024 .bf16) (a : Vec Ideal S1024x512 .bf16) (p : Vec Ideal S512x1024 .f32) (i : Fin 512) (d : Fin 1024) :
    k0_pay5 (F := Ideal) h a p (ix2 i d) = p (ix2 i d) + ∑ r : Fin 1024, a (ix2 r i) * h (ix2 r d) := by
  pointwise [k0_pay5, k0_pay3, k0_pay2]
theorem out0_at (p : Vec Ideal S512x1024 .f32) (j : S512x1024.Idx) : k0_pay6 (F := Ideal) p j = p j := by
  pointwise [k0_pay6]

/-- The accumulator after the point `n`. -/
def acc0 (c : Dev nD) (n : ℕ) (hn : n < cfg0.N) : Vec Ideal S512x1024 .f32 := (outsAt0 m c n hn).2.2.2.2.2.1

theorem part0_eq (c : Dev nD) (t : Fin cfg0.N) (i : Fin 512) (d : Fin 1024) :
    ∑ r : Fin 1024, b0 m c t (ix2 r i) * b5 m c t (ix2 r d) = part (V0 m c) (V5 m c) t (ix2 i d) :=
  Finset.sum_congr rfl fun r _ => by rw [b0_at, b5_at]; rfl

theorem acc0_first (c : Dev nD) (t : Fin cfg0.N) (h0 : t.val % 4 = 0) (j : S512x1024.Idx) :
    acc0 m c t.val t.isLt j = 0 + part (V0 m c) (V5 m c) t j := by
  have ht := t_lt t
  have h1 : ¬1 ≤ t.val := by omega
  have h2 : ¬t.val % 4 = 3 := by omega
  obtain ⟨i, d, rfl⟩ : ∃ (i : Fin 512) (d : Fin 1024), j = ix2 i d := ⟨j 0, j 1, by funext a; fin_cases a <;> rfl⟩
  rw [zero_add, ← part0_eq, ← first0_at]
  unfold acc0
  rw [outsAt0_A m c t h0 h1 h2 h0 h1 h2 h0 h1 h2 h0 h1 h2 h0 h1 h2]; frame_out
  rfl

theorem acc0_next (c : Dev nD) (t : Fin cfg0.N) (h0 : ¬t.val % 4 = 0) (j : S512x1024.Idx) :
    acc0 m c t.val t.isLt j = acc0 m c (t.val - 1) (Nat.lt_of_le_of_lt (Nat.sub_le _ _) t.isLt) j + part (V0 m c) (V5 m c) t j := by
  have ht := t_lt t
  have h1 : 1 ≤ t.val := by omega
  obtain ⟨i, d, rfl⟩ : ∃ (i : Fin 512) (d : Fin 1024), j = ix2 i d := ⟨j 0, j 1, by funext a; fin_cases a <;> rfl⟩
  rw [← part0_eq, ← next0_at]
  unfold acc0
  by_cases h2 : t.val % 4 = 3
  · rw [outsAt0_C m c t h0 h1 h2 h0 h1 h2 h0 h1 h2 h0 h1 h2 h0 h1 h2]; frame_out
    exact congrArg (fun p : Vec Ideal S512x1024 .f32 => k0_pay5 (F := Ideal) (b5 m c t) (b0 m c t) p (ix2 i d)) (Memref.IsWhole.read_unread _ _)
  · rw [outsAt0_B m c t h0 h1 h2 h0 h1 h2 h0 h1 h2 h0 h1 h2 h0 h1 h2]; frame_out
    exact congrArg (fun p : Vec Ideal S512x1024 .f32 => k0_pay5 (F := Ideal) (b5 m c t) (b0 m c t) p (ix2 i d)) (Memref.IsWhole.read_unread _ _)

/-- The last point writes out what the accumulator then holds: the whole product. -/
theorem written0 (c : Dev nD) (t : Fin cfg0.N) (h2 : t.val % 4 = 3) (j : S512x1024.Idx) :
    (outsAt0 m c t.val t.isLt).1 j = prod (V0 m c) (V5 m c) j := by
  have ht := t_lt t
  have h0 : ¬t.val % 4 = 0 := by omega
  have h1 : 1 ≤ t.val := by omega
  have hN : t.val + 1 = cfg0.N := by have h' := N_0; show t.val + 1 = grid0.N; omega
  refine Eq.trans (b := acc0 m c t.val t.isLt j) ?_ ?_
  · unfold acc0
    rw [outsAt0_C m c t h0 h1 h2 h0 h1 h2 h0 h1 h2 h0 h1 h2 h0 h1 h2]; frame_out
    exact out0_at _ j
  · rw [Pipeline.eq_sum_fin_of_reset_step_apply_last (acc0 m c) 4 (fun _ => (0 : EReal)) (part (V0 m c) (V5 m c))
      (fun t h j => acc0_first m c t h j) (fun t h j => acc0_next m c t h j) (le_of_eq N_0) t hN j, zero_add, part_sum]

theorem final6 (c : Dev nD) : (dats m 0 c).arrAt 6 (cfgs 0).N = prod (V0 m c) (V5 m c) := by
  refine (dats m 0 c).arrAt_eq_of_covers 6 _ (by decide +kernel) fun t hf y => ?_
  have e : (win0_6.blk t).view.emb y = y := by
    funext a; fin_cases a <;> exact Fin.ext (by blk_simp [idx t])
  blk_simp; rw [after0_6]
  exact (written0 m c t ((flush0_6 t).mp hf) y).trans (congrArg (prod (V0 m c) (V5 m c)) e.symm)

/-! ## The key columns -/

theorem first1_at (h : Vec Ideal S1024x1024 .bf16) (a : Vec Ideal S1024x512 .bf16) (i : Fin 512) (d : Fin 1024) :
    k0_pay8 (F := Ideal) h a (ix2 i d) = ∑ r : Fin 1024, a (ix2 r i) * h (ix2 r d) := by
  pointwise [k0_pay8, k0_pay7, k0_pay2]
theorem next1_at (h : Vec Ideal S1024x1024 .bf16) (a : Vec Ideal S1024x512 .bf16) (p : Vec Ideal S512x1024 .f32) (i : Fin 512) (d : Fin 1024) :
    k0_pay9 (F := Ideal) h a p (ix2 i d) = p (ix2 i d) + ∑ r : Fin 1024, a (ix2 r i) * h (ix2 r d) := by
  pointwise [k0_pay9, k0_pay7, k0_pay2]
theorem out1_at (p : Vec Ideal S512x1024 .f32) (j : S512x1024.Idx) : k0_pay10 (F := Ideal) p j = p j := by
  pointwise [k0_pay10]

/-- The accumulator after the point `n`. -/
def acc1 (c : Dev nD) (n : ℕ) (hn : n < cfg0.N) : Vec Ideal S512x1024 .f32 := (outsAt0 m c n hn).2.2.2.2.2.2.1

theorem part1_eq (c : Dev nD) (t : Fin cfg0.N) (i : Fin 512) (d : Fin 1024) :
    ∑ r : Fin 1024, b1 m c t (ix2 r i) * b5 m c t (ix2 r d) = part (V1 m c) (V5 m c) t (ix2 i d) :=
  Finset.sum_congr rfl fun r _ => by rw [b1_at, b5_at]; rfl

theorem acc1_first (c : Dev nD) (t : Fin cfg0.N) (h0 : t.val % 4 = 0) (j : S512x1024.Idx) :
    acc1 m c t.val t.isLt j = 0 + part (V1 m c) (V5 m c) t j := by
  have ht := t_lt t
  have h1 : ¬1 ≤ t.val := by omega
  have h2 : ¬t.val % 4 = 3 := by omega
  obtain ⟨i, d, rfl⟩ : ∃ (i : Fin 512) (d : Fin 1024), j = ix2 i d := ⟨j 0, j 1, by funext a; fin_cases a <;> rfl⟩
  rw [zero_add, ← part1_eq, ← first1_at]
  unfold acc1
  rw [outsAt0_A m c t h0 h1 h2 h0 h1 h2 h0 h1 h2 h0 h1 h2 h0 h1 h2]; frame_out
  rfl

theorem acc1_next (c : Dev nD) (t : Fin cfg0.N) (h0 : ¬t.val % 4 = 0) (j : S512x1024.Idx) :
    acc1 m c t.val t.isLt j = acc1 m c (t.val - 1) (Nat.lt_of_le_of_lt (Nat.sub_le _ _) t.isLt) j + part (V1 m c) (V5 m c) t j := by
  have ht := t_lt t
  have h1 : 1 ≤ t.val := by omega
  obtain ⟨i, d, rfl⟩ : ∃ (i : Fin 512) (d : Fin 1024), j = ix2 i d := ⟨j 0, j 1, by funext a; fin_cases a <;> rfl⟩
  rw [← part1_eq, ← next1_at]
  unfold acc1
  by_cases h2 : t.val % 4 = 3
  · rw [outsAt0_C m c t h0 h1 h2 h0 h1 h2 h0 h1 h2 h0 h1 h2 h0 h1 h2]; frame_out
    exact congrArg (fun p : Vec Ideal S512x1024 .f32 => k0_pay9 (F := Ideal) (b5 m c t) (b1 m c t) p (ix2 i d)) (Memref.IsWhole.read_unread _ _)
  · rw [outsAt0_B m c t h0 h1 h2 h0 h1 h2 h0 h1 h2 h0 h1 h2 h0 h1 h2]; frame_out
    exact congrArg (fun p : Vec Ideal S512x1024 .f32 => k0_pay9 (F := Ideal) (b5 m c t) (b1 m c t) p (ix2 i d)) (Memref.IsWhole.read_unread _ _)

/-- The last point writes out what the accumulator then holds: the whole product. -/
theorem written1 (c : Dev nD) (t : Fin cfg0.N) (h2 : t.val % 4 = 3) (j : S512x1024.Idx) :
    (outsAt0 m c t.val t.isLt).2.1 j = prod (V1 m c) (V5 m c) j := by
  have ht := t_lt t
  have h0 : ¬t.val % 4 = 0 := by omega
  have h1 : 1 ≤ t.val := by omega
  have hN : t.val + 1 = cfg0.N := by have h' := N_0; show t.val + 1 = grid0.N; omega
  refine Eq.trans (b := acc1 m c t.val t.isLt j) ?_ ?_
  · unfold acc1
    rw [outsAt0_C m c t h0 h1 h2 h0 h1 h2 h0 h1 h2 h0 h1 h2 h0 h1 h2]; frame_out
    exact out1_at _ j
  · rw [Pipeline.eq_sum_fin_of_reset_step_apply_last (acc1 m c) 4 (fun _ => (0 : EReal)) (part (V1 m c) (V5 m c))
      (fun t h j => acc1_first m c t h j) (fun t h j => acc1_next m c t h j) (le_of_eq N_0) t hN j, zero_add, part_sum]

theorem final7 (c : Dev nD) : (dats m 0 c).arrAt 7 (cfgs 0).N = prod (V1 m c) (V5 m c) := by
  refine (dats m 0 c).arrAt_eq_of_covers 7 _ (by decide +kernel) fun t hf y => ?_
  have e : (win0_7.blk t).view.emb y = y := by
    funext a; fin_cases a <;> exact Fin.ext (by blk_simp [idx t])
  blk_simp; rw [after0_7]
  exact (written1 m c t ((flush0_7 t).mp hf) y).trans (congrArg (prod (V1 m c) (V5 m c)) e.symm)

/-! ## The value columns -/

theorem first2_at (h : Vec Ideal S1024x1024 .bf16) (a : Vec Ideal S1024x512 .bf16) (i : Fin 512) (d : Fin 1024) :
    k0_pay12 (F := Ideal) (k0_pay11 (F := Ideal) h a) (ix2 i d) = ∑ r : Fin 1024, a (ix2 r i) * h (ix2 r d) := by
  pointwise [k0_pay12, k0_pay11, k0_pay2]
theorem next2_at (h : Vec Ideal S1024x1024 .bf16) (a : Vec Ideal S1024x512 .bf16) (p : Vec Ideal S512x1024 .f32) (i : Fin 512) (d : Fin 1024) :
    k0_pay13 (F := Ideal) (k0_pay11 (F := Ideal) h a) p (ix2 i d) = p (ix2 i d) + ∑ r : Fin 1024, a (ix2 r i) * h (ix2 r d) := by
  pointwise [k0_pay13, k0_pay11, k0_pay2]
theorem out2_at (p : Vec Ideal S512x1024 .f32) (j : S512x1024.Idx) : k0_pay14 (F := Ideal) p j = p j := by
  pointwise [k0_pay14]

/-- The accumulator after the point `n`. -/
def acc2 (c : Dev nD) (n : ℕ) (hn : n < cfg0.N) : Vec Ideal S512x1024 .f32 := (outsAt0 m c n hn).2.2.2.2.2.2.2.1

theorem part2_eq (c : Dev nD) (t : Fin cfg0.N) (i : Fin 512) (d : Fin 1024) :
    ∑ r : Fin 1024, b2 m c t (ix2 r i) * b5 m c t (ix2 r d) = part (V2 m c) (V5 m c) t (ix2 i d) :=
  Finset.sum_congr rfl fun r _ => by rw [b2_at, b5_at]; rfl

theorem acc2_first (c : Dev nD) (t : Fin cfg0.N) (h0 : t.val % 4 = 0) (j : S512x1024.Idx) :
    acc2 m c t.val t.isLt j = 0 + part (V2 m c) (V5 m c) t j := by
  have ht := t_lt t
  have h1 : ¬1 ≤ t.val := by omega
  have h2 : ¬t.val % 4 = 3 := by omega
  obtain ⟨i, d, rfl⟩ : ∃ (i : Fin 512) (d : Fin 1024), j = ix2 i d := ⟨j 0, j 1, by funext a; fin_cases a <;> rfl⟩
  rw [zero_add, ← part2_eq, ← first2_at]
  unfold acc2
  rw [outsAt0_A m c t h0 h1 h2 h0 h1 h2 h0 h1 h2 h0 h1 h2 h0 h1 h2]; frame_out
  rfl

theorem acc2_next (c : Dev nD) (t : Fin cfg0.N) (h0 : ¬t.val % 4 = 0) (j : S512x1024.Idx) :
    acc2 m c t.val t.isLt j = acc2 m c (t.val - 1) (Nat.lt_of_le_of_lt (Nat.sub_le _ _) t.isLt) j + part (V2 m c) (V5 m c) t j := by
  have ht := t_lt t
  have h1 : 1 ≤ t.val := by omega
  obtain ⟨i, d, rfl⟩ : ∃ (i : Fin 512) (d : Fin 1024), j = ix2 i d := ⟨j 0, j 1, by funext a; fin_cases a <;> rfl⟩
  rw [← part2_eq, ← next2_at]
  unfold acc2
  by_cases h2 : t.val % 4 = 3
  · rw [outsAt0_C m c t h0 h1 h2 h0 h1 h2 h0 h1 h2 h0 h1 h2 h0 h1 h2]; frame_out
    exact congrArg (fun p : Vec Ideal S512x1024 .f32 => k0_pay13 (F := Ideal) (k0_pay11 (F := Ideal) (b5 m c t) (b2 m c t)) p (ix2 i d)) (Memref.IsWhole.read_unread _ _)
  · rw [outsAt0_B m c t h0 h1 h2 h0 h1 h2 h0 h1 h2 h0 h1 h2 h0 h1 h2]; frame_out
    exact congrArg (fun p : Vec Ideal S512x1024 .f32 => k0_pay13 (F := Ideal) (k0_pay11 (F := Ideal) (b5 m c t) (b2 m c t)) p (ix2 i d)) (Memref.IsWhole.read_unread _ _)

/-- The last point writes out what the accumulator then holds: the whole product. -/
theorem written2 (c : Dev nD) (t : Fin cfg0.N) (h2 : t.val % 4 = 3) (j : S512x1024.Idx) :
    (outsAt0 m c t.val t.isLt).2.2.1 j = prod (V2 m c) (V5 m c) j := by
  have ht := t_lt t
  have h0 : ¬t.val % 4 = 0 := by omega
  have h1 : 1 ≤ t.val := by omega
  have hN : t.val + 1 = cfg0.N := by have h' := N_0; show t.val + 1 = grid0.N; omega
  refine Eq.trans (b := acc2 m c t.val t.isLt j) ?_ ?_
  · unfold acc2
    rw [outsAt0_C m c t h0 h1 h2 h0 h1 h2 h0 h1 h2 h0 h1 h2 h0 h1 h2]; frame_out
    exact out2_at _ j
  · rw [Pipeline.eq_sum_fin_of_reset_step_apply_last (acc2 m c) 4 (fun _ => (0 : EReal)) (part (V2 m c) (V5 m c))
      (fun t h j => acc2_first m c t h j) (fun t h j => acc2_next m c t h j) (le_of_eq N_0) t hN j, zero_add, part_sum]

theorem final8 (c : Dev nD) : (dats m 0 c).arrAt 8 (cfgs 0).N = prod (V2 m c) (V5 m c) := by
  refine (dats m 0 c).arrAt_eq_of_covers 8 _ (by decide +kernel) fun t hf y => ?_
  have e : (win0_8.blk t).view.emb y = y := by
    funext a; fin_cases a <;> exact Fin.ext (by blk_simp [idx t])
  blk_simp; rw [after0_8]
  exact (written2 m c t ((flush0_8 t).mp hf) y).trans (congrArg (prod (V2 m c) (V5 m c)) e.symm)

/-! ## The pool columns -/

theorem first3_at (h : Vec Ideal S1024x1024 .bf16) (a : Vec Ideal S1024x512 .bf16) (i : Fin 512) (d : Fin 1024) :
    k0_pay16 (F := Ideal) (k0_pay2 (F := Ideal) h) a (ix2 i d) = ∑ r : Fin 1024, a (ix2 r i) * h (ix2 r d) := by
  pointwise [k0_pay16, k0_pay15, k0_pay2]
theorem next3_at (h : Vec Ideal S1024x1024 .bf16) (a : Vec Ideal S1024x512 .bf16) (p : Vec Ideal S512x1024 .f32) (i : Fin 512) (d : Fin 1024) :
    k0_pay17 (F := Ideal) (k0_pay2 (F := Ideal) h) a p (ix2 i d) = p (ix2 i d) + ∑ r : Fin 1024, a (ix2 r i) * h (ix2 r d) := by
  pointwise [k0_pay17, k0_pay15, k0_pay2]
theorem out3_at (p : Vec Ideal S512x1024 .f32) (j : S512x1024.Idx) : k0_pay18 (F := Ideal) p j = p j := by
  pointwise [k0_pay18]

/-- The accumulator after the point `n`. -/
def acc3 (c : Dev nD) (n : ℕ) (hn : n < cfg0.N) : Vec Ideal S512x1024 .f32 := (outsAt0 m c n hn).2.2.2.2.2.2.2.2.1

theorem part3_eq (c : Dev nD) (t : Fin cfg0.N) (i : Fin 512) (d : Fin 1024) :
    ∑ r : Fin 1024, b3 m c t (ix2 r i) * b5 m c t (ix2 r d) = part (V3 m c) (V5 m c) t (ix2 i d) :=
  Finset.sum_congr rfl fun r _ => by rw [b3_at, b5_at]; rfl

theorem acc3_first (c : Dev nD) (t : Fin cfg0.N) (h0 : t.val % 4 = 0) (j : S512x1024.Idx) :
    acc3 m c t.val t.isLt j = 0 + part (V3 m c) (V5 m c) t j := by
  have ht := t_lt t
  have h1 : ¬1 ≤ t.val := by omega
  have h2 : ¬t.val % 4 = 3 := by omega
  obtain ⟨i, d, rfl⟩ : ∃ (i : Fin 512) (d : Fin 1024), j = ix2 i d := ⟨j 0, j 1, by funext a; fin_cases a <;> rfl⟩
  rw [zero_add, ← part3_eq, ← first3_at]
  unfold acc3
  rw [outsAt0_A m c t h0 h1 h2 h0 h1 h2 h0 h1 h2 h0 h1 h2 h0 h1 h2]; frame_out
  rfl

theorem acc3_next (c : Dev nD) (t : Fin cfg0.N) (h0 : ¬t.val % 4 = 0) (j : S512x1024.Idx) :
    acc3 m c t.val t.isLt j = acc3 m c (t.val - 1) (Nat.lt_of_le_of_lt (Nat.sub_le _ _) t.isLt) j + part (V3 m c) (V5 m c) t j := by
  have ht := t_lt t
  have h1 : 1 ≤ t.val := by omega
  obtain ⟨i, d, rfl⟩ : ∃ (i : Fin 512) (d : Fin 1024), j = ix2 i d := ⟨j 0, j 1, by funext a; fin_cases a <;> rfl⟩
  rw [← part3_eq, ← next3_at]
  unfold acc3
  by_cases h2 : t.val % 4 = 3
  · rw [outsAt0_C m c t h0 h1 h2 h0 h1 h2 h0 h1 h2 h0 h1 h2 h0 h1 h2]; frame_out
    exact congrArg (fun p : Vec Ideal S512x1024 .f32 => k0_pay17 (F := Ideal) (k0_pay2 (F := Ideal) (b5 m c t)) (b3 m c t) p (ix2 i d)) (Memref.IsWhole.read_unread _ _)
  · rw [outsAt0_B m c t h0 h1 h2 h0 h1 h2 h0 h1 h2 h0 h1 h2 h0 h1 h2]; frame_out
    exact congrArg (fun p : Vec Ideal S512x1024 .f32 => k0_pay17 (F := Ideal) (k0_pay2 (F := Ideal) (b5 m c t)) (b3 m c t) p (ix2 i d)) (Memref.IsWhole.read_unread _ _)

/-- The last point writes out what the accumulator then holds: the whole product. -/
theorem written3 (c : Dev nD) (t : Fin cfg0.N) (h2 : t.val % 4 = 3) (j : S512x1024.Idx) :
    (outsAt0 m c t.val t.isLt).2.2.2.1 j = prod (V3 m c) (V5 m c) j := by
  have ht := t_lt t
  have h0 : ¬t.val % 4 = 0 := by omega
  have h1 : 1 ≤ t.val := by omega
  have hN : t.val + 1 = cfg0.N := by have h' := N_0; show t.val + 1 = grid0.N; omega
  refine Eq.trans (b := acc3 m c t.val t.isLt j) ?_ ?_
  · unfold acc3
    rw [outsAt0_C m c t h0 h1 h2 h0 h1 h2 h0 h1 h2 h0 h1 h2 h0 h1 h2]; frame_out
    exact out3_at _ j
  · rw [Pipeline.eq_sum_fin_of_reset_step_apply_last (acc3 m c) 4 (fun _ => (0 : EReal)) (part (V3 m c) (V5 m c))
      (fun t h j => acc3_first m c t h j) (fun t h j => acc3_next m c t h j) (le_of_eq N_0) t hN j, zero_add, part_sum]

theorem final9 (c : Dev nD) : (dats m 0 c).arrAt 9 (cfgs 0).N = prod (V3 m c) (V5 m c) := by
  refine (dats m 0 c).arrAt_eq_of_covers 9 _ (by decide +kernel) fun t hf y => ?_
  have e : (win0_9.blk t).view.emb y = y := by
    funext a; fin_cases a <;> exact Fin.ext (by blk_simp [idx t])
  blk_simp; rw [after0_9]
  exact (written3 m c t ((flush0_9 t).mp hf) y).trans (congrArg (prod (V3 m c) (V5 m c)) e.symm)

/-! ## The gate columns -/

theorem first4_at (h : Vec Ideal S1024x1024 .bf16) (a : Vec Ideal S1024x128 .bf16) (i : Fin 128) (d : Fin 1024) :
    k0_pay20 (F := Ideal) (k0_pay2 (F := Ideal) h) a (ix2 i d) = ∑ r : Fin 1024, a (ix2 r i) * h (ix2 r d) := by
  pointwise [k0_pay20, k0_pay19, k0_pay2]
theorem next4_at (h : Vec Ideal S1024x1024 .bf16) (a : Vec Ideal S1024x128 .bf16) (p : Vec Ideal S128x1024 .f32) (i : Fin 128) (d : Fin 1024) :
    k0_pay21 (F := Ideal) (k0_pay2 (F := Ideal) h) a p (ix2 i d) = p (ix2 i d) + ∑ r : Fin 1024, a (ix2 r i) * h (ix2 r d) := by
  pointwise [k0_pay21, k0_pay19, k0_pay2]
theorem out4_at (p : Vec Ideal S128x1024 .f32) (j : S128x1024.Idx) : k0_pay1 (F := Ideal) p j = p j := by
  pointwise [k0_pay1]

/-- The accumulator after the point `n`. -/
def acc4 (c : Dev nD) (n : ℕ) (hn : n < cfg0.N) : Vec Ideal S128x1024 .f32 := (outsAt0 m c n hn).2.2.2.2.2.2.2.2.2

theorem part4_eq (c : Dev nD) (t : Fin cfg0.N) (i : Fin 128) (d : Fin 1024) :
    ∑ r : Fin 1024, b4 m c t (ix2 r i) * b5 m c t (ix2 r d) = part' (V4 m c) (V5 m c) t (ix2 i d) :=
  Finset.sum_congr rfl fun r _ => by rw [b4_at, b5_at]; rfl

theorem acc4_first (c : Dev nD) (t : Fin cfg0.N) (h0 : t.val % 4 = 0) (j : S128x1024.Idx) :
    acc4 m c t.val t.isLt j = 0 + part' (V4 m c) (V5 m c) t j := by
  have ht := t_lt t
  have h1 : ¬1 ≤ t.val := by omega
  have h2 : ¬t.val % 4 = 3 := by omega
  obtain ⟨i, d, rfl⟩ : ∃ (i : Fin 128) (d : Fin 1024), j = ix2 i d := ⟨j 0, j 1, by funext a; fin_cases a <;> rfl⟩
  rw [zero_add, ← part4_eq, ← first4_at]
  unfold acc4
  rw [outsAt0_A m c t h0 h1 h2 h0 h1 h2 h0 h1 h2 h0 h1 h2 h0 h1 h2]; frame_out
  rfl

theorem acc4_next (c : Dev nD) (t : Fin cfg0.N) (h0 : ¬t.val % 4 = 0) (j : S128x1024.Idx) :
    acc4 m c t.val t.isLt j = acc4 m c (t.val - 1) (Nat.lt_of_le_of_lt (Nat.sub_le _ _) t.isLt) j + part' (V4 m c) (V5 m c) t j := by
  have ht := t_lt t
  have h1 : 1 ≤ t.val := by omega
  obtain ⟨i, d, rfl⟩ : ∃ (i : Fin 128) (d : Fin 1024), j = ix2 i d := ⟨j 0, j 1, by funext a; fin_cases a <;> rfl⟩
  rw [← part4_eq, ← next4_at]
  unfold acc4
  by_cases h2 : t.val % 4 = 3
  · rw [outsAt0_C m c t h0 h1 h2 h0 h1 h2 h0 h1 h2 h0 h1 h2 h0 h1 h2]; frame_out
    exact congrArg (fun p : Vec Ideal S128x1024 .f32 => k0_pay21 (F := Ideal) (k0_pay2 (F := Ideal) (b5 m c t)) (b4 m c t) p (ix2 i d)) (Memref.IsWhole.read_unread _ _)
  · rw [outsAt0_B m c t h0 h1 h2 h0 h1 h2 h0 h1 h2 h0 h1 h2 h0 h1 h2]; frame_out
    exact congrArg (fun p : Vec Ideal S128x1024 .f32 => k0_pay21 (F := Ideal) (k0_pay2 (F := Ideal) (b5 m c t)) (b4 m c t) p (ix2 i d)) (Memref.IsWhole.read_unread _ _)

/-- The last point writes out what the accumulator then holds: the whole product. -/
theorem written4 (c : Dev nD) (t : Fin cfg0.N) (h2 : t.val % 4 = 3) (j : S128x1024.Idx) :
    (outsAt0 m c t.val t.isLt).2.2.2.2.1 j = prod' (V4 m c) (V5 m c) j := by
  have ht := t_lt t
  have h0 : ¬t.val % 4 = 0 := by omega
  have h1 : 1 ≤ t.val := by omega
  have hN : t.val + 1 = cfg0.N := by have h' := N_0; show t.val + 1 = grid0.N; omega
  refine Eq.trans (b := acc4 m c t.val t.isLt j) ?_ ?_
  · unfold acc4
    rw [outsAt0_C m c t h0 h1 h2 h0 h1 h2 h0 h1 h2 h0 h1 h2 h0 h1 h2]; frame_out
    exact out4_at _ j
  · rw [Pipeline.eq_sum_fin_of_reset_step_apply_last (acc4 m c) 4 (fun _ => (0 : EReal)) (part' (V4 m c) (V5 m c))
      (fun t h j => acc4_first m c t h j) (fun t h j => acc4_next m c t h j) (le_of_eq N_0) t hN j, zero_add, part_sum']

theorem final10 (c : Dev nD) : (dats m 0 c).arrAt 10 (cfgs 0).N = prod' (V4 m c) (V5 m c) := by
  refine (dats m 0 c).arrAt_eq_of_covers 10 _ (by decide +kernel) fun t hf y => ?_
  have e : (win0_10.blk t).view.emb y = y := by
    funext a; fin_cases a <;> exact Fin.ext (by blk_simp [idx t])
  blk_simp; rw [after0_10]
  exact (written4 m c t ((flush0_10 t).mp hf) y).trans (congrArg (prod' (V4 m c) (V5 m c)) e.symm)
end Cert.DwInIdeal.Own
-- ==== Proof.DwInHost.lean ====
module
public import proofs.«01_k».proof.Proof.DwInPoint
public import proofs.«01_k».proof.Proof.BlockMath
public import Idealize.ShloMosaic.Lib.StableHlo.RunRead

/-!
# The input projection's weight gradient kernel: its operands

The arrays the host hands the kernel, read at an index in terms of the arguments.
-/

@[expose] public section
set_option maxRecDepth 16384
noncomputable section
open Idealize.ShloMosaic Idealize.ShloMosaic.TcCoe Idealize.SL.Sem
open Idealize.ShloMosaic.Pipeline (Dat)
open scoped BigOperators
namespace Cert.DwInIdeal.Own
open Cert.DwInIdeal Cert.DwInIdeal.Gen Cert.BlockMath
variable (m : (ℓ : Loc nD τ sig) → Buf (Elt Ideal) ℓ)

abbrev A0 (c : Dev nD) : FVec Ideal S4096x1024 .f32 := m ((c : Thread nD τ).loc main_arg0)
abbrev A1 (c : Dev nD) : FVec Ideal S1x1024 .f32 := m ((c : Thread nD τ).loc main_arg1)
abbrev A3 (c : Dev nD) : FVec Ideal S4096x512 .f32 := m ((c : Thread nD τ).loc main_arg3)
abbrev A4 (c : Dev nD) : FVec Ideal S4096x512 .f32 := m ((c : Thread nD τ).loc main_arg4)
abbrev A5 (c : Dev nD) : FVec Ideal S4096x512 .f32 := m ((c : Thread nD τ).loc main_arg5)
abbrev A6 (c : Dev nD) : FVec Ideal S4096x8 .f32 := m ((c : Thread nD τ).loc main_arg6)
abbrev A7 (c : Dev nD) : FVec Ideal S4096x512 .f32 := m ((c : Thread nD τ).loc main_arg7)

/-- The normalised rows. -/
def hrow (x : FVec Ideal S4096x1024 .f32) (g : FVec Ideal S1x1024 .f32) (r : Fin 4096) (d : Fin 1024) : EReal :=
  x (ix2 r d) * rs (fun k => x (ix2 r k)) * g (ix2 0 d)

theorem v0_at (c : Dev nD) (i : S4096x512.Idx) : V0 m c i = A3 m c i := by
  unfold V0; entry_read
  pointwise []
theorem v1_at (c : Dev nD) (i : S4096x512.Idx) : V1 m c i = A4 m c i := by
  unfold V1; entry_read
  pointwise []
theorem v2_at (c : Dev nD) (i : S4096x512.Idx) : V2 m c i = A5 m c i := by
  unfold V2; entry_read
  pointwise []
theorem v3_at (c : Dev nD) (i : S4096x512.Idx) : V3 m c i = A7 m c i := by
  unfold V3; entry_read
  pointwise []
theorem v4_at (c : Dev nD) (r : Fin 4096) (e : Fin 8) : V4 m c (ix2 r ⟨e.val, by omega⟩) = A6 m c (ix2 r e) := by
  unfold V4; entry_read
  pointwise []
theorem v4_zero (c : Dev nD) (r : Fin 4096) (e : Fin 120) : V4 m c (ix2 r ⟨8 + e.val, by omega⟩) = 0 := by
  unfold V4; entry_read
  pointwise []
theorem v5_at (c : Dev nD) (r : Fin 4096) (d : Fin 1024) : V5 m c (ix2 r d) = hrow (A0 m c) (A1 m c) r d := by
  unfold V5 hrow rs ms; entry_read
  pointwise []
end Cert.DwInIdeal.Own
-- ==== Proof.DwInEq.lean ====
module
public import proofs.«01_k».proof.Proof.DwInHost
public import proofs.«01_k».proof.Proof.Gen.DwInRefIdeal.Read

/-!
# The input projection's weight gradient: the reference, and the comparison

The reference's results read at an index, and their equality with what the kernel writes.
-/

@[expose] public section
set_option maxRecDepth 16384
noncomputable section
open Idealize.ShloMosaic Idealize.ShloMosaic.TcCoe Idealize.SL.Sem
open Idealize.ShloMosaic.Pipeline (Dat)
open scoped BigOperators
namespace Cert.DwInIdeal.Own
open Cert.DwInIdeal Cert.DwInIdeal.Gen Cert.BlockMath
open Cert.DwInRefIdeal.Read

section Ref
variable (x0 : FVec Ideal S4096x1024 .f32) (x1 : FVec Ideal S1x1024 .f32) (x3 x4 x5 : FVec Ideal S4096x512 .f32)
  (x6 : FVec Ideal S4096x8 .f32) (x7 : FVec Ideal S4096x512 .f32)

theorem h_at (r : Fin 4096) (d : Fin 1024) : val_main_v11 (F := Ideal) x0 x1 (ix2 r d) = hrow x0 x1 r d := by
  unfold hrow rs ms
  pointwise [val_main_v11, val_main_v10, val_main_v9, val_main_v8, val_main_v7, val_main_v6, val_main_v5, val_main_v4, val_main_v3,
    val_main_v2, val_main_v1, val_main_v0, val_main_cst, val_main_cst_0, val_main_cst_1]

/-- The gradient of the projection's weight, transposed. -/
theorem dwt_at (e : Fin 2056) (d : Fin 1024) :
    val_main_v20 (F := Ideal) x0 x1 x3 x4 x5 x6 x7 (ix2 e d) = ∑ r : Fin 4096, val_main_v14 (F := Ideal) x3 x4 x5 x6 x7 (ix2 r e) * hrow x0 x1 r d := by
  simp only [← h_at]
  pointwise [val_main_v20, val_main_v19, val_main_v18, val_main_v17, val_main_v16, val_main_v15]

theorem cot_q (r : Fin 4096) (e : Fin 512) : val_main_v14 (F := Ideal) x3 x4 x5 x6 x7 (ix2 r ⟨e.val, by omega⟩) = x3 (ix2 r e) := by
  pointwise [val_main_v14]
theorem cot_k (r : Fin 4096) (e : Fin 512) : val_main_v14 (F := Ideal) x3 x4 x5 x6 x7 (ix2 r ⟨512 + e.val, by omega⟩) = x4 (ix2 r e) := by
  pointwise [val_main_v14]
theorem cot_v (r : Fin 4096) (e : Fin 512) : val_main_v14 (F := Ideal) x3 x4 x5 x6 x7 (ix2 r ⟨1024 + e.val, by omega⟩) = x5 (ix2 r e) := by
  pointwise [val_main_v14]
  have := e.isLt
  rw [dif_neg (by omega), dif_neg (by omega), dif_pos (by omega)]
  exact congrArg (fun q => x5 (ix2 r q)) (Fin.ext (by show 1024 + e.val - 512 - 512 = _; omega))
theorem cot_f (r : Fin 4096) (e : Fin 8) : val_main_v14 (F := Ideal) x3 x4 x5 x6 x7 (ix2 r ⟨1536 + e.val, by omega⟩) = x6 (ix2 r e) := by
  pointwise [val_main_v14]
  have := e.isLt
  rw [dif_neg (by omega), dif_neg (by omega), dif_neg (by omega), dif_pos (by omega)]
  exact congrArg (fun q => x6 (ix2 r q)) (Fin.ext (by show 1536 + e.val - 512 - 512 - 512 = _; omega))
theorem cot_u (r : Fin 4096) (e : Fin 512) : val_main_v14 (F := Ideal) x3 x4 x5 x6 x7 (ix2 r ⟨1544 + e.val, by omega⟩) = x7 (ix2 r e) := by
  pointwise [val_main_v14]
  have := e.isLt
  rw [dif_neg (by omega), dif_neg (by omega), dif_neg (by omega), dif_neg (by omega)]
  exact congrArg (fun q => x7 (ix2 r q)) (Fin.ext (by show 1544 + e.val - 512 - 512 - 512 - 8 = _; omega))

theorem r21_at (e : Fin 512) (d : Fin 1024) : val_main_v21 (F := Ideal) x0 x1 x3 x4 x5 x6 x7 (ix2 e d) = ∑ r : Fin 4096, x3 (ix2 r e) * hrow x0 x1 r d := by
  simp only [← cot_q x3 x4 x5 x6 x7]
  rw [← dwt_at]
  pointwise [val_main_v21]
theorem r22_at (e : Fin 512) (d : Fin 1024) : val_main_v22 (F := Ideal) x0 x1 x3 x4 x5 x6 x7 (ix2 e d) = ∑ r : Fin 4096, x4 (ix2 r e) * hrow x0 x1 r d := by
  simp only [← cot_k x3 x4 x5 x6 x7]
  rw [← dwt_at]
  pointwise [val_main_v22]
theorem r23_at (e : Fin 512) (d : Fin 1024) : val_main_v23 (F := Ideal) x0 x1 x3 x4 x5 x6 x7 (ix2 e d) = ∑ r : Fin 4096, x5 (ix2 r e) * hrow x0 x1 r d := by
  simp only [← cot_v x3 x4 x5 x6 x7]
  rw [← dwt_at]
  pointwise [val_main_v23]
theorem r24_at (e : Fin 512) (d : Fin 1024) : val_main_v24 (F := Ideal) x0 x1 x3 x4 x5 x6 x7 (ix2 e d) = ∑ r : Fin 4096, x7 (ix2 r e) * hrow x0 x1 r d := by
  simp only [← cot_u x3 x4 x5 x6 x7]
  rw [← dwt_at]
  pointwise [val_main_v24]
theorem r25_at (e : Fin 8) (d : Fin 1024) : val_main_v25 (F := Ideal) x0 x1 x3 x4 x5 x6 x7 (ix2 e d) = ∑ r : Fin 4096, x6 (ix2 r e) * hrow x0 x1 r d := by
  simp only [← cot_f x3 x4 x5 x6 x7]
  rw [← dwt_at]
  pointwise [val_main_v25]
theorem r27_at (e : Fin 8) (d : Fin 1024) :
    val_main_v27 (F := Ideal) x0 x1 x3 x4 x5 x6 x7 (ix2 ⟨e.val, by omega⟩ d) = ∑ r : Fin 4096, x6 (ix2 r e) * hrow x0 x1 r d := by
  rw [← r25_at x0 x1 x3 x4 x5 x6 x7]
  unfold val_main_v27
  generalize val_main_v25 (F := Ideal) x0 x1 x3 x4 x5 x6 x7 = a
  pointwise []
theorem r27_zero (e : Fin 120) (d : Fin 1024) : val_main_v27 (F := Ideal) x0 x1 x3 x4 x5 x6 x7 (ix2 ⟨8 + e.val, by omega⟩ d) = 0 := by
  unfold val_main_v27
  generalize val_main_v25 (F := Ideal) x0 x1 x3 x4 x5 x6 x7 = a
  pointwise [val_main_v26, val_main_cst_2]
end Ref

variable (m : (ℓ : Loc nD τ sig) → Buf (Elt Ideal) ℓ)

theorem eq0 (c : Dev nD) : val_main_v21 (F := Ideal) (A0 m c) (A1 m c) (A3 m c) (A4 m c) (A5 m c) (A6 m c) (A7 m c) = prod (V0 m c) (V5 m c) := by
  funext j
  obtain ⟨e, d, rfl⟩ : ∃ (e : Fin 512) (d : Fin 1024), j = ix2 e d := ⟨j 0, j 1, by funext a; fin_cases a <;> rfl⟩
  rw [r21_at]
  exact Finset.sum_congr rfl fun r _ => (congrArg₂ (· * ·) (v0_at m c (ix2 r e)) (v5_at m c r d)).symm
theorem eq1 (c : Dev nD) : val_main_v22 (F := Ideal) (A0 m c) (A1 m c) (A3 m c) (A4 m c) (A5 m c) (A6 m c) (A7 m c) = prod (V1 m c) (V5 m c) := by
  funext j
  obtain ⟨e, d, rfl⟩ : ∃ (e : Fin 512) (d : Fin 1024), j = ix2 e d := ⟨j 0, j 1, by funext a; fin_cases a <;> rfl⟩
  rw [r22_at]
  exact Finset.sum_congr rfl fun r _ => (congrArg₂ (· * ·) (v1_at m c (ix2 r e)) (v5_at m c r d)).symm
theorem eq2 (c : Dev nD) : val_main_v23 (F := Ideal) (A0 m c) (A1 m c) (A3 m c) (A4 m c) (A5 m c) (A6 m c) (A7 m c) = prod (V2 m c) (V5 m c) := by
  funext j
  obtain ⟨e, d, rfl⟩ : ∃ (e : Fin 512) (d : Fin 1024), j = ix2 e d := ⟨j 0, j 1, by funext a; fin_cases a <;> rfl⟩
  rw [r23_at]
  exact Finset.sum_congr rfl fun r _ => (congrArg₂ (· * ·) (v2_at m c (ix2 r e)) (v5_at m c r d)).symm
theorem eq3 (c : Dev nD) : val_main_v24 (F := Ideal) (A0 m c) (A1 m c) (A3 m c) (A4 m c) (A5 m c) (A6 m c) (A7 m c) = prod (V3 m c) (V5 m c) := by
  funext j
  obtain ⟨e, d, rfl⟩ : ∃ (e : Fin 512) (d : Fin 1024), j = ix2 e d := ⟨j 0, j 1, by funext a; fin_cases a <;> rfl⟩
  rw [r24_at]
  exact Finset.sum_congr rfl fun r _ => (congrArg₂ (· * ·) (v3_at m c (ix2 r e)) (v5_at m c r d)).symm

theorem eq4 (c : Dev nD) : val_main_v27 (F := Ideal) (A0 m c) (A1 m c) (A3 m c) (A4 m c) (A5 m c) (A6 m c) (A7 m c) = prod' (V4 m c) (V5 m c) := by
  funext j
  obtain ⟨e, d, rfl⟩ : ∃ (e : Fin 128) (d : Fin 1024), j = ix2 e d := ⟨j 0, j 1, by funext a; fin_cases a <;> rfl⟩
  by_cases he : e.val < 8
  · refine (r27_at _ _ _ _ _ _ _ ⟨e.val, he⟩ d).trans ?_
    exact Finset.sum_congr rfl fun r _ => (congrArg₂ (· * ·) (v4_at m c r ⟨e.val, he⟩) (v5_at m c r d)).symm
  · have ee : e = ⟨8 + (⟨e.val - 8, by have := e.isLt; omega⟩ : Fin 120).val, by have := e.isLt; show 8 + (e.val - 8) < 128; omega⟩ :=
      Fin.ext (by show e.val = 8 + (e.val - 8); omega)
    rw [ee, r27_zero]
    exact (Finset.sum_eq_zero fun r _ => (congrArg (· * V5 m c (ix2 r d)) (v4_zero m c r _)).trans (zero_mul _)).symm
end Cert.DwInIdeal.Own
-- ==== Proof.DwInClaim.lean ====
module
public import proofs.«01_k».proof.Defs
public import proofs.«01_k».proof.Proof.DwInEq
public import proofs.«01_k».proof.Proof.ClaimMath
public import proofs.«01_k».proof.Proof.Gen.DwInRefIdeal.Run
public import proofs.«01_k».proof.Proof.Gen.DwIn.Frame

/-!
# The claims about the input projection's weight gradient kernel

The reference leaves its arguments alone, and its five results are the kernel's.
-/

@[expose] public section
set_option maxRecDepth 16384
noncomputable section
open Idealize.ShloMosaic Idealize.ShloMosaic.TcCoe Idealize.SL.Sem
open Idealize.ShloMosaic.Pipeline (Dat)
open scoped BigOperators
namespace Cert.DwInIdeal.Own
open Cert.DwInIdeal Cert.DwInIdeal.Gen Cert.ClaimMath

theorem frame_ref : Cert.quiescent_DwInRefIdeal := fun m ρ _ =>
  (θ_run Cert.DwInRefIdeal.defs _ _).mono (fun r h => ⟨fun c => (h c).2.2.2.2.2, sem_eq_zero_of_no_sems (by decide) r.2⟩)
    (Cert.DwInRefIdeal.Value.run m ρ)

set_option maxHeartbeats 1600000 in
theorem value : Cert.algebraic_DwInIdeal_DwInRefIdeal := by
  intro m g m' g' hp hag
  refine ⟨fun c => prod (V0 m c) (V5 m c), fun c => prod (V1 m c) (V5 m c), fun c => prod (V2 m c) (V5 m c), fun c => prod (V3 m c) (V5 m c),
    fun c => prod' (V4 m c) (V5 m c), ?_, ?_⟩
  · refine (θ_run defs _ _).mono (fun r h c => ?_) (θ_run_and (run_main m g) (unchanged m g))
    exact ⟨((h.1 c).1 6).trans (final6 m c), ((h.1 c).1 7).trans (final7 m c), ((h.1 c).1 8).trans (final8 m c), ((h.1 c).1 9).trans (final9 m c),
      ((h.1 c).1 10).trans (final10 m c), h.2 c⟩
  · refine (θ_run Cert.DwInRefIdeal.defs _ _).mono (fun r h c => ?_) (Cert.DwInRefIdeal.Value.run m' g')
    obtain ⟨a0, a1, a2, a3, a4, a5, a6, a7⟩ := hag c
    obtain ⟨r0, r1, r2, r3, r4, ra⟩ := h c
    have s0 := (Cert.DwInRefIdeal.Read.val_main_v21_eq (F := Ideal) (m' ((c.tc : Thread Cert.DwInRefIdeal.nD Cert.DwInRefIdeal.τ).loc Cert.DwInRefIdeal.main_arg0)) (m' ((c.tc : Thread Cert.DwInRefIdeal.nD Cert.DwInRefIdeal.τ).loc Cert.DwInRefIdeal.main_arg1)) (m' ((c.tc : Thread Cert.DwInRefIdeal.nD Cert.DwInRefIdeal.τ).loc Cert.DwInRefIdeal.main_arg3)) (m' ((c.tc : Thread Cert.DwInRefIdeal.nD Cert.DwInRefIdeal.τ).loc Cert.DwInRefIdeal.main_arg4)) (m' ((c.tc : Thread Cert.DwInRefIdeal.nD Cert.DwInRefIdeal.τ).loc Cert.DwInRefIdeal.main_arg5)) (m' ((c.tc : Thread Cert.DwInRefIdeal.nD Cert.DwInRefIdeal.τ).loc Cert.DwInRefIdeal.main_arg6)) (m' ((c.tc : Thread Cert.DwInRefIdeal.nD Cert.DwInRefIdeal.τ).loc Cert.DwInRefIdeal.main_arg7))).trans
      (seven a0 a1 a3 a4 a5 a6 a7 Cert.DwInRefIdeal.Read.val_main_v21 (eq0 m c).symm)
    have s1 := (Cert.DwInRefIdeal.Read.val_main_v22_eq (F := Ideal) (m' ((c.tc : Thread Cert.DwInRefIdeal.nD Cert.DwInRefIdeal.τ).loc Cert.DwInRefIdeal.main_arg0)) (m' ((c.tc : Thread Cert.DwInRefIdeal.nD Cert.DwInRefIdeal.τ).loc Cert.DwInRefIdeal.main_arg1)) (m' ((c.tc : Thread Cert.DwInRefIdeal.nD Cert.DwInRefIdeal.τ).loc Cert.DwInRefIdeal.main_arg3)) (m' ((c.tc : Thread Cert.DwInRefIdeal.nD Cert.DwInRefIdeal.τ).loc Cert.DwInRefIdeal.main_arg4)) (m' ((c.tc : Thread Cert.DwInRefIdeal.nD Cert.DwInRefIdeal.τ).loc Cert.DwInRefIdeal.main_arg5)) (m' ((c.tc : Thread Cert.DwInRefIdeal.nD Cert.DwInRefIdeal.τ).loc Cert.DwInRefIdeal.main_arg6)) (m' ((c.tc : Thread Cert.DwInRefIdeal.nD Cert.DwInRefIdeal.τ).loc Cert.DwInRefIdeal.main_arg7))).trans
      (seven a0 a1 a3 a4 a5 a6 a7 Cert.DwInRefIdeal.Read.val_main_v22 (eq1 m c).symm)
    have s2 := (Cert.DwInRefIdeal.Read.val_main_v23_eq (F := Ideal) (m' ((c.tc : Thread Cert.DwInRefIdeal.nD Cert.DwInRefIdeal.τ).loc Cert.DwInRefIdeal.main_arg0)) (m' ((c.tc : Thread Cert.DwInRefIdeal.nD Cert.DwInRefIdeal.τ).loc Cert.DwInRefIdeal.main_arg1)) (m' ((c.tc : Thread Cert.DwInRefIdeal.nD Cert.DwInRefIdeal.τ).loc Cert.DwInRefIdeal.main_arg3)) (m' ((c.tc : Thread Cert.DwInRefIdeal.nD Cert.DwInRefIdeal.τ).loc Cert.DwInRefIdeal.main_arg4)) (m' ((c.tc : Thread Cert.DwInRefIdeal.nD Cert.DwInRefIdeal.τ).loc Cert.DwInRefIdeal.main_arg5)) (m' ((c.tc : Thread Cert.DwInRefIdeal.nD Cert.DwInRefIdeal.τ).loc Cert.DwInRefIdeal.main_arg6)) (m' ((c.tc : Thread Cert.DwInRefIdeal.nD Cert.DwInRefIdeal.τ).loc Cert.DwInRefIdeal.main_arg7))).trans
      (seven a0 a1 a3 a4 a5 a6 a7 Cert.DwInRefIdeal.Read.val_main_v23 (eq2 m c).symm)
    have s3 := (Cert.DwInRefIdeal.Read.val_main_v24_eq (F := Ideal) (m' ((c.tc : Thread Cert.DwInRefIdeal.nD Cert.DwInRefIdeal.τ).loc Cert.DwInRefIdeal.main_arg0)) (m' ((c.tc : Thread Cert.DwInRefIdeal.nD Cert.DwInRefIdeal.τ).loc Cert.DwInRefIdeal.main_arg1)) (m' ((c.tc : Thread Cert.DwInRefIdeal.nD Cert.DwInRefIdeal.τ).loc Cert.DwInRefIdeal.main_arg3)) (m' ((c.tc : Thread Cert.DwInRefIdeal.nD Cert.DwInRefIdeal.τ).loc Cert.DwInRefIdeal.main_arg4)) (m' ((c.tc : Thread Cert.DwInRefIdeal.nD Cert.DwInRefIdeal.τ).loc Cert.DwInRefIdeal.main_arg5)) (m' ((c.tc : Thread Cert.DwInRefIdeal.nD Cert.DwInRefIdeal.τ).loc Cert.DwInRefIdeal.main_arg6)) (m' ((c.tc : Thread Cert.DwInRefIdeal.nD Cert.DwInRefIdeal.τ).loc Cert.DwInRefIdeal.main_arg7))).trans
      (seven a0 a1 a3 a4 a5 a6 a7 Cert.DwInRefIdeal.Read.val_main_v24 (eq3 m c).symm)
    have s4 := (Cert.DwInRefIdeal.Read.val_main_v27_eq (F := Ideal) (m' ((c.tc : Thread Cert.DwInRefIdeal.nD Cert.DwInRefIdeal.τ).loc Cert.DwInRefIdeal.main_arg0)) (m' ((c.tc : Thread Cert.DwInRefIdeal.nD Cert.DwInRefIdeal.τ).loc Cert.DwInRefIdeal.main_arg1)) (m' ((c.tc : Thread Cert.DwInRefIdeal.nD Cert.DwInRefIdeal.τ).loc Cert.DwInRefIdeal.main_arg3)) (m' ((c.tc : Thread Cert.DwInRefIdeal.nD Cert.DwInRefIdeal.τ).loc Cert.DwInRefIdeal.main_arg4)) (m' ((c.tc : Thread Cert.DwInRefIdeal.nD Cert.DwInRefIdeal.τ).loc Cert.DwInRefIdeal.main_arg5)) (m' ((c.tc : Thread Cert.DwInRefIdeal.nD Cert.DwInRefIdeal.τ).loc Cert.DwInRefIdeal.main_arg6)) (m' ((c.tc : Thread Cert.DwInRefIdeal.nD Cert.DwInRefIdeal.τ).loc Cert.DwInRefIdeal.main_arg7))).trans
      (seven a0 a1 a3 a4 a5 a6 a7 Cert.DwInRefIdeal.Read.val_main_v27 (eq4 m c).symm)
    exact ⟨r0.trans s0, r1.trans s1, r2.trans s2, r3.trans s3, r4.trans s4, ra⟩

end Cert.DwInIdeal.Own
-- ==== Proof.DwMlpMath.lean ====
module
public import proofs.«01_k».proof.Proof.Gen.DwMlpIdeal.Frame
public import proofs.«01_k».proof.Proof.BlockMath
public import Idealize.ShloMosaic.Lib.Pipeline.ValueKit
public import Idealize.ShloMosaic.Lib.Pointwise
public import Idealize.ShloMosaic.Lib.StableHlo.RunRead

/-!
# The MLP's weight-gradient kernel: the quantities

The functions of the arguments that the kernel's operands and the reference's intermediate arrays hold, and their names.
-/

@[expose] public section
set_option maxRecDepth 16384
noncomputable section
open Idealize.ShloMosaic Idealize.ShloMosaic.TcCoe Idealize.SL.Sem
open scoped BigOperators
namespace Cert.DwMlpIdeal.Own
open Cert.DwMlpIdeal Cert.DwMlpIdeal.Gen Cert.BlockMath

theorem col_lt (s : Fin 4) (f : Fin 704) : s.val * 704 + f.val < 2816 := by omega
/-- The column of the whole array that a shard's column is. -/
abbrev col (s : Fin 4) (f : Fin 704) : Fin 2816 := ⟨s.val * 704 + f.val, col_lt s f⟩

section Maths
variable (x : FVec Ideal S4096x1024 .f32) (g : FVec Ideal S1x1024 .f32) (wg wu : FVec Ideal S1x1024x2816 .f32) (wd : FVec Ideal S1x2816x1024 .f32)
  (dx : FVec Ideal S4096x1024 .f32) (r : Fin 4096) (f : Fin 2816)
/-- The normalised rows, -/
def hrow (d : Fin 1024) : EReal := x (ix2 r d) * rs (fun k => x (ix2 r k)) * g (ix2 0 d)
/-- a gate or up projection of them, -/
def Gt : EReal := ∑ k, hrow x g r k * wg (ix3 0 k f)
/-- the hidden row's entry, -/
def act : EReal := Gt x g wg r f * sg (Gt x g wg r f) * Gt x g wu r f
/-- its gradient, -/
def dact : EReal := ∑ d, dx (ix2 r d) * wd (ix3 0 f d)
/-- the up projection's gradient, -/
def dup : EReal := Gt x g wg r f * sg (Gt x g wg r f) * dact wd dx r f
/-- and the gate projection's. -/
def dgt : EReal := dact wd dx r f * Gt x g wu r f * sg (Gt x g wg r f)
  + Gt x g wg r f * (dact wd dx r f * Gt x g wu r f) * (sg (Gt x g wg r f) * (1 - sg (Gt x g wg r f)))
end Maths

variable (m : (ℓ : Loc nD τ sig) → Buf (Elt Ideal) ℓ)
abbrev A0 (c : Dev nD) : FVec Ideal S4096x1024 .f32 := m ((c : Thread nD τ).loc main_arg0)
abbrev A1 (c : Dev nD) : FVec Ideal S1x1024 .f32 := m ((c : Thread nD τ).loc main_arg1)
abbrev A2 (c : Dev nD) : FVec Ideal S1x1024x2816 .f32 := m ((c : Thread nD τ).loc main_arg2)
abbrev A3 (c : Dev nD) : FVec Ideal S1x1024x2816 .f32 := m ((c : Thread nD τ).loc main_arg3)
abbrev A4 (c : Dev nD) : FVec Ideal S1x2816x1024 .f32 := m ((c : Thread nD τ).loc main_arg4)
abbrev A5 (c : Dev nD) : FVec Ideal S4096x1024 .f32 := m ((c : Thread nD τ).loc main_arg5)
abbrev V25 (c : Dev nD) : FVec Ideal S4x4096x704 .bf16 := V m c main_v25
abbrev V28 (c : Dev nD) : FVec Ideal S4x4096x704 .bf16 := V m c main_v28
abbrev V31 (c : Dev nD) : FVec Ideal S4x4096x704 .bf16 := V m c main_v31
abbrev V32 (c : Dev nD) : FVec Ideal S4096x1024 .bf16 := V m c main_v32
abbrev V33 (c : Dev nD) : FVec Ideal S4096x1024 .bf16 := V m c main_v33

end Cert.DwMlpIdeal.Own
-- ==== Proof.DwMlpHost.lean ====
module
public import proofs.«01_k».proof.Proof.DwMlpMath
public import Idealize.ShloMosaic.Lib.Pipeline.ValueKit
public import Idealize.ShloMosaic.Lib.Pointwise
public import Idealize.ShloMosaic.Lib.StableHlo.RunRead

/-!
# The MLP's weight-gradient kernel: its operands

The arrays the host hands the kernel, read at an index in terms of the arguments.
-/

@[expose] public section
set_option maxRecDepth 16384
noncomputable section
open Idealize.ShloMosaic Idealize.ShloMosaic.TcCoe Idealize.SL.Sem
open scoped BigOperators
namespace Cert.DwMlpIdeal.Own
open Cert.DwMlpIdeal Cert.DwMlpIdeal.Gen Cert.BlockMath

variable (m : (ℓ : Loc nD τ sig) → Buf (Elt Ideal) ℓ) (c : Dev nD)

/-! ## The host's operations, in groups -/

/-- What the buffers hold after the projections, -/
def st1 : Valuation τ sig (Elt Ideal) := StableHlo.after hostOps0 fun b => m (c, b)
/-- after the gate's activation, -/
def st2 : Valuation τ sig (Elt Ideal) := StableHlo.after hostOps0_1 (st1 m c)
/-- after the products, -/
def st3 : Valuation τ sig (Elt Ideal) := StableHlo.after hostOps0_2 (st2 m c)
/-- and after the activation's gradient. -/
def st4 : Valuation τ sig (Elt Ideal) := StableHlo.after hostOps0_3 (st3 m c)

theorem h1 (r : Fin 4096) (d : Fin 1024) :
    (st1 m c (Proc.tc.devRef main_v11) : FVec Ideal S4096x1024 .f32) (ix2 r d) = hrow (A0 m c) (A1 m c) r d := by
  unfold st1 hrow rs ms; entry_read
  pointwise []
theorem gate1 (r : Fin 4096) (f : Fin 2816) :
    (st1 m c (Proc.tc.devRef main_v13) : FVec Ideal S4096x2816 .f32) (ix2 r f) = Gt (A0 m c) (A1 m c) (A2 m c) r f := by
  unfold st1 Gt hrow rs ms; entry_read
  pointwise []
theorem up1 (r : Fin 4096) (f : Fin 2816) :
    (st1 m c (Proc.tc.devRef main_v15) : FVec Ideal S4096x2816 .f32) (ix2 r f) = Gt (A0 m c) (A1 m c) (A3 m c) r f := by
  unfold st1 Gt hrow rs ms; entry_read
  pointwise []
theorem keep1 : st1 m c (Proc.tc.devRef main_arg4) = A4 m c ∧ st1 m c (Proc.tc.devRef main_arg5) = A5 m c := by
  unfold st1; constructor <;> (entry_read; rfl)
theorem keep2 : st2 m c (Proc.tc.devRef main_v11) = st1 m c (Proc.tc.devRef main_v11)
    ∧ st2 m c (Proc.tc.devRef main_v13) = st1 m c (Proc.tc.devRef main_v13)
    ∧ st2 m c (Proc.tc.devRef main_v15) = st1 m c (Proc.tc.devRef main_v15)
    ∧ st2 m c (Proc.tc.devRef main_arg4) = st1 m c (Proc.tc.devRef main_arg4)
    ∧ st2 m c (Proc.tc.devRef main_arg5) = st1 m c (Proc.tc.devRef main_arg5) := by
  unfold st2; refine ⟨?_, ?_, ?_, ?_, ?_⟩ <;> (entry_read; rfl)
theorem sg2 (r : Fin 4096) (f : Fin 2816) :
    (st2 m c (Proc.tc.devRef main_v16_2) : FVec Ideal S4096x2816 .f32) (ix2 r f) = sg (Gt (A0 m c) (A1 m c) (A2 m c) r f) := by
  rw [← gate1]; unfold st2 sg; entry_read
  simp only [StableHlo.TRef.toBuf, StableHlo.TRef.ofBuf, cast_cast, cast_eq]
  pointwise []
theorem dsg2 (r : Fin 4096) (f : Fin 2816) :
    (st2 m c (Proc.tc.devRef main_v16_1) : FVec Ideal S4096x2816 .f32) (ix2 r f) = sg (Gt (A0 m c) (A1 m c) (A2 m c) r f) * (1 - sg (Gt (A0 m c) (A1 m c) (A2 m c) r f)) := by
  rw [← gate1]; unfold st2 sg; entry_read
  simp only [StableHlo.TRef.toBuf, StableHlo.TRef.ofBuf, cast_cast, cast_eq]
  pointwise []
theorem silu2 (r : Fin 4096) (f : Fin 2816) :
    (st2 m c (Proc.tc.devRef main_v16_0) : FVec Ideal S4096x2816 .f32) (ix2 r f) = Gt (A0 m c) (A1 m c) (A2 m c) r f * sg (Gt (A0 m c) (A1 m c) (A2 m c) r f) := by
  rw [← gate1]; unfold st2 sg; entry_read
  simp only [StableHlo.TRef.toBuf, StableHlo.TRef.ofBuf, cast_cast, cast_eq]
  pointwise []
theorem keep3 : st3 m c (Proc.tc.devRef main_v11) = st2 m c (Proc.tc.devRef main_v11)
    ∧ st3 m c (Proc.tc.devRef main_v13) = st2 m c (Proc.tc.devRef main_v13)
    ∧ st3 m c (Proc.tc.devRef main_v16_1) = st2 m c (Proc.tc.devRef main_v16_1)
    ∧ st3 m c (Proc.tc.devRef main_v16_2) = st2 m c (Proc.tc.devRef main_v16_2)
    ∧ st3 m c (Proc.tc.devRef main_arg5) = st2 m c (Proc.tc.devRef main_arg5) := by
  unfold st3; refine ⟨?_, ?_, ?_, ?_, ?_⟩ <;> (entry_read; rfl)
theorem act3 (r : Fin 4096) (f : Fin 2816) :
    (st3 m c (Proc.tc.devRef main_v17) : FVec Ideal S4096x2816 .f32) (ix2 r f) = act (A0 m c) (A1 m c) (A2 m c) (A3 m c) r f := by
  unfold act; rw [← silu2, ← up1, ← (keep2 m c).2.2.1]; unfold st3; entry_read
  pointwise []
/-- The hidden row's gradient from the buffers it is computed of. -/
theorem dact2 (r : Fin 4096) (f : Fin 2816) : dact (A4 m c) (A5 m c) r f
    = dact (st2 m c (Proc.tc.devRef main_arg4)) (st2 m c (Proc.tc.devRef main_arg5)) r f := by
  rw [(keep2 m c).2.2.2.1, (keep2 m c).2.2.2.2, (keep1 m c).1, (keep1 m c).2]
theorem dup3 (r : Fin 4096) (f : Fin 2816) :
    (st3 m c (Proc.tc.devRef main_v20) : FVec Ideal S4096x2816 .f32) (ix2 r f) = dup (A0 m c) (A1 m c) (A2 m c) (A4 m c) (A5 m c) r f := by
  unfold dup; rw [← silu2, dact2]; unfold st3 dact; entry_read
  pointwise []
theorem dmul3 (r : Fin 4096) (f : Fin 2816) :
    (st3 m c (Proc.tc.devRef main_v21) : FVec Ideal S4096x2816 .f32) (ix2 r f) = dact (A4 m c) (A5 m c) r f * Gt (A0 m c) (A1 m c) (A3 m c) r f := by
  rw [dact2, ← up1, ← (keep2 m c).2.2.1]; unfold st3 dact; entry_read
  pointwise []
theorem keep4 : st4 m c (Proc.tc.devRef main_v11) = st3 m c (Proc.tc.devRef main_v11)
    ∧ st4 m c (Proc.tc.devRef main_v17) = st3 m c (Proc.tc.devRef main_v17)
    ∧ st4 m c (Proc.tc.devRef main_v20) = st3 m c (Proc.tc.devRef main_v20)
    ∧ st4 m c (Proc.tc.devRef main_arg5) = st3 m c (Proc.tc.devRef main_arg5) := by
  unfold st4; refine ⟨?_, ?_, ?_, ?_⟩ <;> (entry_read; rfl)
theorem dgt4 (r : Fin 4096) (f : Fin 2816) :
    (st4 m c (Proc.tc.devRef main_v22) : FVec Ideal S4096x2816 .f32) (ix2 r f) = dgt (A0 m c) (A1 m c) (A2 m c) (A3 m c) (A4 m c) (A5 m c) r f := by
  unfold dgt; rw [← dsg2, ← sg2, ← gate1, ← dmul3, ← (keep2 m c).2.1, ← (keep3 m c).2.1, ← (keep3 m c).2.2.1, ← (keep3 m c).2.2.2.1]
  unfold st4; entry_read
  simp only [StableHlo.TRef.toBuf, StableHlo.TRef.ofBuf, cast_cast, cast_eq]
  pointwise []

/-! ## The operands -/

theorem v32_at (r : Fin 4096) (d : Fin 1024) : V32 m c (ix2 r d) = A5 m c (ix2 r d) := by
  rw [← (keep1 m c).2, ← (keep2 m c).2.2.2.2, ← (keep3 m c).2.2.2.2, ← (keep4 m c).2.2.2]
  show (StableHlo.after hostOps0_4 (st4 m c) (Proc.tc.devRef main_v32) : FVec Ideal S4096x1024 .bf16) (ix2 r d) = _
  entry_read
  pointwise []
theorem v33_at (r : Fin 4096) (d : Fin 1024) : V33 m c (ix2 r d) = hrow (A0 m c) (A1 m c) r d := by
  rw [← h1, ← (keep2 m c).1, ← (keep3 m c).1, ← (keep4 m c).1]
  show (StableHlo.after hostOps0_4 (st4 m c) (Proc.tc.devRef main_v33) : FVec Ideal S4096x1024 .bf16) (ix2 r d) = _
  entry_read
  pointwise []
theorem v25_at (s : Fin 4) (r : Fin 4096) (f : Fin 704) : V25 m c (ix3 s r f) = act (A0 m c) (A1 m c) (A2 m c) (A3 m c) r (col s f) := by
  rw [← act3, ← (keep4 m c).2.1]
  show (StableHlo.after hostOps0_4 (st4 m c) (Proc.tc.devRef main_v25) : FVec Ideal S4x4096x704 .bf16) (ix3 s r f) = _
  entry_read
  pointwise []
theorem v31_at (s : Fin 4) (r : Fin 4096) (f : Fin 704) : V31 m c (ix3 s r f) = dup (A0 m c) (A1 m c) (A2 m c) (A4 m c) (A5 m c) r (col s f) := by
  rw [← dup3, ← (keep4 m c).2.2.1]
  show (StableHlo.after hostOps0_4 (st4 m c) (Proc.tc.devRef main_v31) : FVec Ideal S4x4096x704 .bf16) (ix3 s r f) = _
  entry_read
  pointwise []
theorem v28_at (s : Fin 4) (r : Fin 4096) (f : Fin 704) : V28 m c (ix3 s r f) = dgt (A0 m c) (A1 m c) (A2 m c) (A3 m c) (A4 m c) (A5 m c) r (col s f) := by
  rw [← dgt4]
  show (StableHlo.after hostOps0_4 (st4 m c) (Proc.tc.devRef main_v28) : FVec Ideal S4x4096x704 .bf16) (ix3 s r f) = _
  entry_read
  pointwise []
end Cert.DwMlpIdeal.Own
-- ==== Proof.DwMlpIdealRing.lean ====
module

public import proofs.«01_k».proof.Proof.Gen.DwMlpIdeal.Frame
public import proofs.«01_k».proof.Proof.Gen.DwMlpIdeal.Skeleton
public import Idealize.ShloMosaic.Lib.Ring
public import Idealize.ShloMosaic.Lib.Tactic
public import Idealize.ShloMosaic.Lib.Claim

/-!
# What the weight-gradient kernel of the MLP holds between its points

The kernel streams twelve slabs (four of each of three arrays) through the two slots of one scratch buffer, one slab
ahead, and copies two further arrays whole into the two slots of another. A slot of the first buffer is either at
rest (its counter at zero, its contents anything, and with it one half share of each of the three arrays) or being
filled by a copy (which lends the slab from that slot's half share of its array).
-/

@[expose] public section
set_option maxRecDepth 16384
noncomputable section

namespace Cert.DwMlpIdeal.Own
open Cert.DwMlpIdeal Cert.DwMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two scratch buffers. -/
abbrev scA : Memref sig .tc .vmem S2x4096x704 .bf16 := Memref.whole cc0_scratch0
abbrev scB : Memref sig .tc .vmem S2x4096x1024 .bf16 := Memref.whole cc0_scratch1
/-- The arrays the slabs come from, and the two copied whole. -/
abbrev a0 : Memref sig .tc .hbm S4x4096x704 .bf16 := Memref.whole main_v25
abbrev a1 : Memref sig .tc .hbm S4x4096x704 .bf16 := Memref.whole main_v28
abbrev a2 : Memref sig .tc .hbm S4x4096x704 .bf16 := Memref.whole main_v31
abbrev b0 : Memref sig .tc .hbm S4096x1024 .bf16 := Memref.whole main_v32
abbrev b1 : Memref sig .tc .hbm S4096x1024 .bf16 := Memref.whole main_v33

/-- The contents of a memref's buffer on a core. -/
abbrev Cont (c : Dev nD) {sp : Space} {S : Shape} {e : EltTy} (M : Memref sig .tc sp S e) : Type := Buf (Elt F) (M.view.loc (c : Thread nD τ))

instance : NeZero grid0.N := ⟨by rw [N_0]; decide⟩
theorem inb_slot (s : Fin 2) : ∀ a, (![s.val, 0, 0] : Fin 3 → Nat) a + S1x4096x704.size a ≤ S2x4096x704.size a := by
  have := s.isLt; intro a; fin_cases a <;> simp <;> omega
theorem inb_src (b : Fin 4) : ∀ a, (![b.val, 0, 0] : Fin 3 → Nat) a + S1x4096x704.size a ≤ S4x4096x704.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega

/-- Slot `s` of the first scratch buffer, slab `b` of an array, counter `s`. -/
def slot (s : Fin 2) : Memref sig .tc .vmem S4096x704 .bf16 :=
  (scA.slice (Rect.unit (s := S2x4096x704) ![s.val, 0, 0] S1x4096x704.size (inb_slot s)) (fun _ => rfl)).squeeze S4096x704 squeezes_S1x4096x704_S4096x704
def slab (M : Memref sig .tc .hbm S4x4096x704 .bf16) (b : Fin 4) : Memref sig .tc .hbm S4096x704 .bf16 :=
  (M.slice (Rect.unit (s := S4x4096x704) ![b.val, 0, 0] S1x4096x704.size (inb_src b)) (fun _ => rfl)).squeeze S4096x704 squeezes_S1x4096x704_S4096x704
def cellA (s : Fin 2) : DmaSems sig S_ := (cc0_scratch2.slice (Rect.unit (s := S2) ![s.val] S1.size (inb_cell s))).squeeze S_ squeezes_S1_S_
abbrev cellR (s : Fin 2) : SemLoc sig := SemLoc.dma (cellA s).sem
theorem cellR_0 : cellR 0 = SemLoc.dma 6 := by decide
theorem cellR_1 : cellR 1 = SemLoc.dma 7 := by decide

theorem inb_bslot (s : Fin 2) : ∀ a, (![s.val, 0, 0] : Fin 3 → Nat) a + S1x4096x1024.size a ≤ S2x4096x1024.size a := by
  have := s.isLt; intro a; fin_cases a <;> simp <;> omega
/-- Slot `s` of the second scratch buffer. -/
def bslot (s : Fin 2) : Memref sig .tc .vmem S4096x1024 .bf16 :=
  (scB.slice (Rect.unit (s := S2x4096x1024) ![s.val, 0, 0] S1x4096x1024.size (inb_bslot s)) (fun _ => rfl)).squeeze S4096x1024 squeezes_S1x4096x1024_S4096x1024

/-- The three arrays by number, and the array that step `k` streams from. -/
def arr (j : Fin 3) : Memref sig .tc .hbm S4x4096x704 .bf16 := match j with | 0 => a0 | 1 => a1 | 2 => a2
def ak (k : ℕ) : Fin 3 := ⟨k / 4 % 3, Nat.mod_lt _ (by omega)⟩
/-- The second buffer's counters. -/
def cellB (s : Fin 2) : DmaSems sig S_ := (cc0_scratch3.slice (Rect.unit (s := S2) ![s.val] S1.size (inb_cell s))).squeeze S_ squeezes_S1_S_
theorem cellB_0 : (SemLoc.dma (cellB 0).sem : SemLoc sig) = SemLoc.dma 8 := by decide
theorem cellB_1 : (SemLoc.dma (cellB 1).sem : SemLoc sig) = SemLoc.dma 9 := by decide

section Pieces
variable (c : Dev nD)
/-- The half share of an array that goes with slot `s`. -/
abbrev qs (s : Fin 2) : PosShare TreeShare := if s.val = 0 then fullShare.left else fullShare.right
abbrev slotP (s : Fin 2) (f : Cont (F := F) c (slot s)) : sProp 𝕄 := (slot s).view.loc (c : Thread nD τ) ↦[(slot s).view.set]{fullShare} f
abbrev cellP (s : Fin 2) : sProp 𝕄 := semVal ((c : Thread nD τ), cellR s) 0
variable (M : Memref sig .tc .hbm S4x4096x704 .bf16) (X : Cont (F := F) c M)
abbrev slabP (s : Fin 2) (b : Fin 4) : sProp 𝕄 := (slab M b).view.loc (c : Thread nD τ) ↦[(slab M b).view.set]{qs s} X
def restP (s : Fin 2) (b : Fin 4) : sProp 𝕄 := M.view.loc (c : Thread nD τ) ↦[Finset.univ \ (slab M b).view.set]{qs s} X
abbrev halfP (s : Fin 2) : sProp 𝕄 := M.view.loc (c : Thread nD τ) ↦[Finset.univ]{qs s} X
/-- A slot's contents once slab `b` has landed in it. -/
abbrev landed (s : Fin 2) (b : Fin 4) (f : Cont (F := F) c (slot s)) : Cont (F := F) c (slot s) :=
  (slot s).view.writes (Elt F) f [⟨Rect.whole S4096x704, ReadAs.same.apply ((slab M b).view.read (Elt F) X)⟩]
abbrev flightP (s : Fin 2) (b : Fin 4) (f : Cont (F := F) c (slot s)) : sProp 𝕄 :=
  Transfers.Flight countersEmb (c : Thread nD τ) (cellR s) default ((slot s).view.amount (cellR s))
    iprop(slotP c s (landed c M X s b f) ∗ slabP c M X s b)
/-- Slot `s` being filled with slab `b` of an array. -/
abbrev Fly (s : Fin 2) (b : Fin 4) : sProp 𝕄 := iprop(∃ f, flightP c M X s b f ∗ restP c M X s b)
/-- Slot `s` at rest. -/
abbrev Free (s : Fin 2) : sProp 𝕄 := iprop(cellP c s ∗ ∃ f, slotP c s f ∗ halfP c M X s)

theorem half_split (s : Fin 2) (b : Fin 4) : halfP c M X s ⊣⊢ iprop(slabP c M X s b ∗ restP c M X s b) := by
  unfold restP; exact pointsTo_split_subset (Finset.subset_univ _)
end Pieces

/-! ## What is held before step `k` -/

section State
variable (c : Dev nD) (X : (j : Fin 3) → Cont (F := F) c (arr j)) (Y0 : Cont (F := F) c b0) (Y1 : Cont (F := F) c b1)

/-- The half shares of the two other arrays. -/
def oth (j : Fin 3) (s : Fin 2) : sProp 𝕄 := iprop(halfP c (arr (j + 1)) (X (j + 1)) s ∗ halfP c (arr (j + 2)) (X (j + 2)) s)
/-- A slot at rest, one array named: as `three` says, which one does not matter. -/
def restAt (j : Fin 3) (s : Fin 2) : sProp 𝕄 := iprop(cellP c s ∗ (∃ f, slotP c s f) ∗ halfP c (arr j) (X j) s ∗ oth c X j s)
theorem restAt_zero (j : Fin 3) (s : Fin 2) : restAt c X 0 s ⊣⊢ restAt c X j s := by
  fin_cases j
  · exact ⟨.rfl, .rfl⟩
  · constructor
    · unfold restAt oth; iintro ⟨Hc, Hs, H0, H1, H2⟩; isplitl [Hc]; · iexact Hc
      isplitl [Hs]; · iexact Hs
      isplitl [H1]; · iexact H1
      isplitl [H2]; · iexact H2
      iexact H0
    · unfold restAt oth; iintro ⟨Hc, Hs, H1, H2, H0⟩; isplitl [Hc]; · iexact Hc
      isplitl [Hs]; · iexact Hs
      isplitl [H0]; · iexact H0
      isplitl [H1]; · iexact H1
      iexact H2
  · constructor
    · unfold restAt oth; iintro ⟨Hc, Hs, H0, H1, H2⟩; isplitl [Hc]; · iexact Hc
      isplitl [Hs]; · iexact Hs
      isplitl [H2]; · iexact H2
      isplitl [H0]; · iexact H0
      iexact H1
    · unfold restAt oth; iintro ⟨Hc, Hs, H2, H0, H1⟩; isplitl [Hc]; · iexact Hc
      isplitl [Hs]; · iexact Hs
      isplitl [H0]; · iexact H0
      isplitl [H1]; · iexact H1
      iexact H2
/-- Step `k`'s slab on its way into its slot. -/
def fill (k : ℕ) : sProp 𝕄 :=
  iprop((∃ f, flightP c (arr (ak k)) (X (ak k)) (Ring.sl 2 k) (Ring.bk 4 (k % 4)) f)
    ∗ restP c (arr (ak k)) (X (ak k)) (Ring.sl 2 k) (Ring.bk 4 (k % 4)) ∗ oth c X (ak k) (Ring.sl 2 k))

/-- The slots of the first buffer before step `k`. -/
def stA (k : ℕ) : sProp 𝕄 :=
  if k = 0 ∨ k = 12 then iprop(restAt c X 0 (Ring.sl 2 k) ∗ restAt c X 0 (Ring.sl 2 (k + 1)))
  else iprop(fill c X k ∗ restAt c X 0 (Ring.sl 2 (k + 1)))

abbrev bslotP (s : Fin 2) (f : Cont (F := F) c (bslot s)) : sProp 𝕄 := (bslot s).view.loc (c : Thread nD τ) ↦[(bslot s).view.set]{fullShare} f
abbrev cellBP (s : Fin 2) : sProp 𝕄 := semVal ((c : Thread nD τ), SemLoc.dma (cellB s).sem) 0
variable {M : Memref sig .tc .hbm S4096x1024 .bf16} (Y : Cont (F := F) c M)
abbrev wholeP (M : Memref sig .tc .hbm S4096x1024 .bf16) (Y : Cont (F := F) c M) : sProp 𝕄 := M.view.loc (c : Thread nD τ) ↦[M.view.set]{fullShare} Y
/-- The contents of a slot of the second buffer once an array has landed in it. -/
abbrev blanded (M : Memref sig .tc .hbm S4096x1024 .bf16) (Y : Cont (F := F) c M) (s : Fin 2) (f : Cont (F := F) c (bslot s)) : Cont (F := F) c (bslot s) :=
  (bslot s).view.writes (Elt F) f [⟨Rect.whole S4096x1024, ReadAs.same.apply (M.view.read (Elt F) Y)⟩]
abbrev bfree (M : Memref sig .tc .hbm S4096x1024 .bf16) (Y : Cont (F := F) c M) (s : Fin 2) : sProp 𝕄 :=
  iprop(cellBP c s ∗ (∃ f, bslotP c s f) ∗ wholeP c M Y)
abbrev bdone (M : Memref sig .tc .hbm S4096x1024 .bf16) (Y : Cont (F := F) c M) (s : Fin 2) : sProp 𝕄 :=
  iprop(cellBP c s ∗ bslotP c s (blanded c M Y s (bslot s).view.junk) ∗ wholeP c M Y)
abbrev bfly (M : Memref sig .tc .hbm S4096x1024 .bf16) (Y : Cont (F := F) c M) (s : Fin 2) : sProp 𝕄 :=
  iprop(∃ f, Transfers.Flight countersEmb (c : Thread nD τ) (SemLoc.dma (cellB s).sem) default ((bslot s).view.amount (SemLoc.dma (cellB s).sem))
    iprop(bslotP c s (blanded c M Y s f) ∗ wholeP c M Y))
/-- The second buffer's slots before step `k`. -/
def stB0 (k : ℕ) : sProp 𝕄 := if k = 0 then bfree c b0 Y0 0 else bdone c b0 Y0 0
def stB1 (k : ℕ) : sProp 𝕄 := if k < 2 then bfree c b1 Y1 1 else if k < 5 then bfly c b1 Y1 1 else bdone c b1 Y1 1

/-- The slab that point `t` reads, and the array it multiplies it with, as the body loads them. -/
def ldA (t : Fin grid0.N) : Vec F S1x4096x704 .bf16 :=
  View.readAt (Elt F) scA.view (Rect.unit (s := S2x4096x704) (k0_off28 (grid0.coords t)) S1x4096x704.size (k0_off28_inb (grid0.coords t))).toLoadRect
    (landed c (arr (ak t.val)) (X (ak t.val)) (Ring.sl 2 t.val) (Ring.bk 4 (t.val % 4)) (slot (Ring.sl 2 t.val)).view.junk)
def ldB (t : Fin grid0.N) : Vec F S1x4096x1024 .bf16 :=
  if t.val < 4 then View.readAt (Elt F) scB.view (Rect.unit (s := S2x4096x1024) (k0_off29 (grid0.coords t)) S1x4096x1024.size (k0_off29_inb (grid0.coords t))).toLoadRect (blanded c b0 Y0 0 (bslot 0).view.junk)
  else View.readAt (Elt F) scB.view (Rect.unit (s := S2x4096x1024) (k0_off29 (grid0.coords t)) S1x4096x1024.size (k0_off29_inb (grid0.coords t))).toLoadRect (blanded c b1 Y1 1 (bslot 1).view.junk)
theorem ldB_lt (t : Fin grid0.N) (h : t.val < 4) : ldB c Y0 Y1 t = View.readAt (Elt F) scB.view (Rect.unit (s := S2x4096x1024) (k0_off29 (grid0.coords t)) S1x4096x1024.size (k0_off29_inb (grid0.coords t))).toLoadRect (blanded c b0 Y0 0 (bslot 0).view.junk) := by
  unfold ldB; rw [if_pos h]
theorem ldB_ge (t : Fin grid0.N) (h : ¬ t.val < 4) : ldB c Y0 Y1 t = View.readAt (Elt F) scB.view (Rect.unit (s := S2x4096x1024) (k0_off29 (grid0.coords t)) S1x4096x1024.size (k0_off29_inb (grid0.coords t))).toLoadRect (blanded c b1 Y1 1 (bslot 1).view.junk) := by
  unfold ldB; rw [if_neg h]
end State

/-! ## The body's slots, slabs and counters at a point, by these names -/

section Canon
omit [FloatOps F]
variable (t : Fin grid0.N)
/-- The load of the first buffer at a point is of that point's slot. -/
theorem off_28 : ∀ t : Fin grid0.N, k0_off28 (grid0.coords t) = ![(Ring.sl 2 t.val).val, 0, 0] := by decide +kernel
instance (priority := high) closed_28 : ClosedOff (k0_off28 (grid0.coords t)) := ⟨![(Ring.sl 2 t.val).val, 0, 0], off_28 t⟩
theorem off_29 : ∀ t : Fin grid0.N, t.val < 4 → k0_off29 (grid0.coords t) = ![(0 : Fin 2).val, 0, 0] := by decide +kernel
theorem off_29' : ∀ t : Fin grid0.N, ¬ t.val < 4 → k0_off29 (grid0.coords t) = ![(1 : Fin 2).val, 0, 0] := by decide +kernel
/-- The load of the second buffer at a point is of its first slot at the first four points, of its second afterwards. -/
instance (priority := high) closed_29 [h : Fact (t.val < 4)] : ClosedOff (k0_off29 (grid0.coords t)) := ⟨![(0 : Fin 2).val, 0, 0], off_29 t h.out⟩
instance (priority := high) closed_29' [h : Fact (¬ t.val < 4)] : ClosedOff (k0_off29 (grid0.coords t)) := ⟨![(1 : Fin 2).val, 0, 0], off_29' t h.out⟩

theorem slab_congr {j j' : Fin 3} (h : j = j') (b : Fin 4) : slab (arr j) b = slab (arr j') b := by subst h; rfl
theorem slot_eq {off : Fin 3 → Nat} (s : Fin 2) (h : off = ![s.val, 0, 0]) (p) :
    (scA.slice (Rect.unit (s := S2x4096x704) off S1x4096x704.size p) (fun _ => rfl)).squeeze S4096x704 squeezes_S1x4096x704_S4096x704 = slot s :=
  congrArg (fun M : Memref sig .tc .vmem S1x4096x704 .bf16 => M.squeeze S4096x704 squeezes_S1x4096x704_S4096x704) (Memref.slice_unit_congr _ h _ _ (fun _ => rfl) (fun _ => rfl))
theorem cell_eq {off : Fin 1 → Nat} (s : Fin 2) (h : off = ![s.val]) (p) :
    (cc0_scratch2.slice (Rect.unit (s := S2) off S1.size p)).squeeze S_ squeezes_S1_S_ = cellA s :=
  congrArg (fun A : DmaSems sig S1 => A.squeeze S_ squeezes_S1_S_) (SemArray.slice_unit_congr _ h _ _)
theorem slab_eq (M : Memref sig .tc .hbm S4x4096x704 .bf16) {off : Fin 3 → Nat} (b : Fin 4) (h : off = ![b.val, 0, 0]) (p) :
    (M.slice (Rect.unit (s := S4x4096x704) off S1x4096x704.size p) (fun _ => rfl)).squeeze S4096x704 squeezes_S1x4096x704_S4096x704 = slab M b :=
  congrArg (fun M : Memref sig .tc .hbm S1x4096x704 .bf16 => M.squeeze S4096x704 squeezes_S1x4096x704_S4096x704) (Memref.slice_unit_congr _ h _ _ (fun _ => rfl) (fun _ => rfl))

theorem bslot_zero : (scB.slice (Rect.unit (s := S2x4096x1024) ![0, 0, 0] S1x4096x1024.size inb_S2x4096x1024_S1x4096x1024_0_0_0) (fun _ => rfl)).squeeze S4096x1024 squeezes_S1x4096x1024_S4096x1024 = bslot 0 := rfl
theorem bslot_one : (scB.slice (Rect.unit (s := S2x4096x1024) ![1, 0, 0] S1x4096x1024.size inb_S2x4096x1024_S1x4096x1024_1_0_0) (fun _ => rfl)).squeeze S4096x1024 squeezes_S1x4096x1024_S4096x1024 = bslot 1 := rfl
theorem cellB_zero : (cc0_scratch3.slice (Rect.unit (s := S2) ![0] S1.size inb_S2_S1_0)).squeeze S_ squeezes_S1_S_ = cellB 0 := rfl
theorem cellB_one : (cc0_scratch3.slice (Rect.unit (s := S2) ![1] S1.size inb_S2_S1_1)).squeeze S_ squeezes_S1_S_ = cellB 1 := rfl
attribute [sl_canon] bslot_zero bslot_one cellB_zero cellB_one
theorem off_1 : ∀ t : Fin grid0.N, k0_cond1 (grid0.coords t) = 1#1 → k0_off1 (grid0.coords t) = ![(Ring.sl 2 t.val).val] := by decide +kernel
theorem off_2 : ∀ t : Fin grid0.N, k0_cond1 (grid0.coords t) = 1#1 → k0_off2 (grid0.coords t) = ![(Ring.sl 2 t.val).val, 0, 0] := by decide +kernel
theorem off_3 : ∀ t : Fin grid0.N, k0_cond1 (grid0.coords t) = 1#1 → k0_off3 (grid0.coords t) = ![(Ring.bk 4 (t.val % 4)).val, 0, 0] := by decide +kernel
theorem at_3 : ∀ t : Fin grid0.N, k0_cond2 (grid0.coords t) = 1#1 → (0 : Fin 3) = ak t.val := by decide +kernel
@[sl_canon] theorem canon_1 (h : k0_cond1 (grid0.coords t) = 1#1) (h' : k0_cond2 (grid0.coords t) = 1#1) :
    (cc0_scratch2.slice (Rect.unit (s := S2) (k0_off1 (grid0.coords t)) S1.size (k0_off1_inb (grid0.coords t) h h'))).squeeze S_ squeezes_S1_S_ = cellA (Ring.sl 2 t.val) :=
  cell_eq _ (off_1 t h) _
@[sl_canon] theorem canon_2 (h : k0_cond1 (grid0.coords t) = 1#1) (h' : k0_cond2 (grid0.coords t) = 1#1) :
    (scA.slice (Rect.unit (s := S2x4096x704) (k0_off2 (grid0.coords t)) S1x4096x704.size (k0_off2_inb (grid0.coords t) h h')) (fun _ => rfl)).squeeze S4096x704 squeezes_S1x4096x704_S4096x704 = slot (Ring.sl 2 t.val) :=
  slot_eq _ (off_2 t h) _
@[sl_canon] theorem canon_3 (h : k0_cond1 (grid0.coords t) = 1#1) (h' : k0_cond2 (grid0.coords t) = 1#1) :
    (a0.slice (Rect.unit (s := S4x4096x704) (k0_off3 (grid0.coords t)) S1x4096x704.size (k0_off3_inb (grid0.coords t) h h')) (fun _ => rfl)).squeeze S4096x704 squeezes_S1x4096x704_S4096x704 = slab (arr (ak t.val)) (Ring.bk 4 (t.val % 4)) :=
  (slab_eq a0 _ (off_3 t h) _).trans (slab_congr (j := 0) (at_3 t h') _)
theorem off_10 : ∀ t : Fin grid0.N, k0_off10 (grid0.coords t) = ![(Ring.sl 2 (t.val + 1)).val] := by decide +kernel
theorem off_11 : ∀ t : Fin grid0.N, k0_off11 (grid0.coords t) = ![(Ring.sl 2 (t.val + 1)).val, 0, 0] := by decide +kernel
theorem off_12 : ∀ t : Fin grid0.N, k0_off12 (grid0.coords t) = ![(Ring.bk 4 ((t.val + 1) % 4)).val, 0, 0] := by decide +kernel
theorem at_12 : ∀ t : Fin grid0.N, k0_cond6 (grid0.coords t) = 1#1 → (0 : Fin 3) = ak (t.val + 1) := by decide +kernel
@[sl_canon] theorem canon_10 (h : k0_cond5 (grid0.coords t) = 1#1) (h' : k0_cond6 (grid0.coords t) = 1#1) :
    (cc0_scratch2.slice (Rect.unit (s := S2) (k0_off10 (grid0.coords t)) S1.size (k0_off10_inb (grid0.coords t) h h'))).squeeze S_ squeezes_S1_S_ = cellA (Ring.sl 2 (t.val + 1)) :=
  cell_eq _ (off_10 t) _
@[sl_canon] theorem canon_11 (h : k0_cond5 (grid0.coords t) = 1#1) (h' : k0_cond6 (grid0.coords t) = 1#1) :
    (scA.slice (Rect.unit (s := S2x4096x704) (k0_off11 (grid0.coords t)) S1x4096x704.size (k0_off11_inb (grid0.coords t) h h')) (fun _ => rfl)).squeeze S4096x704 squeezes_S1x4096x704_S4096x704 = slot (Ring.sl 2 (t.val + 1)) :=
  slot_eq _ (off_11 t) _
@[sl_canon] theorem canon_12 (h : k0_cond5 (grid0.coords t) = 1#1) (h' : k0_cond6 (grid0.coords t) = 1#1) :
    (a0.slice (Rect.unit (s := S4x4096x704) (k0_off12 (grid0.coords t)) S1x4096x704.size (k0_off12_inb (grid0.coords t) h h')) (fun _ => rfl)).squeeze S4096x704 squeezes_S1x4096x704_S4096x704 = slab (arr (ak (t.val + 1))) (Ring.bk 4 ((t.val + 1) % 4)) :=
  (slab_eq a0 _ (off_12 t) _).trans (slab_congr (j := 0) (at_12 t h') _)
theorem off_13 : ∀ t : Fin grid0.N, k0_off13 (grid0.coords t) = ![(Ring.sl 2 (t.val + 1)).val] := by decide +kernel
theorem off_14 : ∀ t : Fin grid0.N, k0_off14 (grid0.coords t) = ![(Ring.sl 2 (t.val + 1)).val, 0, 0] := by decide +kernel
theorem off_15 : ∀ t : Fin grid0.N, k0_off15 (grid0.coords t) = ![(Ring.bk 4 ((t.val + 1) % 4)).val, 0, 0] := by decide +kernel
theorem at_15 : ∀ t : Fin grid0.N, k0_cond7 (grid0.coords t) = 1#1 → (1 : Fin 3) = ak (t.val + 1) := by decide +kernel
@[sl_canon] theorem canon_13 (h : k0_cond5 (grid0.coords t) = 1#1) (h' : k0_cond7 (grid0.coords t) = 1#1) :
    (cc0_scratch2.slice (Rect.unit (s := S2) (k0_off13 (grid0.coords t)) S1.size (k0_off13_inb (grid0.coords t) h h'))).squeeze S_ squeezes_S1_S_ = cellA (Ring.sl 2 (t.val + 1)) :=
  cell_eq _ (off_13 t) _
@[sl_canon] theorem canon_14 (h : k0_cond5 (grid0.coords t) = 1#1) (h' : k0_cond7 (grid0.coords t) = 1#1) :
    (scA.slice (Rect.unit (s := S2x4096x704) (k0_off14 (grid0.coords t)) S1x4096x704.size (k0_off14_inb (grid0.coords t) h h')) (fun _ => rfl)).squeeze S4096x704 squeezes_S1x4096x704_S4096x704 = slot (Ring.sl 2 (t.val + 1)) :=
  slot_eq _ (off_14 t) _
@[sl_canon] theorem canon_15 (h : k0_cond5 (grid0.coords t) = 1#1) (h' : k0_cond7 (grid0.coords t) = 1#1) :
    (a1.slice (Rect.unit (s := S4x4096x704) (k0_off15 (grid0.coords t)) S1x4096x704.size (k0_off15_inb (grid0.coords t) h h')) (fun _ => rfl)).squeeze S4096x704 squeezes_S1x4096x704_S4096x704 = slab (arr (ak (t.val + 1))) (Ring.bk 4 ((t.val + 1) % 4)) :=
  (slab_eq a1 _ (off_15 t) _).trans (slab_congr (j := 1) (at_15 t h') _)
theorem off_16 : ∀ t : Fin grid0.N, k0_off16 (grid0.coords t) = ![(Ring.sl 2 (t.val + 1)).val] := by decide +kernel
theorem off_17 : ∀ t : Fin grid0.N, k0_off17 (grid0.coords t) = ![(Ring.sl 2 (t.val + 1)).val, 0, 0] := by decide +kernel
theorem off_18 : ∀ t : Fin grid0.N, k0_off18 (grid0.coords t) = ![(Ring.bk 4 ((t.val + 1) % 4)).val, 0, 0] := by decide +kernel
theorem at_18 : ∀ t : Fin grid0.N, k0_cond8 (grid0.coords t) = 1#1 → (2 : Fin 3) = ak (t.val + 1) := by decide +kernel
@[sl_canon] theorem canon_16 (h : k0_cond5 (grid0.coords t) = 1#1) (h' : k0_cond8 (grid0.coords t) = 1#1) :
    (cc0_scratch2.slice (Rect.unit (s := S2) (k0_off16 (grid0.coords t)) S1.size (k0_off16_inb (grid0.coords t) h h'))).squeeze S_ squeezes_S1_S_ = cellA (Ring.sl 2 (t.val + 1)) :=
  cell_eq _ (off_16 t) _
@[sl_canon] theorem canon_17 (h : k0_cond5 (grid0.coords t) = 1#1) (h' : k0_cond8 (grid0.coords t) = 1#1) :
    (scA.slice (Rect.unit (s := S2x4096x704) (k0_off17 (grid0.coords t)) S1x4096x704.size (k0_off17_inb (grid0.coords t) h h')) (fun _ => rfl)).squeeze S4096x704 squeezes_S1x4096x704_S4096x704 = slot (Ring.sl 2 (t.val + 1)) :=
  slot_eq _ (off_17 t) _
@[sl_canon] theorem canon_18 (h : k0_cond5 (grid0.coords t) = 1#1) (h' : k0_cond8 (grid0.coords t) = 1#1) :
    (a2.slice (Rect.unit (s := S4x4096x704) (k0_off18 (grid0.coords t)) S1x4096x704.size (k0_off18_inb (grid0.coords t) h h')) (fun _ => rfl)).squeeze S4096x704 squeezes_S1x4096x704_S4096x704 = slab (arr (ak (t.val + 1))) (Ring.bk 4 ((t.val + 1) % 4)) :=
  (slab_eq a2 _ (off_18 t) _).trans (slab_congr (j := 2) (at_18 t h') _)
theorem off_19 : ∀ t : Fin grid0.N, k0_off19 (grid0.coords t) = ![(Ring.sl 2 t.val).val] := by decide +kernel
theorem off_20 : ∀ t : Fin grid0.N, k0_off20 (grid0.coords t) = ![(Ring.sl 2 t.val).val, 0, 0] := by decide +kernel
theorem off_21 : ∀ t : Fin grid0.N, k0_off21 (grid0.coords t) = ![(Ring.bk 4 (t.val % 4)).val, 0, 0] := by decide +kernel
theorem at_21 : ∀ t : Fin grid0.N, k0_cond10 (grid0.coords t) = 1#1 → (0 : Fin 3) = ak t.val := by decide +kernel
@[sl_canon] theorem canon_19 (h : k0_cond10 (grid0.coords t) = 1#1) :
    (cc0_scratch2.slice (Rect.unit (s := S2) (k0_off19 (grid0.coords t)) S1.size (k0_off19_inb (grid0.coords t) h))).squeeze S_ squeezes_S1_S_ = cellA (Ring.sl 2 t.val) :=
  cell_eq _ (off_19 t) _
@[sl_canon] theorem canon_20 (h : k0_cond10 (grid0.coords t) = 1#1) :
    (scA.slice (Rect.unit (s := S2x4096x704) (k0_off20 (grid0.coords t)) S1x4096x704.size (k0_off20_inb (grid0.coords t) h)) (fun _ => rfl)).squeeze S4096x704 squeezes_S1x4096x704_S4096x704 = slot (Ring.sl 2 t.val) :=
  slot_eq _ (off_20 t) _
@[sl_canon] theorem canon_21 (h : k0_cond10 (grid0.coords t) = 1#1) :
    (a0.slice (Rect.unit (s := S4x4096x704) (k0_off21 (grid0.coords t)) S1x4096x704.size (k0_off21_inb (grid0.coords t) h)) (fun _ => rfl)).squeeze S4096x704 squeezes_S1x4096x704_S4096x704 = slab (arr (ak t.val)) (Ring.bk 4 (t.val % 4)) :=
  (slab_eq a0 _ (off_21 t) _).trans (slab_congr (j := 0) (at_21 t h) _)
theorem off_22 : ∀ t : Fin grid0.N, k0_off22 (grid0.coords t) = ![(Ring.sl 2 t.val).val] := by decide +kernel
theorem off_23 : ∀ t : Fin grid0.N, k0_off23 (grid0.coords t) = ![(Ring.sl 2 t.val).val, 0, 0] := by decide +kernel
theorem off_24 : ∀ t : Fin grid0.N, k0_off24 (grid0.coords t) = ![(Ring.bk 4 (t.val % 4)).val, 0, 0] := by decide +kernel
theorem at_24 : ∀ t : Fin grid0.N, k0_cond11 (grid0.coords t) = 1#1 → (1 : Fin 3) = ak t.val := by decide +kernel
@[sl_canon] theorem canon_22 (h : k0_cond11 (grid0.coords t) = 1#1) :
    (cc0_scratch2.slice (Rect.unit (s := S2) (k0_off22 (grid0.coords t)) S1.size (k0_off22_inb (grid0.coords t) h))).squeeze S_ squeezes_S1_S_ = cellA (Ring.sl 2 t.val) :=
  cell_eq _ (off_22 t) _
@[sl_canon] theorem canon_23 (h : k0_cond11 (grid0.coords t) = 1#1) :
    (scA.slice (Rect.unit (s := S2x4096x704) (k0_off23 (grid0.coords t)) S1x4096x704.size (k0_off23_inb (grid0.coords t) h)) (fun _ => rfl)).squeeze S4096x704 squeezes_S1x4096x704_S4096x704 = slot (Ring.sl 2 t.val) :=
  slot_eq _ (off_23 t) _
@[sl_canon] theorem canon_24 (h : k0_cond11 (grid0.coords t) = 1#1) :
    (a1.slice (Rect.unit (s := S4x4096x704) (k0_off24 (grid0.coords t)) S1x4096x704.size (k0_off24_inb (grid0.coords t) h)) (fun _ => rfl)).squeeze S4096x704 squeezes_S1x4096x704_S4096x704 = slab (arr (ak t.val)) (Ring.bk 4 (t.val % 4)) :=
  (slab_eq a1 _ (off_24 t) _).trans (slab_congr (j := 1) (at_24 t h) _)
theorem off_25 : ∀ t : Fin grid0.N, k0_off25 (grid0.coords t) = ![(Ring.sl 2 t.val).val] := by decide +kernel
theorem off_26 : ∀ t : Fin grid0.N, k0_off26 (grid0.coords t) = ![(Ring.sl 2 t.val).val, 0, 0] := by decide +kernel
theorem off_27 : ∀ t : Fin grid0.N, k0_off27 (grid0.coords t) = ![(Ring.bk 4 (t.val % 4)).val, 0, 0] := by decide +kernel
theorem at_27 : ∀ t : Fin grid0.N, k0_cond12 (grid0.coords t) = 1#1 → (2 : Fin 3) = ak t.val := by decide +kernel
@[sl_canon] theorem canon_25 (h : k0_cond12 (grid0.coords t) = 1#1) :
    (cc0_scratch2.slice (Rect.unit (s := S2) (k0_off25 (grid0.coords t)) S1.size (k0_off25_inb (grid0.coords t) h))).squeeze S_ squeezes_S1_S_ = cellA (Ring.sl 2 t.val) :=
  cell_eq _ (off_25 t) _
@[sl_canon] theorem canon_26 (h : k0_cond12 (grid0.coords t) = 1#1) :
    (scA.slice (Rect.unit (s := S2x4096x704) (k0_off26 (grid0.coords t)) S1x4096x704.size (k0_off26_inb (grid0.coords t) h)) (fun _ => rfl)).squeeze S4096x704 squeezes_S1x4096x704_S4096x704 = slot (Ring.sl 2 t.val) :=
  slot_eq _ (off_26 t) _
@[sl_canon] theorem canon_27 (h : k0_cond12 (grid0.coords t) = 1#1) :
    (a2.slice (Rect.unit (s := S4x4096x704) (k0_off27 (grid0.coords t)) S1x4096x704.size (k0_off27_inb (grid0.coords t) h)) (fun _ => rfl)).squeeze S4096x704 squeezes_S1x4096x704_S4096x704 = slab (arr (ak t.val)) (Ring.bk 4 (t.val % 4)) :=
  (slab_eq a2 _ (off_27 t) _).trans (slab_congr (j := 2) (at_27 t h) _)

/-! ## The body's conditions at a point -/

theorem hc1 : ∀ t : Fin grid0.N, k0_cond1 (grid0.coords t) = 1#1 ↔ t.val = 0 := by decide +kernel
theorem hc2 : ∀ t : Fin grid0.N, k0_cond2 (grid0.coords t) = 1#1 ↔ t.val / 4 = 0 := by decide +kernel
theorem hc3 : ∀ t : Fin grid0.N, k0_cond3 (grid0.coords t) = 1#1 ↔ t.val / 4 = 1 := by decide +kernel
theorem hc4 : ∀ t : Fin grid0.N, k0_cond4 (grid0.coords t) = 1#1 ↔ t.val / 4 = 2 := by decide +kernel
theorem hc5 : ∀ t : Fin grid0.N, k0_cond5 (grid0.coords t) = 1#1 ↔ t.val < 11 := by decide +kernel
theorem hc6 : ∀ t : Fin grid0.N, k0_cond6 (grid0.coords t) = 1#1 ↔ (t.val + 1) / 4 = 0 := by decide +kernel
theorem hc7 : ∀ t : Fin grid0.N, k0_cond7 (grid0.coords t) = 1#1 ↔ (t.val + 1) / 4 = 1 := by decide +kernel
theorem hc8 : ∀ t : Fin grid0.N, k0_cond8 (grid0.coords t) = 1#1 ↔ (t.val + 1) / 4 = 2 := by decide +kernel
theorem hc10 : ∀ t : Fin grid0.N, k0_cond10 (grid0.coords t) = 1#1 ↔ t.val / 4 = 0 := by decide +kernel
theorem hc11 : ∀ t : Fin grid0.N, k0_cond11 (grid0.coords t) = 1#1 ↔ t.val / 4 = 1 := by decide +kernel
theorem hc12 : ∀ t : Fin grid0.N, k0_cond12 (grid0.coords t) = 1#1 ↔ t.val / 4 = 2 := by decide +kernel
theorem hc15 : ∀ t : Fin grid0.N, k0_cond15 (grid0.coords t) = 1#1 ↔ t.val / 4 = 0 := by decide +kernel
theorem hc16 : ∀ t : Fin grid0.N, k0_cond16 (grid0.coords t) = 1#1 ↔ t.val / 4 = 1 := by decide +kernel
theorem hc17 : ∀ t : Fin grid0.N, k0_cond17 (grid0.coords t) = 1#1 ↔ t.val / 4 = 2 := by decide +kernel
/-- The conditions the body spells in place: the point is `n`. -/
abbrev isPt (i : grid0.Coords) (n : BitVec 32) : Prop :=
  (Scalar.cmpi .ne (Scalar.extui (Scalar.cmpi .eq (BitVec.ofNat 32 (i 0).val) n)) 0#32) = 1#1
theorem hc9 : ∀ t : Fin grid0.N, isPt (grid0.coords t) 1#32 ↔ t.val = 1 := by decide +kernel
theorem hc13 : ∀ t : Fin grid0.N, isPt (grid0.coords t) 0#32 ↔ t.val = 0 := by decide +kernel
theorem hc14 : ∀ t : Fin grid0.N, isPt (grid0.coords t) 4#32 ↔ t.val = 4 := by decide +kernel
end Canon

end Cert.DwMlpIdeal.Own
-- ==== Proof.DwMlpIdealRun.lean ====
module

public import proofs.«01_k».proof.Proof.DwMlpIdealRing
public import Idealize.ShloMosaic.Lib.VecWindow

/-!
# The body of the MLP's weight-gradient kernel, point by point
The points that read the slabs of the first array.
-/

@[expose] public section
set_option maxRecDepth 16384
noncomputable section

namespace Cert.DwMlpIdeal.Own
open Cert.DwMlpIdeal Cert.DwMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Runs
variable (c : Dev nD) (t : Fin grid0.N) (X : (j : Fin 3) → Cont (F := F) c (arr j)) (Y0 : Cont (F := F) c b0) (Y1 : Cont (F := F) c b1)
    (arg6 : Memref sig .tc .vmem S1x704x1024 .bf16) (harg6 : arg6.IsWhole) (arg7 : Memref sig .tc .vmem S1x704x1024 .bf16) (harg7 : arg7.IsWhole)
    (arg8 : Memref sig .tc .vmem S1x704x1024 .bf16) (harg8 : arg8.IsWhole)

set_option maxHeartbeats 2000000 in
/-- The first point starts the first two slabs and the first whole array, and waits for the first slab and for that array. -/
theorem run_A (ht : t.val = 0) (W : Waits sig Unit) (K : PUnit → sProp 𝕄) :
    iprop((∃ d, owns (c : Thread nD τ) arg6 fullShare d) ∗ restAt c X (ak t.val) (Ring.sl 2 t.val) ∗ restAt c X (ak (t.val + 1)) (Ring.sl 2 (t.val + 1))
        ∗ (bfree c b0 Y0 0) ∗ owes (c : Thread nD τ) 0 W
        ∗ (iprop(owns (c : Thread nD τ) arg6 fullShare (k0_pay2 (ldA c X t) (ldB c Y0 Y1 t)) ∗ restAt c X (ak t.val) (Ring.sl 2 t.val) ∗ fill c X (t.val + 1)
            ∗ (bdone c b0 Y0 0) ∗ (∃ W', owes (c : Thread nD τ) 0 W')) -∗ K ⟨⟩))
      ⊢ wp frame (wpE (defs₀ (F := F)) Variants.none c none) Set.univ (cc0_dw_mlp (grid0.coords t) a0 (Memref.isWhole_whole _) a1 (Memref.isWhole_whole _) a2 (Memref.isWhole_whole _) b0 (Memref.isWhole_whole _) b1 (Memref.isWhole_whole _) arg6 harg6 arg7 harg7 arg8 harg8 scA (Memref.isWhole_whole _) scB (Memref.isWhole_whole _) cc0_scratch2 cc0_scratch3) K := by
  have h1 := (hc1 t).2 (by omega)
  have h2 := (hc2 t).2 (by omega)
  have h3 := mt (hc3 t).1 (by omega)
  have h4 := mt (hc4 t).1 (by omega)
  have h5 := (hc5 t).2 (by omega)
  have h6 := (hc6 t).2 (by omega)
  have h7 := mt (hc7 t).1 (by omega)
  have h8 := mt (hc8 t).1 (by omega)
  have h9 := mt (hc9 t).1 (by omega)
  have h10 := (hc10 t).2 (by omega)
  have h11 := mt (hc11 t).1 (by omega)
  have h12 := mt (hc12 t).1 (by omega)
  have h13 := (hc13 t).2 (by omega)
  have h14 := mt (hc14 t).1 (by omega)
  have h15 := (hc15 t).2 (by omega)
  have h16 := mt (hc16 t).1 (by omega)
  have h17 := mt (hc17 t).1 (by omega)
  haveI : Fact (k0_cond1 (grid0.coords t) = 1#1) := ⟨h1⟩
  haveI : Fact (k0_cond5 (grid0.coords t) = 1#1) := ⟨h5⟩
  haveI : Fact (k0_cond6 (grid0.coords t) = 1#1) := ⟨h6⟩
  haveI : Fact (k0_cond10 (grid0.coords t) = 1#1) := ⟨h10⟩
  haveI : Fact (k0_cond2 (grid0.coords t) = 1#1) := ⟨h2⟩
  haveI : Fact (t.val < 4) := ⟨by omega⟩
  simp only [cc0_dw_mlp_eq_skeleton]; unfold cc0_dw_mlp_skel
  simp only [k0_part1_eq_skeleton]; unfold k0_part1_skel
  unfold owns fill restAt
  iintro ⟨⟨%d1, %f1, -, H1⟩, ⟨Hf, ⟨%ff, Hfs⟩, Hfh, Hfo⟩, ⟨Hc, ⟨%fs, Hs⟩, Hw, Hco⟩, ⟨Hb0, ⟨%fb0, Hbs0⟩, Hbw0⟩, HW, Hk⟩
  ihave Hsp := (half_split c (arr (ak t.val)) (X (ak t.val)) (Ring.sl 2 t.val) (Ring.bk 4 (t.val % 4))).1 $$ Hfh
  icases Hsp with ⟨Hfh, Hfr⟩
  ihave Hsp' := (half_split c (arr (ak (t.val + 1))) (X (ak (t.val + 1))) (Ring.sl 2 (t.val + 1)) (Ring.bk 4 ((t.val + 1) % 4))).1 $$ Hw
  icases Hsp' with ⟨Hh, Hr⟩
  sl_exec (disch := first | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15 | sl_exact h16 | sl_exact h17)
  sl_step
  iapply Hk
  isplitl [H1]
  · iexists _; isplitr; swap; · iexact H1
    ipureintro
    refine (View.read_writes_full _ _ _ _ _).trans ?_
    exact congrArg (fun y => k0_pay2 (ldA c X t) y) (ldB_lt c Y0 Y1 t (by omega)).symm
  isplitl [Hf Hfs Hfh Hfr Hfo]
  · isplitl [Hf]; · iexact Hf
    isplitl [Hfs]; · iexists _; iexact Hfs
    isplitl [Hfh Hfr]
    · iapply (half_split c (arr (ak t.val)) (X (ak t.val)) (Ring.sl 2 t.val) (Ring.bk 4 (t.val % 4))).2; isplitl [Hfh]; · iexact Hfh
      iexact Hfr
    iexact Hfo
  isplitl [Hc Hr Hco]
  · isplitl [Hc]; · iexists _; iexact Hc
    isplitl [Hr]; · iexact Hr
    iexact Hco
  isplitl [Hb0 Hbs0 Hbw0]
  · isplitl [Hb0]; · iexact Hb0
    isplitl [Hbs0]; · iexact Hbs0
    iexact Hbw0
  iexists _; iexact HW

set_option maxHeartbeats 2000000 in
/-- The second point starts the second whole array as well. -/
theorem run_B (ht : t.val = 1) (W : Waits sig Unit) (K : PUnit → sProp 𝕄) :
    iprop((∃ d, owns (c : Thread nD τ) arg6 fullShare d) ∗ fill c X t.val ∗ restAt c X (ak (t.val + 1)) (Ring.sl 2 (t.val + 1))
        ∗ (bdone c b0 Y0 0) ∗ (bfree c b1 Y1 1) ∗ owes (c : Thread nD τ) 0 W
        ∗ (iprop(owns (c : Thread nD τ) arg6 fullShare (k0_pay2 (ldA c X t) (ldB c Y0 Y1 t)) ∗ restAt c X (ak t.val) (Ring.sl 2 t.val) ∗ fill c X (t.val + 1)
            ∗ (bdone c b0 Y0 0) ∗ (bfly c b1 Y1 1) ∗ (∃ W', owes (c : Thread nD τ) 0 W')) -∗ K ⟨⟩))
      ⊢ wp frame (wpE (defs₀ (F := F)) Variants.none c none) Set.univ (cc0_dw_mlp (grid0.coords t) a0 (Memref.isWhole_whole _) a1 (Memref.isWhole_whole _) a2 (Memref.isWhole_whole _) b0 (Memref.isWhole_whole _) b1 (Memref.isWhole_whole _) arg6 harg6 arg7 harg7 arg8 harg8 scA (Memref.isWhole_whole _) scB (Memref.isWhole_whole _) cc0_scratch2 cc0_scratch3) K := by
  have h1 := mt (hc1 t).1 (by omega)
  have h5 := (hc5 t).2 (by omega)
  have h6 := (hc6 t).2 (by omega)
  have h7 := mt (hc7 t).1 (by omega)
  have h8 := mt (hc8 t).1 (by omega)
  have h9 := (hc9 t).2 (by omega)
  have h10 := (hc10 t).2 (by omega)
  have h11 := mt (hc11 t).1 (by omega)
  have h12 := mt (hc12 t).1 (by omega)
  have h13 := mt (hc13 t).1 (by omega)
  have h14 := mt (hc14 t).1 (by omega)
  have h15 := (hc15 t).2 (by omega)
  have h16 := mt (hc16 t).1 (by omega)
  have h17 := mt (hc17 t).1 (by omega)
  haveI : Fact (k0_cond5 (grid0.coords t) = 1#1) := ⟨h5⟩
  haveI : Fact (k0_cond6 (grid0.coords t) = 1#1) := ⟨h6⟩
  haveI : Fact (k0_cond10 (grid0.coords t) = 1#1) := ⟨h10⟩
  haveI : Fact (t.val < 4) := ⟨by omega⟩
  simp only [cc0_dw_mlp_eq_skeleton]; unfold cc0_dw_mlp_skel
  simp only [k0_part1_eq_skeleton]; unfold k0_part1_skel
  unfold owns fill restAt
  iintro ⟨⟨%d1, %f1, -, H1⟩, ⟨⟨%ff, Hf⟩, Hfr, Hfo⟩, ⟨Hc, ⟨%fs, Hs⟩, Hw, Hco⟩, ⟨Hb0, Hbs0, Hbw0⟩, ⟨Hb1, ⟨%fb1, Hbs1⟩, Hbw1⟩, HW, Hk⟩
  ihave Hsp' := (half_split c (arr (ak (t.val + 1))) (X (ak (t.val + 1))) (Ring.sl 2 (t.val + 1)) (Ring.bk 4 ((t.val + 1) % 4))).1 $$ Hw
  icases Hsp' with ⟨Hh, Hr⟩
  sl_exec (disch := first | sl_exact h1 | sl_exact h5 | sl_exact h6 | sl_exact h7 | sl_exact h8 | sl_exact h9 | sl_exact h10 | sl_exact h11 | sl_exact h12 | sl_exact h13 | sl_exact h14 | sl_exact h15 | sl_exact h16 | sl_exact h17)
  sl_step
  iapply Hk
  isplitl [H1]
  · iexists _; isplitr; swap; · iexact H1
    ipureintro
    refine (View.read_writes_full _ _ _ _ _).trans ?_
    exact congrArg (fun y => k0_pay2 (ldA c X t) y) (ldB_lt c Y0 Y1 t (by omega)).symm
  isplitl [Hf Hf_dst Hf_src Hfr Hfo]
  · isplitl [Hf]; · iexact Hf
    isplitl [Hf_dst]; · iexists _; iexact Hf_dst
    isplitl [Hf_src Hfr]
    · iapply (half_split c (arr (ak t.val)) (X (ak t.val)) (Ring.sl 2 t.val) (Ring.bk 4 (t.val % 4))).2; isplitl [Hf_src]; · iexact Hf_src
      iexact Hfr
    iexact Hfo
  isplitl [Hc Hr Hco]
  · isplitl [Hc]; · iexists _; iexact Hc
    isplitl [Hr]; · iexact Hr
    iexact Hco
  isplitl [Hb0 Hbs0 Hbw0]
  · isplitl [Hb0]; · iexact Hb0
    isplitl [Hbs0]; · iexact Hbs0
    iexact Hbw0
  isplitl [Hb1]
  · iexists _; iexact Hb1
  iexists _; iexact HW

set_option maxHeartbeats 2000000 in
/-- The third point: one slab started, one waited for. -/
theorem run_C (ht : t.val = 2) (W : Waits sig Unit) (K : PUnit → sProp 𝕄) :
    iprop((∃ d, owns (c : Thread nD τ) arg6 fullShare d) ∗ fill c X t.val ∗ restAt c X (ak (t.val + 1)) (Ring.sl 2 (t.val + 1))
        ∗ (bdone c b0 Y0 0) ∗ owes (c : Thread nD τ) 0 W
        ∗ (iprop(owns (c : Thread nD τ) arg6 fullShare (k0_pay2 (ldA c X t) (ldB c Y0 Y1 t)) ∗ restAt c X (ak t.val) (Ring.sl 2 t.val) ∗ fill c X (t.val + 1)
            ∗ (bdone c b0 Y0 0) ∗ (∃ W', owes (c : Thread nD τ) 0 W')) -∗ K ⟨⟩))
      ⊢ wp frame (wpE (defs₀ (F := F)) Variants.none c none) Set.univ (cc0_dw_mlp (grid0.coords t) a0 (Memref.isWhole_whole _) a1 (Memref.isWhole_whole _) a2 (Memref.isWhole_whole _) b0 (Memref.isWhole_whole _) b1 (Memref.isWhole_whole _) arg6 harg6 arg7 harg7 arg8 harg8 scA (Memref.isWhole_whole _) scB (Memref.isWhole_whole _) cc0_scratch2 cc0_scratch3) K := by
  have h1 := mt (hc1 t).1 (by omega)
  have h5 := (hc5 t).2 (by omega)
  have h6 := (hc6 t).2 (by omega)
  have h7 := mt (hc7 t).1 (by omega)
  have h8 := mt (hc8 t).1 (by omega)
  have h9 := mt (hc9 t).1 (by omega)
  have h10 := (hc10 t).2 (by omega)
  have h11 := mt (hc11 t).1 (by omega)
  have h12 := mt (hc12 t).1 (by omega)
  have h13 := mt (hc13 t).1 (by omega)
  have h14 := mt (hc14 t).1 (by omega)
  have h15 := (hc15 t).2 (by omega)
  have h16 := mt (hc16 t).1 (by omega)
  have h17 := mt (hc17 t).1 (by omega)
  haveI : Fact (k0_cond5 (grid0.coords t) = 1#1) := ⟨h5⟩
  haveI : Fact (k0_cond6 (grid0.coords t) = 1#1) := ⟨h6⟩
  haveI : Fact (k0_cond10 (grid0.coords t) = 1#1) := ⟨h10⟩
  haveI : Fact (t.val < 4) := ⟨by omega⟩
  simp only [cc0_dw_mlp_eq_skeleton]; unfold cc0_dw_mlp_skel
  simp only [k0_part1_eq_skeleton]; unfold k0_part1_skel
  unfold owns fill restAt
  iintro ⟨⟨%d1, %f1, -, H1⟩, ⟨⟨%ff, Hf⟩, Hfr, Hfo⟩, ⟨Hc, ⟨%fs, Hs⟩, Hw, Hco⟩, ⟨Hb0, Hbs0, Hbw0⟩, HW, Hk⟩
  ihave Hsp' := (half_split c (arr (ak (t.val + 1))) (X (ak (t.val + 1))) (Ring.sl 2 (t.val + 1)) (Ring.bk 4 ((t.val + 1) % 4))).1 $$ Hw
  icases Hsp' with ⟨Hh, Hr⟩
  sl_exec (disch := first | sl_exact h1 | sl_exact h5 | sl_exact h6 | sl_exact h7 | sl_exact h8 | sl_exact h9 | sl_exact h10 | sl_exact h11 | sl_exact h12 | sl_exact h13 | sl_exact h14 | sl_exact h15 | sl_exact h16 | sl_exact h17)
  sl_step
  iapply Hk
  isplitl [H1]
  · iexists _; isplitr; swap; · iexact H1
    ipureintro
    refine (View.read_writes_full _ _ _ _ _).trans ?_
    exact congrArg (fun y => k0_pay2 (ldA c X t) y) (ldB_lt c Y0 Y1 t (by omega)).symm
  isplitl [Hf Hf_dst Hf_src Hfr Hfo]
  · isplitl [Hf]; · iexact Hf
    isplitl [Hf_dst]; · iexists _; iexact Hf_dst
    isplitl [Hf_src Hfr]
    · iapply (half_split c (arr (ak t.val)) (X (ak t.val)) (Ring.sl 2 t.val) (Ring.bk 4 (t.val % 4))).2; isplitl [Hf_src]; · iexact Hf_src
      iexact Hfr
    iexact Hfo
  isplitl [Hc Hr Hco]
  · isplitl [Hc]; · iexists _; iexact Hc
    isplitl [Hr]; · iexact Hr
    iexact Hco
  isplitl [Hb0 Hbs0 Hbw0]
  · isplitl [Hb0]; · iexact Hb0
    isplitl [Hbs0]; · iexact Hbs0
    iexact Hbw0
  iexists _; iexact HW

set_option maxHeartbeats 2000000 in
/-- The fourth point starts the first slab of the second array. -/
theorem run_D (ht : t.val = 3) (W : Waits sig Unit) (K : PUnit → sProp 𝕄) :
    iprop((∃ d, owns (c : Thread nD τ) arg6 fullShare d) ∗ fill c X t.val ∗ restAt c X (ak (t.val + 1)) (Ring.sl 2 (t.val + 1))
        ∗ (bdone c b0 Y0 0) ∗ owes (c : Thread nD τ) 0 W
        ∗ (iprop(owns (c : Thread nD τ) arg6 fullShare (k0_pay2 (ldA c X t) (ldB c Y0 Y1 t)) ∗ restAt c X (ak t.val) (Ring.sl 2 t.val) ∗ fill c X (t.val + 1)
            ∗ (bdone c b0 Y0 0) ∗ (∃ W', owes (c : Thread nD τ) 0 W')) -∗ K ⟨⟩))
      ⊢ wp frame (wpE (defs₀ (F := F)) Variants.none c none) Set.univ (cc0_dw_mlp (grid0.coords t) a0 (Memref.isWhole_whole _) a1 (Memref.isWhole_whole _) a2 (Memref.isWhole_whole _) b0 (Memref.isWhole_whole _) b1 (Memref.isWhole_whole _) arg6 harg6 arg7 harg7 arg8 harg8 scA (Memref.isWhole_whole _) scB (Memref.isWhole_whole _) cc0_scratch2 cc0_scratch3) K := by
  have h1 := mt (hc1 t).1 (by omega)
  have h5 := (hc5 t).2 (by omega)
  have h6 := mt (hc6 t).1 (by omega)
  have h7 := (hc7 t).2 (by omega)
  have h8 := mt (hc8 t).1 (by omega)
  have h9 := mt (hc9 t).1 (by omega)
  have h10 := (hc10 t).2 (by omega)
  have h11 := mt (hc11 t).1 (by omega)
  have h12 := mt (hc12 t).1 (by omega)
  have h13 := mt (hc13 t).1 (by omega)
  have h14 := mt (hc14 t).1 (by omega)
  have h15 := (hc15 t).2 (by omega)
  have h16 := mt (hc16 t).1 (by omega)
  have h17 := mt (hc17 t).1 (by omega)
  haveI : Fact (k0_cond5 (grid0.coords t) = 1#1) := ⟨h5⟩
  haveI : Fact (k0_cond7 (grid0.coords t) = 1#1) := ⟨h7⟩
  haveI : Fact (k0_cond10 (grid0.coords t) = 1#1) := ⟨h10⟩
  haveI : Fact (t.val < 4) := ⟨by omega⟩
  simp only [cc0_dw_mlp_eq_skeleton]; unfold cc0_dw_mlp_skel
  simp only [k0_part1_eq_skeleton]; unfold k0_part1_skel
  unfold owns fill restAt
  iintro ⟨⟨%d1, %f1, -, H1⟩, ⟨⟨%ff, Hf⟩, Hfr, Hfo⟩, ⟨Hc, ⟨%fs, Hs⟩, Hw, Hco⟩, ⟨Hb0, Hbs0, Hbw0⟩, HW, Hk⟩
  ihave Hsp' := (half_split c (arr (ak (t.val + 1))) (X (ak (t.val + 1))) (Ring.sl 2 (t.val + 1)) (Ring.bk 4 ((t.val + 1) % 4))).1 $$ Hw
  icases Hsp' with ⟨Hh, Hr⟩
  sl_exec (disch := first | sl_exact h1 | sl_exact h5 | sl_exact h6 | sl_exact h7 | sl_exact h8 | sl_exact h9 | sl_exact h10 | sl_exact h11 | sl_exact h12 | sl_exact h13 | sl_exact h14 | sl_exact h15 | sl_exact h16 | sl_exact h17)
  sl_step
  iapply Hk
  isplitl [H1]
  · iexists _; isplitr; swap; · iexact H1
    ipureintro
    refine (View.read_writes_full _ _ _ _ _).trans ?_
    exact congrArg (fun y => k0_pay2 (ldA c X t) y) (ldB_lt c Y0 Y1 t (by omega)).symm
  isplitl [Hf Hf_dst Hf_src Hfr Hfo]
  · isplitl [Hf]; · iexact Hf
    isplitl [Hf_dst]; · iexists _; iexact Hf_dst
    isplitl [Hf_src Hfr]
    · iapply (half_split c (arr (ak t.val)) (X (ak t.val)) (Ring.sl 2 t.val) (Ring.bk 4 (t.val % 4))).2; isplitl [Hf_src]; · iexact Hf_src
      iexact Hfr
    iexact Hfo
  isplitl [Hc Hr Hco]
  · isplitl [Hc]; · iexists _; iexact Hc
    isplitl [Hr]; · iexact Hr
    iexact Hco
  isplitl [Hb0 Hbs0 Hbw0]
  · isplitl [Hb0]; · iexact Hb0
    isplitl [Hbs0]; · iexact Hbs0
    iexact Hbw0
  iexists _; iexact HW
end Runs

end Cert.DwMlpIdeal.Own
-- ==== Proof.DwMlpIdealRunB.lean ====
module

public import proofs.«01_k».proof.Proof.DwMlpIdealRing
public import Idealize.ShloMosaic.Lib.VecWindow

/-!
# The body of the MLP's weight-gradient kernel, point by point
The points that read the slabs of the second and of the third array.
-/

@[expose] public section
set_option maxRecDepth 16384
noncomputable section

namespace Cert.DwMlpIdeal.Own
open Cert.DwMlpIdeal Cert.DwMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Runs
variable (c : Dev nD) (t : Fin grid0.N) (X : (j : Fin 3) → Cont (F := F) c (arr j)) (Y0 : Cont (F := F) c b0) (Y1 : Cont (F := F) c b1)
    (arg6 : Memref sig .tc .vmem S1x704x1024 .bf16) (harg6 : arg6.IsWhole) (arg7 : Memref sig .tc .vmem S1x704x1024 .bf16) (harg7 : arg7.IsWhole)
    (arg8 : Memref sig .tc .vmem S1x704x1024 .bf16) (harg8 : arg8.IsWhole)

set_option maxHeartbeats 2000000 in
/-- The fifth point also waits for the second whole array. -/
theorem run_E (ht : t.val = 4) (W : Waits sig Unit) (K : PUnit → sProp 𝕄) :
    iprop((∃ d, owns (c : Thread nD τ) arg7 fullShare d) ∗ fill c X t.val ∗ restAt c X (ak (t.val + 1)) (Ring.sl 2 (t.val + 1))
        ∗ (bfly c b1 Y1 1) ∗ owes (c : Thread nD τ) 0 W
        ∗ (iprop(owns (c : Thread nD τ) arg7 fullShare (k0_pay3 (ldA c X t) (ldB c Y0 Y1 t)) ∗ restAt c X (ak t.val) (Ring.sl 2 t.val) ∗ fill c X (t.val + 1)
            ∗ (bdone c b1 Y1 1) ∗ (∃ W', owes (c : Thread nD τ) 0 W')) -∗ K ⟨⟩))
      ⊢ wp frame (wpE (defs₀ (F := F)) Variants.none c none) Set.univ (cc0_dw_mlp (grid0.coords t) a0 (Memref.isWhole_whole _) a1 (Memref.isWhole_whole _) a2 (Memref.isWhole_whole _) b0 (Memref.isWhole_whole _) b1 (Memref.isWhole_whole _) arg6 harg6 arg7 harg7 arg8 harg8 scA (Memref.isWhole_whole _) scB (Memref.isWhole_whole _) cc0_scratch2 cc0_scratch3) K := by
  have h1 := mt (hc1 t).1 (by omega)
  have h5 := (hc5 t).2 (by omega)
  have h6 := mt (hc6 t).1 (by omega)
  have h7 := (hc7 t).2 (by omega)
  have h8 := mt (hc8 t).1 (by omega)
  have h9 := mt (hc9 t).1 (by omega)
  have h10 := mt (hc10 t).1 (by omega)
  have h11 := (hc11 t).2 (by omega)
  have h12 := mt (hc12 t).1 (by omega)
  have h13 := mt (hc13 t).1 (by omega)
  have h14 := (hc14 t).2 (by omega)
  have h15 := mt (hc15 t).1 (by omega)
  have h16 := (hc16 t).2 (by omega)
  have h17 := mt (hc17 t).1 (by omega)
  haveI : Fact (k0_cond5 (grid0.coords t) = 1#1) := ⟨h5⟩
  haveI : Fact (k0_cond7 (grid0.coords t) = 1#1) := ⟨h7⟩
  haveI : Fact (k0_cond11 (grid0.coords t) = 1#1) := ⟨h11⟩
  haveI : Fact (¬ t.val < 4) := ⟨by omega⟩
  simp only [cc0_dw_mlp_eq_skeleton]; unfold cc0_dw_mlp_skel
  simp only [k0_part1_eq_skeleton]; unfold k0_part1_skel
  unfold owns fill restAt
  iintro ⟨⟨%d1, %f1, -, H1⟩, ⟨⟨%ff, Hf⟩, Hfr, Hfo⟩, ⟨Hc, ⟨%fs, Hs⟩, Hw, Hco⟩, ⟨%fb0, Hb0⟩, HW, Hk⟩
  ihave Hsp' := (half_split c (arr (ak (t.val + 1))) (X (ak (t.val + 1))) (Ring.sl 2 (t.val + 1)) (Ring.bk 4 ((t.val + 1) % 4))).1 $$ Hw
  icases Hsp' with ⟨Hh, Hr⟩
  sl_exec (disch := first | sl_exact h1 | sl_exact h5 | sl_exact h6 | sl_exact h7 | sl_exact h8 | sl_exact h9 | sl_exact h10 | sl_exact h11 | sl_exact h12 | sl_exact h13 | sl_exact h14 | sl_exact h15 | sl_exact h16 | sl_exact h17)
  sl_step
  iapply Hk
  isplitl [H1]
  · iexists _; isplitr; swap; · iexact H1
    ipureintro
    refine (View.read_writes_full _ _ _ _ _).trans ?_
    exact congrArg (fun y => k0_pay3 (ldA c X t) y) (ldB_ge c Y0 Y1 t (by omega)).symm
  isplitl [Hf Hf_dst Hf_src Hfr Hfo]
  · isplitl [Hf]; · iexact Hf
    isplitl [Hf_dst]; · iexists _; iexact Hf_dst
    isplitl [Hf_src Hfr]
    · iapply (half_split c (arr (ak t.val)) (X (ak t.val)) (Ring.sl 2 t.val) (Ring.bk 4 (t.val % 4))).2; isplitl [Hf_src]; · iexact Hf_src
      iexact Hfr
    iexact Hfo
  isplitl [Hc Hr Hco]
  · isplitl [Hc]; · iexists _; iexact Hc
    isplitl [Hr]; · iexact Hr
    iexact Hco
  isplitl [Hb0 Hb0_dst Hb0_src]
  · isplitl [Hb0]; · iexact Hb0
    isplitl [Hb0_dst]; · iexact Hb0_dst
    iexact Hb0_src
  iexists _; iexact HW

set_option maxHeartbeats 2000000 in
/-- The two points after it. -/
theorem run_F (ht : 5 ≤ t.val ∧ t.val < 7) (W : Waits sig Unit) (K : PUnit → sProp 𝕄) :
    iprop((∃ d, owns (c : Thread nD τ) arg7 fullShare d) ∗ fill c X t.val ∗ restAt c X (ak (t.val + 1)) (Ring.sl 2 (t.val + 1))
        ∗ (bdone c b1 Y1 1) ∗ owes (c : Thread nD τ) 0 W
        ∗ (iprop(owns (c : Thread nD τ) arg7 fullShare (k0_pay3 (ldA c X t) (ldB c Y0 Y1 t)) ∗ restAt c X (ak t.val) (Ring.sl 2 t.val) ∗ fill c X (t.val + 1)
            ∗ (bdone c b1 Y1 1) ∗ (∃ W', owes (c : Thread nD τ) 0 W')) -∗ K ⟨⟩))
      ⊢ wp frame (wpE (defs₀ (F := F)) Variants.none c none) Set.univ (cc0_dw_mlp (grid0.coords t) a0 (Memref.isWhole_whole _) a1 (Memref.isWhole_whole _) a2 (Memref.isWhole_whole _) b0 (Memref.isWhole_whole _) b1 (Memref.isWhole_whole _) arg6 harg6 arg7 harg7 arg8 harg8 scA (Memref.isWhole_whole _) scB (Memref.isWhole_whole _) cc0_scratch2 cc0_scratch3) K := by
  have h1 := mt (hc1 t).1 (by omega)
  have h5 := (hc5 t).2 (by omega)
  have h6 := mt (hc6 t).1 (by omega)
  have h7 := (hc7 t).2 (by omega)
  have h8 := mt (hc8 t).1 (by omega)
  have h9 := mt (hc9 t).1 (by omega)
  have h10 := mt (hc10 t).1 (by omega)
  have h11 := (hc11 t).2 (by omega)
  have h12 := mt (hc12 t).1 (by omega)
  have h13 := mt (hc13 t).1 (by omega)
  have h14 := mt (hc14 t).1 (by omega)
  have h15 := mt (hc15 t).1 (by omega)
  have h16 := (hc16 t).2 (by omega)
  have h17 := mt (hc17 t).1 (by omega)
  haveI : Fact (k0_cond5 (grid0.coords t) = 1#1) := ⟨h5⟩
  haveI : Fact (k0_cond7 (grid0.coords t) = 1#1) := ⟨h7⟩
  haveI : Fact (k0_cond11 (grid0.coords t) = 1#1) := ⟨h11⟩
  haveI : Fact (¬ t.val < 4) := ⟨by omega⟩
  simp only [cc0_dw_mlp_eq_skeleton]; unfold cc0_dw_mlp_skel
  simp only [k0_part1_eq_skeleton]; unfold k0_part1_skel
  unfold owns fill restAt
  iintro ⟨⟨%d1, %f1, -, H1⟩, ⟨⟨%ff, Hf⟩, Hfr, Hfo⟩, ⟨Hc, ⟨%fs, Hs⟩, Hw, Hco⟩, ⟨Hb0, Hbs0, Hbw0⟩, HW, Hk⟩
  ihave Hsp' := (half_split c (arr (ak (t.val + 1))) (X (ak (t.val + 1))) (Ring.sl 2 (t.val + 1)) (Ring.bk 4 ((t.val + 1) % 4))).1 $$ Hw
  icases Hsp' with ⟨Hh, Hr⟩
  sl_exec (disch := first | sl_exact h1 | sl_exact h5 | sl_exact h6 | sl_exact h7 | sl_exact h8 | sl_exact h9 | sl_exact h10 | sl_exact h11 | sl_exact h12 | sl_exact h13 | sl_exact h14 | sl_exact h15 | sl_exact h16 | sl_exact h17)
  sl_step
  iapply Hk
  isplitl [H1]
  · iexists _; isplitr; swap; · iexact H1
    ipureintro
    refine (View.read_writes_full _ _ _ _ _).trans ?_
    exact congrArg (fun y => k0_pay3 (ldA c X t) y) (ldB_ge c Y0 Y1 t (by omega)).symm
  isplitl [Hf Hf_dst Hf_src Hfr Hfo]
  · isplitl [Hf]; · iexact Hf
    isplitl [Hf_dst]; · iexists _; iexact Hf_dst
    isplitl [Hf_src Hfr]
    · iapply (half_split c (arr (ak t.val)) (X (ak t.val)) (Ring.sl 2 t.val) (Ring.bk 4 (t.val % 4))).2; isplitl [Hf_src]; · iexact Hf_src
      iexact Hfr
    iexact Hfo
  isplitl [Hc Hr Hco]
  · isplitl [Hc]; · iexists _; iexact Hc
    isplitl [Hr]; · iexact Hr
    iexact Hco
  isplitl [Hb0 Hbs0 Hbw0]
  · isplitl [Hb0]; · iexact Hb0
    isplitl [Hbs0]; · iexact Hbs0
    iexact Hbw0
  iexists _; iexact HW

set_option maxHeartbeats 2000000 in
/-- The eighth point starts the first slab of the third array. -/
theorem run_G (ht : t.val = 7) (W : Waits sig Unit) (K : PUnit → sProp 𝕄) :
    iprop((∃ d, owns (c : Thread nD τ) arg7 fullShare d) ∗ fill c X t.val ∗ restAt c X (ak (t.val + 1)) (Ring.sl 2 (t.val + 1))
        ∗ (bdone c b1 Y1 1) ∗ owes (c : Thread nD τ) 0 W
        ∗ (iprop(owns (c : Thread nD τ) arg7 fullShare (k0_pay3 (ldA c X t) (ldB c Y0 Y1 t)) ∗ restAt c X (ak t.val) (Ring.sl 2 t.val) ∗ fill c X (t.val + 1)
            ∗ (bdone c b1 Y1 1) ∗ (∃ W', owes (c : Thread nD τ) 0 W')) -∗ K ⟨⟩))
      ⊢ wp frame (wpE (defs₀ (F := F)) Variants.none c none) Set.univ (cc0_dw_mlp (grid0.coords t) a0 (Memref.isWhole_whole _) a1 (Memref.isWhole_whole _) a2 (Memref.isWhole_whole _) b0 (Memref.isWhole_whole _) b1 (Memref.isWhole_whole _) arg6 harg6 arg7 harg7 arg8 harg8 scA (Memref.isWhole_whole _) scB (Memref.isWhole_whole _) cc0_scratch2 cc0_scratch3) K := by
  have h1 := mt (hc1 t).1 (by omega)
  have h5 := (hc5 t).2 (by omega)
  have h6 := mt (hc6 t).1 (by omega)
  have h7 := mt (hc7 t).1 (by omega)
  have h8 := (hc8 t).2 (by omega)
  have h9 := mt (hc9 t).1 (by omega)
  have h10 := mt (hc10 t).1 (by omega)
  have h11 := (hc11 t).2 (by omega)
  have h12 := mt (hc12 t).1 (by omega)
  have h13 := mt (hc13 t).1 (by omega)
  have h14 := mt (hc14 t).1 (by omega)
  have h15 := mt (hc15 t).1 (by omega)
  have h16 := (hc16 t).2 (by omega)
  have h17 := mt (hc17 t).1 (by omega)
  haveI : Fact (k0_cond5 (grid0.coords t) = 1#1) := ⟨h5⟩
  haveI : Fact (k0_cond8 (grid0.coords t) = 1#1) := ⟨h8⟩
  haveI : Fact (k0_cond11 (grid0.coords t) = 1#1) := ⟨h11⟩
  haveI : Fact (¬ t.val < 4) := ⟨by omega⟩
  simp only [cc0_dw_mlp_eq_skeleton]; unfold cc0_dw_mlp_skel
  simp only [k0_part1_eq_skeleton]; unfold k0_part1_skel
  unfold owns fill restAt
  iintro ⟨⟨%d1, %f1, -, H1⟩, ⟨⟨%ff, Hf⟩, Hfr, Hfo⟩, ⟨Hc, ⟨%fs, Hs⟩, Hw, Hco⟩, ⟨Hb0, Hbs0, Hbw0⟩, HW, Hk⟩
  ihave Hsp' := (half_split c (arr (ak (t.val + 1))) (X (ak (t.val + 1))) (Ring.sl 2 (t.val + 1)) (Ring.bk 4 ((t.val + 1) % 4))).1 $$ Hw
  icases Hsp' with ⟨Hh, Hr⟩
  sl_exec (disch := first | sl_exact h1 | sl_exact h5 | sl_exact h6 | sl_exact h7 | sl_exact h8 | sl_exact h9 | sl_exact h10 | sl_exact h11 | sl_exact h12 | sl_exact h13 | sl_exact h14 | sl_exact h15 | sl_exact h16 | sl_exact h17)
  sl_step
  iapply Hk
  isplitl [H1]
  · iexists _; isplitr; swap; · iexact H1
    ipureintro
    refine (View.read_writes_full _ _ _ _ _).trans ?_
    exact congrArg (fun y => k0_pay3 (ldA c X t) y) (ldB_ge c Y0 Y1 t (by omega)).symm
  isplitl [Hf Hf_dst Hf_src Hfr Hfo]
  · isplitl [Hf]; · iexact Hf
    isplitl [Hf_dst]; · iexists _; iexact Hf_dst
    isplitl [Hf_src Hfr]
    · iapply (half_split c (arr (ak t.val)) (X (ak t.val)) (Ring.sl 2 t.val) (Ring.bk 4 (t.val % 4))).2; isplitl [Hf_src]; · iexact Hf_src
      iexact Hfr
    iexact Hfo
  isplitl [Hc Hr Hco]
  · isplitl [Hc]; · iexists _; iexact Hc
    isplitl [Hr]; · iexact Hr
    iexact Hco
  isplitl [Hb0 Hbs0 Hbw0]
  · isplitl [Hb0]; · iexact Hb0
    isplitl [Hbs0]; · iexact Hbs0
    iexact Hbw0
  iexists _; iexact HW

set_option maxHeartbeats 2000000 in
/-- The three points after it. -/
theorem run_H (ht : 8 ≤ t.val ∧ t.val < 11) (W : Waits sig Unit) (K : PUnit → sProp 𝕄) :
    iprop((∃ d, owns (c : Thread nD τ) arg8 fullShare d) ∗ fill c X t.val ∗ restAt c X (ak (t.val + 1)) (Ring.sl 2 (t.val + 1))
        ∗ (bdone c b1 Y1 1) ∗ owes (c : Thread nD τ) 0 W
        ∗ (iprop(owns (c : Thread nD τ) arg8 fullShare (k0_pay4 (ldA c X t) (ldB c Y0 Y1 t)) ∗ restAt c X (ak t.val) (Ring.sl 2 t.val) ∗ fill c X (t.val + 1)
            ∗ (bdone c b1 Y1 1) ∗ (∃ W', owes (c : Thread nD τ) 0 W')) -∗ K ⟨⟩))
      ⊢ wp frame (wpE (defs₀ (F := F)) Variants.none c none) Set.univ (cc0_dw_mlp (grid0.coords t) a0 (Memref.isWhole_whole _) a1 (Memref.isWhole_whole _) a2 (Memref.isWhole_whole _) b0 (Memref.isWhole_whole _) b1 (Memref.isWhole_whole _) arg6 harg6 arg7 harg7 arg8 harg8 scA (Memref.isWhole_whole _) scB (Memref.isWhole_whole _) cc0_scratch2 cc0_scratch3) K := by
  have h1 := mt (hc1 t).1 (by omega)
  have h5 := (hc5 t).2 (by omega)
  have h6 := mt (hc6 t).1 (by omega)
  have h7 := mt (hc7 t).1 (by omega)
  have h8 := (hc8 t).2 (by omega)
  have h9 := mt (hc9 t).1 (by omega)
  have h10 := mt (hc10 t).1 (by omega)
  have h11 := mt (hc11 t).1 (by omega)
  have h12 := (hc12 t).2 (by omega)
  have h13 := mt (hc13 t).1 (by omega)
  have h14 := mt (hc14 t).1 (by omega)
  have h15 := mt (hc15 t).1 (by omega)
  have h16 := mt (hc16 t).1 (by omega)
  have h17 := (hc17 t).2 (by omega)
  haveI : Fact (k0_cond5 (grid0.coords t) = 1#1) := ⟨h5⟩
  haveI : Fact (k0_cond8 (grid0.coords t) = 1#1) := ⟨h8⟩
  haveI : Fact (k0_cond12 (grid0.coords t) = 1#1) := ⟨h12⟩
  haveI : Fact (¬ t.val < 4) := ⟨by omega⟩
  simp only [cc0_dw_mlp_eq_skeleton]; unfold cc0_dw_mlp_skel
  simp only [k0_part1_eq_skeleton]; unfold k0_part1_skel
  unfold owns fill restAt
  iintro ⟨⟨%d1, %f1, -, H1⟩, ⟨⟨%ff, Hf⟩, Hfr, Hfo⟩, ⟨Hc, ⟨%fs, Hs⟩, Hw, Hco⟩, ⟨Hb0, Hbs0, Hbw0⟩, HW, Hk⟩
  ihave Hsp' := (half_split c (arr (ak (t.val + 1))) (X (ak (t.val + 1))) (Ring.sl 2 (t.val + 1)) (Ring.bk 4 ((t.val + 1) % 4))).1 $$ Hw
  icases Hsp' with ⟨Hh, Hr⟩
  sl_exec (disch := first | sl_exact h1 | sl_exact h5 | sl_exact h6 | sl_exact h7 | sl_exact h8 | sl_exact h9 | sl_exact h10 | sl_exact h11 | sl_exact h12 | sl_exact h13 | sl_exact h14 | sl_exact h15 | sl_exact h16 | sl_exact h17)
  sl_step
  iapply Hk
  isplitl [H1]
  · iexists _; isplitr; swap; · iexact H1
    ipureintro
    refine (View.read_writes_full _ _ _ _ _).trans ?_
    exact congrArg (fun y => k0_pay4 (ldA c X t) y) (ldB_ge c Y0 Y1 t (by omega)).symm
  isplitl [Hf Hf_dst Hf_src Hfr Hfo]
  · isplitl [Hf]; · iexact Hf
    isplitl [Hf_dst]; · iexists _; iexact Hf_dst
    isplitl [Hf_src Hfr]
    · iapply (half_split c (arr (ak t.val)) (X (ak t.val)) (Ring.sl 2 t.val) (Ring.bk 4 (t.val % 4))).2; isplitl [Hf_src]; · iexact Hf_src
      iexact Hfr
    iexact Hfo
  isplitl [Hc Hr Hco]
  · isplitl [Hc]; · iexists _; iexact Hc
    isplitl [Hr]; · iexact Hr
    iexact Hco
  isplitl [Hb0 Hbs0 Hbw0]
  · isplitl [Hb0]; · iexact Hb0
    isplitl [Hbs0]; · iexact Hbs0
    iexact Hbw0
  iexists _; iexact HW

set_option maxHeartbeats 2000000 in
/-- The last point starts nothing. -/
theorem run_I (ht : t.val = 11) (W : Waits sig Unit) (K : PUnit → sProp 𝕄) :
    iprop((∃ d, owns (c : Thread nD τ) arg8 fullShare d) ∗ fill c X t.val
        ∗ (bdone c b1 Y1 1) ∗ owes (c : Thread nD τ) 0 W
        ∗ (iprop(owns (c : Thread nD τ) arg8 fullShare (k0_pay4 (ldA c X t) (ldB c Y0 Y1 t)) ∗ restAt c X (ak t.val) (Ring.sl 2 t.val)
            ∗ (bdone c b1 Y1 1) ∗ (∃ W', owes (c : Thread nD τ) 0 W')) -∗ K ⟨⟩))
      ⊢ wp frame (wpE (defs₀ (F := F)) Variants.none c none) Set.univ (cc0_dw_mlp (grid0.coords t) a0 (Memref.isWhole_whole _) a1 (Memref.isWhole_whole _) a2 (Memref.isWhole_whole _) b0 (Memref.isWhole_whole _) b1 (Memref.isWhole_whole _) arg6 harg6 arg7 harg7 arg8 harg8 scA (Memref.isWhole_whole _) scB (Memref.isWhole_whole _) cc0_scratch2 cc0_scratch3) K := by
  have h1 := mt (hc1 t).1 (by omega)
  have h5 := mt (hc5 t).1 (by omega)
  have h6 := mt (hc6 t).1 (by omega)
  have h7 := mt (hc7 t).1 (by omega)
  have h8 := mt (hc8 t).1 (by omega)
  have h9 := mt (hc9 t).1 (by omega)
  have h10 := mt (hc10 t).1 (by omega)
  have h11 := mt (hc11 t).1 (by omega)
  have h12 := (hc12 t).2 (by omega)
  have h13 := mt (hc13 t).1 (by omega)
  have h14 := mt (hc14 t).1 (by omega)
  have h15 := mt (hc15 t).1 (by omega)
  have h16 := mt (hc16 t).1 (by omega)
  have h17 := (hc17 t).2 (by omega)
  haveI : Fact (k0_cond12 (grid0.coords t) = 1#1) := ⟨h12⟩
  haveI : Fact (¬ t.val < 4) := ⟨by omega⟩
  simp only [cc0_dw_mlp_eq_skeleton]; unfold cc0_dw_mlp_skel
  simp only [k0_part1_eq_skeleton]; unfold k0_part1_skel
  unfold owns fill restAt
  iintro ⟨⟨%d1, %f1, -, H1⟩, ⟨⟨%ff, Hf⟩, Hfr, Hfo⟩, ⟨Hb0, Hbs0, Hbw0⟩, HW, Hk⟩
  sl_exec (disch := first | sl_exact h1 | sl_exact h5 | sl_exact h6 | sl_exact h7 | sl_exact h8 | sl_exact h9 | sl_exact h10 | sl_exact h11 | sl_exact h12 | sl_exact h13 | sl_exact h14 | sl_exact h15 | sl_exact h16 | sl_exact h17)
  sl_step
  iapply Hk
  isplitl [H1]
  · iexists _; isplitr; swap; · iexact H1
    ipureintro
    refine (View.read_writes_full _ _ _ _ _).trans ?_
    exact congrArg (fun y => k0_pay4 (ldA c X t) y) (ldB_ge c Y0 Y1 t (by omega)).symm
  isplitl [Hf Hf_dst Hf_src Hfr Hfo]
  · isplitl [Hf]; · iexact Hf
    isplitl [Hf_dst]; · iexists _; iexact Hf_dst
    isplitl [Hf_src Hfr]
    · iapply (half_split c (arr (ak t.val)) (X (ak t.val)) (Ring.sl 2 t.val) (Ring.bk 4 (t.val % 4))).2; isplitl [Hf_src]; · iexact Hf_src
      iexact Hfr
    iexact Hfo
  isplitl [Hb0 Hbs0 Hbw0]
  · isplitl [Hb0]; · iexact Hb0
    isplitl [Hbs0]; · iexact Hbs0
    iexact Hbw0
  iexists _; iexact HW
end Runs

end Cert.DwMlpIdeal.Own
-- ==== Proof.DwMlpIdealStep.lean ====
module

public import proofs.«01_k».proof.Proof.DwMlpIdealRun
public import proofs.«01_k».proof.Proof.DwMlpIdealRunB
public import Idealize.ShloMosaic.Lib.VecWindow

/-!
# The body of the MLP's weight-gradient kernel, at any point
What the buffers hold before a point is opened to what the point's case takes, and closed again to what the next point
finds; the windows the case does not write are handed back as they were.
-/

@[expose] public section
set_option maxRecDepth 16384
noncomputable section

namespace Cert.DwMlpIdeal.Own
open Cert.DwMlpIdeal Cert.DwMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Opening and closing what is held before a point -/

section State
variable (c : Dev nD) (X : (j : Fin 3) → Cont (F := F) c (arr j)) (Y0 : Cont (F := F) c b0) (Y1 : Cont (F := F) c b1)

theorem sl_two (k : ℕ) : Ring.sl 2 (k + 2) = Ring.sl 2 k := Fin.ext (by show (k + 2) % 2 = k % 2; omega)

theorem stA_zero (k : ℕ) (hk : k = 0) : stA c X k ⊢ iprop(restAt c X (ak k) (Ring.sl 2 k) ∗ restAt c X (ak (k + 1)) (Ring.sl 2 (k + 1))) := by
  unfold stA; rw [if_pos (Or.inl hk)]
  exact BIClass.sep_mono (restAt_zero c X _ _).1 (restAt_zero c X _ _).1
theorem stA_open (k : ℕ) (hk : 0 < k) (hk' : k < 12) : stA c X k ⊢ iprop(fill c X k ∗ restAt c X (ak (k + 1)) (Ring.sl 2 (k + 1))) := by
  unfold stA; rw [if_neg (by omega)]
  exact BIClass.sep_mono .rfl (restAt_zero c X _ _).1
theorem stA_next (k : ℕ) (hk : k + 1 < 12) : iprop(restAt c X (ak k) (Ring.sl 2 k) ∗ fill c X (k + 1)) ⊢ stA c X (k + 1) := by
  unfold stA; rw [if_neg (by omega), show k + 1 + 1 = k + 2 from rfl, sl_two]
  iintro ⟨H1, H2⟩
  isplitl [H2]; · iexact H2
  iapply (restAt_zero c X (ak k) _).2; iexact H1
theorem stA_last (k : ℕ) (hk : k + 1 = 12) :
    iprop(restAt c X (ak k) (Ring.sl 2 k) ∗ restAt c X (ak (k + 1)) (Ring.sl 2 (k + 1))) ⊢ stA c X (k + 1) := by
  unfold stA; rw [if_pos (Or.inr hk), show k + 1 + 1 = k + 2 from rfl, sl_two]
  iintro ⟨H1, H2⟩
  isplitl [H2]; · iapply (restAt_zero c X (ak (k + 1)) _).2; iexact H2
  iapply (restAt_zero c X (ak k) _).2; iexact H1

/-- A case's run, between what is held before its point and before the next one: `S` is the point's own slot, `N` the next
    slab's, `B` the pieces of the second buffer that the case takes and `E` those it leaves alone. -/
theorem step_of {k : ℕ} {P Q S N S' B B' E Wp Wp' Kp R : sProp 𝕄}
    (hA : stA c X k ⊢ iprop(S ∗ N)) (hA' : iprop(restAt c X (ak k) (Ring.sl 2 k) ∗ S') ⊢ stA c X (k + 1))
    (hB : iprop(stB0 c Y0 k ∗ stB1 c Y1 k) ⊢ iprop(B ∗ E)) (hB' : iprop(B' ∗ E) ⊢ iprop(stB0 c Y0 (k + 1) ∗ stB1 c Y1 (k + 1)))
    (hrun : iprop(P ∗ S ∗ N ∗ B ∗ Wp ∗ (iprop(Q ∗ restAt c X (ak k) (Ring.sl 2 k) ∗ S' ∗ B' ∗ Wp') -∗ Kp)) ⊢ R) :
    iprop(P ∗ (stA c X k ∗ stB0 c Y0 k ∗ stB1 c Y1 k) ∗ Wp
      ∗ (iprop(Q ∗ (stA c X (k + 1) ∗ stB0 c Y0 (k + 1) ∗ stB1 c Y1 (k + 1)) ∗ Wp') -∗ Kp)) ⊢ R := by
  iintro ⟨HP, ⟨HA, HB⟩, HW, Hk⟩
  ihave HA' := hA $$ HA
  icases HA' with ⟨HS, HN⟩
  ihave HB' := hB $$ HB
  icases HB' with ⟨HB, HE⟩
  iapply hrun
  isplitl [HP]; · iexact HP
  isplitl [HS]; · iexact HS
  isplitl [HN]; · iexact HN
  isplitl [HB]; · iexact HB
  isplitl [HW]; · iexact HW
  iintro ⟨HQ, HR, HS, HB, HW⟩
  iapply Hk
  isplitl [HQ]; · iexact HQ
  isplitr [HW]
  · isplitl [HR HS]
    · iapply hA'; isplitl [HR]; · iexact HR
      iexact HS
    · iapply hB'; isplitl [HB]; · iexact HB
      iexact HE
  iexact HW

theorem of_eq {P Q : sProp 𝕄} (e : P = Q) : P ⊢ Q := e ▸ .rfl
theorem sep_swap {P Q : sProp 𝕄} : iprop(P ∗ Q) ⊢ iprop(Q ∗ P) := by
  iintro ⟨HP, HQ⟩
  isplitl [HQ]; · iexact HQ
  iexact HP

/-- Where the second array of the second buffer is alone in use, the first is left alone. -/
theorem stB_one (k : ℕ) (hk : 5 ≤ k) : iprop(stB0 c Y0 k ∗ stB1 c Y1 k) ⊢ iprop(bdone c b1 Y1 1 ∗ bdone c b0 Y0 0) := by
  unfold stB0 stB1; rw [if_neg (by omega), if_neg (by omega), if_neg (by omega)]; exact sep_swap
theorem stB_one' (k : ℕ) (hk : 5 ≤ k) : iprop(bdone c b1 Y1 1 ∗ bdone c b0 Y0 0) ⊢ iprop(stB0 c Y0 k ∗ stB1 c Y1 k) := by
  unfold stB0 stB1; rw [if_neg (by omega), if_neg (by omega), if_neg (by omega)]; exact sep_swap
/-- While the second array is on its way, the first is in use. -/
theorem stB_fly (k : ℕ) (hk : 2 ≤ k) (hk' : k < 5) : iprop(stB0 c Y0 k ∗ stB1 c Y1 k) = iprop(bdone c b0 Y0 0 ∗ bfly c b1 Y1 1) := by
  unfold stB0 stB1; rw [if_neg (by omega), if_neg (by omega), if_pos hk']
end State

section Steps
variable (c : Dev nD) (t : Fin grid0.N) (X : (j : Fin 3) → Cont (F := F) c (arr j)) (Y0 : Cont (F := F) c b0) (Y1 : Cont (F := F) c b1)
    (arg6 : Memref sig .tc .vmem S1x704x1024 .bf16) (harg6 : arg6.IsWhole) (arg7 : Memref sig .tc .vmem S1x704x1024 .bf16) (harg7 : arg7.IsWhole)
    (arg8 : Memref sig .tc .vmem S1x704x1024 .bf16) (harg8 : arg8.IsWhole)

/-- What is held before step `k`. -/
def held (k : ℕ) : sProp 𝕄 := iprop(stA c X k ∗ stB0 c Y0 k ∗ stB1 c Y1 k)
/-- The body at point `t` on its operands. -/
abbrev bodyOn : Prog (TpuEff nD τ sig (Elt F) Λ₀ .tc) PUnit :=
  cc0_dw_mlp (grid0.coords t) a0 (Memref.isWhole_whole _) a1 (Memref.isWhole_whole _) a2 (Memref.isWhole_whole _) b0 (Memref.isWhole_whole _) b1 (Memref.isWhole_whole _) arg6 harg6 arg7 harg7 arg8 harg8 scA (Memref.isWhole_whole _) scB (Memref.isWhole_whole _) cc0_scratch2 cc0_scratch3

theorem step_0 (ht : t.val < 4) (W : Waits sig Unit) (K : PUnit → sProp 𝕄) :
    iprop((∃ d, owns (c : Thread nD τ) arg6 fullShare d) ∗ held c X Y0 Y1 t.val ∗ owes (c : Thread nD τ) 0 W
        ∗ (iprop(owns (c : Thread nD τ) arg6 fullShare (k0_pay2 (ldA c X t) (ldB c Y0 Y1 t)) ∗ held c X Y0 Y1 (t.val + 1) ∗ (∃ W', owes (c : Thread nD τ) 0 W')) -∗ K ⟨⟩))
      ⊢ wp frame (wpE (defs₀ (F := F)) Variants.none c none) Set.univ (bodyOn t arg6 harg6 arg7 harg7 arg8 harg8) K := by
  unfold held
  obtain h | h | h | h : t.val = 0 ∨ t.val = 1 ∨ t.val = 2 ∨ t.val = 3 := by omega
  · refine step_of c X Y0 Y1 (stA_zero c X _ h) (stA_next c X _ (by omega)) (B := bfree c b0 Y0 0) (E := bfree c b1 Y1 1) ?_ ?_ (run_A c t X Y0 Y1 arg6 harg6 arg7 harg7 arg8 harg8 h W K)
    · unfold stB0 stB1; rw [if_pos h, if_pos (by omega)]
    · unfold stB0 stB1; rw [if_neg (by omega), if_pos (by omega)]
  · refine step_of c X Y0 Y1 (stA_open c X _ (by omega) (by omega)) (stA_next c X _ (by omega)) (B := iprop(bdone c b0 Y0 0 ∗ bfree c b1 Y1 1)) (B' := iprop(bdone c b0 Y0 0 ∗ bfly c b1 Y1 1)) (E := iprop(emp)) ?_ ?_ ?_
    · unfold stB0 stB1; rw [if_neg (by omega), if_pos (by omega)]
      iintro H; isplitl [H]; · iexact H
      iempintro
    · rw [stB_fly c Y0 Y1 _ (by omega) (by omega)]
      iintro ⟨H, -⟩; iexact H
    · refine .trans ?_ (run_B c t X Y0 Y1 arg6 harg6 arg7 harg7 arg8 harg8 h W K)
      iintro ⟨HP, HS, HN, ⟨HB, HB1⟩, HW, Hk⟩
      isplitl [HP]; · iexact HP
      isplitl [HS]; · iexact HS
      isplitl [HN]; · iexact HN
      isplitl [HB]; · iexact HB
      isplitl [HB1]; · iexact HB1
      isplitl [HW]; · iexact HW
      iintro ⟨HQ, HR, HF, HB, HB1, HW⟩
      iapply Hk
      isplitl [HQ]; · iexact HQ
      isplitl [HR]; · iexact HR
      isplitl [HF]; · iexact HF
      isplitl [HB HB1]
      · isplitl [HB]; · iexact HB
        iexact HB1
      iexact HW
  · exact step_of c X Y0 Y1 (stA_open c X _ (by omega) (by omega)) (stA_next c X _ (by omega)) (of_eq (stB_fly c Y0 Y1 _ (by omega) (by omega))) (of_eq (stB_fly c Y0 Y1 _ (by omega) (by omega)).symm) (run_C c t X Y0 Y1 arg6 harg6 arg7 harg7 arg8 harg8 h W K)
  · exact step_of c X Y0 Y1 (stA_open c X _ (by omega) (by omega)) (stA_next c X _ (by omega)) (of_eq (stB_fly c Y0 Y1 _ (by omega) (by omega))) (of_eq (stB_fly c Y0 Y1 _ (by omega) (by omega)).symm) (run_D c t X Y0 Y1 arg6 harg6 arg7 harg7 arg8 harg8 h W K)

theorem step_1 (ht : 4 ≤ t.val) (ht' : t.val < 8) (W : Waits sig Unit) (K : PUnit → sProp 𝕄) :
    iprop((∃ d, owns (c : Thread nD τ) arg7 fullShare d) ∗ held c X Y0 Y1 t.val ∗ owes (c : Thread nD τ) 0 W
        ∗ (iprop(owns (c : Thread nD τ) arg7 fullShare (k0_pay3 (ldA c X t) (ldB c Y0 Y1 t)) ∗ held c X Y0 Y1 (t.val + 1) ∗ (∃ W', owes (c : Thread nD τ) 0 W')) -∗ K ⟨⟩))
      ⊢ wp frame (wpE (defs₀ (F := F)) Variants.none c none) Set.univ (bodyOn t arg6 harg6 arg7 harg7 arg8 harg8) K := by
  unfold held
  obtain h | h | h : t.val = 4 ∨ (5 ≤ t.val ∧ t.val < 7) ∨ t.val = 7 := by omega
  · refine step_of c X Y0 Y1 (stA_open c X _ (by omega) (by omega)) (stA_next c X _ (by omega)) ?_ (stB_one' c Y0 Y1 _ (by omega)) (run_E c t X Y0 Y1 arg6 harg6 arg7 harg7 arg8 harg8 h W K)
    rw [stB_fly c Y0 Y1 _ (by omega) (by omega)]; exact sep_swap
  · exact step_of c X Y0 Y1 (stA_open c X _ (by omega) (by omega)) (stA_next c X _ (by omega)) (stB_one c Y0 Y1 _ (by omega)) (stB_one' c Y0 Y1 _ (by omega)) (run_F c t X Y0 Y1 arg6 harg6 arg7 harg7 arg8 harg8 h W K)
  · exact step_of c X Y0 Y1 (stA_open c X _ (by omega) (by omega)) (stA_next c X _ (by omega)) (stB_one c Y0 Y1 _ (by omega)) (stB_one' c Y0 Y1 _ (by omega)) (run_G c t X Y0 Y1 arg6 harg6 arg7 harg7 arg8 harg8 h W K)

theorem step_2 (ht : 8 ≤ t.val) (W : Waits sig Unit) (K : PUnit → sProp 𝕄) :
    iprop((∃ d, owns (c : Thread nD τ) arg8 fullShare d) ∗ held c X Y0 Y1 t.val ∗ owes (c : Thread nD τ) 0 W
        ∗ (iprop(owns (c : Thread nD τ) arg8 fullShare (k0_pay4 (ldA c X t) (ldB c Y0 Y1 t)) ∗ held c X Y0 Y1 (t.val + 1) ∗ (∃ W', owes (c : Thread nD τ) 0 W')) -∗ K ⟨⟩))
      ⊢ wp frame (wpE (defs₀ (F := F)) Variants.none c none) Set.univ (bodyOn t arg6 harg6 arg7 harg7 arg8 harg8) K := by
  have hN : t.val < 12 := lt_of_lt_of_eq t.isLt N_0
  unfold held
  obtain h | h : (8 ≤ t.val ∧ t.val < 11) ∨ t.val = 11 := by omega
  · exact step_of c X Y0 Y1 (stA_open c X _ (by omega) (by omega)) (stA_next c X _ (by omega)) (stB_one c Y0 Y1 _ (by omega)) (stB_one' c Y0 Y1 _ (by omega)) (run_H c t X Y0 Y1 arg6 harg6 arg7 harg7 arg8 harg8 h W K)
  · refine step_of c X Y0 Y1 (stA_open c X _ (by omega) (by omega)) (stA_last c X _ (by omega)) (stB_one c Y0 Y1 _ (by omega)) (stB_one' c Y0 Y1 _ (by omega)) (.trans ?_ (run_I c t X Y0 Y1 arg6 harg6 arg7 harg7 arg8 harg8 h W K))
    iintro ⟨HP, HS, HN, HB, HW, Hk⟩
    isplitl [HP]; · iexact HP
    isplitl [HS]; · iexact HS
    isplitl [HB]; · iexact HB
    isplitl [HW]; · iexact HW
    iintro ⟨HQ, HR, HB, HW⟩
    iapply Hk
    isplitl [HQ]; · iexact HQ
    isplitl [HR]; · iexact HR
    isplitl [HN]; · iexact HN
    isplitl [HB]; · iexact HB
    iexact HW
end Steps

end Cert.DwMlpIdeal.Own

end
-- ==== Proof.DwMlpIdealBody.lean ====
module

public import proofs.«01_k».proof.Proof.DwMlpIdealStep
public import Idealize.ShloMosaic.Lib.Pipeline.FrameBody
public import Idealize.ShloMosaic.Lib.Pipeline.TableIdle
public import Idealize.ShloMosaic.Lib.VecWindow

/-!
# The MLP's weight-gradient kernel run to the end
The proof data of its pipeline, the body's obligation at every point, and the frame.
-/

@[expose] public section
set_option maxRecDepth 16384
noncomputable section

namespace Cert.DwMlpIdeal.Own
open Cert.DwMlpIdeal Cert.DwMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The three arrays that the slabs come from, as the region finds them. -/
def X (c : Dev nD) : (j : Fin 3) → Cont (F := F) c (arr j) := fun | 0 => V m c main_v25 | 1 => V m c main_v28 | 2 => V m c main_v31

/-- The point whose results a window holds at point `t`: `t` itself where the window is written, and the nearest such
    point elsewhere. -/
def cl (j : Fin 3) (t : Fin grid0.N) : Fin grid0.N :=
  ⟨max (4 * j.val) (min t.val (4 * j.val + 3)), lt_of_lt_of_eq (by have := j.isLt; have : t.val < 12 := lt_of_lt_of_eq t.isLt N_0; omega : _ < 12) N_0.symm⟩
theorem cl_of (j : Fin 3) (t : Fin grid0.N) (h : 4 * j.val ≤ t.val) (h' : t.val < 4 * j.val + 4) : cl j t = t :=
  Fin.ext (by show max _ (min _ _) = _; omega)
theorem cl_carry (j : Fin 3) (t : Fin grid0.N) (h0 : t.val ≠ 0) (h : ¬(4 * j.val ≤ t.val ∧ t.val < 4 * j.val + 4)) :
    cl j t = cl j ⟨t.val - 1, by have := t.isLt; omega⟩ :=
  Fin.ext (by show max _ (min _ _) = max _ (min (t.val - 1) _); omega)

/-- The region invariant before point `k`. -/
def PhiR (c : Dev nD) (k : ℕ) : sProp 𝕄 := iprop((∃ r, prngReg c r) ∗ held c (X m c) (V m c main_v32) (V m c main_v33) k)

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => k0_pay2 (ldA c (X m c) (cl 0 t)) (ldB c (V m c main_v32) (V m c main_v33) (cl 0 t))
    | ⟨1, _⟩ => k0_pay3 (ldA c (X m c) (cl 1 t)) (ldB c (V m c main_v32) (V m c main_v33) (cl 1 t))
    | ⟨2, _⟩ => k0_pay4 (ldA c (X m c) (cl 2 t)) (ldB c (V m c main_v32) (V m c main_v33) (cl 2 t))
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after_0 (c : Dev nD) (t : Fin cfg0.N) : (dats m 0 c).after 0 t = k0_pay2 (ldA c (X m c) (cl 0 t)) (ldB c (V m c main_v32) (V m c main_v33) (cl 0 t)) := by dsimp only [dats]
theorem after_1 (c : Dev nD) (t : Fin cfg0.N) : (dats m 0 c).after 1 t = k0_pay3 (ldA c (X m c) (cl 1 t)) (ldB c (V m c main_v32) (V m c main_v33) (cl 1 t)) := by dsimp only [dats]
theorem after_2 (c : Dev nD) (t : Fin cfg0.N) : (dats m 0 c).after 2 t = k0_pay4 (ldA c (X m c) (cl 2 t)) (ldB c (V m c main_v32) (V m c main_v33) (cl 2 t)) := by dsimp only [dats]

/-! ## Which points write which window -/

section Points
omit [FloatOps F]
theorem live_0 : ∀ t : Fin cfg0.N, 0 ≤ t.val → t.val < 4 → cfg0.idle 0 (grid0.coords t) = false := by decide +kernel
theorem idle_0 : ∀ t : Fin cfg0.N, ¬(0 ≤ t.val ∧ t.val < 4) → cfg0.idle 0 (grid0.coords t) = true := by decide +kernel
theorem keep_0 : ∀ t : Fin cfg0.N, 4 ≤ t.val ∧ t.val < 11 → (cfg0.win 0).flush t = false := by decide +kernel
theorem last_0 : ∀ t : Fin cfg0.N, t.val = 11 → (cfg0.win 0).flush t = true := by decide +kernel
theorem fresh_0 : ∀ t : Fin cfg0.N, t.val = 11 → cfg0.fresh 0 t.val = false := by decide +kernel
theorem live_1 : ∀ t : Fin cfg0.N, 4 ≤ t.val → t.val < 8 → cfg0.idle 1 (grid0.coords t) = false := by decide +kernel
theorem idle_1 : ∀ t : Fin cfg0.N, ¬(4 ≤ t.val ∧ t.val < 8) → cfg0.idle 1 (grid0.coords t) = true := by decide +kernel
theorem keep_1 : ∀ t : Fin cfg0.N, t.val < 4 ∨ (8 ≤ t.val ∧ t.val < 11) → (cfg0.win 1).flush t = false := by decide +kernel
theorem last_1 : ∀ t : Fin cfg0.N, t.val = 11 → (cfg0.win 1).flush t = true := by decide +kernel
theorem fresh_1 : ∀ t : Fin cfg0.N, t.val = 11 → cfg0.fresh 1 t.val = false := by decide +kernel
theorem live_2 : ∀ t : Fin cfg0.N, 8 ≤ t.val → t.val < 12 → cfg0.idle 2 (grid0.coords t) = false := by decide +kernel
theorem idle_2 : ∀ t : Fin cfg0.N, ¬(8 ≤ t.val ∧ t.val < 12) → cfg0.idle 2 (grid0.coords t) = true := by decide +kernel
theorem keep_2 : ∀ t : Fin cfg0.N, t.val < 8 → (cfg0.win 2).flush t = false := by decide +kernel
end Points

/-! ## What each window is left with -/

theorem stored_0 (c : Dev nD) (t : Fin cfg0.N) (h : 0 ≤ t.val) (h' : t.val < 4) :
    owns (c : Thread nD τ) (st0_0 t) fullShare (k0_pay2 (ldA c (X m c) t) (ldB c (V m c main_v32) (V m c main_v33) t)) ⊢ (dats m 0 c).leavesExact 0 t := by
  rw [show (dats m 0 c).leavesExact 0 t = owns (c : Thread nD τ) (st0_0 t) fullShare ((dats m 0 c).after 0 t) from by
    unfold Dat.leavesExact; rw [live_0 t h h'], after_0, cl_of 0 t h h']
theorem kept_0 (c : Dev nD) (t : Fin cfg0.N) (h : ¬(0 ≤ t.val ∧ t.val < 4)) :
    iprop(∃ d, owns (c : Thread nD τ) (st0_0 t) fullShare ((dats m 0 c).before 0 t d)) ⊢ (dats m 0 c).leavesExact 0 t := by
  have hN : t.val < 12 := lt_of_lt_of_eq t.isLt (show cfg0.N = 12 from N_0)
  by_cases h11 : t.val = 11
  · rw [show (dats m 0 c).leavesExact 0 t = owns (c : Thread nD τ) (st0_0 t) fullShare ((dats m 0 c).after 0 t) from by
      unfold Dat.leavesExact; rw [idle_0 t h, last_0 t h11]]
    have e : ∀ d, (dats m 0 c).before 0 t d = (dats m 0 c).after 0 t := fun d => by
      rw [(dats m 0 c).before_out_traj 0 rfl (fun _ _ => rfl) (fun s hs hi _ => by
        rw [after_0, after_0, cl_carry 0 s hs fun hh => by rw [live_0 s hh.1 hh.2] at hi; exact Bool.false_ne_true hi]) t.val t rfl d,
        fresh_0 t h11, if_neg Bool.false_ne_true, after_0, after_0, cl_carry 0 t (by omega) h]
    iintro ⟨%d, H⟩
    iapply (of_eq (congrArg (owns (c : Thread nD τ) (st0_0 t) fullShare) (e d))); iexact H
  · rw [Dat.leavesExact_idle (dats m 0 c) 0 t (idle_0 t h) (keep_0 t (by omega))]
theorem stored_1 (c : Dev nD) (t : Fin cfg0.N) (h : 4 ≤ t.val) (h' : t.val < 8) :
    owns (c : Thread nD τ) (st0_1 t) fullShare (k0_pay3 (ldA c (X m c) t) (ldB c (V m c main_v32) (V m c main_v33) t)) ⊢ (dats m 0 c).leavesExact 1 t := by
  rw [show (dats m 0 c).leavesExact 1 t = owns (c : Thread nD τ) (st0_1 t) fullShare ((dats m 0 c).after 1 t) from by
    unfold Dat.leavesExact; rw [live_1 t h h'], after_1, cl_of 1 t h h']
theorem kept_1 (c : Dev nD) (t : Fin cfg0.N) (h : ¬(4 ≤ t.val ∧ t.val < 8)) :
    iprop(∃ d, owns (c : Thread nD τ) (st0_1 t) fullShare ((dats m 0 c).before 1 t d)) ⊢ (dats m 0 c).leavesExact 1 t := by
  have hN : t.val < 12 := lt_of_lt_of_eq t.isLt (show cfg0.N = 12 from N_0)
  by_cases h11 : t.val = 11
  · rw [show (dats m 0 c).leavesExact 1 t = owns (c : Thread nD τ) (st0_1 t) fullShare ((dats m 0 c).after 1 t) from by
      unfold Dat.leavesExact; rw [idle_1 t h, last_1 t h11]]
    have e : ∀ d, (dats m 0 c).before 1 t d = (dats m 0 c).after 1 t := fun d => by
      rw [(dats m 0 c).before_out_traj 1 rfl (fun _ _ => rfl) (fun s hs hi _ => by
        rw [after_1, after_1, cl_carry 1 s hs fun hh => by rw [live_1 s hh.1 hh.2] at hi; exact Bool.false_ne_true hi]) t.val t rfl d,
        fresh_1 t h11, if_neg Bool.false_ne_true, after_1, after_1, cl_carry 1 t (by omega) h]
    iintro ⟨%d, H⟩
    iapply (of_eq (congrArg (owns (c : Thread nD τ) (st0_1 t) fullShare) (e d))); iexact H
  · rw [Dat.leavesExact_idle (dats m 0 c) 1 t (idle_1 t h) (keep_1 t (by omega))]
theorem stored_2 (c : Dev nD) (t : Fin cfg0.N) (h : 8 ≤ t.val) (h' : t.val < 12) :
    owns (c : Thread nD τ) (st0_2 t) fullShare (k0_pay4 (ldA c (X m c) t) (ldB c (V m c main_v32) (V m c main_v33) t)) ⊢ (dats m 0 c).leavesExact 2 t := by
  rw [show (dats m 0 c).leavesExact 2 t = owns (c : Thread nD τ) (st0_2 t) fullShare ((dats m 0 c).after 2 t) from by
    unfold Dat.leavesExact; rw [live_2 t h h'], after_2, cl_of 2 t h h']
theorem kept_2 (c : Dev nD) (t : Fin cfg0.N) (h : ¬(8 ≤ t.val ∧ t.val < 12)) :
    iprop(∃ d, owns (c : Thread nD τ) (st0_2 t) fullShare ((dats m 0 c).before 2 t d)) ⊢ (dats m 0 c).leavesExact 2 t := by
  have hN : t.val < 12 := lt_of_lt_of_eq t.isLt (show cfg0.N = 12 from N_0)
  rw [Dat.leavesExact_idle (dats m 0 c) 2 t (idle_2 t h) (keep_2 t (by omega))]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [PhiR_castSucc m c t, PhiR_succ m c t]
  unfold Dat.owesAt Pipeline.owesWithin
  rw [show (dats m 0 c).owed t.castSucc = 0 from rfl, show (dats m 0 c).owed t.succ = 0 from rfl]
  unfold PhiR
  have hN : t.val < 12 := lt_of_lt_of_eq t.isLt (show cfg0.N = 12 from N_0)
  obtain h | h | h : t.val < 4 ∨ (4 ≤ t.val ∧ t.val < 8) ∨ 8 ≤ t.val := by omega
  · iintro ⟨⟨Hg, HA⟩, ⟨%W, -, HW⟩, ⟨%d0, H0⟩, ⟨%d1, H1⟩, ⟨%d2, H2⟩⟩
    iapply (step_0 c t (X m c) (V m c main_v32) (V m c main_v33) _ _ _ _ _ _ (by omega) W _)
    isplitl [H0]; · iexists _; iexact H0
    isplitl [HA]; · iexact HA
    isplitl [HW]; · iexact HW
    iintro ⟨H0, HA, ⟨%W', HW⟩⟩
    isplitl [Hg HA]
    · isplitl [Hg]; · iexact Hg
      iexact HA
    isplitl [HW]
    · iexists W'; isplitr; · ipureintro; exact fun _ _ => Or.inl trivial
      iexact HW
    isplitl [H0]
    · iapply (stored_0 m c t (by omega) (by omega)); iexact H0
    isplitl [H1]
    · iapply (kept_1 m c t (by omega)); iexists d1; iexact H1
    iapply (kept_2 m c t (by omega)); iexists d2; iexact H2
  · iintro ⟨⟨Hg, HA⟩, ⟨%W, -, HW⟩, ⟨%d0, H0⟩, ⟨%d1, H1⟩, ⟨%d2, H2⟩⟩
    iapply (step_1 c t (X m c) (V m c main_v32) (V m c main_v33) _ _ _ _ _ _ (by omega) (by omega) W _)
    isplitl [H1]; · iexists _; iexact H1
    isplitl [HA]; · iexact HA
    isplitl [HW]; · iexact HW
    iintro ⟨H1, HA, ⟨%W', HW⟩⟩
    isplitl [Hg HA]
    · isplitl [Hg]; · iexact Hg
      iexact HA
    isplitl [HW]
    · iexists W'; isplitr; · ipureintro; exact fun _ _ => Or.inl trivial
      iexact HW
    isplitl [H0]
    · iapply (kept_0 m c t (by omega)); iexists d0; iexact H0
    isplitl [H1]
    · iapply (stored_1 m c t (by omega) (by omega)); iexact H1
    iapply (kept_2 m c t (by omega)); iexists d2; iexact H2
  · iintro ⟨⟨Hg, HA⟩, ⟨%W, -, HW⟩, ⟨%d0, H0⟩, ⟨%d1, H1⟩, ⟨%d2, H2⟩⟩
    iapply (step_2 c t (X m c) (V m c main_v32) (V m c main_v33) _ _ _ _ _ _ (by omega) W _)
    isplitl [H2]; · iexists _; iexact H2
    isplitl [HA]; · iexact HA
    isplitl [HW]; · iexact HW
    iintro ⟨H2, HA, ⟨%W', HW⟩⟩
    isplitl [Hg HA]
    · isplitl [Hg]; · iexact Hg
      iexact HA
    isplitl [HW]
    · iexists W'; isplitr; · ipureintro; exact fun _ _ => Or.inl trivial
      iexact HW
    isplitl [H0]
    · iapply (kept_0 m c t (by omega)); iexists d0; iexact H0
    isplitl [H1]
    · iapply (kept_1 m c t (by omega)); iexists d1; iexact H1
    iapply (stored_2 m c t (by omega) (by omega)); iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.DwMlpIdeal.Own

end
-- ==== Proof.DwMlpIdealFrame.lean ====
module

public import proofs.«01_k».proof.Proof.DwMlpIdealBody

/-!
# The launch of the MLP's weight-gradient kernel and its frame
The scratch buffers, the counters and the five arrays are handed to the region as what is held before the first point,
and come back after the last.
-/

@[expose] public section
set_option maxRecDepth 16384
noncomputable section

namespace Cert.DwMlpIdeal.Own
open Cert.DwMlpIdeal Cert.DwMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The counters and the arrays -/

/-- The body's own counters. -/
abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0) := by
  rw [Pipeline.ownSems0_eq_of_list c osem0 [0, 1, 2, 3] (by decide) (by decide)]; rfl
/-- The arrays the body copies from. -/
def H0 : Finset (Ref sig .tc) := {main_v25, main_v28, main_v31, main_v32, main_v33}
theorem H0_sub : H0 ⊆ Pipeline.restRefs sig spec0 := by decide
/-- An array whole, at what the region finds in it. -/
abbrev wholeAt (c : Dev nD) {sp : Space} {S : Shape} {e : EltTy} (M : Memref sig .tc sp S e) (f : Cont (F := F) c M) : sProp 𝕄 :=
  M.view.loc (c : Thread nD τ) ↦{fullShare} f
theorem hbmPts0_eq (c : Dev nD) :
    (bigSep H0 (fun b => ((c : Thread nD τ).loc b) ↦{fullShare} V m c b) : sProp 𝕄)
      = iprop(wholeAt c a0 (V m c main_v25) ∗ wholeAt c a1 (V m c main_v28) ∗ wholeAt c a2 (V m c main_v31)
          ∗ wholeAt c b0 (V m c main_v32) ∗ wholeAt c b1 (V m c main_v33)) := by
  rw [BI.bigSep_eq_bigSepL_of_eq [main_v25, main_v28, main_v31, main_v32, main_v33] (by decide) (by decide)]; rfl
theorem PhiD0_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ (∃ r, prngReg c r)
          ∗ (semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0)
          ∗ (wholeAt c a0 (V m c main_v25) ∗ wholeAt c a1 (V m c main_v28) ∗ wholeAt c a2 (V m c main_v31)
            ∗ wholeAt c b0 (V m c main_v32) ∗ wholeAt c b1 (V m c main_v33))) := by
  rw [Pipeline.ΦD_eq, scopedRest0_eq, ownSems00_eq, hbmPts0_eq]; try rfl

/-! ## The slots of the two scratch buffers -/

abbrev slotSet (s : Fin 2) : Finset S2x4096x704.Idx := (Rect.unit (s := S2x4096x704) ![s.val, 0, 0] S1x4096x704.size (inb_slot s)).set
theorem slotSet_eq (s : Fin 2) : (slot s).view.set = slotSet s := by
  simp only [slot, Memref.view_squeeze, View.set_reshape]; exact View.set_slice_whole _ _
theorem slots_disjoint (s s' : Fin 2) (h : s ≠ s') : Disjoint (slotSet s) (slotSet s') :=
  Ring.lead_disjoint (s := S2x4096x704) (0 : Fin 3) 1 (fun s : Fin 2 => (![s.val, 0, 0] : Fin 3 → Nat)) S1x4096x704.size inb_slot (fun s => by simp) rfl s s' h
theorem slots_cover : Finset.univ.biUnion slotSet = Finset.univ :=
  Ring.lead_cover (s := S2x4096x704) (0 : Fin 3) 1 (fun s : Fin 2 => (![s.val, 0, 0] : Fin 3 → Nat)) S1x4096x704.size inb_slot (fun s => by simp)
    (fun s a ha => by fin_cases a <;> first | exact absurd rfl ha | rfl) rfl (fun a ha => by fin_cases a <;> first | exact absurd rfl ha | rfl) rfl
theorem slotP_eq (c : Dev nD) (s : Fin 2) (f) : slotP (F := F) c s f = (((c : Thread nD τ).loc cc0_scratch0) ↦[slotSet s]{fullShare} f : sProp 𝕄) := by
  unfold slotP; rw [slotSet_eq]; rfl
set_option maxHeartbeats 1000000 in
theorem slots_in (c : Dev nD) : iprop(∃ f : Buf (Elt F) ((c : Thread nD τ).loc cc0_scratch0), ((c : Thread nD τ).loc cc0_scratch0) ↦{fullShare} f)
    ⊢ (iprop((∃ f, slotP (F := F) c 0 f) ∗ ∃ f, slotP (F := F) c 1 f) : sProp 𝕄) :=
  Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out (c : Dev nD) : (iprop((∃ f, slotP (F := F) c 0 f) ∗ ∃ f, slotP (F := F) c 1 f) : sProp 𝕄)
    ⊢ iprop(∃ f : Buf (Elt F) ((c : Thread nD τ).loc cc0_scratch0), ((c : Thread nD τ).loc cc0_scratch0) ↦{fullShare} f) :=
  Ring.slots2_join (U := Pipeline.UD sig nD τ) (ℓ := (c : Thread nD τ).loc cc0_scratch0) (q := fullShare) slotSet slots_disjoint slots_cover
    (slotP c 0) (slotP c 1) (slotP_eq c 0) (slotP_eq c 1)

abbrev bslotSet (s : Fin 2) : Finset S2x4096x1024.Idx := (Rect.unit (s := S2x4096x1024) ![s.val, 0, 0] S1x4096x1024.size (inb_bslot s)).set
theorem bslotSet_eq (s : Fin 2) : (bslot s).view.set = bslotSet s := by
  simp only [bslot, Memref.view_squeeze, View.set_reshape]; exact View.set_slice_whole _ _
theorem bslots_disjoint (s s' : Fin 2) (h : s ≠ s') : Disjoint (bslotSet s) (bslotSet s') :=
  Ring.lead_disjoint (s := S2x4096x1024) (0 : Fin 3) 1 (fun s : Fin 2 => (![s.val, 0, 0] : Fin 3 → Nat)) S1x4096x1024.size inb_bslot (fun s => by simp) rfl s s' h
theorem bslots_cover : Finset.univ.biUnion bslotSet = Finset.univ :=
  Ring.lead_cover (s := S2x4096x1024) (0 : Fin 3) 1 (fun s : Fin 2 => (![s.val, 0, 0] : Fin 3 → Nat)) S1x4096x1024.size inb_bslot (fun s => by simp)
    (fun s a ha => by fin_cases a <;> first | exact absurd rfl ha | rfl) rfl (fun a ha => by fin_cases a <;> first | exact absurd rfl ha | rfl) rfl
theorem bslotP_eq (c : Dev nD) (s : Fin 2) (f) : bslotP (F := F) c s f = (((c : Thread nD τ).loc cc0_scratch1) ↦[bslotSet s]{fullShare} f : sProp 𝕄) := by
  unfold bslotP; rw [bslotSet_eq]; rfl
set_option maxHeartbeats 1000000 in
theorem bslots_in (c : Dev nD) : iprop(∃ f : Buf (Elt F) ((c : Thread nD τ).loc cc0_scratch1), ((c : Thread nD τ).loc cc0_scratch1) ↦{fullShare} f)
    ⊢ (iprop((∃ f, bslotP (F := F) c 0 f) ∗ ∃ f, bslotP (F := F) c 1 f) : sProp 𝕄) :=
  Ring.slots2_split (U := Pipeline.UD sig nD τ) (ℓ := (c : Thread nD τ).loc cc0_scratch1) (q := fullShare) bslotSet bslots_disjoint bslots_cover
    (bslotP c 0) (bslotP c 1) (bslotP_eq c 0) (bslotP_eq c 1)
set_option maxHeartbeats 1000000 in
theorem bslots_out (c : Dev nD) : (iprop((∃ f, bslotP (F := F) c 0 f) ∗ ∃ f, bslotP (F := F) c 1 f) : sProp 𝕄)
    ⊢ iprop(∃ f : Buf (Elt F) ((c : Thread nD τ).loc cc0_scratch1), ((c : Thread nD τ).loc cc0_scratch1) ↦{fullShare} f) :=
  Ring.slots2_join (U := Pipeline.UD sig nD τ) (ℓ := (c : Thread nD τ).loc cc0_scratch1) (q := fullShare) bslotSet bslots_disjoint bslots_cover
    (bslotP c 0) (bslotP c 1) (bslotP_eq c 0) (bslotP_eq c 1)

/-- An array whole is its two half shares. -/
theorem halves (c : Dev nD) (M : Memref sig .tc .hbm S4x4096x704 .bf16) (f : Cont (F := F) c M) : wholeAt c M f ⊣⊢ iprop(halfP c M f 0 ∗ halfP c M f 1) :=
  pointsTo_share (PosShare.mem_left_op_right fullShare)
theorem whole_b0 (c : Dev nD) (f : Cont (F := F) c b0) : wholeAt c b0 f = wholeP c b0 f := by
  unfold wholeP; rw [show b0.view.set = Finset.univ from View.set_whole _]
theorem whole_b1 (c : Dev nD) (f : Cont (F := F) c b1) : wholeAt c b1 f = wholeP c b1 f := by
  unfold wholeP; rw [show b1.view.set = Finset.univ from View.set_whole _]

/-! ## Into the region and out of it -/

set_option maxHeartbeats 1000000 in
theorem hin (c : Dev nD) : Pipeline.ΦD osem0 spec0 H0 (V m) c ⊢ (dats m 0 c).Φ 0 := by
  rw [PhiD0_eq, show (dats m 0 c).Φ 0 = PhiR m c 0 from rfl]
  unfold PhiR held stA stB0 stB1
  rw [if_pos (Or.inl rfl), if_pos rfl, if_pos (by omega), whole_b0, whole_b1]
  rw [show Ring.sl 2 0 = 0 from rfl, show Ring.sl 2 (0 + 1) = 1 from rfl]
  unfold restAt oth cellP bfree cellBP
  rw [cellR_0, cellR_1, cellB_0, cellB_1]
  iintro ⟨⟨HS, HT⟩, Hg, ⟨Hq6, Hq7, Hq8, Hq9⟩, ⟨HA0, HA1, HA2, HB0, HB1⟩⟩
  ihave HS' := (slots_in (F := F) c) $$ HS
  icases HS' with ⟨HS0, HS1⟩
  ihave HT' := (bslots_in (F := F) c) $$ HT
  icases HT' with ⟨HT0, HT1⟩
  ihave HA0' := (halves (F := F) c a0 (V m c main_v25)).1 $$ HA0
  icases HA0' with ⟨HA00, HA01⟩
  ihave HA1' := (halves (F := F) c a1 (V m c main_v28)).1 $$ HA1
  icases HA1' with ⟨HA10, HA11⟩
  ihave HA2' := (halves (F := F) c a2 (V m c main_v31)).1 $$ HA2
  icases HA2' with ⟨HA20, HA21⟩
  isplitl [Hg]; · iexact Hg
  isplitl [HS0 HS1 HA00 HA01 HA10 HA11 HA20 HA21 Hq6 Hq7]
  · isplitl [HS0 HA00 HA10 HA20 Hq6]
    · isplitl [Hq6]; · iexact Hq6
      isplitl [HS0]; · iexact HS0
      isplitl [HA00]; · iexact HA00
      isplitl [HA10]; · iexact HA10
      iexact HA20
    · isplitl [Hq7]; · iexact Hq7
      isplitl [HS1]; · iexact HS1
      isplitl [HA01]; · iexact HA01
      isplitl [HA11]; · iexact HA11
      iexact HA21
  isplitl [Hq8 HT0 HB0]
  · isplitl [Hq8]; · iexact Hq8
    isplitl [HT0]; · iexact HT0
    iexact HB0
  · isplitl [Hq9]; · iexact Hq9
    isplitl [HT1]; · iexact HT1
    iexact HB1

set_option maxHeartbeats 1000000 in
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR held stA stB0 stB1
  rw [show grid0.N = 12 by rw [N_0], if_pos (Or.inr rfl), if_neg (by omega), if_neg (by omega), if_neg (by omega), whole_b0, whole_b1]
  rw [show Ring.sl 2 12 = 0 from rfl, show Ring.sl 2 (12 + 1) = 1 from rfl]
  unfold restAt oth cellP bdone cellBP
  rw [cellR_0, cellR_1, cellB_0, cellB_1]
  iintro ⟨Hg, ⟨⟨Hq6, HS0, HA00, HA10, HA20⟩, ⟨Hq7, HS1, HA01, HA11, HA21⟩⟩, ⟨Hq8, HT0, HB0⟩, ⟨Hq9, HT1, HB1⟩⟩
  isplitl [HS0 HS1 HT0 HT1]
  · isplitl [HS0 HS1]
    · iapply (slots_out (F := F) c); isplitl [HS0]; · iexact HS0
      iexact HS1
    · iapply (bslots_out (F := F) c); isplitl [HT0]; · iexists _; iexact HT0
      iexists _; iexact HT1
  isplitl [Hg]; · iexact Hg
  isplitl [Hq6 Hq7 Hq8 Hq9]
  · isplitl [Hq6]; · iexact Hq6
    isplitl [Hq7]; · iexact Hq7
    isplitl [Hq8]; · iexact Hq8
    iexact Hq9
  isplitl [HA00 HA01]
  · iapply (halves (F := F) c a0 (V m c main_v25)).2; isplitl [HA00]; · iexact HA00
    iexact HA01
  isplitl [HA10 HA11]
  · iapply (halves (F := F) c a1 (V m c main_v28)).2; isplitl [HA10]; · iexact HA10
    iexact HA11
  isplitl [HA20 HA21]
  · iapply (halves (F := F) c a2 (V m c main_v31)).2; isplitl [HA20]; · iexact HA20
    iexact HA21
  isplitl [HB0]; · iexact HB0
  iexact HB1

/-! ## The run and the frame -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- The frame: it runs, its argument arrays end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.DwMlpIdeal.Own

end
-- ==== Proof.DwMlpPoint.lean ====
module
public import proofs.«01_k».proof.Proof.DwMlpIdealFrame
public import proofs.«01_k».proof.Proof.DwMlpMath
public import Idealize.ShloMosaic.Lib.Pipeline.ValueKit
public import Idealize.ShloMosaic.Lib.Pointwise

/-!
# The MLP's weight-gradient kernel: its results

At each point the kernel writes the transpose of one slab times one whole array; the slab of the first array meets the
first of the whole arrays, the slabs of the other two the second.
-/

@[expose] public section
set_option maxRecDepth 16384
noncomputable section
open Idealize.ShloMosaic Idealize.ShloMosaic.TcCoe Idealize.SL.Sem
open Idealize.ShloMosaic.Pipeline (Dat)
open scoped BigOperators
namespace Cert.DwMlpIdeal.Own
open Cert.DwMlpIdeal Cert.DwMlpIdeal.Gen

section Loads
variable (c : Dev nD) (X : (j : Fin 3) → Cont (F := Ideal) c (arr j)) (Y0 : Cont (F := Ideal) c b0) (Y1 : Cont (F := Ideal) c b1)

/-- Dropping a leading axis of one element leaves the two others. -/
theorem squeeze_slab (h : S4096x704.numel = S1x4096x704.numel) (r : Fin 4096) (q : Fin 704) :
    Shape.reshapeEquiv h (ix2 r q) = (ix3 (0 : Fin 1) r q : S1x4096x704.Idx) :=
  Shape.reshapeEquiv_eq_of_rowMajor h (by
    rw [Shape.rowMajor_val_three, Shape.rowMajor_val_two]; show ((0 : ℕ) * 4096 + r.val) * 704 + q.val = r.val * 704 + q.val; omega)
theorem squeeze_whole (h : S4096x1024.numel = S1x4096x1024.numel) (r : Fin 4096) (d : Fin 1024) :
    Shape.reshapeEquiv h (ix2 r d) = (ix3 (0 : Fin 1) r d : S1x4096x1024.Idx) :=
  Shape.reshapeEquiv_eq_of_rowMajor h (by
    rw [Shape.rowMajor_val_three, Shape.rowMajor_val_two]; show ((0 : ℕ) * 4096 + r.val) * 1024 + d.val = r.val * 1024 + d.val; omega)

/-- An array's slab, read at an index. -/
theorem slab_at (M : Memref sig .tc .hbm S4x4096x704 .bf16) (f : Cont (F := Ideal) c M) (b : Fin 4) (r : Fin 4096) (q : Fin 704) :
    (slab M b).view.read (Elt Ideal) f (ix2 r q) = M.view.read (Elt Ideal) f (ix3 b r q) := by
  show M.view.read (Elt Ideal) f ((Rect.unit (s := S4x4096x704) ![b.val, 0, 0] S1x4096x704.size (inb_src b)).emb (Shape.reshapeEquiv _ (ix2 r q))) = _
  rw [squeeze_slab]
  exact congrArg (M.view.read (Elt Ideal) f) (by funext a; fin_cases a <;> exact Fin.ext (by simp [ValueKit.rect_emb_unit_val]))

/-- A load of the first scratch buffer at a slot's place reads the slot. -/
theorem load_slot (s : Fin 2) (off : Fin 3 → ℕ) (h : off = ![s.val, 0, 0]) (p) (f : Cont (F := Ideal) c (slot s)) (r : Fin 4096) (q : Fin 704) :
    View.readAt (Elt Ideal) scA.view (Rect.unit (s := S2x4096x704) off S1x4096x704.size p).toLoadRect f (ix3 0 r q)
      = (slot s).view.read (Elt Ideal) f (ix2 r q) := by
  subst h
  show _ = scA.view.read (Elt Ideal) f ((Rect.unit (s := S2x4096x704) ![s.val, 0, 0] S1x4096x704.size (inb_slot s)).emb (Shape.reshapeEquiv _ (ix2 r q)))
  rw [squeeze_slab]; rfl
theorem load_bslot (s : Fin 2) (off : Fin 3 → ℕ) (h : off = ![s.val, 0, 0]) (p) (f : Cont (F := Ideal) c (bslot s)) (r : Fin 4096) (d : Fin 1024) :
    View.readAt (Elt Ideal) scB.view (Rect.unit (s := S2x4096x1024) off S1x4096x1024.size p).toLoadRect f (ix3 0 r d)
      = (bslot s).view.read (Elt Ideal) f (ix2 r d) := by
  subst h
  show _ = scB.view.read (Elt Ideal) f ((Rect.unit (s := S2x4096x1024) ![s.val, 0, 0] S1x4096x1024.size (inb_bslot s)).emb (Shape.reshapeEquiv _ (ix2 r d)))
  rw [squeeze_whole]; rfl

theorem four (t : Fin grid0.N) : Ring.bk 4 (t.val % 4) = (⟨t.val % 4, Nat.mod_lt _ (by omega)⟩ : Fin 4) := Fin.ext (Nat.mod_mod _ _)

/-- What point `t` loads of its slab, -/
theorem ldA_at (t : Fin grid0.N) (r : Fin 4096) (q : Fin 704) :
    ldA c X t (ix3 0 r q) = (arr (ak t.val)).view.read (Elt Ideal) (X (ak t.val)) (ix3 (⟨t.val % 4, Nat.mod_lt _ (by omega)⟩ : Fin 4) r q) := by
  unfold ldA
  rw [load_slot c (Ring.sl 2 t.val) _ (off_28 t), ← four, ← slab_at]
  exact congrFun (View.read_writes_full _ _ (off := fun _ => 0) (fun a => by simp) _ []) (ix2 r q)
/-- and of the array it multiplies the slab with. -/
theorem ldB_first (t : Fin grid0.N) (h : t.val < 4) (r : Fin 4096) (d : Fin 1024) :
    ldB c Y0 Y1 t (ix3 0 r d) = b0.view.read (Elt Ideal) Y0 (ix2 r d) := by
  rw [ldB_lt c Y0 Y1 t h, load_bslot c 0 _ (off_29 t h)]
  exact congrFun (View.read_writes_full _ _ (off := fun _ => 0) (fun a => by simp) _ []) (ix2 r d)
theorem ldB_second (t : Fin grid0.N) (h : ¬t.val < 4) (r : Fin 4096) (d : Fin 1024) :
    ldB c Y0 Y1 t (ix3 0 r d) = b1.view.read (Elt Ideal) Y1 (ix2 r d) := by
  rw [ldB_ge c Y0 Y1 t h, load_bslot c 1 _ (off_29' t h)]
  exact congrFun (View.read_writes_full _ _ (off := fun _ => 0) (fun a => by simp) _ []) (ix2 r d)
end Loads

theorem pay2_at (a : Vec Ideal S1x4096x704 .bf16) (b : Vec Ideal S1x4096x1024 .bf16) (q : Fin 704) (d : Fin 1024) :
    k0_pay2 (F := Ideal) a b (ix3 0 q d) = ∑ r : Fin 4096, a (ix3 0 r q) * b (ix3 0 r d) := by
  pointwise [k0_pay2, k0_pay1]
theorem pay3_at (a : Vec Ideal S1x4096x704 .bf16) (b : Vec Ideal S1x4096x1024 .bf16) (q : Fin 704) (d : Fin 1024) :
    k0_pay3 (F := Ideal) a b (ix3 0 q d) = ∑ r : Fin 4096, a (ix3 0 r q) * b (ix3 0 r d) := by
  pointwise [k0_pay3, k0_pay1]
theorem pay4_at (a : Vec Ideal S1x4096x704 .bf16) (b : Vec Ideal S1x4096x1024 .bf16) (q : Fin 704) (d : Fin 1024) :
    k0_pay4 (F := Ideal) a b (ix3 0 q d) = ∑ r : Fin 4096, a (ix3 0 r q) * b (ix3 0 r d) := by
  pointwise [k0_pay4, k0_pay1]

/-- The transposes of an array's slabs times another array. -/
def prod (a : FVec Ideal S4x4096x704 .bf16) (b : FVec Ideal S4096x1024 .bf16) : FVec Ideal S4x704x1024 .bf16 := fun i =>
  ∑ r : Fin 4096, a (ix3 (i 0) r (i 1)) * b (ix2 r (i 2))

variable (m : (ℓ : Loc nD τ sig) → Buf (Elt Ideal) ℓ)

theorem mod_lt (t : Fin grid0.N) : t.val % 4 < 4 := Nat.mod_lt _ (by omega)

/-- Which block each window is on at each point. -/
theorem idx : ∀ t : Fin cfg0.N,
    win0_0.index t = ![(cl 0 t).val % 4, 0, 0] ∧ win0_1.index t = ![(cl 1 t).val % 4, 0, 0] ∧ win0_2.index t = ![(cl 2 t).val % 4, 0, 0] :=
  (by decide +kernel : ∀ t : Fin grid0.N, _)
/-- Which array the point that a window keeps reads. -/
theorem ak_cl : ∀ (j : Fin 3) (t : Fin grid0.N), ak (cl j t).val = j := by decide +kernel
theorem cl_first : ∀ t : Fin grid0.N, (cl 0 t).val < 4 := by decide +kernel
theorem cl_later : ∀ t : Fin grid0.N, ¬(cl 1 t).val < 4 ∧ ¬(cl 2 t).val < 4 := by decide +kernel

theorem X_at (c : Dev nD) (j : Fin 3) (t : Fin grid0.N) (s : Fin 4) (r : Fin 4096) (q : Fin 704) :
    (arr (ak (cl j t).val)).view.read (Elt Ideal) (X m c (ak (cl j t).val)) (ix3 s r q) = (arr j).view.read (Elt Ideal) (X m c j) (ix3 s r q) := by
  rw [ak_cl]

theorem final0 (c : Dev nD) : (dats m 0 c).arrAt 0 (cfgs 0).N = prod (V25 m c) (V32 m c) := by
  refine (dats m 0 c).arrAt_eq_of_covers 0 _ (by decide +kernel) fun t hf y => ?_
  obtain ⟨q, d, rfl⟩ : ∃ (q : Fin 704) (d : Fin 1024), y = ix3 0 q d := ⟨y 1, y 2, by funext a; fin_cases a; exacts [Subsingleton.elim (α := Fin 1) _ _, rfl, rfl]⟩
  have e : (win0_0.blk t).view.emb (ix3 0 q d) = ix3 (⟨_, mod_lt (cl 0 t)⟩ : Fin 4) q d := by
    funext a; fin_cases a <;> exact Fin.ext (by blk_simp [idx t]; rfl)
  blk_simp; rw [after_0]
  refine (pay2_at _ _ q d).trans (.trans (Finset.sum_congr rfl fun r _ => ?_) (congrArg (prod (V25 m c) (V32 m c)) e.symm))
  rw [ldA_at, X_at, ldB_first _ _ _ _ (cl_first t)]; rfl
theorem final1 (c : Dev nD) : (dats m 0 c).arrAt 1 (cfgs 0).N = prod (V28 m c) (V33 m c) := by
  refine (dats m 0 c).arrAt_eq_of_covers 1 _ (by decide +kernel) fun t hf y => ?_
  obtain ⟨q, d, rfl⟩ : ∃ (q : Fin 704) (d : Fin 1024), y = ix3 0 q d := ⟨y 1, y 2, by funext a; fin_cases a; exacts [Subsingleton.elim (α := Fin 1) _ _, rfl, rfl]⟩
  have e : (win0_1.blk t).view.emb (ix3 0 q d) = ix3 (⟨_, mod_lt (cl 1 t)⟩ : Fin 4) q d := by
    funext a; fin_cases a <;> exact Fin.ext (by blk_simp [idx t]; rfl)
  blk_simp; rw [after_1]
  refine (pay3_at _ _ q d).trans (.trans (Finset.sum_congr rfl fun r _ => ?_) (congrArg (prod (V28 m c) (V33 m c)) e.symm))
  rw [ldA_at, X_at, ldB_second _ _ _ _ (cl_later t).1]; rfl
theorem final2 (c : Dev nD) : (dats m 0 c).arrAt 2 (cfgs 0).N = prod (V31 m c) (V33 m c) := by
  refine (dats m 0 c).arrAt_eq_of_covers 2 _ (by decide +kernel) fun t hf y => ?_
  obtain ⟨q, d, rfl⟩ : ∃ (q : Fin 704) (d : Fin 1024), y = ix3 0 q d := ⟨y 1, y 2, by funext a; fin_cases a; exacts [Subsingleton.elim (α := Fin 1) _ _, rfl, rfl]⟩
  have e : (win0_2.blk t).view.emb (ix3 0 q d) = ix3 (⟨_, mod_lt (cl 2 t)⟩ : Fin 4) q d := by
    funext a; fin_cases a <;> exact Fin.ext (by blk_simp [idx t]; rfl)
  blk_simp; rw [after_2]
  refine (pay4_at _ _ q d).trans (.trans (Finset.sum_congr rfl fun r _ => ?_) (congrArg (prod (V31 m c) (V33 m c)) e.symm))
  rw [ldA_at, X_at, ldB_second _ _ _ _ (cl_later t).2]; rfl
end Cert.DwMlpIdeal.Own
-- ==== Proof.DwMlpRefRead.lean ====
module
public import proofs.«01_k».proof.Proof.DwMlpMath
public import proofs.«01_k».proof.Proof.Gen.DwMlpRefIdeal.Read

/-!
# The MLP's weight-gradient reference, read at an index
-/

@[expose] public section
set_option maxRecDepth 16384
noncomputable section
open Idealize.ShloMosaic Idealize.ShloMosaic.TcCoe Idealize.SL.Sem
open scoped BigOperators
namespace Cert.DwMlpIdeal.Own
open Cert.DwMlpIdeal Cert.BlockMath Cert.DwMlpRefIdeal.Read
variable (x : FVec Ideal S4096x1024 .f32) (g : FVec Ideal S1x1024 .f32) (wg wu : FVec Ideal S1x1024x2816 .f32) (wd : FVec Ideal S1x2816x1024 .f32)
  (dx : FVec Ideal S4096x1024 .f32)

theorem h_at (r : Fin 4096) (d : Fin 1024) : val_main_v11 (F := Ideal) x g (ix2 r d) = hrow x g r d := by
  unfold hrow rs ms
  pointwise [val_main_v0, val_main_v1, val_main_v2, val_main_v3, val_main_v4, val_main_v5, val_main_v6, val_main_v7, val_main_v8, val_main_v9,
    val_main_v10, val_main_v11, val_main_cst, val_main_cst_0, val_main_cst_1]
theorem gate_at (r : Fin 4096) (f : Fin 2816) : val_main_v13 (F := Ideal) x g wg (ix2 r f) = Gt x g wg r f := by
  unfold Gt; simp only [← h_at]
  pointwise [val_main_v12, val_main_v13]
theorem up_at (r : Fin 4096) (f : Fin 2816) : val_main_v16 (F := Ideal) x g wu (ix2 r f) = Gt x g wu r f := by
  unfold Gt; simp only [← h_at]
  pointwise [val_main_v15, val_main_v16]
theorem sg_at (r : Fin 4096) (f : Fin 2816) : val_main_v14_2 (F := Ideal) x g wg (ix2 r f) = sg (Gt x g wg r f) := by
  unfold sg; rw [← gate_at]
  pointwise [val_main_v14_2, val_main_call0_v0, val_main_call0_v1, val_main_call0_v2, val_main_call0_v3, val_main_call0_v4,
    val_main_call0_cst, val_main_call0_cst_0]
theorem silu_at (r : Fin 4096) (f : Fin 2816) : val_main_v14_0 (F := Ideal) x g wg (ix2 r f) = Gt x g wg r f * sg (Gt x g wg r f) := by
  rw [← sg_at, ← gate_at]
  pointwise [val_main_v14_0]
theorem dsg_at (r : Fin 4096) (f : Fin 2816) : val_main_v14_1 (F := Ideal) x g wg (ix2 r f) = sg (Gt x g wg r f) * (1 - sg (Gt x g wg r f)) := by
  rw [← sg_at]
  pointwise [val_main_v14_1, val_main_call0_v6, val_main_call0_v7, val_main_call0_cst_1]
theorem act_at (r : Fin 4096) (f : Fin 2816) : val_main_v17 (F := Ideal) x g wg wu (ix2 r f) = act x g wg wu r f := by
  unfold act; rw [← silu_at, ← up_at x g wu]
  pointwise [val_main_v17]
theorem dact_at (r : Fin 4096) (f : Fin 2816) : val_main_v22 (F := Ideal) wd dx (ix2 r f) = dact wd dx r f := by
  unfold dact
  pointwise [val_main_v18, val_main_v22]
theorem dup_at (r : Fin 4096) (f : Fin 2816) : val_main_v24 (F := Ideal) x g wg wd dx (ix2 r f) = dup x g wg wd dx r f := by
  unfold dup; rw [← silu_at, ← dact_at]
  pointwise [val_main_v24]
theorem dgt_at (r : Fin 4096) (f : Fin 2816) : val_main_v29 (F := Ideal) x g wg wu wd dx (ix2 r f) = dgt x g wg wu wd dx r f := by
  unfold dgt; rw [← dsg_at, ← sg_at, ← gate_at x g wg, ← up_at x g wu, ← dact_at]
  pointwise [val_main_v29, val_main_call1_v0, val_main_call1_v1, val_main_call1_v2, val_main_v25]

theorem down_at (s : Fin 4) (f : Fin 704) (d : Fin 1024) : val_main_v35 (F := Ideal) x g wg wu dx (ix3 s f d)
    = ∑ r, dx (ix2 r d) * act x g wg wu r (col s f) := by
  simp only [← act_at]
  pointwise [val_main_v20, val_main_v21, val_main_v23, val_main_v33, val_main_v34, val_main_v35]
theorem gateGrad_at (s : Fin 4) (f : Fin 704) (d : Fin 1024) : val_main_v39 (F := Ideal) x g wg wu wd dx (ix3 s f d)
    = ∑ r, dgt x g wg wu wd dx r (col s f) * hrow x g r d := by
  simp only [← dgt_at, ← h_at]
  pointwise [val_main_v30, val_main_v31, val_main_v32, val_main_v36, val_main_v37, val_main_v38, val_main_v39]
theorem upGrad_at (s : Fin 4) (f : Fin 704) (d : Fin 1024) : val_main_v43 (F := Ideal) x g wg wd dx (ix3 s f d)
    = ∑ r, dup x g wg wd dx r (col s f) * hrow x g r d := by
  simp only [← dup_at, ← h_at]
  pointwise [val_main_v26, val_main_v27, val_main_v28, val_main_v40, val_main_v41, val_main_v42, val_main_v43]
end Cert.DwMlpIdeal.Own
-- ==== Proof.DwMlpEq.lean ====
module
public import proofs.«01_k».proof.Proof.DwMlpHost
public import proofs.«01_k».proof.Proof.DwMlpPoint
public import proofs.«01_k».proof.Proof.DwMlpRefRead

/-!
# The MLP's weight-gradient kernel and its reference compute the same
-/

@[expose] public section
set_option maxRecDepth 16384
noncomputable section
open Idealize.ShloMosaic Idealize.ShloMosaic.TcCoe Idealize.SL.Sem
open scoped BigOperators
namespace Cert.DwMlpIdeal.Own
open Cert.DwMlpIdeal Cert.BlockMath Cert.DwMlpRefIdeal.Read
variable (m : (ℓ : Loc nD τ sig) → Buf (Elt Ideal) ℓ) (c : Dev nD)

theorem eq0 : prod (V25 m c) (V32 m c) = val_main_v35 (F := Ideal) (A0 m c) (A1 m c) (A2 m c) (A3 m c) (A5 m c) := by
  funext i
  obtain ⟨s, f, d, rfl⟩ : ∃ (s : Fin 4) (f : Fin 704) (d : Fin 1024), i = ix3 s f d := ⟨i 0, i 1, i 2, by funext a; fin_cases a <;> rfl⟩
  rw [down_at]
  refine Finset.sum_congr rfl fun r _ => ?_
  show V25 m c (ix3 s r f) * V32 m c (ix2 r d) = _
  rw [v25_at, v32_at, mul_comm]
theorem eq1 : prod (V28 m c) (V33 m c) = val_main_v39 (F := Ideal) (A0 m c) (A1 m c) (A2 m c) (A3 m c) (A4 m c) (A5 m c) := by
  funext i
  obtain ⟨s, f, d, rfl⟩ : ∃ (s : Fin 4) (f : Fin 704) (d : Fin 1024), i = ix3 s f d := ⟨i 0, i 1, i 2, by funext a; fin_cases a <;> rfl⟩
  rw [gateGrad_at]
  refine Finset.sum_congr rfl fun r _ => ?_
  show V28 m c (ix3 s r f) * V33 m c (ix2 r d) = _
  rw [v28_at, v33_at]
theorem eq2 : prod (V31 m c) (V33 m c) = val_main_v43 (F := Ideal) (A0 m c) (A1 m c) (A2 m c) (A4 m c) (A5 m c) := by
  funext i
  obtain ⟨s, f, d, rfl⟩ : ∃ (s : Fin 4) (f : Fin 704) (d : Fin 1024), i = ix3 s f d := ⟨i 0, i 1, i 2, by funext a; fin_cases a <;> rfl⟩
  rw [upGrad_at]
  refine Finset.sum_congr rfl fun r _ => ?_
  show V31 m c (ix3 s r f) * V33 m c (ix2 r d) = _
  rw [v31_at, v33_at]
end Cert.DwMlpIdeal.Own
-- ==== Proof.DwMlpClaim.lean ====
module
public import proofs.«01_k».proof.Defs
public import proofs.«01_k».proof.Proof.DwMlpEq
public import proofs.«01_k».proof.Proof.ClaimMath
public import proofs.«01_k».proof.Proof.Gen.DwMlpRefIdeal.Run
public import proofs.«01_k».proof.Proof.DwMlpFrame

/-!
# The claims about the MLP's weight-gradient kernel

The reference leaves its arguments alone, and its three results are the kernel's.
-/

@[expose] public section
set_option maxRecDepth 16384
noncomputable section
open Idealize.ShloMosaic Idealize.ShloMosaic.TcCoe Idealize.SL.Sem
open Idealize.ShloMosaic.Pipeline (Dat)
open scoped BigOperators
namespace Cert.DwMlpIdeal.Own
open Cert.DwMlpIdeal Cert.DwMlpIdeal.Gen Cert.ClaimMath

theorem frame_ref : Cert.quiescent_DwMlpRefIdeal := fun m ρ _ =>
  (θ_run Cert.DwMlpRefIdeal.defs _ _).mono (fun r h => ⟨fun c => (h c).2.2.2, sem_eq_zero_of_no_sems (by decide) r.2⟩)
    (Cert.DwMlpRefIdeal.Value.run m ρ)

set_option maxHeartbeats 1600000 in
theorem value : Cert.algebraic_DwMlpIdeal_DwMlpRefIdeal := by
  intro m g m' g' hp hag
  refine ⟨fun c => prod (V25 m c) (V32 m c), fun c => prod (V28 m c) (V33 m c), fun c => prod (V31 m c) (V33 m c), ?_, ?_⟩
  · refine (θ_run defs _ _).mono (fun r h c => ?_) (θ_run_and (run_main m g) (frame_of m g (dats m) (A_eq m) (run_main m g)))
    exact ⟨((h.1 c).1 0).trans (final0 m c), ((h.1 c).1 1).trans (final1 m c), ((h.1 c).1 2).trans (final2 m c), h.2 c⟩
  · refine (θ_run Cert.DwMlpRefIdeal.defs _ _).mono (fun r h c => ?_) (Cert.DwMlpRefIdeal.Value.run m' g')
    obtain ⟨a0, a1, a2, a3, a4, a5⟩ := hag c
    obtain ⟨r0, r1, r2, ra⟩ := h c
    have s0 := (Cert.DwMlpRefIdeal.Read.val_main_v35_eq (F := Ideal) (m' ((c.tc : Thread Cert.DwMlpRefIdeal.nD Cert.DwMlpRefIdeal.τ).loc Cert.DwMlpRefIdeal.main_arg0)) (m' ((c.tc : Thread Cert.DwMlpRefIdeal.nD Cert.DwMlpRefIdeal.τ).loc Cert.DwMlpRefIdeal.main_arg1)) (m' ((c.tc : Thread Cert.DwMlpRefIdeal.nD Cert.DwMlpRefIdeal.τ).loc Cert.DwMlpRefIdeal.main_arg2)) (m' ((c.tc : Thread Cert.DwMlpRefIdeal.nD Cert.DwMlpRefIdeal.τ).loc Cert.DwMlpRefIdeal.main_arg3)) (m' ((c.tc : Thread Cert.DwMlpRefIdeal.nD Cert.DwMlpRefIdeal.τ).loc Cert.DwMlpRefIdeal.main_arg5))).trans
      (five a0 a1 a2 a3 a5 Cert.DwMlpRefIdeal.Read.val_main_v35 (eq0 m c))
    have s1 := (Cert.DwMlpRefIdeal.Read.val_main_v39_eq (F := Ideal) m' c).trans
      (six a0 a1 a2 a3 a4 a5 Cert.DwMlpRefIdeal.Read.val_main_v39 (eq1 m c))
    have s2 := (Cert.DwMlpRefIdeal.Read.val_main_v43_eq (F := Ideal) (m' ((c.tc : Thread Cert.DwMlpRefIdeal.nD Cert.DwMlpRefIdeal.τ).loc Cert.DwMlpRefIdeal.main_arg0)) (m' ((c.tc : Thread Cert.DwMlpRefIdeal.nD Cert.DwMlpRefIdeal.τ).loc Cert.DwMlpRefIdeal.main_arg1)) (m' ((c.tc : Thread Cert.DwMlpRefIdeal.nD Cert.DwMlpRefIdeal.τ).loc Cert.DwMlpRefIdeal.main_arg2)) (m' ((c.tc : Thread Cert.DwMlpRefIdeal.nD Cert.DwMlpRefIdeal.τ).loc Cert.DwMlpRefIdeal.main_arg4)) (m' ((c.tc : Thread Cert.DwMlpRefIdeal.nD Cert.DwMlpRefIdeal.τ).loc Cert.DwMlpRefIdeal.main_arg5))).trans
      (five a0 a1 a2 a4 a5 Cert.DwMlpRefIdeal.Read.val_main_v43 (eq2 m c))
    exact ⟨r0.trans s0, r1.trans s1, r2.trans s2, ra⟩

end Cert.DwMlpIdeal.Own
-- ==== Proof.OutprojBwdPoint.lean ====
module
public import proofs.«01_k».proof.Proof.Gen.OutprojBwdIdeal.Frame
public import Idealize.ShloMosaic.Lib.Pipeline.ValueKit
public import Idealize.ShloMosaic.Lib.Pointwise
public import Idealize.ShloMosaic.Lib.StableHlo.RunRead

/-!
# The output projection's backward kernel

The four points take 1024 rows of the sequence each. A point multiplies its rows of the gradient by
the transposes of the weight's first 512 rows and of its last 512 rows, and writes both products.
-/

@[expose] public section
set_option maxRecDepth 16384
noncomputable section
open Idealize.ShloMosaic Idealize.ShloMosaic.TcCoe Idealize.SL.Sem
open Idealize.ShloMosaic.Pipeline (Dat)
open scoped BigOperators
namespace Cert.OutprojBwdIdeal.Own
open Cert.OutprojBwdIdeal Cert.OutprojBwdIdeal.Gen
variable (m : (ℓ : Loc nD τ sig) → Buf (Elt Ideal) ℓ)

abbrev V0 (c : Dev nD) : FVec Ideal S4096x1024 .bf16 := V m c main_v0
abbrev V2 (c : Dev nD) : FVec Ideal S1024x1024 .bf16 := V m c main_v2
abbrev A2 (c : Dev nD) : FVec Ideal S1x1024x1024 .f32 := m ((c : Thread nD τ).loc main_arg2)
abbrev A3 (c : Dev nD) : FVec Ideal S4096x1024 .f32 := m ((c : Thread nD τ).loc main_arg3)

theorem v0_at (c : Dev nD) (i : S4096x1024.Idx) : V0 m c i = A3 m c i := by
  unfold V0; entry_read
  pointwise []
theorem v2_at (c : Dev nD) (e d : Fin 1024) : V2 m c (ix2 e d) = A2 m c (ix3 0 e d) := by
  unfold V2; entry_read
  pointwise []

/-- Which block each array's window shows at each point: the weight is whole at every point. -/
theorem idx : ∀ t : Fin cfg0.N, win0_0.index t = ![t.val, 0] ∧ win0_1.index t = ![0, 0]
    ∧ win0_2.index t = ![t.val, 0] ∧ win0_3.index t = ![t.val, 0] ∧ t.val < 4 :=
  (by decide +kernel : ∀ t : Fin grid0.N, _)

theorem row_lt (t : Fin cfg0.N) (r : Fin 1024) : t.val * 1024 + r.val < 4096 := by
  have := (idx t).2.2.2.2
  have := r.isLt
  omega

def b0 (c : Dev nD) (t : Fin cfg0.N) : Vec Ideal S1024x1024 .bf16 := iblk m c 0 t
def b1 (c : Dev nD) (t : Fin cfg0.N) : Vec Ideal S1024x1024 .bf16 := iblk m c 1 t
theorem b0_at (c : Dev nD) (t : Fin cfg0.N) (r k : Fin 1024) : b0 m c t (ix2 r k) = V0 m c (ix2 ⟨_, row_lt t r⟩ k) := by
  unfold b0; blk_ext [iblk, (idx t).1]
theorem b1_at (c : Dev nD) (t : Fin cfg0.N) (y : S1024x1024.Idx) : b1 m c t y = V2 m c y := by
  unfold b1; blk_ext [iblk, (idx t).2.1]

/-- The gradient's rows against the weight's rows from the row `o` on. -/
def prod (o : ℕ) (ho : o + 512 ≤ 1024) (x : FVec Ideal S4096x1024 .f32) (w : FVec Ideal S1x1024x1024 .f32) (r : Fin 4096) (e : Fin 512) : EReal :=
  ∑ k : Fin 1024, x (ix2 r k) * w (ix3 0 ⟨o + e.val, by omega⟩ k)

theorem out2_at (x w : Vec Ideal S1024x1024 .bf16) (r : Fin 1024) (e : Fin 512) :
    out0_2 (F := Ideal) x w (ix2 r e) = ∑ k : Fin 1024, x (ix2 r k) * w (ix2 ⟨0 + e.val, by omega⟩ k) := by
  unfold out0_2; frame_out
  pointwise [k0_pay2, k0_pay1]
theorem out3_at (x w : Vec Ideal S1024x1024 .bf16) (r : Fin 1024) (e : Fin 512) :
    out0_3 (F := Ideal) x w (ix2 r e) = ∑ k : Fin 1024, x (ix2 r k) * w (ix2 ⟨512 + e.val, by omega⟩ k) := by
  unfold out0_3; frame_out
  pointwise [k0_pay3, k0_pay1]

/-- What the kernel leaves in its array 2. -/
def G2 (c : Dev nD) : FVec Ideal S4096x512 .bf16 := fun j => prod 0 (by decide) (A3 m c) (A2 m c) (j 0) (j 1)

theorem block2 (c : Dev nD) (t : Fin cfg0.N) (j : S1024x512.Idx) (i : S4096x512.Idx) (e0 : (i 0 : ℕ) = t.val * 1024 + j 0)
    (e1 : (i 1 : ℕ) = j 1) : out0_2 (F := Ideal) (b0 m c t) (b1 m c t) j = G2 m c i := by
  obtain ⟨r, e, rfl⟩ : ∃ (r : Fin 1024) (e : Fin 512), j = ix2 r e := ⟨j 0, j 1, by funext a; fin_cases a <;> rfl⟩
  have ei : i = ix2 ⟨_, row_lt t r⟩ e := by funext a; fin_cases a; exacts [Fin.ext e0, Fin.ext e1]
  rw [out2_at, ei]
  exact Finset.sum_congr rfl fun k _ => congrArg₂ (· * ·) ((b0_at m c t r k).trans (v0_at m c _)) ((b1_at m c t _).trans (v2_at m c _ k))

theorem final2 (c : Dev nD) : (dats m 0 c).arrAt 2 (cfgs 0).N = G2 m c := by
  refine (dats m 0 c).arrAt_eq_of_covers 2 _ (by decide +kernel) fun t hf y => ?_
  blk_simp; rw [after0_2]
  refine block2 m c t y _ ?_ ?_
  all_goals (blk_simp [idx t] <;> try omega)

/-- What the kernel leaves in its array 3. -/
def G3 (c : Dev nD) : FVec Ideal S4096x512 .f32 := fun j => prod 512 (by decide) (A3 m c) (A2 m c) (j 0) (j 1)

theorem block3 (c : Dev nD) (t : Fin cfg0.N) (j : S1024x512.Idx) (i : S4096x512.Idx) (e0 : (i 0 : ℕ) = t.val * 1024 + j 0)
    (e1 : (i 1 : ℕ) = j 1) : out0_3 (F := Ideal) (b0 m c t) (b1 m c t) j = G3 m c i := by
  obtain ⟨r, e, rfl⟩ : ∃ (r : Fin 1024) (e : Fin 512), j = ix2 r e := ⟨j 0, j 1, by funext a; fin_cases a <;> rfl⟩
  have ei : i = ix2 ⟨_, row_lt t r⟩ e := by funext a; fin_cases a; exacts [Fin.ext e0, Fin.ext e1]
  rw [out3_at, ei]
  exact Finset.sum_congr rfl fun k _ => congrArg₂ (· * ·) ((b0_at m c t r k).trans (v0_at m c _)) ((b1_at m c t _).trans (v2_at m c _ k))

theorem final3 (c : Dev nD) : (dats m 0 c).arrAt 3 (cfgs 0).N = G3 m c := by
  refine (dats m 0 c).arrAt_eq_of_covers 3 _ (by decide +kernel) fun t hf y => ?_
  blk_simp; rw [after0_3]
  refine block3 m c t y _ ?_ ?_
  all_goals (blk_simp [idx t] <;> try omega)
end Cert.OutprojBwdIdeal.Own
-- ==== Proof.OutprojBwdEq.lean ====
module
public import proofs.«01_k».proof.Proof.OutprojBwdPoint
public import proofs.«01_k».proof.Proof.Gen.OutprojBwdRefIdeal.Read

/-!
# The output projection's backward: the reference, and the comparison

The reference's results read at an index are the sums the kernel writes.
-/

@[expose] public section
set_option maxRecDepth 16384
noncomputable section
open Idealize.ShloMosaic Idealize.ShloMosaic.TcCoe Idealize.SL.Sem
open scoped BigOperators
namespace Cert.OutprojBwdIdeal.Own
open Cert.OutprojBwdIdeal Cert.OutprojBwdIdeal.Gen
open Cert.OutprojBwdRefIdeal.Read

theorem d_at (x2 : FVec Ideal S1x1024x1024 .f32) (x3 : FVec Ideal S4096x1024 .f32) (r : Fin 4096) (e : Fin 1024) :
    val_main_v3 (F := Ideal) x2 x3 (ix2 r e) = ∑ k : Fin 1024, x3 (ix2 r k) * x2 (ix3 0 e k) := by
  pointwise [val_main_v3, val_main_v1]

theorem r6_at (x2 : FVec Ideal S1x1024x1024 .f32) (x3 : FVec Ideal S4096x1024 .f32) (r : Fin 4096) (e : Fin 512) :
    val_main_v6 (F := Ideal) x2 x3 (ix2 r e) = prod 0 (by decide) x3 x2 r e := by
  refine Eq.trans ?_ (d_at x2 x3 r ⟨0 + e.val, by omega⟩)
  unfold val_main_v6 val_main_v4
  generalize val_main_v3 (F := Ideal) x2 x3 = a
  pointwise []

theorem r5_at (x2 : FVec Ideal S1x1024x1024 .f32) (x3 : FVec Ideal S4096x1024 .f32) (r : Fin 4096) (e : Fin 512) :
    val_main_v5 (F := Ideal) x2 x3 (ix2 r e) = prod 512 (by decide) x3 x2 r e := by
  refine Eq.trans ?_ (d_at x2 x3 r ⟨512 + e.val, by omega⟩)
  unfold val_main_v5
  generalize val_main_v3 (F := Ideal) x2 x3 = a
  pointwise []

variable (m : (ℓ : Loc nD τ sig) → Buf (Elt Ideal) ℓ)

theorem eq2 (c : Dev nD) : val_main_v6 (F := Ideal) (A2 m c) (A3 m c) = G2 m c := by
  funext j
  obtain ⟨r, e, rfl⟩ : ∃ (r : Fin 4096) (e : Fin 512), j = ix2 r e := ⟨j 0, j 1, by funext a; fin_cases a <;> rfl⟩
  exact r6_at _ _ r e
theorem eq3 (c : Dev nD) : val_main_v5 (F := Ideal) (A2 m c) (A3 m c) = G3 m c := by
  funext j
  obtain ⟨r, e, rfl⟩ : ∃ (r : Fin 4096) (e : Fin 512), j = ix2 r e := ⟨j 0, j 1, by funext a; fin_cases a <;> rfl⟩
  exact r5_at _ _ r e
end Cert.OutprojBwdIdeal.Own
-- ==== Proof.OutprojBwdClaim.lean ====
module
public import proofs.«01_k».proof.Defs
public import proofs.«01_k».proof.Proof.OutprojBwdEq
public import proofs.«01_k».proof.Proof.ClaimMath
public import proofs.«01_k».proof.Proof.Gen.OutprojBwdRefIdeal.Run
public import proofs.«01_k».proof.Proof.Gen.OutprojBwd.Frame

/-!
# The claims about the output projection's backward kernel

The reference leaves its arguments alone, and its two results are the kernel's.
-/

@[expose] public section
set_option maxRecDepth 16384
noncomputable section
open Idealize.ShloMosaic Idealize.ShloMosaic.TcCoe Idealize.SL.Sem
namespace Cert.OutprojBwdIdeal.Own
open Cert.OutprojBwdIdeal Cert.OutprojBwdIdeal.Gen Cert.ClaimMath

theorem frame_ref : Cert.quiescent_OutprojBwdRefIdeal := fun m ρ _ =>
  (θ_run Cert.OutprojBwdRefIdeal.defs _ _).mono (fun r h => ⟨fun c => (h c).2.2, sem_eq_zero_of_no_sems (by decide) r.2⟩)
    (Cert.OutprojBwdRefIdeal.Value.run m ρ)

theorem value : Cert.algebraic_OutprojBwdIdeal_OutprojBwdRefIdeal := by
  intro m g m' g' hp hag
  refine ⟨fun c => G2 m c, fun c => G3 m c, ?_, ?_⟩
  · refine (θ_run defs _ _).mono (fun r h c => ?_) (θ_run_and (run_main m g) (unchanged m g))
    exact ⟨((h.1 c).1 2).trans (final2 m c), ((h.1 c).1 3).trans (final3 m c), h.2 c⟩
  · refine (θ_run Cert.OutprojBwdRefIdeal.defs _ _).mono (fun r h c => ?_) (Cert.OutprojBwdRefIdeal.Value.run m' g')
    obtain ⟨a0, a1, a2, a3⟩ := hag c
    obtain ⟨r0, r1, ra⟩ := h c
    exact ⟨r0.trans ((Cert.OutprojBwdRefIdeal.Read.val_main_v6_eq _ _).trans (two a2 a3 Cert.OutprojBwdRefIdeal.Read.val_main_v6 (eq2 m c).symm)), r1.trans ((Cert.OutprojBwdRefIdeal.Read.val_main_v5_eq _ _).trans (two a2 a3 Cert.OutprojBwdRefIdeal.Read.val_main_v5 (eq3 m c).symm)), ra⟩

end Cert.OutprojBwdIdeal.Own
-- ==== Proof.DwOutPoint.lean ====
module
public import proofs.«01_k».proof.Proof.Gen.DwOutIdeal.Frame
public import Idealize.ShloMosaic.Lib.Pipeline.ValueKit
public import Idealize.ShloMosaic.Lib.Pointwise
public import Idealize.ShloMosaic.Lib.StableHlo.RunRead

/-!
# The output projection's weight gradient kernel: one point

The two points take 2048 rows of the sequence each. A point adds the transposes of two blocks, the
attention's and the pool's, times the block of the gradient into the upper and the lower half of one
accumulator; the last point writes the accumulator out.
-/

@[expose] public section
set_option maxRecDepth 16384
noncomputable section
open Idealize.ShloMosaic Idealize.ShloMosaic.TcCoe Idealize.SL.Sem
open Idealize.ShloMosaic.Pipeline (Dat)
open scoped BigOperators
namespace Cert.DwOutIdeal.Own
open Cert.DwOutIdeal Cert.DwOutIdeal.Gen
variable (m : (ℓ : Loc nD τ sig) → Buf (Elt Ideal) ℓ)

abbrev V0 (c : Dev nD) : FVec Ideal S4096x512 .bf16 := V m c main_v0
abbrev V1 (c : Dev nD) : FVec Ideal S4096x512 .bf16 := V m c main_v1
abbrev V2 (c : Dev nD) : FVec Ideal S4096x1024 .bf16 := V m c main_v2
abbrev A0 (c : Dev nD) : FVec Ideal S4096x512 .f32 := m ((c : Thread nD τ).loc main_arg0)
abbrev A1 (c : Dev nD) : FVec Ideal S4096x512 .f32 := m ((c : Thread nD τ).loc main_arg1)
abbrev A3 (c : Dev nD) : FVec Ideal S4096x1024 .f32 := m ((c : Thread nD τ).loc main_arg3)

theorem v0_at (c : Dev nD) (i : S4096x512.Idx) : V0 m c i = A0 m c i := by
  unfold V0; entry_read
  pointwise []
theorem v1_at (c : Dev nD) (i : S4096x512.Idx) : V1 m c i = A1 m c i := by
  unfold V1; entry_read
  pointwise []
theorem v2_at (c : Dev nD) (i : S4096x1024.Idx) : V2 m c i = A3 m c i := by
  unfold V2; entry_read
  pointwise []

theorem t_lt (t : Fin cfg0.N) : t.val < 2 := by have h : t.val < grid0.N := t.isLt; have h' := N_0; omega
theorem row_lt (t : Fin cfg0.N) (r : Fin 2048) : t.val * 2048 + r.val < 4096 := by have := t_lt t; omega

/-- Which block each array's window shows at each point: the inputs walk down the rows. -/
theorem idx : ∀ t : Fin cfg0.N,
    win0_0.index t = ![t.val, 0] ∧ win0_1.index t = ![t.val, 0] ∧ win0_2.index t = ![t.val, 0] ∧ win0_3.index t = ![0, 0] :=
  (by decide +kernel : ∀ t : Fin grid0.N, _)

def b0 (c : Dev nD) (t : Fin cfg0.N) : Vec Ideal S2048x512 .bf16 := iblk m c 0 t
def b1 (c : Dev nD) (t : Fin cfg0.N) : Vec Ideal S2048x512 .bf16 := iblk m c 1 t
def b2 (c : Dev nD) (t : Fin cfg0.N) : Vec Ideal S2048x1024 .bf16 := iblk m c 2 t
theorem b0_at (c : Dev nD) (t : Fin cfg0.N) (r : Fin 2048) (e : Fin 512) : b0 m c t (ix2 r e) = V0 m c (ix2 ⟨_, row_lt t r⟩ e) := by
  unfold b0; blk_ext [iblk, (idx t).1]
theorem b1_at (c : Dev nD) (t : Fin cfg0.N) (r : Fin 2048) (e : Fin 512) : b1 m c t (ix2 r e) = V1 m c (ix2 ⟨_, row_lt t r⟩ e) := by
  unfold b1; blk_ext [iblk, (idx t).2.1]
theorem b2_at (c : Dev nD) (t : Fin cfg0.N) (r : Fin 2048) (e : Fin 1024) : b2 m c t (ix2 r e) = V2 m c (ix2 ⟨_, row_lt t r⟩ e) := by
  unfold b2; blk_ext [iblk, (idx t).2.2.1]

/-- The attention's and the pool's columns side by side. -/
def joined (a p : FVec Ideal S4096x512 .bf16) (r : Fin 4096) (i : Fin 1024) : EReal :=
  if h : i.val < 512 then a (ix2 r ⟨i.val, h⟩) else p (ix2 r ⟨i.val - 512, by omega⟩)

/-- The part of the transposed product that the rows of the point `t` give. -/
def part (a p : FVec Ideal S4096x512 .bf16) (g : FVec Ideal S4096x1024 .bf16) (t : Fin cfg0.N) (j : S1024x1024.Idx) : EReal :=
  ∑ r : Fin 2048, joined a p ⟨_, row_lt t r⟩ (j 0) * g (ix2 ⟨_, row_lt t r⟩ (j 1))
/-- The transposed product of the whole arrays. -/
def prod (a p : FVec Ideal S4096x512 .bf16) (g : FVec Ideal S4096x1024 .bf16) : FVec Ideal S1024x1024 .bf16 := fun j =>
  ∑ r : Fin 4096, joined a p r (j 0) * g (ix2 r (j 1))
theorem part_sum (a p : FVec Ideal S4096x512 .bf16) (g : FVec Ideal S4096x1024 .bf16) (j : S1024x1024.Idx) :
    ∑ t : Fin cfg0.N, part a p g t j = prod a p g j :=
  Fin.sum_mul_add_congr (L := 4096) (S := cfg0.N) (n := 2048)
    (F := fun t r => joined a p ⟨_, row_lt t r⟩ (j 0) * g (ix2 ⟨_, row_lt t r⟩ (j 1))) (fun a r hl => rfl)

theorem upper_at (g : Vec Ideal S2048x1024 .bf16) (a : Vec Ideal S2048x512 .bf16) (i : Fin 512) (d : Fin 1024) :
    k0_pay3 (F := Ideal) g a (ix2 i d) = ∑ r : Fin 2048, a (ix2 r i) * g (ix2 r d) := by
  pointwise [k0_pay3, k0_pay2, k0_pay1]
theorem upper_next_at (g : Vec Ideal S2048x1024 .bf16) (a : Vec Ideal S2048x512 .bf16) (p : Vec Ideal S512x1024 .f32) (i : Fin 512) (d : Fin 1024) :
    k0_pay4 (F := Ideal) g a p (ix2 i d) = p (ix2 i d) + ∑ r : Fin 2048, a (ix2 r i) * g (ix2 r d) := by
  pointwise [k0_pay4, k0_pay2, k0_pay1]
theorem lower_at (g : Vec Ideal S2048x1024 .bf16) (a : Vec Ideal S2048x512 .bf16) (i : Fin 512) (d : Fin 1024) :
    k0_pay7 (F := Ideal) g a (ix2 i d) = ∑ r : Fin 2048, a (ix2 r i) * g (ix2 r d) := by
  pointwise [k0_pay7, k0_pay6, k0_pay1]
theorem lower_next_at (g : Vec Ideal S2048x1024 .bf16) (a : Vec Ideal S2048x512 .bf16) (p : Vec Ideal S512x1024 .f32) (i : Fin 512) (d : Fin 1024) :
    k0_pay8 (F := Ideal) g a p (ix2 i d) = p (ix2 i d) + ∑ r : Fin 2048, a (ix2 r i) * g (ix2 r d) := by
  pointwise [k0_pay8, k0_pay6, k0_pay1]

theorem joined_upper (a p : FVec Ideal S4096x512 .bf16) (r : Fin 4096) (i : Fin 512) : joined a p r ⟨i.val, by omega⟩ = a (ix2 r i) :=
  dif_pos i.isLt
theorem joined_lower (a p : FVec Ideal S4096x512 .bf16) (r : Fin 4096) (i : Fin 512) : joined a p r ⟨512 + i.val, by omega⟩ = p (ix2 r i) :=
  (dif_neg (by show ¬512 + i.val < 512; omega)).trans (congrArg (fun k => p (ix2 r k)) (Fin.ext (Nat.add_sub_cancel_left 512 i.val)))

theorem part_upper (c : Dev nD) (t : Fin cfg0.N) (i : Fin 512) (d : Fin 1024) :
    ∑ r : Fin 2048, b0 m c t (ix2 r i) * b2 m c t (ix2 r d) = part (V0 m c) (V1 m c) (V2 m c) t (ix2 ⟨i.val, by omega⟩ d) :=
  Finset.sum_congr rfl fun r _ => congrArg₂ (· * ·) ((b0_at m c t r i).trans (joined_upper _ _ _ i).symm) (b2_at m c t r d)
theorem part_lower (c : Dev nD) (t : Fin cfg0.N) (i : Fin 512) (d : Fin 1024) :
    ∑ r : Fin 2048, b1 m c t (ix2 r i) * b2 m c t (ix2 r d) = part (V0 m c) (V1 m c) (V2 m c) t (ix2 ⟨512 + i.val, by omega⟩ d) :=
  Finset.sum_congr rfl fun r _ => congrArg₂ (· * ·) ((b1_at m c t r i).trans (joined_lower _ _ _ i).symm) (b2_at m c t r d)

/-- The accumulator after the point `n`. -/
def acc (c : Dev nD) (n : ℕ) (hn : n < cfg0.N) : Vec Ideal S1024x1024 .f32 := (outsAt0 m c n hn).2

/-- A row lies in the upper or in the lower half. -/
theorem halves (i : Fin 1024) : (∃ k : Fin 512, i = ⟨k.val, by omega⟩) ∨ ∃ k : Fin 512, i = ⟨512 + k.val, by omega⟩ := by
  by_cases h : i.val < 512
  · exact Or.inl ⟨⟨i.val, h⟩, rfl⟩
  · exact Or.inr ⟨⟨i.val - 512, by omega⟩, Fin.ext (by show i.val = 512 + (i.val - 512); omega)⟩

/-- The upper and the lower half of the accumulator. -/
abbrev rU : Rect S1024x1024 := Rect.unit ![0, 0] ![512, 1024] inb_S1024x1024_S512x1024_0_0
abbrev rL : Rect S1024x1024 := Rect.unit ![512, 0] ![512, 1024] inb_S1024x1024_S512x1024_512_0

theorem emb_U (i : Fin 512) (d : Fin 1024) : (ix2 ⟨i.val, by omega⟩ d : S1024x1024.Idx) = rU.emb (ix2 i d) := by
  funext a; fin_cases a
  · exact Fin.ext (by show i.val = 0 + 1 * i.val; omega)
  · exact Fin.ext (by show d.val = 0 + 1 * d.val; omega)
theorem emb_L (i : Fin 512) (d : Fin 1024) : (ix2 ⟨512 + i.val, by omega⟩ d : S1024x1024.Idx) = rL.emb (ix2 i d) := by
  funext a; fin_cases a
  · exact Fin.ext (by show 512 + i.val = 512 + 1 * i.val; omega)
  · exact Fin.ext (by show d.val = 0 + 1 * d.val; omega)

section Halves
variable {e : EltTy} (P Q : Vec Ideal S512x1024 e) (i : Fin 512) (d : Fin 1024)

/-- Two stored halves, read in the lower and in the upper one. -/
theorem canon_L (K : List (View.Piece (Elt Ideal) S1024x1024 e)) :
    View.canon (⟨rL, P⟩ :: K) (ix2 ⟨512 + i.val, by omega⟩ d) = P (ix2 i d) :=
  (congrArg _ (emb_L i d)).trans (View.canon_cons_emb rL P K (ix2 i d))
theorem canon_U (K : List (View.Piece (Elt Ideal) S1024x1024 e)) :
    View.canon (⟨rL, P⟩ :: ⟨rU, Q⟩ :: K) (ix2 ⟨i.val, by omega⟩ d) = Q (ix2 i d) := by
  refine (congrArg _ (emb_U i d)).trans ((View.canon_cons_of_not_mem ⟨rL, P⟩ _ ?_).trans (View.canon_cons_emb rU Q K (ix2 i d)))
  intro h
  have hr : rU.emb (ix2 i d) ∈ rL.set := h
  have h0 : 512 ≤ 0 + 1 * i.val := (Rect.mem_set_unit.mp hr 0).1
  have := i.isLt
  omega
theorem load_L (K : List (View.Piece (Elt Ideal) S1024x1024 .f32)) (P : Vec Ideal S512x1024 .f32) :
    (View.whole cc0_scratch0).readCov (⟨rL, P⟩ :: K) rL.toLoadRect (ix2 i d) = P (ix2 i d) := by
  rw [View.readCov_eq_canon']
  exact View.canon_cons_emb rL P K (ix2 i d)
theorem load_U (K : List (View.Piece (Elt Ideal) S1024x1024 .f32)) (P : Vec Ideal S512x1024 .f32) :
    (View.whole cc0_scratch0).readCov (⟨rU, P⟩ :: K) rU.toLoadRect (ix2 i d) = P (ix2 i d) := by
  rw [View.readCov_eq_canon']
  exact View.canon_cons_emb rU P K (ix2 i d)
end Halves

theorem trunc_U (p : Vec Ideal S512x1024 .f32) (j : S512x1024.Idx) : k0_pay5 (F := Ideal) p j = p j := by pointwise [k0_pay5]
theorem trunc_L (p : Vec Ideal S512x1024 .f32) (j : S512x1024.Idx) : k0_pay9 (F := Ideal) p j = p j := by pointwise [k0_pay9]

/-! ## What a point leaves -/

theorem first_U (c : Dev nD) (t : Fin cfg0.N) (h0 : t.val % 2 = 0) (i : Fin 512) (d : Fin 1024) :
    acc m c t.val t.isLt (ix2 ⟨i.val, by omega⟩ d) = 0 + part (V0 m c) (V1 m c) (V2 m c) t (ix2 ⟨i.val, by omega⟩ d) := by
  have h1 : ¬t.val % 2 = 1 := by omega
  rw [zero_add, ← part_upper, ← upper_at]
  unfold acc
  rw [outsAt0_A m c t h0 h1 h1 h0 h1 h1]; frame_out
  exact canon_U _ _ i d _
theorem first_L (c : Dev nD) (t : Fin cfg0.N) (h0 : t.val % 2 = 0) (i : Fin 512) (d : Fin 1024) :
    acc m c t.val t.isLt (ix2 ⟨512 + i.val, by omega⟩ d) = 0 + part (V0 m c) (V1 m c) (V2 m c) t (ix2 ⟨512 + i.val, by omega⟩ d) := by
  have h1 : ¬t.val % 2 = 1 := by omega
  rw [zero_add, ← part_lower, ← lower_at]
  unfold acc
  rw [outsAt0_A m c t h0 h1 h1 h0 h1 h1]; frame_out
  exact canon_L _ i d _

theorem next_U (c : Dev nD) (t : Fin cfg0.N) (h0 : ¬t.val % 2 = 0) (i : Fin 512) (d : Fin 1024) :
    acc m c t.val t.isLt (ix2 ⟨i.val, by omega⟩ d) = acc m c (t.val - 1) (Nat.lt_of_le_of_lt (Nat.sub_le _ _) t.isLt) (ix2 ⟨i.val, by omega⟩ d)
      + part (V0 m c) (V1 m c) (V2 m c) t (ix2 ⟨i.val, by omega⟩ d) := by
  have h1 : t.val % 2 = 1 := by omega
  rw [← part_upper]
  unfold acc
  rw [outsAt0_B m c t h0 h1 h1 h0 h1 h1]; frame_out
  refine (canon_U _ _ i d _).trans ((upper_next_at _ _ _ i d).trans (congrArg (· + _) ?_))
  exact (congrFun (Memref.IsWhole.read_unread _ _) _).trans (congrArg _ (emb_U i d).symm)
theorem next_L (c : Dev nD) (t : Fin cfg0.N) (h0 : ¬t.val % 2 = 0) (i : Fin 512) (d : Fin 1024) :
    acc m c t.val t.isLt (ix2 ⟨512 + i.val, by omega⟩ d) = acc m c (t.val - 1) (Nat.lt_of_le_of_lt (Nat.sub_le _ _) t.isLt) (ix2 ⟨512 + i.val, by omega⟩ d)
      + part (V0 m c) (V1 m c) (V2 m c) t (ix2 ⟨512 + i.val, by omega⟩ d) := by
  have h1 : t.val % 2 = 1 := by omega
  rw [← part_lower]
  unfold acc
  rw [outsAt0_B m c t h0 h1 h1 h0 h1 h1]; frame_out
  refine (canon_L _ i d _).trans ((lower_next_at _ _ _ i d).trans (congrArg (· + _) ?_))
  exact (congrFun (Memref.IsWhole.read_unread _ _) _).trans (congrArg _ (emb_L i d).symm)

theorem out_U (c : Dev nD) (t : Fin cfg0.N) (h0 : ¬t.val % 2 = 0) (i : Fin 512) (d : Fin 1024) :
    (outsAt0 m c t.val t.isLt).1 (ix2 ⟨i.val, by omega⟩ d) = acc m c t.val t.isLt (ix2 ⟨i.val, by omega⟩ d) := by
  have h1 : t.val % 2 = 1 := by omega
  unfold acc
  rw [outsAt0_B m c t h0 h1 h1 h0 h1 h1]; frame_out
  refine (canon_U _ _ i d _).trans ?_
  refine (trunc_U _ _).trans ?_
  refine (load_U i d _ _).trans ?_
  refine Eq.symm ?_
  exact canon_U _ _ i d _
theorem out_L (c : Dev nD) (t : Fin cfg0.N) (h0 : ¬t.val % 2 = 0) (i : Fin 512) (d : Fin 1024) :
    (outsAt0 m c t.val t.isLt).1 (ix2 ⟨512 + i.val, by omega⟩ d) = acc m c t.val t.isLt (ix2 ⟨512 + i.val, by omega⟩ d) := by
  have h1 : t.val % 2 = 1 := by omega
  unfold acc
  rw [outsAt0_B m c t h0 h1 h1 h0 h1 h1]; frame_out
  refine (canon_L _ i d _).trans ?_
  refine (trunc_L _ _).trans ?_
  refine (load_L i d _ _).trans ?_
  refine Eq.symm ?_
  exact canon_L _ i d _

theorem acc_first (c : Dev nD) (t : Fin cfg0.N) (h0 : t.val % 2 = 0) (j : S1024x1024.Idx) :
    acc m c t.val t.isLt j = 0 + part (V0 m c) (V1 m c) (V2 m c) t j := by
  obtain ⟨i, d, rfl⟩ : ∃ i d : Fin 1024, j = ix2 i d := ⟨j 0, j 1, by funext a; fin_cases a <;> rfl⟩
  obtain ⟨k, rfl⟩ | ⟨k, rfl⟩ := halves i
  · exact first_U m c t h0 k d
  · exact first_L m c t h0 k d
theorem acc_next (c : Dev nD) (t : Fin cfg0.N) (h0 : ¬t.val % 2 = 0) (j : S1024x1024.Idx) :
    acc m c t.val t.isLt j = acc m c (t.val - 1) (Nat.lt_of_le_of_lt (Nat.sub_le _ _) t.isLt) j + part (V0 m c) (V1 m c) (V2 m c) t j := by
  obtain ⟨i, d, rfl⟩ : ∃ i d : Fin 1024, j = ix2 i d := ⟨j 0, j 1, by funext a; fin_cases a <;> rfl⟩
  obtain ⟨k, rfl⟩ | ⟨k, rfl⟩ := halves i
  · exact next_U m c t h0 k d
  · exact next_L m c t h0 k d
theorem out_eq (c : Dev nD) (t : Fin cfg0.N) (h0 : ¬t.val % 2 = 0) (j : S1024x1024.Idx) :
    (outsAt0 m c t.val t.isLt).1 j = acc m c t.val t.isLt j := by
  obtain ⟨i, d, rfl⟩ : ∃ i d : Fin 1024, j = ix2 i d := ⟨j 0, j 1, by funext a; fin_cases a <;> rfl⟩
  obtain ⟨k, rfl⟩ | ⟨k, rfl⟩ := halves i
  · exact out_U m c t h0 k d
  · exact out_L m c t h0 k d

abbrev G (c : Dev nD) : FVec Ideal S1024x1024 .bf16 := prod (V0 m c) (V1 m c) (V2 m c)

/-- The last point writes out what the accumulator then holds: the whole product. -/
theorem written (c : Dev nD) (t : Fin cfg0.N) (h1 : t.val % 2 = 1) (j : S1024x1024.Idx) : (outsAt0 m c t.val t.isLt).1 j = G m c j := by
  have ht := t_lt t
  have hN : t.val + 1 = cfg0.N := by have h' := N_0; show t.val + 1 = grid0.N; omega
  rw [out_eq m c t (by omega) j, Pipeline.eq_sum_fin_of_reset_step_apply_last (acc m c) 2 (fun _ => (0 : EReal)) (part (V0 m c) (V1 m c) (V2 m c))
    (fun t h j => acc_first m c t h j) (fun t h j => acc_next m c t h j) (le_of_eq N_0) t hN j, zero_add, part_sum]

theorem final3 (c : Dev nD) : (dats m 0 c).arrAt 3 (cfgs 0).N = G m c := by
  refine (dats m 0 c).arrAt_eq_of_covers 3 _ (by decide +kernel) fun t hf y => ?_
  have e : (win0_3.blk t).view.emb y = y := by
    funext a; fin_cases a <;> exact Fin.ext (by blk_simp [idx t])
  blk_simp; rw [after0_3]
  exact (written m c t ((flush0_3 t).mp hf) y).trans (congrArg (G m c) e.symm)
end Cert.DwOutIdeal.Own
-- ==== Proof.DwOutEq.lean ====
module
public import proofs.«01_k».proof.Proof.DwOutPoint
public import proofs.«01_k».proof.Proof.Gen.DwOutRefIdeal.Read

/-!
# The output projection's weight gradient: the reference, and the comparison

The reference's result read at an index is the sum the kernel writes.
-/

@[expose] public section
set_option maxRecDepth 16384
noncomputable section
open Idealize.ShloMosaic Idealize.ShloMosaic.TcCoe Idealize.SL.Sem
open scoped BigOperators
namespace Cert.DwOutIdeal.Own
open Cert.DwOutIdeal Cert.DwOutIdeal.Gen
open Cert.DwOutRefIdeal.Read

section Ref
variable (x0 x1 : FVec Ideal S4096x512 .f32) (x3 : FVec Ideal S4096x1024 .f32)

theorem mix_upper (r : Fin 4096) (i : Fin 512) : val_main_v0 (F := Ideal) x0 x1 (ix2 r ⟨i.val, by omega⟩) = x0 (ix2 r i) := by
  pointwise [val_main_v0]
theorem mix_lower (r : Fin 4096) (i : Fin 512) : val_main_v0 (F := Ideal) x0 x1 (ix2 r ⟨512 + i.val, by omega⟩) = x1 (ix2 r i) := by
  pointwise [val_main_v0]

theorem r7_at (i d : Fin 1024) : val_main_v7 (F := Ideal) x0 x1 x3 (ix2 i d) = ∑ r : Fin 4096, val_main_v0 (F := Ideal) x0 x1 (ix2 r i) * x3 (ix2 r d) := by
  unfold val_main_v7 val_main_v6 val_main_v5 val_main_v4 val_main_v3
  generalize val_main_v0 (F := Ideal) x0 x1 = a
  pointwise []
  exact Finset.sum_congr rfl fun r _ => mul_comm _ _
end Ref

variable (m : (ℓ : Loc nD τ sig) → Buf (Elt Ideal) ℓ)

theorem joined_eq (c : Dev nD) (r : Fin 4096) (i : Fin 1024) :
    val_main_v0 (F := Ideal) (A0 m c) (A1 m c) (ix2 r i) = joined (V0 m c) (V1 m c) r i := by
  obtain ⟨k, rfl⟩ | ⟨k, rfl⟩ := halves i
  · exact (mix_upper _ _ r k).trans ((joined_upper _ _ r k).trans (v0_at m c _)).symm
  · exact (mix_lower _ _ r k).trans ((joined_lower _ _ r k).trans (v1_at m c _)).symm

theorem eq3 (c : Dev nD) : val_main_v7 (F := Ideal) (A0 m c) (A1 m c) (A3 m c) = G m c := by
  funext j
  obtain ⟨i, d, rfl⟩ : ∃ i d : Fin 1024, j = ix2 i d := ⟨j 0, j 1, by funext a; fin_cases a <;> rfl⟩
  rw [r7_at]
  exact Finset.sum_congr rfl fun r _ => congrArg₂ (· * ·) (joined_eq m c r i) (v2_at m c _).symm
end Cert.DwOutIdeal.Own
-- ==== Proof.DwOutClaim.lean ====
module
public import proofs.«01_k».proof.Defs
public import proofs.«01_k».proof.Proof.DwOutEq
public import proofs.«01_k».proof.Proof.ClaimMath
public import proofs.«01_k».proof.Proof.Gen.DwOutRefIdeal.Run
public import proofs.«01_k».proof.Proof.Gen.DwOut.Frame

/-!
# The claims about the output projection's weight gradient kernel

The reference leaves its arguments alone, and its result is the kernel's.
-/

@[expose] public section
set_option maxRecDepth 16384
noncomputable section
open Idealize.ShloMosaic Idealize.ShloMosaic.TcCoe Idealize.SL.Sem
namespace Cert.DwOutIdeal.Own
open Cert.DwOutIdeal Cert.DwOutIdeal.Gen Cert.ClaimMath

theorem frame_ref : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run m ρ)

theorem value : Cert.algebraic_DwOutIdeal_DwOutRefIdeal := by
  intro m g m' g' hp hag
  refine ⟨fun c => G m c, ?_, ?_⟩
  · refine (θ_run defs _ _).mono (fun r h c => ?_) (θ_run_and (run_main m g) (unchanged m g))
    exact ⟨((h.1 c).1 3).trans (final3 m c), h.2 c⟩
  · refine (θ_run Cert.DwOutRefIdeal.defs _ _).mono (fun r h c => ?_) (Cert.DwOutRefIdeal.Value.run m' g')
    obtain ⟨a0, a1, a2, a3⟩ := hag c
    obtain ⟨r0, ra⟩ := h c
    exact ⟨r0.trans ((Cert.DwOutRefIdeal.Read.val_main_v7_eq _ _ _).trans (three a0 a1 a3 Cert.DwOutRefIdeal.Read.val_main_v7 (eq3 m c).symm)), ra⟩

end Cert.DwOutIdeal.Own
-- ==== Proof.lean ====
module

public import proofs.«01_k».proof.Proof.Gen.MlpBwdRefIdeal.Run
public import proofs.«01_k».proof.Proof.Gen.MlpBwdRefIdeal.Read
public import proofs.«01_k».proof.Proof.Gen.InprojBwdRefIdeal.Run
public import proofs.«01_k».proof.Proof.Gen.InprojBwdRefIdeal.Read
public import proofs.«01_k».proof.Proof.Gen.MlpFwdRefIdeal.Run
public import proofs.«01_k».proof.Proof.Gen.MlpFwdRefIdeal.Read
public import proofs.«01_k».proof.Proof.Gen.DwInRefIdeal.Run
public import proofs.«01_k».proof.Proof.Gen.DwInRefIdeal.Read
public import proofs.«01_k».proof.Proof.Gen.DwMlpRefIdeal.Run
public import proofs.«01_k».proof.Proof.Gen.DwMlpRefIdeal.Read
public import proofs.«01_k».proof.Proof.Gen.OutprojBwdRefIdeal.Run
public import proofs.«01_k».proof.Proof.Gen.OutprojBwdRefIdeal.Read
public import proofs.«01_k».proof.Proof.Gen.DwOutRefIdeal.Run
public import proofs.«01_k».proof.Proof.Gen.DwOutRefIdeal.Read
public import proofs.«01_k».proof.Defs
public import proofs.«01_k».proof.Proof.Gen.MlpBwd
public import proofs.«01_k».proof.Proof.Gen.MlpBwd.Skeleton
public import proofs.«01_k».proof.Proof.Gen.MlpBwd.Launch
public import proofs.«01_k».proof.Proof.Gen.MlpBwd.Points
public import proofs.«01_k».proof.Proof.Gen.MlpBwd.Frame
public import proofs.«01_k».proof.Proof.Gen.MlpBwdIdeal
public import proofs.«01_k».proof.Proof.Gen.MlpBwdIdeal.Skeleton
public import proofs.«01_k».proof.Proof.Gen.MlpBwdIdeal.Launch
public import proofs.«01_k».proof.Proof.Gen.MlpBwdIdeal.Points
public import proofs.«01_k».proof.Proof.Gen.MlpBwdIdeal.Frame
public import proofs.«01_k».proof.Proof.Gen.MlpBwdRefIdeal
public import proofs.«01_k».proof.Proof.Gen.InprojBwd
public import proofs.«01_k».proof.Proof.Gen.InprojBwd.Skeleton
public import proofs.«01_k».proof.Proof.Gen.InprojBwd.Launch
public import proofs.«01_k».proof.Proof.Gen.InprojBwd.Points
public import proofs.«01_k».proof.Proof.Gen.InprojBwd.Frame
public import proofs.«01_k».proof.Proof.Gen.InprojBwdIdeal
public import proofs.«01_k».proof.Proof.Gen.InprojBwdIdeal.Skeleton
public import proofs.«01_k».proof.Proof.Gen.InprojBwdIdeal.Launch
public import proofs.«01_k».proof.Proof.Gen.InprojBwdIdeal.Points
public import proofs.«01_k».proof.Proof.Gen.InprojBwdIdeal.Frame
public import proofs.«01_k».proof.Proof.Gen.InprojBwdRefIdeal
public import proofs.«01_k».proof.Proof.Gen.MlpFwd
public import proofs.«01_k».proof.Proof.Gen.MlpFwd.Skeleton
public import proofs.«01_k».proof.Proof.Gen.MlpFwd.Launch
public import proofs.«01_k».proof.Proof.Gen.MlpFwd.Points
public import proofs.«01_k».proof.Proof.Gen.MlpFwd.Frame
public import proofs.«01_k».proof.Proof.Gen.MlpFwdIdeal
public import proofs.«01_k».proof.Proof.Gen.MlpFwdIdeal.Skeleton
public import proofs.«01_k».proof.Proof.Gen.MlpFwdIdeal.Launch
public import proofs.«01_k».proof.Proof.Gen.MlpFwdIdeal.Points
public import proofs.«01_k».proof.Proof.Gen.MlpFwdIdeal.Frame
public import proofs.«01_k».proof.Proof.Gen.MlpFwdRefIdeal
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwMlp
public import proofs.«01_k».proof.Proof.Gen.DwMlp.Skeleton
public import proofs.«01_k».proof.Proof.Gen.DwMlp.Launch
public import proofs.«01_k».proof.Proof.Gen.DwMlp.Points
public import proofs.«01_k».proof.Proof.Gen.DwMlp.Frame
public import proofs.«01_k».proof.Proof.Gen.DwMlpIdeal
public import proofs.«01_k».proof.Proof.Gen.DwMlpIdeal.Skeleton
public import proofs.«01_k».proof.Proof.Gen.DwMlpIdeal.Launch
public import proofs.«01_k».proof.Proof.Gen.DwMlpIdeal.Points
public import proofs.«01_k».proof.Proof.Gen.DwMlpIdeal.Frame
public import proofs.«01_k».proof.Proof.Gen.DwMlpRefIdeal
public import proofs.«01_k».proof.Proof.Gen.OutprojBwd
public import proofs.«01_k».proof.Proof.Gen.OutprojBwd.Skeleton
public import proofs.«01_k».proof.Proof.Gen.OutprojBwd.Launch
public import proofs.«01_k».proof.Proof.Gen.OutprojBwd.Points
public import proofs.«01_k».proof.Proof.Gen.OutprojBwd.Frame
public import proofs.«01_k».proof.Proof.Gen.OutprojBwdIdeal
public import proofs.«01_k».proof.Proof.Gen.OutprojBwdIdeal.Skeleton
public import proofs.«01_k».proof.Proof.Gen.OutprojBwdIdeal.Launch
public import proofs.«01_k».proof.Proof.Gen.OutprojBwdIdeal.Points
public import proofs.«01_k».proof.Proof.Gen.OutprojBwdIdeal.Frame
public import proofs.«01_k».proof.Proof.Gen.OutprojBwdRefIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.MlpBwdClaim
public import proofs.«01_k».proof.Proof.InprojBwdClaim
public import proofs.«01_k».proof.Proof.MlpFwdClaim
public import proofs.«01_k».proof.Proof.DwInClaim
public import proofs.«01_k».proof.Proof.DwMlpClaim
public import proofs.«01_k».proof.Proof.OutprojBwdClaim
public import proofs.«01_k».proof.Proof.DwOutClaim
public import Idealize.ShloMosaic.Adequacy
public import Idealize.ShloMosaic.Init

@[expose] public section

noncomputable section

namespace Cert.Proof

open Idealize.ShloMosaic Idealize.SL.Sem

theorem claim : Cert.Claim :=
  ⟨Cert.MlpBwd.Gen.facts, Cert.MlpBwdIdeal.Gen.facts, Cert.MlpBwdRefIdeal.Gen.facts,
    Cert.InprojBwd.Gen.facts, Cert.InprojBwdIdeal.Gen.facts, Cert.InprojBwdRefIdeal.Gen.facts,
    Cert.MlpFwd.Gen.facts, Cert.MlpFwdIdeal.Gen.facts, Cert.MlpFwdRefIdeal.Gen.facts,
    Cert.DwIn.Gen.facts, Cert.DwInIdeal.Gen.facts, Cert.DwInRefIdeal.Gen.facts,
    Cert.DwMlp.Gen.facts, Cert.DwMlpIdeal.Gen.facts, Cert.DwMlpRefIdeal.Gen.facts,
    Cert.OutprojBwd.Gen.facts, Cert.OutprojBwdIdeal.Gen.facts, Cert.OutprojBwdRefIdeal.Gen.facts,
    Cert.DwOut.Gen.facts, Cert.DwOutIdeal.Gen.facts, Cert.DwOutRefIdeal.Gen.facts,
    Cert.Pre_finite.Own.facts,
    Cert.Pre_finite_inproj.Own.facts,
    Cert.Pre_finite_mlp_fwd.Own.facts,
    fun m ρ _ => Cert.MlpBwd.Gen.frame m ρ, fun m ρ _ => Cert.MlpBwdIdeal.Gen.frame m ρ, fun m ρ _ => Cert.MlpBwdIdeal.Gen.frame m ρ,
    Cert.MlpBwdIdeal.Own.frame_ref, fun m ρ _ => Cert.MlpBwdIdeal.Own.frame_ref m ρ trivial,
    fun m ρ _ => Cert.InprojBwd.Gen.frame m ρ, fun m ρ _ => Cert.InprojBwdIdeal.Gen.frame m ρ, fun m ρ _ => Cert.InprojBwdIdeal.Gen.frame m ρ,
    Cert.InprojBwdIdeal.Own.frame_ref, fun m ρ _ => Cert.InprojBwdIdeal.Own.frame_ref m ρ trivial,
    fun m ρ _ => Cert.MlpFwd.Gen.frame m ρ, fun m ρ _ => Cert.MlpFwdIdeal.Gen.frame m ρ, fun m ρ _ => Cert.MlpFwdIdeal.Gen.frame m ρ,
    Cert.MlpFwdIdeal.Own.frame_ref, fun m ρ _ => Cert.MlpFwdIdeal.Own.frame_ref m ρ trivial,
    fun m ρ _ => Cert.DwIn.Gen.frame m ρ, fun m ρ _ => Cert.DwInIdeal.Gen.frame m ρ,
    Cert.DwInIdeal.Own.frame_ref,
    fun m ρ _ => Cert.DwMlp.Own.frame m ρ, fun m ρ _ => Cert.DwMlpIdeal.Own.frame m ρ,
    Cert.DwMlpIdeal.Own.frame_ref,
    fun m ρ _ => Cert.OutprojBwd.Gen.frame m ρ, fun m ρ _ => Cert.OutprojBwdIdeal.Gen.frame m ρ,
    Cert.OutprojBwdIdeal.Own.frame_ref,
    fun m ρ _ => Cert.DwOut.Gen.frame m ρ, fun m ρ _ => Cert.DwOutIdeal.Gen.frame m ρ,
    Cert.DwOutIdeal.Own.frame_ref,
    trivial, Cert.MlpBwdIdeal.Own.value,
    trivial, Cert.InprojBwdIdeal.Own.value,
    trivial, Cert.MlpFwdIdeal.Own.value,
    trivial, Cert.DwInIdeal.Own.value,
    trivial, Cert.DwMlpIdeal.Own.value,
    trivial, Cert.OutprojBwdIdeal.Own.value,
    trivial, Cert.DwOutIdeal.Own.value⟩

end Cert.Proof

end
